-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2x16384x512 : Shape := ⟨3, ![2, 16384, 512]⟩
abbrev S2x256x512 : Shape := ⟨3, ![2, 256, 512]⟩
abbrev S32 : Shape := ⟨1, ![32]⟩
abbrev S64 : Shape := ⟨1, ![64]⟩
abbrev S_ : Shape := ⟨0, ![]⟩
abbrev S2x16640x512 : Shape := ⟨3, ![2, 16640, 512]⟩
abbrev S2x256x4x128 : Shape := ⟨4, ![2, 256, 4, 128]⟩
abbrev S2x4x128x256 : Shape := ⟨4, ![2, 4, 128, 256]⟩
abbrev S2x16384x4x128 : Shape := ⟨4, ![2, 16384, 4, 128]⟩
abbrev S2x4x128x16384 : Shape := ⟨4, ![2, 4, 128, 16384]⟩
abbrev S2x4x128x16640 : Shape := ⟨4, ![2, 4, 128, 16640]⟩
abbrev S1x64 : Shape := ⟨2, ![1, 64]⟩
abbrev S2x64 : Shape := ⟨2, ![2, 64]⟩
abbrev S128 : Shape := ⟨1, ![128]⟩
abbrev S128x1 : Shape := ⟨2, ![128, 1]⟩
abbrev S1 : Shape := ⟨1, ![1]⟩
abbrev S2x16640x16x32 : Shape := ⟨4, ![2, 16640, 16, 32]⟩
abbrev S2x16640x16 : Shape := ⟨3, ![2, 16640, 16]⟩
abbrev S2x16 : Shape := ⟨2, ![2, 16]⟩
abbrev S2x16384x16x32 : Shape := ⟨4, ![2, 16384, 16, 32]⟩
abbrev S2x16384x16 : Shape := ⟨3, ![2, 16384, 16]⟩
abbrev S1x512x128 : Shape := ⟨3, ![1, 512, 128]⟩
abbrev S1x16640x128 : Shape := ⟨3, ![1, 16640, 128]⟩
abbrev S1x1x128x16640 : Shape := ⟨4, ![1, 1, 128, 16640]⟩
abbrev S4x80x512 : Shape := ⟨3, ![4, 80, 512]⟩
abbrev S4x256x512 : Shape := ⟨3, ![4, 256, 512]⟩
abbrev S512x128 : Shape := ⟨2, ![512, 128]⟩
abbrev S128x512 : Shape := ⟨2, ![128, 512]⟩
abbrev S16x256 : Shape := ⟨2, ![16, 256]⟩
abbrev S1x512 : Shape := ⟨2, ![1, 512]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩
abbrev S512 : Shape := ⟨1, ![512]⟩
abbrev S1x1x128x256 : Shape := ⟨4, ![1, 1, 128, 256]⟩
abbrev S128x256 : Shape := ⟨2, ![128, 256]⟩
abbrev S64x256 : Shape := ⟨2, ![64, 256]⟩
abbrev S80x256 : Shape := ⟨2, ![80, 256]⟩
abbrev S80x512 : Shape := ⟨2, ![80, 512]⟩
abbrev S1x80x512 : Shape := ⟨3, ![1, 80, 512]⟩
abbrev S64x512 : Shape := ⟨2, ![64, 512]⟩
abbrev S64x1 : Shape := ⟨2, ![64, 1]⟩
abbrev S4x64x512 : Shape := ⟨3, ![4, 64, 512]⟩
abbrev S4x8x512 : Shape := ⟨3, ![4, 8, 512]⟩
abbrev S1x1 : Shape := ⟨2, ![1, 1]⟩
abbrev S256x256 : Shape := ⟨2, ![256, 256]⟩
abbrev S1x8x512 : Shape := ⟨3, ![1, 8, 512]⟩
abbrev S8x512 : Shape := ⟨2, ![8, 512]⟩
abbrev S32x8x512 : Shape := ⟨3, ![32, 8, 512]⟩
abbrev S1x64x512 : Shape := ⟨3, ![1, 64, 512]⟩
abbrev S1x1x64x256 : Shape := ⟨4, ![1, 1, 64, 256]⟩

abbrev nBuf : Space → Nat
  | .hbm => 69
  | .vmem => 22
  | .smem => 3
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x256x512, .f32⟩
  | .hbm, ⟨3, _⟩ => ⟨S2x16384x512, .f32⟩
  | .hbm, ⟨4, _⟩ => ⟨S2x256x512, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S64, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x16384x512, .f32⟩
  | .hbm, ⟨27, _⟩ => ⟨S2x16384x512, .f32⟩
  | .hbm, ⟨28, _⟩ => ⟨S2x16384x512, .bf16⟩
  | .hbm, ⟨29, _⟩ => ⟨S2x256x512, .bf16⟩
  | .hbm, ⟨30, _⟩ => ⟨S2x16384x512, .bf16⟩
  | .hbm, ⟨31, _⟩ => ⟨S2x16640x512, .bf16⟩
  | .hbm, ⟨32, _⟩ => ⟨S2x256x4x128, .f32⟩
  | .hbm, ⟨33, _⟩ => ⟨S2x4x128x256, .f32⟩
  | .hbm, ⟨34, _⟩ => ⟨S2x4x128x256, .bf16⟩
  | .hbm, ⟨35, _⟩ => ⟨S2x16384x4x128, .f32⟩
  | .hbm, ⟨36, _⟩ => ⟨S2x4x128x16384, .f32⟩
  | .hbm, ⟨37, _⟩ => ⟨S2x4x128x16384, .bf16⟩
  | .hbm, ⟨38, _⟩ => ⟨S2x4x128x16640, .bf16⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S128x1, .f32⟩
  | .hbm, ⟨43, _⟩ => ⟨S1, .f32⟩
  | .hbm, ⟨44, _⟩ => ⟨S2x16640x512, .f32⟩
  | .hbm, ⟨45, _⟩ => ⟨S2x16640x16x32, .f32⟩
  | .hbm, ⟨46, _⟩ => ⟨S2x16640x16x32, .f32⟩
  | .hbm, ⟨47, _⟩ => ⟨S_, .f32⟩
  | .hbm, ⟨48, _⟩ => ⟨S2x16640x16, .f32⟩
  | .hbm, ⟨49, _⟩ => ⟨S_, .f32⟩
  | .hbm, ⟨50, _⟩ => ⟨S2x16, .f32⟩
  | .hbm, ⟨51, _⟩ => ⟨S2x16, .f32⟩
  | .hbm, ⟨52, _⟩ => ⟨S2x16384x512, .f32⟩
  | .hbm, ⟨53, _⟩ => ⟨S2x16384x16x32, .f32⟩
  | .hbm, ⟨54, _⟩ => ⟨S2x16384x16x32, .f32⟩
  | .hbm, ⟨55, _⟩ => ⟨S_, .f32⟩
  | .hbm, ⟨56, _⟩ => ⟨S2x16384x16, .f32⟩
  | .hbm, ⟨57, _⟩ => ⟨S_, .f32⟩
  | .hbm, ⟨58, _⟩ => ⟨S2x16, .f32⟩
  | .hbm, ⟨59, _⟩ => ⟨S2x16, .f32⟩
  | .hbm, ⟨60, _⟩ => ⟨S2x16, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .i1⟩
  | .hbm, ⟨65, _⟩ => ⟨S_, .i32⟩
  | .hbm, ⟨66, _⟩ => ⟨S2x16384x512, .bf16⟩
  | .hbm, ⟨67, _⟩ => ⟨S2x16384x512, .bf16⟩
  | .hbm, ⟨68, _⟩ => ⟨S2x16384x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x16640x128, .bf16⟩
  | .local _ .vmem, ⟨3, _⟩ => ⟨S1x16640x128, .bf16⟩
  | .local _ .vmem, ⟨4, _⟩ => ⟨S1x1x128x16640, .bf16⟩
  | .local _ .vmem, ⟨5, _⟩ => ⟨S1x1x128x16640, .bf16⟩
  | .local _ .vmem, ⟨6, _⟩ => ⟨S128x1, .f32⟩
  | .local _ .vmem, ⟨7, _⟩ => ⟨S1x512x128, .bf16⟩
  | .local _ .vmem, ⟨8, _⟩ => ⟨S1x512x128, .bf16⟩
  | .local _ .vmem, ⟨9, _⟩ => ⟨S4x80x512, .f32⟩
  | .local _ .vmem, ⟨10, _⟩ => ⟨S4x256x512, .f32⟩
  | .local _ .vmem, ⟨11, _⟩ => ⟨S1x512x128, .bf16⟩
  | .local _ .vmem, ⟨12, _⟩ => ⟨S1x512x128, .bf16⟩
  | .local _ .vmem, ⟨13, _⟩ => ⟨S1x16640x128, .bf16⟩
  | .local _ .vmem, ⟨14, _⟩ => ⟨S1x16640x128, .bf16⟩
  | .local _ .vmem, ⟨15, _⟩ => ⟨S1x1x128x16640, .bf16⟩
  | .local _ .vmem, ⟨16, _⟩ => ⟨S1x1x128x16640, .bf16⟩
  | .local _ .vmem, ⟨17, _⟩ => ⟨S128x1, .f32⟩
  | .local _ .vmem, ⟨18, _⟩ => ⟨S1x512x128, .bf16⟩
  | .local _ .vmem, ⟨19, _⟩ => ⟨S1x512x128, .bf16⟩
  | .local _ .vmem, ⟨20, _⟩ => ⟨S4x64x512, .f32⟩
  | .local _ .vmem, ⟨21, _⟩ => ⟨S4x8x512, .f32⟩
  | .local _ .smem, ⟨0, _⟩ => ⟨S1, .f32⟩
  | .local _ .smem, ⟨1, _⟩ => ⟨S1, .f32⟩
  | .local _ .smem, ⟨2, _⟩ => ⟨S2x16, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_case0b0_v46 : Ref sig .tc := ⟨.hbm, 67, rfl⟩
abbrev main_case0b1_v46 : Ref sig .tc := ⟨.hbm, 68, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc0_stg0_0 : Ref sig .tc := ⟨.smem, 0, rfl⟩
abbrev cc1_stg0_0 : Ref sig .tc := ⟨.smem, 1, rfl⟩
abbrev cc1_stg1_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨3, ![2, 4, 32], ![false, false, false]⟩

def k0_mult1 : BitVec 32 :=
  let c0_i32_19 : BitVec 32 := 0#32
  c0_i32_19
def k0_mult2 : BitVec 32 :=
  let c0_i32_27 : BitVec 32 := 0#32
  c0_i32_27
@[reducible] def k0_t1_loop : Scf.Loop 32 :=
  let c0_i32_34 : BitVec 32 := 0#32
  let c65_i32 : BitVec 32 := 65#32
  let v68 : BitVec 32 := Scalar.addi c0_i32_34 c65_i32
  let c1_i32_35 : BitVec 32 := 1#32
  ⟨c0_i32_34, v68, c1_i32_35⟩
def k0_mult3 (k0_t1 : Fin k0_t1_loop.trips) : BitVec 32 :=
  let c0_i32_34 : BitVec 32 := 0#32
  let c1_i32_35 : BitVec 32 := 1#32
  let arg11 : BitVec 32 := Scf.iv c0_i32_34 c1_i32_35 k0_t1
  let c256_i32 : BitVec 32 := 256#32
  let v139 : BitVec 32 := Scalar.muli arg11 c256_i32
  v139
def k0_off1 (k0_t1 : Fin k0_t1_loop.trips) : Fin 4 → Nat :=
  let c0_62 : Index := 0#32
  let c0_63 : Index := 0#32
  let c0_64 : Index := 0#32
  let c0_i32_34 : BitVec 32 := 0#32
  let c1_i32_35 : BitVec 32 := 1#32
  let arg11 : BitVec 32 := Scf.iv c0_i32_34 c1_i32_35 k0_t1
  let c256_i32 : BitVec 32 := 256#32
  let v139 : BitVec 32 := Scalar.muli arg11 c256_i32
  let v140 : BitVec 32 := v139
  let v141 : Index := Scalar.indexCast v140
  ![0, 0, 0, v141.toNat]
def k0_mult4 (k0_t1 : Fin k0_t1_loop.trips) : BitVec 32 :=
  let c0_i32_34 : BitVec 32 := 0#32
  let c1_i32_35 : BitVec 32 := 1#32
  let arg11 : BitVec 32 := Scf.iv c0_i32_34 c1_i32_35 k0_t1
  let c256_i32_66 : BitVec 32 := 256#32
  let v150 : BitVec 32 := Scalar.muli arg11 c256_i32_66
  v150
def k0_off2 (k0_t1 : Fin k0_t1_loop.trips) : Fin 3 → Nat :=
  let c0_67 : Index := 0#32
  let c0_i32_34 : BitVec 32 := 0#32
  let c1_i32_35 : BitVec 32 := 1#32
  let arg11 : BitVec 32 := Scf.iv c0_i32_34 c1_i32_35 k0_t1
  let c256_i32_66 : BitVec 32 := 256#32
  let v150 : BitVec 32 := Scalar.muli arg11 c256_i32_66
  let v151 : BitVec 32 := v150
  let v152 : Index := Scalar.indexCast v151
  let c0_68 : Index := 0#32
  ![0, v152.toNat, 0]
def k0_mult5 (k0_t1 : Fin k0_t1_loop.trips) : BitVec 32 :=
  let c0_i32_34 : BitVec 32 := 0#32
  let c1_i32_35 : BitVec 32 := 1#32
  let arg11 : BitVec 32 := Scf.iv c0_i32_34 c1_i32_35 k0_t1
  let c256_i32_74 : BitVec 32 := 256#32
  let v161 : BitVec 32 := Scalar.muli arg11 c256_i32_74
  v161
def k0_mult6 (k0_t1 : Fin k0_t1_loop.trips) : BitVec 32 :=
  let c0_i32_34 : BitVec 32 := 0#32
  let c1_i32_35 : BitVec 32 := 1#32
  let arg11 : BitVec 32 := Scf.iv c0_i32_34 c1_i32_35 k0_t1
  let c1_i32_65 : BitVec 32 := 1#32
  let v148 : BitVec 32 := Scalar.addi arg11 c1_i32_65
  let c64_i32 : BitVec 32 := 64#32
  let v149 : BitVec 32 := Scalar.minsi v148 c64_i32
  let c256_i32_92 : BitVec 32 := 256#32
  let v190 : BitVec 32 := Scalar.muli v149 c256_i32_92
  v190
def k0_off3 (k0_t1 : Fin k0_t1_loop.trips) : Fin 3 → Nat :=
  let c0_93 : Index := 0#32
  let c0_i32_34 : BitVec 32 := 0#32
  let c1_i32_35 : BitVec 32 := 1#32
  let arg11 : BitVec 32 := Scf.iv c0_i32_34 c1_i32_35 k0_t1
  let c1_i32_65 : BitVec 32 := 1#32
  let v148 : BitVec 32 := Scalar.addi arg11 c1_i32_65
  let c64_i32 : BitVec 32 := 64#32
  let v149 : BitVec 32 := Scalar.minsi v148 c64_i32
  let c256_i32_92 : BitVec 32 := 256#32
  let v190 : BitVec 32 := Scalar.muli v149 c256_i32_92
  let v191 : BitVec 32 := v190
  let v192 : Index := Scalar.indexCast v191
  let c0_94 : Index := 0#32
  ![0, v192.toNat, 0]
def k0_mult7 (k0_t1 : Fin k0_t1_loop.trips) : BitVec 32 :=
  let c0_i32_34 : BitVec 32 := 0#32
  let c1_i32_35 : BitVec 32 := 1#32
  let arg11 : BitVec 32 := Scf.iv c0_i32_34 c1_i32_35 k0_t1
  let c1_i32_65 : BitVec 32 := 1#32
  let v148 : BitVec 32 := Scalar.addi arg11 c1_i32_65
  let c64_i32 : BitVec 32 := 64#32
  let v149 : BitVec 32 := Scalar.minsi v148 c64_i32
  let c256_i32_110 : BitVec 32 := 256#32
  let v219 : BitVec 32 := Scalar.muli v149 c256_i32_110
  v219
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x16640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev grid1 : Pipeline.Grid := ⟨3, ![2, 4, 32], ![false, false, false]⟩

def k1_off1 (i : grid1.Coords) (c0_i32_6 : BitVec 32) : Fin 2 → Nat :=
  let arg0 : BitVec 32 := BitVec.ofNat 32 (i 0).val
  let v24 : Index := Scalar.indexCast arg0
  let c4_i32 : BitVec 32 := 4#32
  let arg1 : BitVec 32 := BitVec.ofNat 32 (i 1).val
  let v22 : BitVec 32 := Scalar.muli c4_i32 arg1
  let v23 : BitVec 32 := Scalar.addi v22 c0_i32_6
  let v25 : Index := Scalar.indexCast v23
  ![v24.toNat, v25.toNat]
def k1_mult1 : BitVec 32 :=
  let c0_i32_42 : BitVec 32 := 0#32
  let c65_i32 : BitVec 32 := 65#32
  let v128 : BitVec 32 := Scalar.muli c0_i32_42 c65_i32
  let c0_i32_43 : BitVec 32 := 0#32
  let v129 : BitVec 32 := Scalar.addi v128 c0_i32_43
  let c256_i32 : BitVec 32 := 256#32
  let v130 : BitVec 32 := Scalar.muli v129 c256_i32
  v130
def k1_off2 (c0_i32_43 : BitVec 32) : Fin 3 → Nat :=
  let c0_44 : Index := 0#32
  let c0_i32_42 : BitVec 32 := 0#32
  let c65_i32 : BitVec 32 := 65#32
  let v128 : BitVec 32 := Scalar.muli c0_i32_42 c65_i32
  let v129 : BitVec 32 := Scalar.addi v128 c0_i32_43
  let c256_i32 : BitVec 32 := 256#32
  let v130 : BitVec 32 := Scalar.muli v129 c256_i32
  let v131 : BitVec 32 := v130
  let v132 : Index := Scalar.indexCast v131
  let c0_45 : Index := 0#32
  ![0, v132.toNat, 0]
def k1_mult2 : BitVec 32 :=
  let c0_i32_42 : BitVec 32 := 0#32
  let c65_i32_47 : BitVec 32 := 65#32
  let v137 : BitVec 32 := Scalar.muli c0_i32_42 c65_i32_47
  let c0_i32_48 : BitVec 32 := 0#32
  let v138 : BitVec 32 := Scalar.addi v137 c0_i32_48
  let c256_i32_49 : BitVec 32 := 256#32
  let v139 : BitVec 32 := Scalar.muli v138 c256_i32_49
  v139
def k1_mult3 : BitVec 32 :=
  let c0_i32_42 : BitVec 32 := 0#32
  let c65_i32_53 : BitVec 32 := 65#32
  let v146 : BitVec 32 := Scalar.muli c0_i32_42 c65_i32_53
  let c0_i32_54 : BitVec 32 := 0#32
  let v147 : BitVec 32 := Scalar.addi v146 c0_i32_54
  let c256_i32_55 : BitVec 32 := 256#32
  let v148 : BitVec 32 := Scalar.muli v147 c256_i32_55
  v148
def k1_mult4 : BitVec 32 :=
  let c0_i32_42 : BitVec 32 := 0#32
  let c65_i32_69 : BitVec 32 := 65#32
  let v166 : BitVec 32 := Scalar.muli c0_i32_42 c65_i32_69
  let c0_i32_70 : BitVec 32 := 0#32
  let v167 : BitVec 32 := Scalar.addi v166 c0_i32_70
  let c256_i32_71 : BitVec 32 := 256#32
  let v168 : BitVec 32 := Scalar.muli v167 c256_i32_71
  v168
def k1_off3 (c0_i32_70 : BitVec 32) : Fin 4 → Nat :=
  let c0_72 : Index := 0#32
  let c0_73 : Index := 0#32
  let c0_74 : Index := 0#32
  let c0_i32_42 : BitVec 32 := 0#32
  let c65_i32_69 : BitVec 32 := 65#32
  let v166 : BitVec 32 := Scalar.muli c0_i32_42 c65_i32_69
  let v167 : BitVec 32 := Scalar.addi v166 c0_i32_70
  let c256_i32_71 : BitVec 32 := 256#32
  let v168 : BitVec 32 := Scalar.muli v167 c256_i32_71
  let v169 : BitVec 32 := v168
  let v170 : Index := Scalar.indexCast v169
  ![0, 0, 0, v170.toNat]
def k1_mult5 : BitVec 32 :=
  let c0_i32_42 : BitVec 32 := 0#32
  let c65_i32_79 : BitVec 32 := 65#32
  let v179 : BitVec 32 := Scalar.muli c0_i32_42 c65_i32_79
  let c0_i32_80 : BitVec 32 := 0#32
  let v180 : BitVec 32 := Scalar.addi v179 c0_i32_80
  let c256_i32_81 : BitVec 32 := 256#32
  let v181 : BitVec 32 := Scalar.muli v180 c256_i32_81
  v181
def k1_mult6 : BitVec 32 :=
  let c0_i32_42 : BitVec 32 := 0#32
  let c65_i32_94 : BitVec 32 := 65#32
  let v199 : BitVec 32 := Scalar.muli c0_i32_42 c65_i32_94
  let c0_i32_95 : BitVec 32 := 0#32
  let v200 : BitVec 32 := Scalar.addi v199 c0_i32_95
  let c256_i32_96 : BitVec 32 := 256#32
  let v201 : BitVec 32 := Scalar.muli v200 c256_i32_96
  v201
def k1_mult7 : BitVec 32 :=
  let c0_i32_42 : BitVec 32 := 0#32
  let c65_i32_104 : BitVec 32 := 65#32
  let v212 : BitVec 32 := Scalar.muli c0_i32_42 c65_i32_104
  let c1_i32_105 : BitVec 32 := 1#32
  let v213 : BitVec 32 := Scalar.addi v212 c1_i32_105
  let c256_i32_106 : BitVec 32 := 256#32
  let v214 : BitVec 32 := Scalar.muli v213 c256_i32_106
  v214
def k1_mult8 : BitVec 32 :=
  let c0_i32_42 : BitVec 32 := 0#32
  let c65_i32_119 : BitVec 32 := 65#32
  let v232 : BitVec 32 := Scalar.muli c0_i32_42 c65_i32_119
  let c0_i32_120 : BitVec 32 := 0#32
  let v233 : BitVec 32 := Scalar.addi v232 c0_i32_120
  let c256_i32_121 : BitVec 32 := 256#32
  let v234 : BitVec 32 := Scalar.muli v233 c256_i32_121
  v234
def k1_off4 (c0_i32_120 : BitVec 32) : Fin 4 → Nat :=
  let c0_122 : Index := 0#32
  let c0_123 : Index := 0#32
  let c64 : Index := 64#32
  let c0_i32_42 : BitVec 32 := 0#32
  let c65_i32_119 : BitVec 32 := 65#32
  let v232 : BitVec 32 := Scalar.muli c0_i32_42 c65_i32_119
  let v233 : BitVec 32 := Scalar.addi v232 c0_i32_120
  let c256_i32_121 : BitVec 32 := 256#32
  let v234 : BitVec 32 := Scalar.muli v233 c256_i32_121
  let v235 : BitVec 32 := v234
  let v236 : Index := Scalar.indexCast v235
  ![0, 0, 64, v236.toNat]
def k1_mult9 : BitVec 32 :=
  let c0_i32_42 : BitVec 32 := 0#32
  let c65_i32_128 : BitVec 32 := 65#32
  let v245 : BitVec 32 := Scalar.muli c0_i32_42 c65_i32_128
  let c1_i32_129 : BitVec 32 := 1#32
  let v246 : BitVec 32 := Scalar.addi v245 c1_i32_129
  let c256_i32_130 : BitVec 32 := 256#32
  let v247 : BitVec 32 := Scalar.muli v246 c256_i32_130
  v247
def k1_mult10 : BitVec 32 :=
  let c0_i32_42 : BitVec 32 := 0#32
  let c65_i32_143 : BitVec 32 := 65#32
  let v265 : BitVec 32 := Scalar.muli c0_i32_42 c65_i32_143
  let c0_i32_144 : BitVec 32 := 0#32
  let v266 : BitVec 32 := Scalar.addi v265 c0_i32_144
  let c256_i32_145 : BitVec 32 := 256#32
  let v267 : BitVec 32 := Scalar.muli v266 c256_i32_145
  v267
def k1_mult11 : BitVec 32 :=
  let c0_i32_42 : BitVec 32 := 0#32
  let c65_i32_153 : BitVec 32 := 65#32
  let v278 : BitVec 32 := Scalar.muli c0_i32_42 c65_i32_153
  let c1_i32_154 : BitVec 32 := 1#32
  let v279 : BitVec 32 := Scalar.addi v278 c1_i32_154
  let c256_i32_155 : BitVec 32 := 256#32
  let v280 : BitVec 32 := Scalar.muli v279 c256_i32_155
  v280
def k1_mult12 : BitVec 32 :=
  let c0_i32_42 : BitVec 32 := 0#32
  let c65_i32_169 : BitVec 32 := 65#32
  let v298 : BitVec 32 := Scalar.muli c0_i32_42 c65_i32_169
  let c1_i32_170 : BitVec 32 := 1#32
  let v299 : BitVec 32 := Scalar.addi v298 c1_i32_170
  let c256_i32_171 : BitVec 32 := 256#32
  let v300 : BitVec 32 := Scalar.muli v299 c256_i32_171
  v300
def k1_mult13 : BitVec 32 :=
  let c0_i32_42 : BitVec 32 := 0#32
  let c65_i32_179 : BitVec 32 := 65#32
  let v311 : BitVec 32 := Scalar.muli c0_i32_42 c65_i32_179
  let c1_i32_180 : BitVec 32 := 1#32
  let v312 : BitVec 32 := Scalar.addi v311 c1_i32_180
  let c256_i32_181 : BitVec 32 := 256#32
  let v313 : BitVec 32 := Scalar.muli v312 c256_i32_181
  v313
def k1_mult14 : BitVec 32 :=
  let c0_i32_42 : BitVec 32 := 0#32
  let c65_i32_195 : BitVec 32 := 65#32
  let v331 : BitVec 32 := Scalar.muli c0_i32_42 c65_i32_195
  let c1_i32_196 : BitVec 32 := 1#32
  let v332 : BitVec 32 := Scalar.addi v331 c1_i32_196
  let c256_i32_197 : BitVec 32 := 256#32
  let v333 : BitVec 32 := Scalar.muli v332 c256_i32_197
  v333
def k1_mult15 : BitVec 32 :=
  let c0_i32_42 : BitVec 32 := 0#32
  let c65_i32_205 : BitVec 32 := 65#32
  let v344 : BitVec 32 := Scalar.muli c0_i32_42 c65_i32_205
  let c2_i32_206 : BitVec 32 := 2#32
  let v345 : BitVec 32 := Scalar.addi v344 c2_i32_206
  let c256_i32_207 : BitVec 32 := 256#32
  let v346 : BitVec 32 := Scalar.muli v345 c256_i32_207
  v346
def k1_mult16 : BitVec 32 :=
  let c0_i32_42 : BitVec 32 := 0#32
  let c65_i32_221 : BitVec 32 := 65#32
  let v364 : BitVec 32 := Scalar.muli c0_i32_42 c65_i32_221
  let c1_i32_222 : BitVec 32 := 1#32
  let v365 : BitVec 32 := Scalar.addi v364 c1_i32_222
  let c256_i32_223 : BitVec 32 := 256#32
  let v366 : BitVec 32 := Scalar.muli v365 c256_i32_223
  v366
def k1_mult17 : BitVec 32 :=
  let c0_i32_42 : BitVec 32 := 0#32
  let c65_i32_231 : BitVec 32 := 65#32
  let v377 : BitVec 32 := Scalar.muli c0_i32_42 c65_i32_231
  let c2_i32_232 : BitVec 32 := 2#32
  let v378 : BitVec 32 := Scalar.addi v377 c2_i32_232
  let c256_i32_233 : BitVec 32 := 256#32
  let v379 : BitVec 32 := Scalar.muli v378 c256_i32_233
  v379
def k1_mult18 : BitVec 32 :=
  let c0_i32_42 : BitVec 32 := 0#32
  let c65_i32_247 : BitVec 32 := 65#32
  let v397 : BitVec 32 := Scalar.muli c0_i32_42 c65_i32_247
  let c1_i32_248 : BitVec 32 := 1#32
  let v398 : BitVec 32 := Scalar.addi v397 c1_i32_248
  let c256_i32_249 : BitVec 32 := 256#32
  let v399 : BitVec 32 := Scalar.muli v398 c256_i32_249
  v399
def k1_mult19 : BitVec 32 :=
  let c0_i32_42 : BitVec 32 := 0#32
  let c65_i32_257 : BitVec 32 := 65#32
  let v410 : BitVec 32 := Scalar.muli c0_i32_42 c65_i32_257
  let c2_i32_258 : BitVec 32 := 2#32
  let v411 : BitVec 32 := Scalar.addi v410 c2_i32_258
  let c256_i32_259 : BitVec 32 := 256#32
  let v412 : BitVec 32 := Scalar.muli v411 c256_i32_259
  v412
def k1_mult20 : BitVec 32 :=
  let c0_i32_42 : BitVec 32 := 0#32
  let c65_i32_273 : BitVec 32 := 65#32
  let v430 : BitVec 32 := Scalar.muli c0_i32_42 c65_i32_273
  let c2_i32_274 : BitVec 32 := 2#32
  let v431 : BitVec 32 := Scalar.addi v430 c2_i32_274
  let c256_i32_275 : BitVec 32 := 256#32
  let v432 : BitVec 32 := Scalar.muli v431 c256_i32_275
  v432
def k1_mult21 : BitVec 32 :=
  let c0_i32_42 : BitVec 32 := 0#32
  let c65_i32_283 : BitVec 32 := 65#32
  let v443 : BitVec 32 := Scalar.muli c0_i32_42 c65_i32_283
  let c2_i32_284 : BitVec 32 := 2#32
  let v444 : BitVec 32 := Scalar.addi v443 c2_i32_284
  let c256_i32_285 : BitVec 32 := 256#32
  let v445 : BitVec 32 := Scalar.muli v444 c256_i32_285
  v445
def k1_mult22 : BitVec 32 :=
  let c0_i32_42 : BitVec 32 := 0#32
  let c65_i32_299 : BitVec 32 := 65#32
  let v463 : BitVec 32 := Scalar.muli c0_i32_42 c65_i32_299
  let c2_i32_300 : BitVec 32 := 2#32
  let v464 : BitVec 32 := Scalar.addi v463 c2_i32_300
  let c256_i32_301 : BitVec 32 := 256#32
  let v465 : BitVec 32 := Scalar.muli v464 c256_i32_301
  v465
def k1_mult23 : BitVec 32 :=
  let c0_i32_42 : BitVec 32 := 0#32
  let c65_i32_309 : BitVec 32 := 65#32
  let v476 : BitVec 32 := Scalar.muli c0_i32_42 c65_i32_309
  let c3_i32_310 : BitVec 32 := 3#32
  let v477 : BitVec 32 := Scalar.addi v476 c3_i32_310
  let c256_i32_311 : BitVec 32 := 256#32
  let v478 : BitVec 32 := Scalar.muli v477 c256_i32_311
  v478
def k1_mult24 : BitVec 32 :=
  let c0_i32_42 : BitVec 32 := 0#32
  let c65_i32_325 : BitVec 32 := 65#32
  let v496 : BitVec 32 := Scalar.muli c0_i32_42 c65_i32_325
  let c2_i32_326 : BitVec 32 := 2#32
  let v497 : BitVec 32 := Scalar.addi v496 c2_i32_326
  let c256_i32_327 : BitVec 32 := 256#32
  let v498 : BitVec 32 := Scalar.muli v497 c256_i32_327
  v498
def k1_mult25 : BitVec 32 :=
  let c0_i32_42 : BitVec 32 := 0#32
  let c65_i32_335 : BitVec 32 := 65#32
  let v509 : BitVec 32 := Scalar.muli c0_i32_42 c65_i32_335
  let c3_i32_336 : BitVec 32 := 3#32
  let v510 : BitVec 32 := Scalar.addi v509 c3_i32_336
  let c256_i32_337 : BitVec 32 := 256#32
  let v511 : BitVec 32 := Scalar.muli v510 c256_i32_337
  v511
def k1_mult26 : BitVec 32 :=
  let c0_i32_42 : BitVec 32 := 0#32
  let c65_i32_351 : BitVec 32 := 65#32
  let v529 : BitVec 32 := Scalar.muli c0_i32_42 c65_i32_351
  let c2_i32_352 : BitVec 32 := 2#32
  let v530 : BitVec 32 := Scalar.addi v529 c2_i32_352
  let c256_i32_353 : BitVec 32 := 256#32
  let v531 : BitVec 32 := Scalar.muli v530 c256_i32_353
  v531
def k1_mult27 : BitVec 32 :=
  let c0_i32_42 : BitVec 32 := 0#32
  let c65_i32_361 : BitVec 32 := 65#32
  let v542 : BitVec 32 := Scalar.muli c0_i32_42 c65_i32_361
  let c3_i32_362 : BitVec 32 := 3#32
  let v543 : BitVec 32 := Scalar.addi v542 c3_i32_362
  let c256_i32_363 : BitVec 32 := 256#32
  let v544 : BitVec 32 := Scalar.muli v543 c256_i32_363
  v544
def k1_mult28 : BitVec 32 :=
  let c0_i32_42 : BitVec 32 := 0#32
  let c65_i32_377 : BitVec 32 := 65#32
  let v562 : BitVec 32 := Scalar.muli c0_i32_42 c65_i32_377
  let c3_i32_378 : BitVec 32 := 3#32
  let v563 : BitVec 32 := Scalar.addi v562 c3_i32_378
  let c256_i32_379 : BitVec 32 := 256#32
  let v564 : BitVec 32 := Scalar.muli v563 c256_i32_379
  v564
def k1_mult29 : BitVec 32 :=
  let c0_i32_42 : BitVec 32 := 0#32
  let c65_i32_387 : BitVec 32 := 65#32
  let v575 : BitVec 32 := Scalar.muli c0_i32_42 c65_i32_387
  let c3_i32_388 : BitVec 32 := 3#32
  let v576 : BitVec 32 := Scalar.addi v575 c3_i32_388
  let c256_i32_389 : BitVec 32 := 256#32
  let v577 : BitVec 32 := Scalar.muli v576 c256_i32_389
  v577
def k1_mult30 : BitVec 32 :=
  let c0_i32_42 : BitVec 32 := 0#32
  let c65_i32_403 : BitVec 32 := 65#32
  let v595 : BitVec 32 := Scalar.muli c0_i32_42 c65_i32_403
  let c3_i32_404 : BitVec 32 := 3#32
  let v596 : BitVec 32 := Scalar.addi v595 c3_i32_404
  let c256_i32_405 : BitVec 32 := 256#32
  let v597 : BitVec 32 := Scalar.muli v596 c256_i32_405
  v597
def k1_mult31 : BitVec 32 :=
  let c0_i32_42 : BitVec 32 := 0#32
  let c65_i32_413 : BitVec 32 := 65#32
  let v608 : BitVec 32 := Scalar.muli c0_i32_42 c65_i32_413
  let c4_i32_414 : BitVec 32 := 4#32
  let v609 : BitVec 32 := Scalar.addi v608 c4_i32_414
  let c256_i32_415 : BitVec 32 := 256#32
  let v610 : BitVec 32 := Scalar.muli v609 c256_i32_415
  v610
def k1_mult32 : BitVec 32 :=
  let c0_i32_42 : BitVec 32 := 0#32
  let c65_i32_429 : BitVec 32 := 65#32
  let v628 : BitVec 32 := Scalar.muli c0_i32_42 c65_i32_429
  let c3_i32_430 : BitVec 32 := 3#32
  let v629 : BitVec 32 := Scalar.addi v628 c3_i32_430
  let c256_i32_431 : BitVec 32 := 256#32
  let v630 : BitVec 32 := Scalar.muli v629 c256_i32_431
  v630
def k1_mult33 : BitVec 32 :=
  let c0_i32_42 : BitVec 32 := 0#32
  let c65_i32_439 : BitVec 32 := 65#32
  let v641 : BitVec 32 := Scalar.muli c0_i32_42 c65_i32_439
  let c4_i32_440 : BitVec 32 := 4#32
  let v642 : BitVec 32 := Scalar.addi v641 c4_i32_440
  let c256_i32_441 : BitVec 32 := 256#32
  let v643 : BitVec 32 := Scalar.muli v642 c256_i32_441
  v643
def k1_mult34 : BitVec 32 :=
  let c0_i32_42 : BitVec 32 := 0#32
  let c65_i32_455 : BitVec 32 := 65#32
  let v661 : BitVec 32 := Scalar.muli c0_i32_42 c65_i32_455
  let c3_i32_456 : BitVec 32 := 3#32
  let v662 : BitVec 32 := Scalar.addi v661 c3_i32_456
  let c256_i32_457 : BitVec 32 := 256#32
  let v663 : BitVec 32 := Scalar.muli v662 c256_i32_457
  v663
def k1_mult35 : BitVec 32 :=
  let c0_i32_42 : BitVec 32 := 0#32
  let c65_i32_465 : BitVec 32 := 65#32
  let v674 : BitVec 32 := Scalar.muli c0_i32_42 c65_i32_465
  let c4_i32_466 : BitVec 32 := 4#32
  let v675 : BitVec 32 := Scalar.addi v674 c4_i32_466
  let c256_i32_467 : BitVec 32 := 256#32
  let v676 : BitVec 32 := Scalar.muli v675 c256_i32_467
  v676
def k1_mult36 : BitVec 32 :=
  let c0_i32_42 : BitVec 32 := 0#32
  let c65_i32_481 : BitVec 32 := 65#32
  let v694 : BitVec 32 := Scalar.muli c0_i32_42 c65_i32_481
  let c4_i32_482 : BitVec 32 := 4#32
  let v695 : BitVec 32 := Scalar.addi v694 c4_i32_482
  let c256_i32_483 : BitVec 32 := 256#32
  let v696 : BitVec 32 := Scalar.muli v695 c256_i32_483
  v696
def k1_mult37 : BitVec 32 :=
  let c0_i32_42 : BitVec 32 := 0#32
  let c65_i32_491 : BitVec 32 := 65#32
  let v707 : BitVec 32 := Scalar.muli c0_i32_42 c65_i32_491
  let c4_i32_492 : BitVec 32 := 4#32
  let v708 : BitVec 32 := Scalar.addi v707 c4_i32_492
  let c256_i32_493 : BitVec 32 := 256#32
  let v709 : BitVec 32 := Scalar.muli v708 c256_i32_493
  v709
def k1_mult38 : BitVec 32 :=
  let c0_i32_42 : BitVec 32 := 0#32
  let c65_i32_507 : BitVec 32 := 65#32
  let v727 : BitVec 32 := Scalar.muli c0_i32_42 c65_i32_507
  let c4_i32_508 : BitVec 32 := 4#32
  let v728 : BitVec 32 := Scalar.addi v727 c4_i32_508
  let c256_i32_509 : BitVec 32 := 256#32
  let v729 : BitVec 32 := Scalar.muli v728 c256_i32_509
  v729
def k1_mult39 : BitVec 32 :=
  let c0_i32_42 : BitVec 32 := 0#32
  let c65_i32_517 : BitVec 32 := 65#32
  let v740 : BitVec 32 := Scalar.muli c0_i32_42 c65_i32_517
  let c5_i32_518 : BitVec 32 := 5#32
  let v741 : BitVec 32 := Scalar.addi v740 c5_i32_518
  let c256_i32_519 : BitVec 32 := 256#32
  let v742 : BitVec 32 := Scalar.muli v741 c256_i32_519
  v742
def k1_mult40 : BitVec 32 :=
  let c0_i32_42 : BitVec 32 := 0#32
  let c65_i32_533 : BitVec 32 := 65#32
  let v760 : BitVec 32 := Scalar.muli c0_i32_42 c65_i32_533
  let c4_i32_534 : BitVec 32 := 4#32
  let v761 : BitVec 32 := Scalar.addi v760 c4_i32_534
  let c256_i32_535 : BitVec 32 := 256#32
  let v762 : BitVec 32 := Scalar.muli v761 c256_i32_535
  v762
def k1_mult41 : BitVec 32 :=
  let c0_i32_42 : BitVec 32 := 0#32
  let c65_i32_543 : BitVec 32 := 65#32
  let v773 : BitVec 32 := Scalar.muli c0_i32_42 c65_i32_543
  let c5_i32_544 : BitVec 32 := 5#32
  let v774 : BitVec 32 := Scalar.addi v773 c5_i32_544
  let c256_i32_545 : BitVec 32 := 256#32
  let v775 : BitVec 32 := Scalar.muli v774 c256_i32_545
  v775
def k1_mult42 : BitVec 32 :=
  let c0_i32_42 : BitVec 32 := 0#32
  let c65_i32_559 : BitVec 32 := 65#32
  let v793 : BitVec 32 := Scalar.muli c0_i32_42 c65_i32_559
  let c4_i32_560 : BitVec 32 := 4#32
  let v794 : BitVec 32 := Scalar.addi v793 c4_i32_560
  let c256_i32_561 : BitVec 32 := 256#32
  let v795 : BitVec 32 := Scalar.muli v794 c256_i32_561
  v795
def k1_mult43 : BitVec 32 :=
  let c0_i32_42 : BitVec 32 := 0#32
  let c65_i32_569 : BitVec 32 := 65#32
  let v806 : BitVec 32 := Scalar.muli c0_i32_42 c65_i32_569
  let c5_i32_570 : BitVec 32 := 5#32
  let v807 : BitVec 32 := Scalar.addi v806 c5_i32_570
  let c256_i32_571 : BitVec 32 := 256#32
  let v808 : BitVec 32 := Scalar.muli v807 c256_i32_571
  v808
def k1_mult44 : BitVec 32 :=
  let c0_i32_42 : BitVec 32 := 0#32
  let c65_i32_585 : BitVec 32 := 65#32
  let v826 : BitVec 32 := Scalar.muli c0_i32_42 c65_i32_585
  let c5_i32_586 : BitVec 32 := 5#32
  let v827 : BitVec 32 := Scalar.addi v826 c5_i32_586
  let c256_i32_587 : BitVec 32 := 256#32
  let v828 : BitVec 32 := Scalar.muli v827 c256_i32_587
  v828
def k1_mult45 : BitVec 32 :=
  let c0_i32_42 : BitVec 32 := 0#32
  let c65_i32_595 : BitVec 32 := 65#32
  let v839 : BitVec 32 := Scalar.muli c0_i32_42 c65_i32_595
  let c5_i32_596 : BitVec 32 := 5#32
  let v840 : BitVec 32 := Scalar.addi v839 c5_i32_596
  let c256_i32_597 : BitVec 32 := 256#32
  let v841 : BitVec 32 := Scalar.muli v840 c256_i32_597
  v841
def k1_mult46 : BitVec 32 :=
  let c0_i32_42 : BitVec 32 := 0#32
  let c65_i32_611 : BitVec 32 := 65#32
  let v859 : BitVec 32 := Scalar.muli c0_i32_42 c65_i32_611
  let c5_i32_612 : BitVec 32 := 5#32
  let v860 : BitVec 32 := Scalar.addi v859 c5_i32_612
  let c256_i32_613 : BitVec 32 := 256#32
  let v861 : BitVec 32 := Scalar.muli v860 c256_i32_613
  v861
def k1_mult47 : BitVec 32 :=
  let c0_i32_42 : BitVec 32 := 0#32
  let c65_i32_621 : BitVec 32 := 65#32
  let v872 : BitVec 32 := Scalar.muli c0_i32_42 c65_i32_621
  let c6_i32 : BitVec 32 := 6#32
  let v873 : BitVec 32 := Scalar.addi v872 c6_i32
  let c256_i32_622 : BitVec 32 := 256#32
  let v874 : BitVec 32 := Scalar.muli v873 c256_i32_622
  v874
def k1_mult48 : BitVec 32 :=
  let c0_i32_42 : BitVec 32 := 0#32
  let c65_i32_636 : BitVec 32 := 65#32
  let v892 : BitVec 32 := Scalar.muli c0_i32_42 c65_i32_636
  let c5_i32_637 : BitVec 32 := 5#32
  let v893 : BitVec 32 := Scalar.addi v892 c5_i32_637
  let c256_i32_638 : BitVec 32 := 256#32
  let v894 : BitVec 32 := Scalar.muli v893 c256_i32_638
  v894
def k1_mult49 : BitVec 32 :=
  let c0_i32_42 : BitVec 32 := 0#32
  let c65_i32_646 : BitVec 32 := 65#32
  let v905 : BitVec 32 := Scalar.muli c0_i32_42 c65_i32_646
  let c6_i32_647 : BitVec 32 := 6#32
  let v906 : BitVec 32 := Scalar.addi v905 c6_i32_647
  let c256_i32_648 : BitVec 32 := 256#32
  let v907 : BitVec 32 := Scalar.muli v906 c256_i32_648
  v907
def k1_mult50 : BitVec 32 :=
  let c0_i32_42 : BitVec 32 := 0#32
  let c65_i32_662 : BitVec 32 := 65#32
  let v925 : BitVec 32 := Scalar.muli c0_i32_42 c65_i32_662
  let c5_i32_663 : BitVec 32 := 5#32
  let v926 : BitVec 32 := Scalar.addi v925 c5_i32_663
  let c256_i32_664 : BitVec 32 := 256#32
  let v927 : BitVec 32 := Scalar.muli v926 c256_i32_664
  v927
def k1_mult51 : BitVec 32 :=
  let c0_i32_42 : BitVec 32 := 0#32
  let c65_i32_672 : BitVec 32 := 65#32
  let v938 : BitVec 32 := Scalar.muli c0_i32_42 c65_i32_672
  let c6_i32_673 : BitVec 32 := 6#32
  let v939 : BitVec 32 := Scalar.addi v938 c6_i32_673
  let c256_i32_674 : BitVec 32 := 256#32
  let v940 : BitVec 32 := Scalar.muli v939 c256_i32_674
  v940
def k1_mult52 : BitVec 32 :=
  let c0_i32_42 : BitVec 32 := 0#32
  let c65_i32_688 : BitVec 32 := 65#32
  let v958 : BitVec 32 := Scalar.muli c0_i32_42 c65_i32_688
  let c6_i32_689 : BitVec 32 := 6#32
  let v959 : BitVec 32 := Scalar.addi v958 c6_i32_689
  let c256_i32_690 : BitVec 32 := 256#32
  let v960 : BitVec 32 := Scalar.muli v959 c256_i32_690
  v960
def k1_mult53 : BitVec 32 :=
  let c0_i32_42 : BitVec 32 := 0#32
  let c65_i32_698 : BitVec 32 := 65#32
  let v971 : BitVec 32 := Scalar.muli c0_i32_42 c65_i32_698
  let c6_i32_699 : BitVec 32 := 6#32
  let v972 : BitVec 32 := Scalar.addi v971 c6_i32_699
  let c256_i32_700 : BitVec 32 := 256#32
  let v973 : BitVec 32 := Scalar.muli v972 c256_i32_700
  v973
def k1_mult54 : BitVec 32 :=
  let c0_i32_42 : BitVec 32 := 0#32
  let c65_i32_714 : BitVec 32 := 65#32
  let v991 : BitVec 32 := Scalar.muli c0_i32_42 c65_i32_714
  let c6_i32_715 : BitVec 32 := 6#32
  let v992 : BitVec 32 := Scalar.addi v991 c6_i32_715
  let c256_i32_716 : BitVec 32 := 256#32
  let v993 : BitVec 32 := Scalar.muli v992 c256_i32_716
  v993
def k1_mult55 : BitVec 32 :=
  let c0_i32_42 : BitVec 32 := 0#32
  let c65_i32_724 : BitVec 32 := 65#32
  let v1004 : BitVec 32 := Scalar.muli c0_i32_42 c65_i32_724
  let c7_i32 : BitVec 32 := 7#32
  let v1005 : BitVec 32 := Scalar.addi v1004 c7_i32
  let c256_i32_725 : BitVec 32 := 256#32
  let v1006 : BitVec 32 := Scalar.muli v1005 c256_i32_725
  v1006
def k1_mult56 : BitVec 32 :=
  let c0_i32_42 : BitVec 32 := 0#32
  let c65_i32_739 : BitVec 32 := 65#32
  let v1024 : BitVec 32 := Scalar.muli c0_i32_42 c65_i32_739
  let c6_i32_740 : BitVec 32 := 6#32
  let v1025 : BitVec 32 := Scalar.addi v1024 c6_i32_740
  let c256_i32_741 : BitVec 32 := 256#32
  let v1026 : BitVec 32 := Scalar.muli v1025 c256_i32_741
  v1026
def k1_mult57 : BitVec 32 :=
  let c0_i32_42 : BitVec 32 := 0#32
  let c65_i32_749 : BitVec 32 := 65#32
  let v1037 : BitVec 32 := Scalar.muli c0_i32_42 c65_i32_749
  let c7_i32_750 : BitVec 32 := 7#32
  let v1038 : BitVec 32 := Scalar.addi v1037 c7_i32_750
  let c256_i32_751 : BitVec 32 := 256#32
  let v1039 : BitVec 32 := Scalar.muli v1038 c256_i32_751
  v1039
def k1_mult58 : BitVec 32 :=
  let c0_i32_42 : BitVec 32 := 0#32
  let c65_i32_765 : BitVec 32 := 65#32
  let v1057 : BitVec 32 := Scalar.muli c0_i32_42 c65_i32_765
  let c6_i32_766 : BitVec 32 := 6#32
  let v1058 : BitVec 32 := Scalar.addi v1057 c6_i32_766
  let c256_i32_767 : BitVec 32 := 256#32
  let v1059 : BitVec 32 := Scalar.muli v1058 c256_i32_767
  v1059
def k1_mult59 : BitVec 32 :=
  let c0_i32_42 : BitVec 32 := 0#32
  let c65_i32_775 : BitVec 32 := 65#32
  let v1070 : BitVec 32 := Scalar.muli c0_i32_42 c65_i32_775
  let c7_i32_776 : BitVec 32 := 7#32
  let v1071 : BitVec 32 := Scalar.addi v1070 c7_i32_776
  let c256_i32_777 : BitVec 32 := 256#32
  let v1072 : BitVec 32 := Scalar.muli v1071 c256_i32_777
  v1072
def k1_mult60 : BitVec 32 :=
  let c0_i32_42 : BitVec 32 := 0#32
  let c65_i32_791 : BitVec 32 := 65#32
  let v1090 : BitVec 32 := Scalar.muli c0_i32_42 c65_i32_791
  let c7_i32_792 : BitVec 32 := 7#32
  let v1091 : BitVec 32 := Scalar.addi v1090 c7_i32_792
  let c256_i32_793 : BitVec 32 := 256#32
  let v1092 : BitVec 32 := Scalar.muli v1091 c256_i32_793
  v1092
def k1_mult61 : BitVec 32 :=
  let c0_i32_42 : BitVec 32 := 0#32
  let c65_i32_801 : BitVec 32 := 65#32
  let v1103 : BitVec 32 := Scalar.muli c0_i32_42 c65_i32_801
  let c7_i32_802 : BitVec 32 := 7#32
  let v1104 : BitVec 32 := Scalar.addi v1103 c7_i32_802
  let c256_i32_803 : BitVec 32 := 256#32
  let v1105 : BitVec 32 := Scalar.muli v1104 c256_i32_803
  v1105
def k1_mult62 : BitVec 32 :=
  let c0_i32_42 : BitVec 32 := 0#32
  let c65_i32_817 : BitVec 32 := 65#32
  let v1123 : BitVec 32 := Scalar.muli c0_i32_42 c65_i32_817
  let c7_i32_818 : BitVec 32 := 7#32
  let v1124 : BitVec 32 := Scalar.addi v1123 c7_i32_818
  let c256_i32_819 : BitVec 32 := 256#32
  let v1125 : BitVec 32 := Scalar.muli v1124 c256_i32_819
  v1125
def k1_mult63 : BitVec 32 :=
  let c0_i32_42 : BitVec 32 := 0#32
  let c65_i32_827 : BitVec 32 := 65#32
  let v1136 : BitVec 32 := Scalar.muli c0_i32_42 c65_i32_827
  let c8_i32 : BitVec 32 := 8#32
  let v1137 : BitVec 32 := Scalar.addi v1136 c8_i32
  let c256_i32_828 : BitVec 32 := 256#32
  let v1138 : BitVec 32 := Scalar.muli v1137 c256_i32_828
  v1138
def k1_mult64 : BitVec 32 :=
  let c0_i32_42 : BitVec 32 := 0#32
  let c65_i32_842 : BitVec 32 := 65#32
  let v1156 : BitVec 32 := Scalar.muli c0_i32_42 c65_i32_842
  let c7_i32_843 : BitVec 32 := 7#32
  let v1157 : BitVec 32 := Scalar.addi v1156 c7_i32_843
  let c256_i32_844 : BitVec 32 := 256#32
  let v1158 : BitVec 32 := Scalar.muli v1157 c256_i32_844
  v1158
def k1_mult65 : BitVec 32 :=
  let c0_i32_42 : BitVec 32 := 0#32
  let c65_i32_852 : BitVec 32 := 65#32
  let v1169 : BitVec 32 := Scalar.muli c0_i32_42 c65_i32_852
  let c8_i32_853 : BitVec 32 := 8#32
  let v1170 : BitVec 32 := Scalar.addi v1169 c8_i32_853
  let c256_i32_854 : BitVec 32 := 256#32
  let v1171 : BitVec 32 := Scalar.muli v1170 c256_i32_854
  v1171
def k1_mult66 : BitVec 32 :=
  let c0_i32_42 : BitVec 32 := 0#32
  let c65_i32_868 : BitVec 32 := 65#32
  let v1189 : BitVec 32 := Scalar.muli c0_i32_42 c65_i32_868
  let c7_i32_869 : BitVec 32 := 7#32
  let v1190 : BitVec 32 := Scalar.addi v1189 c7_i32_869
  let c256_i32_870 : BitVec 32 := 256#32
  let v1191 : BitVec 32 := Scalar.muli v1190 c256_i32_870
  v1191
def k1_mult67 : BitVec 32 :=
  let c0_i32_42 : BitVec 32 := 0#32
  let c65_i32_878 : BitVec 32 := 65#32
  let v1202 : BitVec 32 := Scalar.muli c0_i32_42 c65_i32_878
  let c8_i32_879 : BitVec 32 := 8#32
  let v1203 : BitVec 32 := Scalar.addi v1202 c8_i32_879
  let c256_i32_880 : BitVec 32 := 256#32
  let v1204 : BitVec 32 := Scalar.muli v1203 c256_i32_880
  v1204
def k1_mult68 : BitVec 32 :=
  let c0_i32_42 : BitVec 32 := 0#32
  let c65_i32_894 : BitVec 32 := 65#32
  let v1222 : BitVec 32 := Scalar.muli c0_i32_42 c65_i32_894
  let c8_i32_895 : BitVec 32 := 8#32
  let v1223 : BitVec 32 := Scalar.addi v1222 c8_i32_895
  let c256_i32_896 : BitVec 32 := 256#32
  let v1224 : BitVec 32 := Scalar.muli v1223 c256_i32_896
  v1224
def k1_mult69 : BitVec 32 :=
  let c0_i32_42 : BitVec 32 := 0#32
  let c65_i32_904 : BitVec 32 := 65#32
  let v1235 : BitVec 32 := Scalar.muli c0_i32_42 c65_i32_904
  let c8_i32_905 : BitVec 32 := 8#32
  let v1236 : BitVec 32 := Scalar.addi v1235 c8_i32_905
  let c256_i32_906 : BitVec 32 := 256#32
  let v1237 : BitVec 32 := Scalar.muli v1236 c256_i32_906
  v1237
def k1_mult70 : BitVec 32 :=
  let c0_i32_42 : BitVec 32 := 0#32
  let c65_i32_920 : BitVec 32 := 65#32
  let v1255 : BitVec 32 := Scalar.muli c0_i32_42 c65_i32_920
  let c8_i32_921 : BitVec 32 := 8#32
  let v1256 : BitVec 32 := Scalar.addi v1255 c8_i32_921
  let c256_i32_922 : BitVec 32 := 256#32
  let v1257 : BitVec 32 := Scalar.muli v1256 c256_i32_922
  v1257
def k1_mult71 : BitVec 32 :=
  let c0_i32_42 : BitVec 32 := 0#32
  let c65_i32_930 : BitVec 32 := 65#32
  let v1268 : BitVec 32 := Scalar.muli c0_i32_42 c65_i32_930
  let c9_i32 : BitVec 32 := 9#32
  let v1269 : BitVec 32 := Scalar.addi v1268 c9_i32
  let c256_i32_931 : BitVec 32 := 256#32
  let v1270 : BitVec 32 := Scalar.muli v1269 c256_i32_931
  v1270
def k1_mult72 : BitVec 32 :=
  let c0_i32_42 : BitVec 32 := 0#32
  let c65_i32_945 : BitVec 32 := 65#32
  let v1288 : BitVec 32 := Scalar.muli c0_i32_42 c65_i32_945
  let c8_i32_946 : BitVec 32 := 8#32
  let v1289 : BitVec 32 := Scalar.addi v1288 c8_i32_946
  let c256_i32_947 : BitVec 32 := 256#32
  let v1290 : BitVec 32 := Scalar.muli v1289 c256_i32_947
  v1290
def k1_mult73 : BitVec 32 :=
  let c0_i32_42 : BitVec 32 := 0#32
  let c65_i32_955 : BitVec 32 := 65#32
  let v1301 : BitVec 32 := Scalar.muli c0_i32_42 c65_i32_955
  let c9_i32_956 : BitVec 32 := 9#32
  let v1302 : BitVec 32 := Scalar.addi v1301 c9_i32_956
  let c256_i32_957 : BitVec 32 := 256#32
  let v1303 : BitVec 32 := Scalar.muli v1302 c256_i32_957
  v1303
def k1_mult74 : BitVec 32 :=
  let c0_i32_42 : BitVec 32 := 0#32
  let c65_i32_971 : BitVec 32 := 65#32
  let v1321 : BitVec 32 := Scalar.muli c0_i32_42 c65_i32_971
  let c8_i32_972 : BitVec 32 := 8#32
  let v1322 : BitVec 32 := Scalar.addi v1321 c8_i32_972
  let c256_i32_973 : BitVec 32 := 256#32
  let v1323 : BitVec 32 := Scalar.muli v1322 c256_i32_973
  v1323
def k1_mult75 : BitVec 32 :=
  let c0_i32_42 : BitVec 32 := 0#32
  let c65_i32_981 : BitVec 32 := 65#32
  let v1334 : BitVec 32 := Scalar.muli c0_i32_42 c65_i32_981
  let c9_i32_982 : BitVec 32 := 9#32
  let v1335 : BitVec 32 := Scalar.addi v1334 c9_i32_982
  let c256_i32_983 : BitVec 32 := 256#32
  let v1336 : BitVec 32 := Scalar.muli v1335 c256_i32_983
  v1336
def k1_mult76 : BitVec 32 :=
  let c0_i32_42 : BitVec 32 := 0#32
  let c65_i32_997 : BitVec 32 := 65#32
  let v1354 : BitVec 32 := Scalar.muli c0_i32_42 c65_i32_997
  let c9_i32_998 : BitVec 32 := 9#32
  let v1355 : BitVec 32 := Scalar.addi v1354 c9_i32_998
  let c256_i32_999 : BitVec 32 := 256#32
  let v1356 : BitVec 32 := Scalar.muli v1355 c256_i32_999
  v1356
def k1_mult77 : BitVec 32 :=
  let c0_i32_42 : BitVec 32 := 0#32
  let c65_i32_1007 : BitVec 32 := 65#32
  let v1367 : BitVec 32 := Scalar.muli c0_i32_42 c65_i32_1007
  let c9_i32_1008 : BitVec 32 := 9#32
  let v1368 : BitVec 32 := Scalar.addi v1367 c9_i32_1008
  let c256_i32_1009 : BitVec 32 := 256#32
  let v1369 : BitVec 32 := Scalar.muli v1368 c256_i32_1009
  v1369
def k1_mult78 : BitVec 32 :=
  let c0_i32_42 : BitVec 32 := 0#32
  let c65_i32_1023 : BitVec 32 := 65#32
  let v1387 : BitVec 32 := Scalar.muli c0_i32_42 c65_i32_1023
  let c9_i32_1024 : BitVec 32 := 9#32
  let v1388 : BitVec 32 := Scalar.addi v1387 c9_i32_1024
  let c256_i32_1025 : BitVec 32 := 256#32
  let v1389 : BitVec 32 := Scalar.muli v1388 c256_i32_1025
  v1389
def k1_mult79 : BitVec 32 :=
  let c0_i32_42 : BitVec 32 := 0#32
  let c65_i32_1033 : BitVec 32 := 65#32
  let v1400 : BitVec 32 := Scalar.muli c0_i32_42 c65_i32_1033
  let c10_i32 : BitVec 32 := 10#32
  let v1401 : BitVec 32 := Scalar.addi v1400 c10_i32
  let c256_i32_1034 : BitVec 32 := 256#32
  let v1402 : BitVec 32 := Scalar.muli v1401 c256_i32_1034
  v1402
def k1_mult80 : BitVec 32 :=
  let c0_i32_42 : BitVec 32 := 0#32
  let c65_i32_1048 : BitVec 32 := 65#32
  let v1420 : BitVec 32 := Scalar.muli c0_i32_42 c65_i32_1048
  let c9_i32_1049 : BitVec 32 := 9#32
  let v1421 : BitVec 32 := Scalar.addi v1420 c9_i32_1049
  let c256_i32_1050 : BitVec 32 := 256#32
  let v1422 : BitVec 32 := Scalar.muli v1421 c256_i32_1050
  v1422
def k1_mult81 : BitVec 32 :=
  let c0_i32_42 : BitVec 32 := 0#32
  let c65_i32_1058 : BitVec 32 := 65#32
  let v1433 : BitVec 32 := Scalar.muli c0_i32_42 c65_i32_1058
  let c10_i32_1059 : BitVec 32 := 10#32
  let v1434 : BitVec 32 := Scalar.addi v1433 c10_i32_1059
  let c256_i32_1060 : BitVec 32 := 256#32
  let v1435 : BitVec 32 := Scalar.muli v1434 c256_i32_1060
  v1435
def k1_mult82 : BitVec 32 :=
  let c0_i32_42 : BitVec 32 := 0#32
  let c65_i32_1074 : BitVec 32 := 65#32
  let v1453 : BitVec 32 := Scalar.muli c0_i32_42 c65_i32_1074
  let c9_i32_1075 : BitVec 32 := 9#32
  let v1454 : BitVec 32 := Scalar.addi v1453 c9_i32_1075
  let c256_i32_1076 : BitVec 32 := 256#32
  let v1455 : BitVec 32 := Scalar.muli v1454 c256_i32_1076
  v1455
def k1_mult83 : BitVec 32 :=
  let c0_i32_42 : BitVec 32 := 0#32
  let c65_i32_1084 : BitVec 32 := 65#32
  let v1466 : BitVec 32 := Scalar.muli c0_i32_42 c65_i32_1084
  let c10_i32_1085 : BitVec 32 := 10#32
  let v1467 : BitVec 32 := Scalar.addi v1466 c10_i32_1085
  let c256_i32_1086 : BitVec 32 := 256#32
  let v1468 : BitVec 32 := Scalar.muli v1467 c256_i32_1086
  v1468
def k1_mult84 : BitVec 32 :=
  let c0_i32_42 : BitVec 32 := 0#32
  let c65_i32_1100 : BitVec 32 := 65#32
  let v1486 : BitVec 32 := Scalar.muli c0_i32_42 c65_i32_1100
  let c10_i32_1101 : BitVec 32 := 10#32
  let v1487 : BitVec 32 := Scalar.addi v1486 c10_i32_1101
  let c256_i32_1102 : BitVec 32 := 256#32
  let v1488 : BitVec 32 := Scalar.muli v1487 c256_i32_1102
  v1488
def k1_mult85 : BitVec 32 :=
  let c0_i32_42 : BitVec 32 := 0#32
  let c65_i32_1110 : BitVec 32 := 65#32
  let v1499 : BitVec 32 := Scalar.muli c0_i32_42 c65_i32_1110
  let c10_i32_1111 : BitVec 32 := 10#32
  let v1500 : BitVec 32 := Scalar.addi v1499 c10_i32_1111
  let c256_i32_1112 : BitVec 32 := 256#32
  let v1501 : BitVec 32 := Scalar.muli v1500 c256_i32_1112
  v1501
def k1_mult86 : BitVec 32 :=
  let c0_i32_42 : BitVec 32 := 0#32
  let c65_i32_1126 : BitVec 32 := 65#32
  let v1519 : BitVec 32 := Scalar.muli c0_i32_42 c65_i32_1126
  let c10_i32_1127 : BitVec 32 := 10#32
  let v1520 : BitVec 32 := Scalar.addi v1519 c10_i32_1127
  let c256_i32_1128 : BitVec 32 := 256#32
  let v1521 : BitVec 32 := Scalar.muli v1520 c256_i32_1128
  v1521
def k1_mult87 : BitVec 32 :=
  let c0_i32_42 : BitVec 32 := 0#32
  let c65_i32_1136 : BitVec 32 := 65#32
  let v1532 : BitVec 32 := Scalar.muli c0_i32_42 c65_i32_1136
  let c11_i32 : BitVec 32 := 11#32
  let v1533 : BitVec 32 := Scalar.addi v1532 c11_i32
  let c256_i32_1137 : BitVec 32 := 256#32
  let v1534 : BitVec 32 := Scalar.muli v1533 c256_i32_1137
  v1534
def k1_mult88 : BitVec 32 :=
  let c0_i32_42 : BitVec 32 := 0#32
  let c65_i32_1151 : BitVec 32 := 65#32
  let v1552 : BitVec 32 := Scalar.muli c0_i32_42 c65_i32_1151
  let c10_i32_1152 : BitVec 32 := 10#32
  let v1553 : BitVec 32 := Scalar.addi v1552 c10_i32_1152
  let c256_i32_1153 : BitVec 32 := 256#32
  let v1554 : BitVec 32 := Scalar.muli v1553 c256_i32_1153
  v1554
def k1_mult89 : BitVec 32 :=
  let c0_i32_42 : BitVec 32 := 0#32
  let c65_i32_1161 : BitVec 32 := 65#32
  let v1565 : BitVec 32 := Scalar.muli c0_i32_42 c65_i32_1161
  let c11_i32_1162 : BitVec 32 := 11#32
  let v1566 : BitVec 32 := Scalar.addi v1565 c11_i32_1162
  let c256_i32_1163 : BitVec 32 := 256#32
  let v1567 : BitVec 32 := Scalar.muli v1566 c256_i32_1163
  v1567
def k1_mult90 : BitVec 32 :=
  let c0_i32_42 : BitVec 32 := 0#32
  let c65_i32_1177 : BitVec 32 := 65#32
  let v1585 : BitVec 32 := Scalar.muli c0_i32_42 c65_i32_1177
  let c10_i32_1178 : BitVec 32 := 10#32
  let v1586 : BitVec 32 := Scalar.addi v1585 c10_i32_1178
  let c256_i32_1179 : BitVec 32 := 256#32
  let v1587 : BitVec 32 := Scalar.muli v1586 c256_i32_1179
  v1587
def k1_mult91 : BitVec 32 :=
  let c0_i32_42 : BitVec 32 := 0#32
  let c65_i32_1187 : BitVec 32 := 65#32
  let v1598 : BitVec 32 := Scalar.muli c0_i32_42 c65_i32_1187
  let c11_i32_1188 : BitVec 32 := 11#32
  let v1599 : BitVec 32 := Scalar.addi v1598 c11_i32_1188
  let c256_i32_1189 : BitVec 32 := 256#32
  let v1600 : BitVec 32 := Scalar.muli v1599 c256_i32_1189
  v1600
def k1_mult92 : BitVec 32 :=
  let c0_i32_42 : BitVec 32 := 0#32
  let c65_i32_1203 : BitVec 32 := 65#32
  let v1618 : BitVec 32 := Scalar.muli c0_i32_42 c65_i32_1203
  let c11_i32_1204 : BitVec 32 := 11#32
  let v1619 : BitVec 32 := Scalar.addi v1618 c11_i32_1204
  let c256_i32_1205 : BitVec 32 := 256#32
  let v1620 : BitVec 32 := Scalar.muli v1619 c256_i32_1205
  v1620
def k1_mult93 : BitVec 32 :=
  let c0_i32_42 : BitVec 32 := 0#32
  let c65_i32_1213 : BitVec 32 := 65#32
  let v1631 : BitVec 32 := Scalar.muli c0_i32_42 c65_i32_1213
  let c11_i32_1214 : BitVec 32 := 11#32
  let v1632 : BitVec 32 := Scalar.addi v1631 c11_i32_1214
  let c256_i32_1215 : BitVec 32 := 256#32
  let v1633 : BitVec 32 := Scalar.muli v1632 c256_i32_1215
  v1633
def k1_mult94 : BitVec 32 :=
  let c0_i32_42 : BitVec 32 := 0#32
  let c65_i32_1229 : BitVec 32 := 65#32
  let v1651 : BitVec 32 := Scalar.muli c0_i32_42 c65_i32_1229
  let c11_i32_1230 : BitVec 32 := 11#32
  let v1652 : BitVec 32 := Scalar.addi v1651 c11_i32_1230
  let c256_i32_1231 : BitVec 32 := 256#32
  let v1653 : BitVec 32 := Scalar.muli v1652 c256_i32_1231
  v1653
def k1_mult95 : BitVec 32 :=
  let c0_i32_42 : BitVec 32 := 0#32
  let c65_i32_1239 : BitVec 32 := 65#32
  let v1664 : BitVec 32 := Scalar.muli c0_i32_42 c65_i32_1239
  let c12_i32 : BitVec 32 := 12#32
  let v1665 : BitVec 32 := Scalar.addi v1664 c12_i32
  let c256_i32_1240 : BitVec 32 := 256#32
  let v1666 : BitVec 32 := Scalar.muli v1665 c256_i32_1240
  v1666
def k1_mult96 : BitVec 32 :=
  let c0_i32_42 : BitVec 32 := 0#32
  let c65_i32_1254 : BitVec 32 := 65#32
  let v1684 : BitVec 32 := Scalar.muli c0_i32_42 c65_i32_1254
  let c11_i32_1255 : BitVec 32 := 11#32
  let v1685 : BitVec 32 := Scalar.addi v1684 c11_i32_1255
  let c256_i32_1256 : BitVec 32 := 256#32
  let v1686 : BitVec 32 := Scalar.muli v1685 c256_i32_1256
  v1686
def k1_mult97 : BitVec 32 :=
  let c0_i32_42 : BitVec 32 := 0#32
  let c65_i32_1264 : BitVec 32 := 65#32
  let v1697 : BitVec 32 := Scalar.muli c0_i32_42 c65_i32_1264
  let c12_i32_1265 : BitVec 32 := 12#32
  let v1698 : BitVec 32 := Scalar.addi v1697 c12_i32_1265
  let c256_i32_1266 : BitVec 32 := 256#32
  let v1699 : BitVec 32 := Scalar.muli v1698 c256_i32_1266
  v1699
def k1_mult98 : BitVec 32 :=
  let c0_i32_42 : BitVec 32 := 0#32
  let c65_i32_1280 : BitVec 32 := 65#32
  let v1717 : BitVec 32 := Scalar.muli c0_i32_42 c65_i32_1280
  let c11_i32_1281 : BitVec 32 := 11#32
  let v1718 : BitVec 32 := Scalar.addi v1717 c11_i32_1281
  let c256_i32_1282 : BitVec 32 := 256#32
  let v1719 : BitVec 32 := Scalar.muli v1718 c256_i32_1282
  v1719
def k1_mult99 : BitVec 32 :=
  let c0_i32_42 : BitVec 32 := 0#32
  let c65_i32_1290 : BitVec 32 := 65#32
  let v1730 : BitVec 32 := Scalar.muli c0_i32_42 c65_i32_1290
  let c12_i32_1291 : BitVec 32 := 12#32
  let v1731 : BitVec 32 := Scalar.addi v1730 c12_i32_1291
  let c256_i32_1292 : BitVec 32 := 256#32
  let v1732 : BitVec 32 := Scalar.muli v1731 c256_i32_1292
  v1732
def k1_mult100 : BitVec 32 :=
  let c0_i32_42 : BitVec 32 := 0#32
  let c65_i32_1306 : BitVec 32 := 65#32
  let v1750 : BitVec 32 := Scalar.muli c0_i32_42 c65_i32_1306
  let c12_i32_1307 : BitVec 32 := 12#32
  let v1751 : BitVec 32 := Scalar.addi v1750 c12_i32_1307
  let c256_i32_1308 : BitVec 32 := 256#32
  let v1752 : BitVec 32 := Scalar.muli v1751 c256_i32_1308
  v1752
def k1_mult101 : BitVec 32 :=
  let c0_i32_42 : BitVec 32 := 0#32
  let c65_i32_1316 : BitVec 32 := 65#32
  let v1763 : BitVec 32 := Scalar.muli c0_i32_42 c65_i32_1316
  let c12_i32_1317 : BitVec 32 := 12#32
  let v1764 : BitVec 32 := Scalar.addi v1763 c12_i32_1317
  let c256_i32_1318 : BitVec 32 := 256#32
  let v1765 : BitVec 32 := Scalar.muli v1764 c256_i32_1318
  v1765
def k1_mult102 : BitVec 32 :=
  let c0_i32_42 : BitVec 32 := 0#32
  let c65_i32_1332 : BitVec 32 := 65#32
  let v1783 : BitVec 32 := Scalar.muli c0_i32_42 c65_i32_1332
  let c12_i32_1333 : BitVec 32 := 12#32
  let v1784 : BitVec 32 := Scalar.addi v1783 c12_i32_1333
  let c256_i32_1334 : BitVec 32 := 256#32
  let v1785 : BitVec 32 := Scalar.muli v1784 c256_i32_1334
  v1785
def k1_mult103 : BitVec 32 :=
  let c0_i32_42 : BitVec 32 := 0#32
  let c65_i32_1342 : BitVec 32 := 65#32
  let v1796 : BitVec 32 := Scalar.muli c0_i32_42 c65_i32_1342
  let c13_i32 : BitVec 32 := 13#32
  let v1797 : BitVec 32 := Scalar.addi v1796 c13_i32
  let c256_i32_1343 : BitVec 32 := 256#32
  let v1798 : BitVec 32 := Scalar.muli v1797 c256_i32_1343
  v1798
def k1_mult104 : BitVec 32 :=
  let c0_i32_42 : BitVec 32 := 0#32
  let c65_i32_1357 : BitVec 32 := 65#32
  let v1816 : BitVec 32 := Scalar.muli c0_i32_42 c65_i32_1357
  let c12_i32_1358 : BitVec 32 := 12#32
  let v1817 : BitVec 32 := Scalar.addi v1816 c12_i32_1358
  let c256_i32_1359 : BitVec 32 := 256#32
  let v1818 : BitVec 32 := Scalar.muli v1817 c256_i32_1359
  v1818
def k1_mult105 : BitVec 32 :=
  let c0_i32_42 : BitVec 32 := 0#32
  let c65_i32_1367 : BitVec 32 := 65#32
  let v1829 : BitVec 32 := Scalar.muli c0_i32_42 c65_i32_1367
  let c13_i32_1368 : BitVec 32 := 13#32
  let v1830 : BitVec 32 := Scalar.addi v1829 c13_i32_1368
  let c256_i32_1369 : BitVec 32 := 256#32
  let v1831 : BitVec 32 := Scalar.muli v1830 c256_i32_1369
  v1831
def k1_mult106 : BitVec 32 :=
  let c0_i32_42 : BitVec 32 := 0#32
  let c65_i32_1383 : BitVec 32 := 65#32
  let v1849 : BitVec 32 := Scalar.muli c0_i32_42 c65_i32_1383
  let c12_i32_1384 : BitVec 32 := 12#32
  let v1850 : BitVec 32 := Scalar.addi v1849 c12_i32_1384
  let c256_i32_1385 : BitVec 32 := 256#32
  let v1851 : BitVec 32 := Scalar.muli v1850 c256_i32_1385
  v1851
def k1_mult107 : BitVec 32 :=
  let c0_i32_42 : BitVec 32 := 0#32
  let c65_i32_1393 : BitVec 32 := 65#32
  let v1862 : BitVec 32 := Scalar.muli c0_i32_42 c65_i32_1393
  let c13_i32_1394 : BitVec 32 := 13#32
  let v1863 : BitVec 32 := Scalar.addi v1862 c13_i32_1394
  let c256_i32_1395 : BitVec 32 := 256#32
  let v1864 : BitVec 32 := Scalar.muli v1863 c256_i32_1395
  v1864
def k1_mult108 : BitVec 32 :=
  let c0_i32_42 : BitVec 32 := 0#32
  let c65_i32_1409 : BitVec 32 := 65#32
  let v1882 : BitVec 32 := Scalar.muli c0_i32_42 c65_i32_1409
  let c13_i32_1410 : BitVec 32 := 13#32
  let v1883 : BitVec 32 := Scalar.addi v1882 c13_i32_1410
  let c256_i32_1411 : BitVec 32 := 256#32
  let v1884 : BitVec 32 := Scalar.muli v1883 c256_i32_1411
  v1884
def k1_mult109 : BitVec 32 :=
  let c0_i32_42 : BitVec 32 := 0#32
  let c65_i32_1419 : BitVec 32 := 65#32
  let v1895 : BitVec 32 := Scalar.muli c0_i32_42 c65_i32_1419
  let c13_i32_1420 : BitVec 32 := 13#32
  let v1896 : BitVec 32 := Scalar.addi v1895 c13_i32_1420
  let c256_i32_1421 : BitVec 32 := 256#32
  let v1897 : BitVec 32 := Scalar.muli v1896 c256_i32_1421
  v1897
def k1_mult110 : BitVec 32 :=
  let c0_i32_42 : BitVec 32 := 0#32
  let c65_i32_1435 : BitVec 32 := 65#32
  let v1915 : BitVec 32 := Scalar.muli c0_i32_42 c65_i32_1435
  let c13_i32_1436 : BitVec 32 := 13#32
  let v1916 : BitVec 32 := Scalar.addi v1915 c13_i32_1436
  let c256_i32_1437 : BitVec 32 := 256#32
  let v1917 : BitVec 32 := Scalar.muli v1916 c256_i32_1437
  v1917
def k1_mult111 : BitVec 32 :=
  let c0_i32_42 : BitVec 32 := 0#32
  let c65_i32_1445 : BitVec 32 := 65#32
  let v1928 : BitVec 32 := Scalar.muli c0_i32_42 c65_i32_1445
  let c14_i32 : BitVec 32 := 14#32
  let v1929 : BitVec 32 := Scalar.addi v1928 c14_i32
  let c256_i32_1446 : BitVec 32 := 256#32
  let v1930 : BitVec 32 := Scalar.muli v1929 c256_i32_1446
  v1930
def k1_mult112 : BitVec 32 :=
  let c0_i32_42 : BitVec 32 := 0#32
  let c65_i32_1460 : BitVec 32 := 65#32
  let v1948 : BitVec 32 := Scalar.muli c0_i32_42 c65_i32_1460
  let c13_i32_1461 : BitVec 32 := 13#32
  let v1949 : BitVec 32 := Scalar.addi v1948 c13_i32_1461
  let c256_i32_1462 : BitVec 32 := 256#32
  let v1950 : BitVec 32 := Scalar.muli v1949 c256_i32_1462
  v1950
def k1_mult113 : BitVec 32 :=
  let c0_i32_42 : BitVec 32 := 0#32
  let c65_i32_1470 : BitVec 32 := 65#32
  let v1961 : BitVec 32 := Scalar.muli c0_i32_42 c65_i32_1470
  let c14_i32_1471 : BitVec 32 := 14#32
  let v1962 : BitVec 32 := Scalar.addi v1961 c14_i32_1471
  let c256_i32_1472 : BitVec 32 := 256#32
  let v1963 : BitVec 32 := Scalar.muli v1962 c256_i32_1472
  v1963
def k1_mult114 : BitVec 32 :=
  let c0_i32_42 : BitVec 32 := 0#32
  let c65_i32_1486 : BitVec 32 := 65#32
  let v1981 : BitVec 32 := Scalar.muli c0_i32_42 c65_i32_1486
  let c13_i32_1487 : BitVec 32 := 13#32
  let v1982 : BitVec 32 := Scalar.addi v1981 c13_i32_1487
  let c256_i32_1488 : BitVec 32 := 256#32
  let v1983 : BitVec 32 := Scalar.muli v1982 c256_i32_1488
  v1983
def k1_mult115 : BitVec 32 :=
  let c0_i32_42 : BitVec 32 := 0#32
  let c65_i32_1496 : BitVec 32 := 65#32
  let v1994 : BitVec 32 := Scalar.muli c0_i32_42 c65_i32_1496
  let c14_i32_1497 : BitVec 32 := 14#32
  let v1995 : BitVec 32 := Scalar.addi v1994 c14_i32_1497
  let c256_i32_1498 : BitVec 32 := 256#32
  let v1996 : BitVec 32 := Scalar.muli v1995 c256_i32_1498
  v1996
def k1_mult116 : BitVec 32 :=
  let c0_i32_42 : BitVec 32 := 0#32
  let c65_i32_1512 : BitVec 32 := 65#32
  let v2014 : BitVec 32 := Scalar.muli c0_i32_42 c65_i32_1512
  let c14_i32_1513 : BitVec 32 := 14#32
  let v2015 : BitVec 32 := Scalar.addi v2014 c14_i32_1513
  let c256_i32_1514 : BitVec 32 := 256#32
  let v2016 : BitVec 32 := Scalar.muli v2015 c256_i32_1514
  v2016
def k1_mult117 : BitVec 32 :=
  let c0_i32_42 : BitVec 32 := 0#32
  let c65_i32_1522 : BitVec 32 := 65#32
  let v2027 : BitVec 32 := Scalar.muli c0_i32_42 c65_i32_1522
  let c14_i32_1523 : BitVec 32 := 14#32
  let v2028 : BitVec 32 := Scalar.addi v2027 c14_i32_1523
  let c256_i32_1524 : BitVec 32 := 256#32
  let v2029 : BitVec 32 := Scalar.muli v2028 c256_i32_1524
  v2029
def k1_mult118 : BitVec 32 :=
  let c0_i32_42 : BitVec 32 := 0#32
  let c65_i32_1538 : BitVec 32 := 65#32
  let v2047 : BitVec 32 := Scalar.muli c0_i32_42 c65_i32_1538
  let c14_i32_1539 : BitVec 32 := 14#32
  let v2048 : BitVec 32 := Scalar.addi v2047 c14_i32_1539
  let c256_i32_1540 : BitVec 32 := 256#32
  let v2049 : BitVec 32 := Scalar.muli v2048 c256_i32_1540
  v2049
def k1_mult119 : BitVec 32 :=
  let c0_i32_42 : BitVec 32 := 0#32
  let c65_i32_1548 : BitVec 32 := 65#32
  let v2060 : BitVec 32 := Scalar.muli c0_i32_42 c65_i32_1548
  let c15_i32 : BitVec 32 := 15#32
  let v2061 : BitVec 32 := Scalar.addi v2060 c15_i32
  let c256_i32_1549 : BitVec 32 := 256#32
  let v2062 : BitVec 32 := Scalar.muli v2061 c256_i32_1549
  v2062
def k1_mult120 : BitVec 32 :=
  let c0_i32_42 : BitVec 32 := 0#32
  let c65_i32_1563 : BitVec 32 := 65#32
  let v2080 : BitVec 32 := Scalar.muli c0_i32_42 c65_i32_1563
  let c14_i32_1564 : BitVec 32 := 14#32
  let v2081 : BitVec 32 := Scalar.addi v2080 c14_i32_1564
  let c256_i32_1565 : BitVec 32 := 256#32
  let v2082 : BitVec 32 := Scalar.muli v2081 c256_i32_1565
  v2082
def k1_mult121 : BitVec 32 :=
  let c0_i32_42 : BitVec 32 := 0#32
  let c65_i32_1573 : BitVec 32 := 65#32
  let v2093 : BitVec 32 := Scalar.muli c0_i32_42 c65_i32_1573
  let c15_i32_1574 : BitVec 32 := 15#32
  let v2094 : BitVec 32 := Scalar.addi v2093 c15_i32_1574
  let c256_i32_1575 : BitVec 32 := 256#32
  let v2095 : BitVec 32 := Scalar.muli v2094 c256_i32_1575
  v2095
def k1_mult122 : BitVec 32 :=
  let c0_i32_42 : BitVec 32 := 0#32
  let c65_i32_1589 : BitVec 32 := 65#32
  let v2113 : BitVec 32 := Scalar.muli c0_i32_42 c65_i32_1589
  let c14_i32_1590 : BitVec 32 := 14#32
  let v2114 : BitVec 32 := Scalar.addi v2113 c14_i32_1590
  let c256_i32_1591 : BitVec 32 := 256#32
  let v2115 : BitVec 32 := Scalar.muli v2114 c256_i32_1591
  v2115
def k1_mult123 : BitVec 32 :=
  let c0_i32_42 : BitVec 32 := 0#32
  let c65_i32_1599 : BitVec 32 := 65#32
  let v2126 : BitVec 32 := Scalar.muli c0_i32_42 c65_i32_1599
  let c15_i32_1600 : BitVec 32 := 15#32
  let v2127 : BitVec 32 := Scalar.addi v2126 c15_i32_1600
  let c256_i32_1601 : BitVec 32 := 256#32
  let v2128 : BitVec 32 := Scalar.muli v2127 c256_i32_1601
  v2128
def k1_mult124 : BitVec 32 :=
  let c0_i32_42 : BitVec 32 := 0#32
  let c65_i32_1615 : BitVec 32 := 65#32
  let v2146 : BitVec 32 := Scalar.muli c0_i32_42 c65_i32_1615
  let c15_i32_1616 : BitVec 32 := 15#32
  let v2147 : BitVec 32 := Scalar.addi v2146 c15_i32_1616
  let c256_i32_1617 : BitVec 32 := 256#32
  let v2148 : BitVec 32 := Scalar.muli v2147 c256_i32_1617
  v2148
def k1_mult125 : BitVec 32 :=
  let c0_i32_42 : BitVec 32 := 0#32
  let c65_i32_1625 : BitVec 32 := 65#32
  let v2159 : BitVec 32 := Scalar.muli c0_i32_42 c65_i32_1625
  let c15_i32_1626 : BitVec 32 := 15#32
  let v2160 : BitVec 32 := Scalar.addi v2159 c15_i32_1626
  let c256_i32_1627 : BitVec 32 := 256#32
  let v2161 : BitVec 32 := Scalar.muli v2160 c256_i32_1627
  v2161
def k1_mult126 : BitVec 32 :=
  let c0_i32_42 : BitVec 32 := 0#32
  let c65_i32_1641 : BitVec 32 := 65#32
  let v2179 : BitVec 32 := Scalar.muli c0_i32_42 c65_i32_1641
  let c15_i32_1642 : BitVec 32 := 15#32
  let v2180 : BitVec 32 := Scalar.addi v2179 c15_i32_1642
  let c256_i32_1643 : BitVec 32 := 256#32
  let v2181 : BitVec 32 := Scalar.muli v2180 c256_i32_1643
  v2181
def k1_mult127 : BitVec 32 :=
  let c0_i32_42 : BitVec 32 := 0#32
  let c65_i32_1651 : BitVec 32 := 65#32
  let v2192 : BitVec 32 := Scalar.muli c0_i32_42 c65_i32_1651
  let c16_i32 : BitVec 32 := 16#32
  let v2193 : BitVec 32 := Scalar.addi v2192 c16_i32
  let c256_i32_1652 : BitVec 32 := 256#32
  let v2194 : BitVec 32 := Scalar.muli v2193 c256_i32_1652
  v2194
def k1_mult128 : BitVec 32 :=
  let c0_i32_42 : BitVec 32 := 0#32
  let c65_i32_1666 : BitVec 32 := 65#32
  let v2212 : BitVec 32 := Scalar.muli c0_i32_42 c65_i32_1666
  let c15_i32_1667 : BitVec 32 := 15#32
  let v2213 : BitVec 32 := Scalar.addi v2212 c15_i32_1667
  let c256_i32_1668 : BitVec 32 := 256#32
  let v2214 : BitVec 32 := Scalar.muli v2213 c256_i32_1668
  v2214
def k1_mult129 : BitVec 32 :=
  let c0_i32_42 : BitVec 32 := 0#32
  let c65_i32_1676 : BitVec 32 := 65#32
  let v2225 : BitVec 32 := Scalar.muli c0_i32_42 c65_i32_1676
  let c16_i32_1677 : BitVec 32 := 16#32
  let v2226 : BitVec 32 := Scalar.addi v2225 c16_i32_1677
  let c256_i32_1678 : BitVec 32 := 256#32
  let v2227 : BitVec 32 := Scalar.muli v2226 c256_i32_1678
  v2227
def k1_mult130 : BitVec 32 :=
  let c0_i32_42 : BitVec 32 := 0#32
  let c65_i32_1692 : BitVec 32 := 65#32
  let v2245 : BitVec 32 := Scalar.muli c0_i32_42 c65_i32_1692
  let c15_i32_1693 : BitVec 32 := 15#32
  let v2246 : BitVec 32 := Scalar.addi v2245 c15_i32_1693
  let c256_i32_1694 : BitVec 32 := 256#32
  let v2247 : BitVec 32 := Scalar.muli v2246 c256_i32_1694
  v2247
def k1_mult131 : BitVec 32 :=
  let c0_i32_42 : BitVec 32 := 0#32
  let c65_i32_1702 : BitVec 32 := 65#32
  let v2258 : BitVec 32 := Scalar.muli c0_i32_42 c65_i32_1702
  let c16_i32_1703 : BitVec 32 := 16#32
  let v2259 : BitVec 32 := Scalar.addi v2258 c16_i32_1703
  let c256_i32_1704 : BitVec 32 := 256#32
  let v2260 : BitVec 32 := Scalar.muli v2259 c256_i32_1704
  v2260
def k1_mult132 : BitVec 32 :=
  let c0_i32_42 : BitVec 32 := 0#32
  let c65_i32_1718 : BitVec 32 := 65#32
  let v2278 : BitVec 32 := Scalar.muli c0_i32_42 c65_i32_1718
  let c16_i32_1719 : BitVec 32 := 16#32
  let v2279 : BitVec 32 := Scalar.addi v2278 c16_i32_1719
  let c256_i32_1720 : BitVec 32 := 256#32
  let v2280 : BitVec 32 := Scalar.muli v2279 c256_i32_1720
  v2280
def k1_mult133 : BitVec 32 :=
  let c0_i32_42 : BitVec 32 := 0#32
  let c65_i32_1728 : BitVec 32 := 65#32
  let v2291 : BitVec 32 := Scalar.muli c0_i32_42 c65_i32_1728
  let c16_i32_1729 : BitVec 32 := 16#32
  let v2292 : BitVec 32 := Scalar.addi v2291 c16_i32_1729
  let c256_i32_1730 : BitVec 32 := 256#32
  let v2293 : BitVec 32 := Scalar.muli v2292 c256_i32_1730
  v2293
def k1_mult134 : BitVec 32 :=
  let c0_i32_42 : BitVec 32 := 0#32
  let c65_i32_1744 : BitVec 32 := 65#32
  let v2311 : BitVec 32 := Scalar.muli c0_i32_42 c65_i32_1744
  let c16_i32_1745 : BitVec 32 := 16#32
  let v2312 : BitVec 32 := Scalar.addi v2311 c16_i32_1745
  let c256_i32_1746 : BitVec 32 := 256#32
  let v2313 : BitVec 32 := Scalar.muli v2312 c256_i32_1746
  v2313
def k1_mult135 : BitVec 32 :=
  let c0_i32_42 : BitVec 32 := 0#32
  let c65_i32_1754 : BitVec 32 := 65#32
  let v2324 : BitVec 32 := Scalar.muli c0_i32_42 c65_i32_1754
  let c17_i32 : BitVec 32 := 17#32
  let v2325 : BitVec 32 := Scalar.addi v2324 c17_i32
  let c256_i32_1755 : BitVec 32 := 256#32
  let v2326 : BitVec 32 := Scalar.muli v2325 c256_i32_1755
  v2326
def k1_mult136 : BitVec 32 :=
  let c0_i32_42 : BitVec 32 := 0#32
  let c65_i32_1769 : BitVec 32 := 65#32
  let v2344 : BitVec 32 := Scalar.muli c0_i32_42 c65_i32_1769
  let c16_i32_1770 : BitVec 32 := 16#32
  let v2345 : BitVec 32 := Scalar.addi v2344 c16_i32_1770
  let c256_i32_1771 : BitVec 32 := 256#32
  let v2346 : BitVec 32 := Scalar.muli v2345 c256_i32_1771
  v2346
def k1_mult137 : BitVec 32 :=
  let c0_i32_42 : BitVec 32 := 0#32
  let c65_i32_1779 : BitVec 32 := 65#32
  let v2357 : BitVec 32 := Scalar.muli c0_i32_42 c65_i32_1779
  let c17_i32_1780 : BitVec 32 := 17#32
  let v2358 : BitVec 32 := Scalar.addi v2357 c17_i32_1780
  let c256_i32_1781 : BitVec 32 := 256#32
  let v2359 : BitVec 32 := Scalar.muli v2358 c256_i32_1781
  v2359
def k1_mult138 : BitVec 32 :=
  let c0_i32_42 : BitVec 32 := 0#32
  let c65_i32_1795 : BitVec 32 := 65#32
  let v2377 : BitVec 32 := Scalar.muli c0_i32_42 c65_i32_1795
  let c16_i32_1796 : BitVec 32 := 16#32
  let v2378 : BitVec 32 := Scalar.addi v2377 c16_i32_1796
  let c256_i32_1797 : BitVec 32 := 256#32
  let v2379 : BitVec 32 := Scalar.muli v2378 c256_i32_1797
  v2379
def k1_mult139 : BitVec 32 :=
  let c0_i32_42 : BitVec 32 := 0#32
  let c65_i32_1805 : BitVec 32 := 65#32
  let v2390 : BitVec 32 := Scalar.muli c0_i32_42 c65_i32_1805
  let c17_i32_1806 : BitVec 32 := 17#32
  let v2391 : BitVec 32 := Scalar.addi v2390 c17_i32_1806
  let c256_i32_1807 : BitVec 32 := 256#32
  let v2392 : BitVec 32 := Scalar.muli v2391 c256_i32_1807
  v2392
def k1_mult140 : BitVec 32 :=
  let c0_i32_42 : BitVec 32 := 0#32
  let c65_i32_1821 : BitVec 32 := 65#32
  let v2410 : BitVec 32 := Scalar.muli c0_i32_42 c65_i32_1821
  let c17_i32_1822 : BitVec 32 := 17#32
  let v2411 : BitVec 32 := Scalar.addi v2410 c17_i32_1822
  let c256_i32_1823 : BitVec 32 := 256#32
  let v2412 : BitVec 32 := Scalar.muli v2411 c256_i32_1823
  v2412
def k1_mult141 : BitVec 32 :=
  let c0_i32_42 : BitVec 32 := 0#32
  let c65_i32_1831 : BitVec 32 := 65#32
  let v2423 : BitVec 32 := Scalar.muli c0_i32_42 c65_i32_1831
  let c17_i32_1832 : BitVec 32 := 17#32
  let v2424 : BitVec 32 := Scalar.addi v2423 c17_i32_1832
  let c256_i32_1833 : BitVec 32 := 256#32
  let v2425 : BitVec 32 := Scalar.muli v2424 c256_i32_1833
  v2425
def k1_mult142 : BitVec 32 :=
  let c0_i32_42 : BitVec 32 := 0#32
  let c65_i32_1847 : BitVec 32 := 65#32
  let v2443 : BitVec 32 := Scalar.muli c0_i32_42 c65_i32_1847
  let c17_i32_1848 : BitVec 32 := 17#32
  let v2444 : BitVec 32 := Scalar.addi v2443 c17_i32_1848
  let c256_i32_1849 : BitVec 32 := 256#32
  let v2445 : BitVec 32 := Scalar.muli v2444 c256_i32_1849
  v2445
def k1_mult143 : BitVec 32 :=
  let c0_i32_42 : BitVec 32 := 0#32
  let c65_i32_1857 : BitVec 32 := 65#32
  let v2456 : BitVec 32 := Scalar.muli c0_i32_42 c65_i32_1857
  let c18_i32 : BitVec 32 := 18#32
  let v2457 : BitVec 32 := Scalar.addi v2456 c18_i32
  let c256_i32_1858 : BitVec 32 := 256#32
  let v2458 : BitVec 32 := Scalar.muli v2457 c256_i32_1858
  v2458
def k1_mult144 : BitVec 32 :=
  let c0_i32_42 : BitVec 32 := 0#32
  let c65_i32_1872 : BitVec 32 := 65#32
  let v2476 : BitVec 32 := Scalar.muli c0_i32_42 c65_i32_1872
  let c17_i32_1873 : BitVec 32 := 17#32
  let v2477 : BitVec 32 := Scalar.addi v2476 c17_i32_1873
  let c256_i32_1874 : BitVec 32 := 256#32
  let v2478 : BitVec 32 := Scalar.muli v2477 c256_i32_1874
  v2478
def k1_mult145 : BitVec 32 :=
  let c0_i32_42 : BitVec 32 := 0#32
  let c65_i32_1882 : BitVec 32 := 65#32
  let v2489 : BitVec 32 := Scalar.muli c0_i32_42 c65_i32_1882
  let c18_i32_1883 : BitVec 32 := 18#32
  let v2490 : BitVec 32 := Scalar.addi v2489 c18_i32_1883
  let c256_i32_1884 : BitVec 32 := 256#32
  let v2491 : BitVec 32 := Scalar.muli v2490 c256_i32_1884
  v2491
def k1_mult146 : BitVec 32 :=
  let c0_i32_42 : BitVec 32 := 0#32
  let c65_i32_1898 : BitVec 32 := 65#32
  let v2509 : BitVec 32 := Scalar.muli c0_i32_42 c65_i32_1898
  let c17_i32_1899 : BitVec 32 := 17#32
  let v2510 : BitVec 32 := Scalar.addi v2509 c17_i32_1899
  let c256_i32_1900 : BitVec 32 := 256#32
  let v2511 : BitVec 32 := Scalar.muli v2510 c256_i32_1900
  v2511
def k1_mult147 : BitVec 32 :=
  let c0_i32_42 : BitVec 32 := 0#32
  let c65_i32_1908 : BitVec 32 := 65#32
  let v2522 : BitVec 32 := Scalar.muli c0_i32_42 c65_i32_1908
  let c18_i32_1909 : BitVec 32 := 18#32
  let v2523 : BitVec 32 := Scalar.addi v2522 c18_i32_1909
  let c256_i32_1910 : BitVec 32 := 256#32
  let v2524 : BitVec 32 := Scalar.muli v2523 c256_i32_1910
  v2524
def k1_mult148 : BitVec 32 :=
  let c0_i32_42 : BitVec 32 := 0#32
  let c65_i32_1924 : BitVec 32 := 65#32
  let v2542 : BitVec 32 := Scalar.muli c0_i32_42 c65_i32_1924
  let c18_i32_1925 : BitVec 32 := 18#32
  let v2543 : BitVec 32 := Scalar.addi v2542 c18_i32_1925
  let c256_i32_1926 : BitVec 32 := 256#32
  let v2544 : BitVec 32 := Scalar.muli v2543 c256_i32_1926
  v2544
def k1_mult149 : BitVec 32 :=
  let c0_i32_42 : BitVec 32 := 0#32
  let c65_i32_1934 : BitVec 32 := 65#32
  let v2555 : BitVec 32 := Scalar.muli c0_i32_42 c65_i32_1934
  let c18_i32_1935 : BitVec 32 := 18#32
  let v2556 : BitVec 32 := Scalar.addi v2555 c18_i32_1935
  let c256_i32_1936 : BitVec 32 := 256#32
  let v2557 : BitVec 32 := Scalar.muli v2556 c256_i32_1936
  v2557
def k1_mult150 : BitVec 32 :=
  let c0_i32_42 : BitVec 32 := 0#32
  let c65_i32_1950 : BitVec 32 := 65#32
  let v2575 : BitVec 32 := Scalar.muli c0_i32_42 c65_i32_1950
  let c18_i32_1951 : BitVec 32 := 18#32
  let v2576 : BitVec 32 := Scalar.addi v2575 c18_i32_1951
  let c256_i32_1952 : BitVec 32 := 256#32
  let v2577 : BitVec 32 := Scalar.muli v2576 c256_i32_1952
  v2577
def k1_mult151 : BitVec 32 :=
  let c0_i32_42 : BitVec 32 := 0#32
  let c65_i32_1960 : BitVec 32 := 65#32
  let v2588 : BitVec 32 := Scalar.muli c0_i32_42 c65_i32_1960
  let c19_i32 : BitVec 32 := 19#32
  let v2589 : BitVec 32 := Scalar.addi v2588 c19_i32
  let c256_i32_1961 : BitVec 32 := 256#32
  let v2590 : BitVec 32 := Scalar.muli v2589 c256_i32_1961
  v2590
def k1_mult152 : BitVec 32 :=
  let c0_i32_42 : BitVec 32 := 0#32
  let c65_i32_1975 : BitVec 32 := 65#32
  let v2608 : BitVec 32 := Scalar.muli c0_i32_42 c65_i32_1975
  let c18_i32_1976 : BitVec 32 := 18#32
  let v2609 : BitVec 32 := Scalar.addi v2608 c18_i32_1976
  let c256_i32_1977 : BitVec 32 := 256#32
  let v2610 : BitVec 32 := Scalar.muli v2609 c256_i32_1977
  v2610
def k1_mult153 : BitVec 32 :=
  let c0_i32_42 : BitVec 32 := 0#32
  let c65_i32_1985 : BitVec 32 := 65#32
  let v2621 : BitVec 32 := Scalar.muli c0_i32_42 c65_i32_1985
  let c19_i32_1986 : BitVec 32 := 19#32
  let v2622 : BitVec 32 := Scalar.addi v2621 c19_i32_1986
  let c256_i32_1987 : BitVec 32 := 256#32
  let v2623 : BitVec 32 := Scalar.muli v2622 c256_i32_1987
  v2623
def k1_mult154 : BitVec 32 :=
  let c0_i32_42 : BitVec 32 := 0#32
  let c65_i32_2001 : BitVec 32 := 65#32
  let v2641 : BitVec 32 := Scalar.muli c0_i32_42 c65_i32_2001
  let c18_i32_2002 : BitVec 32 := 18#32
  let v2642 : BitVec 32 := Scalar.addi v2641 c18_i32_2002
  let c256_i32_2003 : BitVec 32 := 256#32
  let v2643 : BitVec 32 := Scalar.muli v2642 c256_i32_2003
  v2643
def k1_mult155 : BitVec 32 :=
  let c0_i32_42 : BitVec 32 := 0#32
  let c65_i32_2011 : BitVec 32 := 65#32
  let v2654 : BitVec 32 := Scalar.muli c0_i32_42 c65_i32_2011
  let c19_i32_2012 : BitVec 32 := 19#32
  let v2655 : BitVec 32 := Scalar.addi v2654 c19_i32_2012
  let c256_i32_2013 : BitVec 32 := 256#32
  let v2656 : BitVec 32 := Scalar.muli v2655 c256_i32_2013
  v2656
def k1_mult156 : BitVec 32 :=
  let c0_i32_42 : BitVec 32 := 0#32
  let c65_i32_2027 : BitVec 32 := 65#32
  let v2674 : BitVec 32 := Scalar.muli c0_i32_42 c65_i32_2027
  let c19_i32_2028 : BitVec 32 := 19#32
  let v2675 : BitVec 32 := Scalar.addi v2674 c19_i32_2028
  let c256_i32_2029 : BitVec 32 := 256#32
  let v2676 : BitVec 32 := Scalar.muli v2675 c256_i32_2029
  v2676
def k1_mult157 : BitVec 32 :=
  let c0_i32_42 : BitVec 32 := 0#32
  let c65_i32_2037 : BitVec 32 := 65#32
  let v2687 : BitVec 32 := Scalar.muli c0_i32_42 c65_i32_2037
  let c19_i32_2038 : BitVec 32 := 19#32
  let v2688 : BitVec 32 := Scalar.addi v2687 c19_i32_2038
  let c256_i32_2039 : BitVec 32 := 256#32
  let v2689 : BitVec 32 := Scalar.muli v2688 c256_i32_2039
  v2689
def k1_mult158 : BitVec 32 :=
  let c0_i32_42 : BitVec 32 := 0#32
  let c65_i32_2053 : BitVec 32 := 65#32
  let v2707 : BitVec 32 := Scalar.muli c0_i32_42 c65_i32_2053
  let c19_i32_2054 : BitVec 32 := 19#32
  let v2708 : BitVec 32 := Scalar.addi v2707 c19_i32_2054
  let c256_i32_2055 : BitVec 32 := 256#32
  let v2709 : BitVec 32 := Scalar.muli v2708 c256_i32_2055
  v2709
def k1_mult159 : BitVec 32 :=
  let c0_i32_42 : BitVec 32 := 0#32
  let c65_i32_2063 : BitVec 32 := 65#32
  let v2720 : BitVec 32 := Scalar.muli c0_i32_42 c65_i32_2063
  let c20_i32 : BitVec 32 := 20#32
  let v2721 : BitVec 32 := Scalar.addi v2720 c20_i32
  let c256_i32_2064 : BitVec 32 := 256#32
  let v2722 : BitVec 32 := Scalar.muli v2721 c256_i32_2064
  v2722
def k1_mult160 : BitVec 32 :=
  let c0_i32_42 : BitVec 32 := 0#32
  let c65_i32_2078 : BitVec 32 := 65#32
  let v2740 : BitVec 32 := Scalar.muli c0_i32_42 c65_i32_2078
  let c19_i32_2079 : BitVec 32 := 19#32
  let v2741 : BitVec 32 := Scalar.addi v2740 c19_i32_2079
  let c256_i32_2080 : BitVec 32 := 256#32
  let v2742 : BitVec 32 := Scalar.muli v2741 c256_i32_2080
  v2742
def k1_mult161 : BitVec 32 :=
  let c0_i32_42 : BitVec 32 := 0#32
  let c65_i32_2088 : BitVec 32 := 65#32
  let v2753 : BitVec 32 := Scalar.muli c0_i32_42 c65_i32_2088
  let c20_i32_2089 : BitVec 32 := 20#32
  let v2754 : BitVec 32 := Scalar.addi v2753 c20_i32_2089
  let c256_i32_2090 : BitVec 32 := 256#32
  let v2755 : BitVec 32 := Scalar.muli v2754 c256_i32_2090
  v2755
def k1_mult162 : BitVec 32 :=
  let c0_i32_42 : BitVec 32 := 0#32
  let c65_i32_2104 : BitVec 32 := 65#32
  let v2773 : BitVec 32 := Scalar.muli c0_i32_42 c65_i32_2104
  let c19_i32_2105 : BitVec 32 := 19#32
  let v2774 : BitVec 32 := Scalar.addi v2773 c19_i32_2105
  let c256_i32_2106 : BitVec 32 := 256#32
  let v2775 : BitVec 32 := Scalar.muli v2774 c256_i32_2106
  v2775
def k1_mult163 : BitVec 32 :=
  let c0_i32_42 : BitVec 32 := 0#32
  let c65_i32_2114 : BitVec 32 := 65#32
  let v2786 : BitVec 32 := Scalar.muli c0_i32_42 c65_i32_2114
  let c20_i32_2115 : BitVec 32 := 20#32
  let v2787 : BitVec 32 := Scalar.addi v2786 c20_i32_2115
  let c256_i32_2116 : BitVec 32 := 256#32
  let v2788 : BitVec 32 := Scalar.muli v2787 c256_i32_2116
  v2788
def k1_mult164 : BitVec 32 :=
  let c0_i32_42 : BitVec 32 := 0#32
  let c65_i32_2130 : BitVec 32 := 65#32
  let v2806 : BitVec 32 := Scalar.muli c0_i32_42 c65_i32_2130
  let c20_i32_2131 : BitVec 32 := 20#32
  let v2807 : BitVec 32 := Scalar.addi v2806 c20_i32_2131
  let c256_i32_2132 : BitVec 32 := 256#32
  let v2808 : BitVec 32 := Scalar.muli v2807 c256_i32_2132
  v2808
def k1_mult165 : BitVec 32 :=
  let c0_i32_42 : BitVec 32 := 0#32
  let c65_i32_2140 : BitVec 32 := 65#32
  let v2819 : BitVec 32 := Scalar.muli c0_i32_42 c65_i32_2140
  let c20_i32_2141 : BitVec 32 := 20#32
  let v2820 : BitVec 32 := Scalar.addi v2819 c20_i32_2141
  let c256_i32_2142 : BitVec 32 := 256#32
  let v2821 : BitVec 32 := Scalar.muli v2820 c256_i32_2142
  v2821
def k1_mult166 : BitVec 32 :=
  let c0_i32_42 : BitVec 32 := 0#32
  let c65_i32_2156 : BitVec 32 := 65#32
  let v2839 : BitVec 32 := Scalar.muli c0_i32_42 c65_i32_2156
  let c20_i32_2157 : BitVec 32 := 20#32
  let v2840 : BitVec 32 := Scalar.addi v2839 c20_i32_2157
  let c256_i32_2158 : BitVec 32 := 256#32
  let v2841 : BitVec 32 := Scalar.muli v2840 c256_i32_2158
  v2841
def k1_mult167 : BitVec 32 :=
  let c0_i32_42 : BitVec 32 := 0#32
  let c65_i32_2166 : BitVec 32 := 65#32
  let v2852 : BitVec 32 := Scalar.muli c0_i32_42 c65_i32_2166
  let c21_i32 : BitVec 32 := 21#32
  let v2853 : BitVec 32 := Scalar.addi v2852 c21_i32
  let c256_i32_2167 : BitVec 32 := 256#32
  let v2854 : BitVec 32 := Scalar.muli v2853 c256_i32_2167
  v2854
def k1_mult168 : BitVec 32 :=
  let c0_i32_42 : BitVec 32 := 0#32
  let c65_i32_2181 : BitVec 32 := 65#32
  let v2872 : BitVec 32 := Scalar.muli c0_i32_42 c65_i32_2181
  let c20_i32_2182 : BitVec 32 := 20#32
  let v2873 : BitVec 32 := Scalar.addi v2872 c20_i32_2182
  let c256_i32_2183 : BitVec 32 := 256#32
  let v2874 : BitVec 32 := Scalar.muli v2873 c256_i32_2183
  v2874
def k1_mult169 : BitVec 32 :=
  let c0_i32_42 : BitVec 32 := 0#32
  let c65_i32_2191 : BitVec 32 := 65#32
  let v2885 : BitVec 32 := Scalar.muli c0_i32_42 c65_i32_2191
  let c21_i32_2192 : BitVec 32 := 21#32
  let v2886 : BitVec 32 := Scalar.addi v2885 c21_i32_2192
  let c256_i32_2193 : BitVec 32 := 256#32
  let v2887 : BitVec 32 := Scalar.muli v2886 c256_i32_2193
  v2887
def k1_mult170 : BitVec 32 :=
  let c0_i32_42 : BitVec 32 := 0#32
  let c65_i32_2207 : BitVec 32 := 65#32
  let v2905 : BitVec 32 := Scalar.muli c0_i32_42 c65_i32_2207
  let c20_i32_2208 : BitVec 32 := 20#32
  let v2906 : BitVec 32 := Scalar.addi v2905 c20_i32_2208
  let c256_i32_2209 : BitVec 32 := 256#32
  let v2907 : BitVec 32 := Scalar.muli v2906 c256_i32_2209
  v2907
def k1_mult171 : BitVec 32 :=
  let c0_i32_42 : BitVec 32 := 0#32
  let c65_i32_2217 : BitVec 32 := 65#32
  let v2918 : BitVec 32 := Scalar.muli c0_i32_42 c65_i32_2217
  let c21_i32_2218 : BitVec 32 := 21#32
  let v2919 : BitVec 32 := Scalar.addi v2918 c21_i32_2218
  let c256_i32_2219 : BitVec 32 := 256#32
  let v2920 : BitVec 32 := Scalar.muli v2919 c256_i32_2219
  v2920
def k1_mult172 : BitVec 32 :=
  let c0_i32_42 : BitVec 32 := 0#32
  let c65_i32_2233 : BitVec 32 := 65#32
  let v2938 : BitVec 32 := Scalar.muli c0_i32_42 c65_i32_2233
  let c21_i32_2234 : BitVec 32 := 21#32
  let v2939 : BitVec 32 := Scalar.addi v2938 c21_i32_2234
  let c256_i32_2235 : BitVec 32 := 256#32
  let v2940 : BitVec 32 := Scalar.muli v2939 c256_i32_2235
  v2940
def k1_mult173 : BitVec 32 :=
  let c0_i32_42 : BitVec 32 := 0#32
  let c65_i32_2243 : BitVec 32 := 65#32
  let v2951 : BitVec 32 := Scalar.muli c0_i32_42 c65_i32_2243
  let c21_i32_2244 : BitVec 32 := 21#32
  let v2952 : BitVec 32 := Scalar.addi v2951 c21_i32_2244
  let c256_i32_2245 : BitVec 32 := 256#32
  let v2953 : BitVec 32 := Scalar.muli v2952 c256_i32_2245
  v2953
def k1_mult174 : BitVec 32 :=
  let c0_i32_42 : BitVec 32 := 0#32
  let c65_i32_2259 : BitVec 32 := 65#32
  let v2971 : BitVec 32 := Scalar.muli c0_i32_42 c65_i32_2259
  let c21_i32_2260 : BitVec 32 := 21#32
  let v2972 : BitVec 32 := Scalar.addi v2971 c21_i32_2260
  let c256_i32_2261 : BitVec 32 := 256#32
  let v2973 : BitVec 32 := Scalar.muli v2972 c256_i32_2261
  v2973
def k1_mult175 : BitVec 32 :=
  let c0_i32_42 : BitVec 32 := 0#32
  let c65_i32_2269 : BitVec 32 := 65#32
  let v2984 : BitVec 32 := Scalar.muli c0_i32_42 c65_i32_2269
  let c22_i32 : BitVec 32 := 22#32
  let v2985 : BitVec 32 := Scalar.addi v2984 c22_i32
  let c256_i32_2270 : BitVec 32 := 256#32
  let v2986 : BitVec 32 := Scalar.muli v2985 c256_i32_2270
  v2986
def k1_mult176 : BitVec 32 :=
  let c0_i32_42 : BitVec 32 := 0#32
  let c65_i32_2284 : BitVec 32 := 65#32
  let v3004 : BitVec 32 := Scalar.muli c0_i32_42 c65_i32_2284
  let c21_i32_2285 : BitVec 32 := 21#32
  let v3005 : BitVec 32 := Scalar.addi v3004 c21_i32_2285
  let c256_i32_2286 : BitVec 32 := 256#32
  let v3006 : BitVec 32 := Scalar.muli v3005 c256_i32_2286
  v3006
def k1_mult177 : BitVec 32 :=
  let c0_i32_42 : BitVec 32 := 0#32
  let c65_i32_2294 : BitVec 32 := 65#32
  let v3017 : BitVec 32 := Scalar.muli c0_i32_42 c65_i32_2294
  let c22_i32_2295 : BitVec 32 := 22#32
  let v3018 : BitVec 32 := Scalar.addi v3017 c22_i32_2295
  let c256_i32_2296 : BitVec 32 := 256#32
  let v3019 : BitVec 32 := Scalar.muli v3018 c256_i32_2296
  v3019
def k1_mult178 : BitVec 32 :=
  let c0_i32_42 : BitVec 32 := 0#32
  let c65_i32_2310 : BitVec 32 := 65#32
  let v3037 : BitVec 32 := Scalar.muli c0_i32_42 c65_i32_2310
  let c21_i32_2311 : BitVec 32 := 21#32
  let v3038 : BitVec 32 := Scalar.addi v3037 c21_i32_2311
  let c256_i32_2312 : BitVec 32 := 256#32
  let v3039 : BitVec 32 := Scalar.muli v3038 c256_i32_2312
  v3039
def k1_mult179 : BitVec 32 :=
  let c0_i32_42 : BitVec 32 := 0#32
  let c65_i32_2320 : BitVec 32 := 65#32
  let v3050 : BitVec 32 := Scalar.muli c0_i32_42 c65_i32_2320
  let c22_i32_2321 : BitVec 32 := 22#32
  let v3051 : BitVec 32 := Scalar.addi v3050 c22_i32_2321
  let c256_i32_2322 : BitVec 32 := 256#32
  let v3052 : BitVec 32 := Scalar.muli v3051 c256_i32_2322
  v3052
def k1_mult180 : BitVec 32 :=
  let c0_i32_42 : BitVec 32 := 0#32
  let c65_i32_2336 : BitVec 32 := 65#32
  let v3070 : BitVec 32 := Scalar.muli c0_i32_42 c65_i32_2336
  let c22_i32_2337 : BitVec 32 := 22#32
  let v3071 : BitVec 32 := Scalar.addi v3070 c22_i32_2337
  let c256_i32_2338 : BitVec 32 := 256#32
  let v3072 : BitVec 32 := Scalar.muli v3071 c256_i32_2338
  v3072
def k1_mult181 : BitVec 32 :=
  let c0_i32_42 : BitVec 32 := 0#32
  let c65_i32_2346 : BitVec 32 := 65#32
  let v3083 : BitVec 32 := Scalar.muli c0_i32_42 c65_i32_2346
  let c22_i32_2347 : BitVec 32 := 22#32
  let v3084 : BitVec 32 := Scalar.addi v3083 c22_i32_2347
  let c256_i32_2348 : BitVec 32 := 256#32
  let v3085 : BitVec 32 := Scalar.muli v3084 c256_i32_2348
  v3085
def k1_mult182 : BitVec 32 :=
  let c0_i32_42 : BitVec 32 := 0#32
  let c65_i32_2362 : BitVec 32 := 65#32
  let v3103 : BitVec 32 := Scalar.muli c0_i32_42 c65_i32_2362
  let c22_i32_2363 : BitVec 32 := 22#32
  let v3104 : BitVec 32 := Scalar.addi v3103 c22_i32_2363
  let c256_i32_2364 : BitVec 32 := 256#32
  let v3105 : BitVec 32 := Scalar.muli v3104 c256_i32_2364
  v3105
def k1_mult183 : BitVec 32 :=
  let c0_i32_42 : BitVec 32 := 0#32
  let c65_i32_2372 : BitVec 32 := 65#32
  let v3116 : BitVec 32 := Scalar.muli c0_i32_42 c65_i32_2372
  let c23_i32 : BitVec 32 := 23#32
  let v3117 : BitVec 32 := Scalar.addi v3116 c23_i32
  let c256_i32_2373 : BitVec 32 := 256#32
  let v3118 : BitVec 32 := Scalar.muli v3117 c256_i32_2373
  v3118
def k1_mult184 : BitVec 32 :=
  let c0_i32_42 : BitVec 32 := 0#32
  let c65_i32_2387 : BitVec 32 := 65#32
  let v3136 : BitVec 32 := Scalar.muli c0_i32_42 c65_i32_2387
  let c22_i32_2388 : BitVec 32 := 22#32
  let v3137 : BitVec 32 := Scalar.addi v3136 c22_i32_2388
  let c256_i32_2389 : BitVec 32 := 256#32
  let v3138 : BitVec 32 := Scalar.muli v3137 c256_i32_2389
  v3138
def k1_mult185 : BitVec 32 :=
  let c0_i32_42 : BitVec 32 := 0#32
  let c65_i32_2397 : BitVec 32 := 65#32
  let v3149 : BitVec 32 := Scalar.muli c0_i32_42 c65_i32_2397
  let c23_i32_2398 : BitVec 32 := 23#32
  let v3150 : BitVec 32 := Scalar.addi v3149 c23_i32_2398
  let c256_i32_2399 : BitVec 32 := 256#32
  let v3151 : BitVec 32 := Scalar.muli v3150 c256_i32_2399
  v3151
def k1_mult186 : BitVec 32 :=
  let c0_i32_42 : BitVec 32 := 0#32
  let c65_i32_2413 : BitVec 32 := 65#32
  let v3169 : BitVec 32 := Scalar.muli c0_i32_42 c65_i32_2413
  let c22_i32_2414 : BitVec 32 := 22#32
  let v3170 : BitVec 32 := Scalar.addi v3169 c22_i32_2414
  let c256_i32_2415 : BitVec 32 := 256#32
  let v3171 : BitVec 32 := Scalar.muli v3170 c256_i32_2415
  v3171
def k1_mult187 : BitVec 32 :=
  let c0_i32_42 : BitVec 32 := 0#32
  let c65_i32_2423 : BitVec 32 := 65#32
  let v3182 : BitVec 32 := Scalar.muli c0_i32_42 c65_i32_2423
  let c23_i32_2424 : BitVec 32 := 23#32
  let v3183 : BitVec 32 := Scalar.addi v3182 c23_i32_2424
  let c256_i32_2425 : BitVec 32 := 256#32
  let v3184 : BitVec 32 := Scalar.muli v3183 c256_i32_2425
  v3184
def k1_mult188 : BitVec 32 :=
  let c0_i32_42 : BitVec 32 := 0#32
  let c65_i32_2439 : BitVec 32 := 65#32
  let v3202 : BitVec 32 := Scalar.muli c0_i32_42 c65_i32_2439
  let c23_i32_2440 : BitVec 32 := 23#32
  let v3203 : BitVec 32 := Scalar.addi v3202 c23_i32_2440
  let c256_i32_2441 : BitVec 32 := 256#32
  let v3204 : BitVec 32 := Scalar.muli v3203 c256_i32_2441
  v3204
def k1_mult189 : BitVec 32 :=
  let c0_i32_42 : BitVec 32 := 0#32
  let c65_i32_2449 : BitVec 32 := 65#32
  let v3215 : BitVec 32 := Scalar.muli c0_i32_42 c65_i32_2449
  let c23_i32_2450 : BitVec 32 := 23#32
  let v3216 : BitVec 32 := Scalar.addi v3215 c23_i32_2450
  let c256_i32_2451 : BitVec 32 := 256#32
  let v3217 : BitVec 32 := Scalar.muli v3216 c256_i32_2451
  v3217
def k1_mult190 : BitVec 32 :=
  let c0_i32_42 : BitVec 32 := 0#32
  let c65_i32_2465 : BitVec 32 := 65#32
  let v3235 : BitVec 32 := Scalar.muli c0_i32_42 c65_i32_2465
  let c23_i32_2466 : BitVec 32 := 23#32
  let v3236 : BitVec 32 := Scalar.addi v3235 c23_i32_2466
  let c256_i32_2467 : BitVec 32 := 256#32
  let v3237 : BitVec 32 := Scalar.muli v3236 c256_i32_2467
  v3237
def k1_mult191 : BitVec 32 :=
  let c0_i32_42 : BitVec 32 := 0#32
  let c65_i32_2475 : BitVec 32 := 65#32
  let v3248 : BitVec 32 := Scalar.muli c0_i32_42 c65_i32_2475
  let c24_i32 : BitVec 32 := 24#32
  let v3249 : BitVec 32 := Scalar.addi v3248 c24_i32
  let c256_i32_2476 : BitVec 32 := 256#32
  let v3250 : BitVec 32 := Scalar.muli v3249 c256_i32_2476
  v3250
def k1_mult192 : BitVec 32 :=
  let c0_i32_42 : BitVec 32 := 0#32
  let c65_i32_2490 : BitVec 32 := 65#32
  let v3268 : BitVec 32 := Scalar.muli c0_i32_42 c65_i32_2490
  let c23_i32_2491 : BitVec 32 := 23#32
  let v3269 : BitVec 32 := Scalar.addi v3268 c23_i32_2491
  let c256_i32_2492 : BitVec 32 := 256#32
  let v3270 : BitVec 32 := Scalar.muli v3269 c256_i32_2492
  v3270
def k1_mult193 : BitVec 32 :=
  let c0_i32_42 : BitVec 32 := 0#32
  let c65_i32_2500 : BitVec 32 := 65#32
  let v3281 : BitVec 32 := Scalar.muli c0_i32_42 c65_i32_2500
  let c24_i32_2501 : BitVec 32 := 24#32
  let v3282 : BitVec 32 := Scalar.addi v3281 c24_i32_2501
  let c256_i32_2502 : BitVec 32 := 256#32
  let v3283 : BitVec 32 := Scalar.muli v3282 c256_i32_2502
  v3283
def k1_mult194 : BitVec 32 :=
  let c0_i32_42 : BitVec 32 := 0#32
  let c65_i32_2516 : BitVec 32 := 65#32
  let v3301 : BitVec 32 := Scalar.muli c0_i32_42 c65_i32_2516
  let c23_i32_2517 : BitVec 32 := 23#32
  let v3302 : BitVec 32 := Scalar.addi v3301 c23_i32_2517
  let c256_i32_2518 : BitVec 32 := 256#32
  let v3303 : BitVec 32 := Scalar.muli v3302 c256_i32_2518
  v3303
def k1_mult195 : BitVec 32 :=
  let c0_i32_42 : BitVec 32 := 0#32
  let c65_i32_2526 : BitVec 32 := 65#32
  let v3314 : BitVec 32 := Scalar.muli c0_i32_42 c65_i32_2526
  let c24_i32_2527 : BitVec 32 := 24#32
  let v3315 : BitVec 32 := Scalar.addi v3314 c24_i32_2527
  let c256_i32_2528 : BitVec 32 := 256#32
  let v3316 : BitVec 32 := Scalar.muli v3315 c256_i32_2528
  v3316
def k1_mult196 : BitVec 32 :=
  let c0_i32_42 : BitVec 32 := 0#32
  let c65_i32_2542 : BitVec 32 := 65#32
  let v3334 : BitVec 32 := Scalar.muli c0_i32_42 c65_i32_2542
  let c24_i32_2543 : BitVec 32 := 24#32
  let v3335 : BitVec 32 := Scalar.addi v3334 c24_i32_2543
  let c256_i32_2544 : BitVec 32 := 256#32
  let v3336 : BitVec 32 := Scalar.muli v3335 c256_i32_2544
  v3336
def k1_mult197 : BitVec 32 :=
  let c0_i32_42 : BitVec 32 := 0#32
  let c65_i32_2552 : BitVec 32 := 65#32
  let v3347 : BitVec 32 := Scalar.muli c0_i32_42 c65_i32_2552
  let c24_i32_2553 : BitVec 32 := 24#32
  let v3348 : BitVec 32 := Scalar.addi v3347 c24_i32_2553
  let c256_i32_2554 : BitVec 32 := 256#32
  let v3349 : BitVec 32 := Scalar.muli v3348 c256_i32_2554
  v3349
def k1_mult198 : BitVec 32 :=
  let c0_i32_42 : BitVec 32 := 0#32
  let c65_i32_2568 : BitVec 32 := 65#32
  let v3367 : BitVec 32 := Scalar.muli c0_i32_42 c65_i32_2568
  let c24_i32_2569 : BitVec 32 := 24#32
  let v3368 : BitVec 32 := Scalar.addi v3367 c24_i32_2569
  let c256_i32_2570 : BitVec 32 := 256#32
  let v3369 : BitVec 32 := Scalar.muli v3368 c256_i32_2570
  v3369
def k1_mult199 : BitVec 32 :=
  let c0_i32_42 : BitVec 32 := 0#32
  let c65_i32_2578 : BitVec 32 := 65#32
  let v3380 : BitVec 32 := Scalar.muli c0_i32_42 c65_i32_2578
  let c25_i32 : BitVec 32 := 25#32
  let v3381 : BitVec 32 := Scalar.addi v3380 c25_i32
  let c256_i32_2579 : BitVec 32 := 256#32
  let v3382 : BitVec 32 := Scalar.muli v3381 c256_i32_2579
  v3382
def k1_mult200 : BitVec 32 :=
  let c0_i32_42 : BitVec 32 := 0#32
  let c65_i32_2593 : BitVec 32 := 65#32
  let v3400 : BitVec 32 := Scalar.muli c0_i32_42 c65_i32_2593
  let c24_i32_2594 : BitVec 32 := 24#32
  let v3401 : BitVec 32 := Scalar.addi v3400 c24_i32_2594
  let c256_i32_2595 : BitVec 32 := 256#32
  let v3402 : BitVec 32 := Scalar.muli v3401 c256_i32_2595
  v3402
def k1_mult201 : BitVec 32 :=
  let c0_i32_42 : BitVec 32 := 0#32
  let c65_i32_2603 : BitVec 32 := 65#32
  let v3413 : BitVec 32 := Scalar.muli c0_i32_42 c65_i32_2603
  let c25_i32_2604 : BitVec 32 := 25#32
  let v3414 : BitVec 32 := Scalar.addi v3413 c25_i32_2604
  let c256_i32_2605 : BitVec 32 := 256#32
  let v3415 : BitVec 32 := Scalar.muli v3414 c256_i32_2605
  v3415
def k1_mult202 : BitVec 32 :=
  let c0_i32_42 : BitVec 32 := 0#32
  let c65_i32_2619 : BitVec 32 := 65#32
  let v3433 : BitVec 32 := Scalar.muli c0_i32_42 c65_i32_2619
  let c24_i32_2620 : BitVec 32 := 24#32
  let v3434 : BitVec 32 := Scalar.addi v3433 c24_i32_2620
  let c256_i32_2621 : BitVec 32 := 256#32
  let v3435 : BitVec 32 := Scalar.muli v3434 c256_i32_2621
  v3435
def k1_mult203 : BitVec 32 :=
  let c0_i32_42 : BitVec 32 := 0#32
  let c65_i32_2629 : BitVec 32 := 65#32
  let v3446 : BitVec 32 := Scalar.muli c0_i32_42 c65_i32_2629
  let c25_i32_2630 : BitVec 32 := 25#32
  let v3447 : BitVec 32 := Scalar.addi v3446 c25_i32_2630
  let c256_i32_2631 : BitVec 32 := 256#32
  let v3448 : BitVec 32 := Scalar.muli v3447 c256_i32_2631
  v3448
def k1_mult204 : BitVec 32 :=
  let c0_i32_42 : BitVec 32 := 0#32
  let c65_i32_2645 : BitVec 32 := 65#32
  let v3466 : BitVec 32 := Scalar.muli c0_i32_42 c65_i32_2645
  let c25_i32_2646 : BitVec 32 := 25#32
  let v3467 : BitVec 32 := Scalar.addi v3466 c25_i32_2646
  let c256_i32_2647 : BitVec 32 := 256#32
  let v3468 : BitVec 32 := Scalar.muli v3467 c256_i32_2647
  v3468
def k1_mult205 : BitVec 32 :=
  let c0_i32_42 : BitVec 32 := 0#32
  let c65_i32_2655 : BitVec 32 := 65#32
  let v3479 : BitVec 32 := Scalar.muli c0_i32_42 c65_i32_2655
  let c25_i32_2656 : BitVec 32 := 25#32
  let v3480 : BitVec 32 := Scalar.addi v3479 c25_i32_2656
  let c256_i32_2657 : BitVec 32 := 256#32
  let v3481 : BitVec 32 := Scalar.muli v3480 c256_i32_2657
  v3481
def k1_mult206 : BitVec 32 :=
  let c0_i32_42 : BitVec 32 := 0#32
  let c65_i32_2671 : BitVec 32 := 65#32
  let v3499 : BitVec 32 := Scalar.muli c0_i32_42 c65_i32_2671
  let c25_i32_2672 : BitVec 32 := 25#32
  let v3500 : BitVec 32 := Scalar.addi v3499 c25_i32_2672
  let c256_i32_2673 : BitVec 32 := 256#32
  let v3501 : BitVec 32 := Scalar.muli v3500 c256_i32_2673
  v3501
def k1_mult207 : BitVec 32 :=
  let c0_i32_42 : BitVec 32 := 0#32
  let c65_i32_2681 : BitVec 32 := 65#32
  let v3512 : BitVec 32 := Scalar.muli c0_i32_42 c65_i32_2681
  let c26_i32 : BitVec 32 := 26#32
  let v3513 : BitVec 32 := Scalar.addi v3512 c26_i32
  let c256_i32_2682 : BitVec 32 := 256#32
  let v3514 : BitVec 32 := Scalar.muli v3513 c256_i32_2682
  v3514
def k1_mult208 : BitVec 32 :=
  let c0_i32_42 : BitVec 32 := 0#32
  let c65_i32_2696 : BitVec 32 := 65#32
  let v3532 : BitVec 32 := Scalar.muli c0_i32_42 c65_i32_2696
  let c25_i32_2697 : BitVec 32 := 25#32
  let v3533 : BitVec 32 := Scalar.addi v3532 c25_i32_2697
  let c256_i32_2698 : BitVec 32 := 256#32
  let v3534 : BitVec 32 := Scalar.muli v3533 c256_i32_2698
  v3534
def k1_mult209 : BitVec 32 :=
  let c0_i32_42 : BitVec 32 := 0#32
  let c65_i32_2706 : BitVec 32 := 65#32
  let v3545 : BitVec 32 := Scalar.muli c0_i32_42 c65_i32_2706
  let c26_i32_2707 : BitVec 32 := 26#32
  let v3546 : BitVec 32 := Scalar.addi v3545 c26_i32_2707
  let c256_i32_2708 : BitVec 32 := 256#32
  let v3547 : BitVec 32 := Scalar.muli v3546 c256_i32_2708
  v3547
def k1_mult210 : BitVec 32 :=
  let c0_i32_42 : BitVec 32 := 0#32
  let c65_i32_2722 : BitVec 32 := 65#32
  let v3565 : BitVec 32 := Scalar.muli c0_i32_42 c65_i32_2722
  let c25_i32_2723 : BitVec 32 := 25#32
  let v3566 : BitVec 32 := Scalar.addi v3565 c25_i32_2723
  let c256_i32_2724 : BitVec 32 := 256#32
  let v3567 : BitVec 32 := Scalar.muli v3566 c256_i32_2724
  v3567
def k1_mult211 : BitVec 32 :=
  let c0_i32_42 : BitVec 32 := 0#32
  let c65_i32_2732 : BitVec 32 := 65#32
  let v3578 : BitVec 32 := Scalar.muli c0_i32_42 c65_i32_2732
  let c26_i32_2733 : BitVec 32 := 26#32
  let v3579 : BitVec 32 := Scalar.addi v3578 c26_i32_2733
  let c256_i32_2734 : BitVec 32 := 256#32
  let v3580 : BitVec 32 := Scalar.muli v3579 c256_i32_2734
  v3580
def k1_mult212 : BitVec 32 :=
  let c0_i32_42 : BitVec 32 := 0#32
  let c65_i32_2748 : BitVec 32 := 65#32
  let v3598 : BitVec 32 := Scalar.muli c0_i32_42 c65_i32_2748
  let c26_i32_2749 : BitVec 32 := 26#32
  let v3599 : BitVec 32 := Scalar.addi v3598 c26_i32_2749
  let c256_i32_2750 : BitVec 32 := 256#32
  let v3600 : BitVec 32 := Scalar.muli v3599 c256_i32_2750
  v3600
def k1_mult213 : BitVec 32 :=
  let c0_i32_42 : BitVec 32 := 0#32
  let c65_i32_2758 : BitVec 32 := 65#32
  let v3611 : BitVec 32 := Scalar.muli c0_i32_42 c65_i32_2758
  let c26_i32_2759 : BitVec 32 := 26#32
  let v3612 : BitVec 32 := Scalar.addi v3611 c26_i32_2759
  let c256_i32_2760 : BitVec 32 := 256#32
  let v3613 : BitVec 32 := Scalar.muli v3612 c256_i32_2760
  v3613
def k1_mult214 : BitVec 32 :=
  let c0_i32_42 : BitVec 32 := 0#32
  let c65_i32_2774 : BitVec 32 := 65#32
  let v3631 : BitVec 32 := Scalar.muli c0_i32_42 c65_i32_2774
  let c26_i32_2775 : BitVec 32 := 26#32
  let v3632 : BitVec 32 := Scalar.addi v3631 c26_i32_2775
  let c256_i32_2776 : BitVec 32 := 256#32
  let v3633 : BitVec 32 := Scalar.muli v3632 c256_i32_2776
  v3633
def k1_mult215 : BitVec 32 :=
  let c0_i32_42 : BitVec 32 := 0#32
  let c65_i32_2784 : BitVec 32 := 65#32
  let v3644 : BitVec 32 := Scalar.muli c0_i32_42 c65_i32_2784
  let c27_i32 : BitVec 32 := 27#32
  let v3645 : BitVec 32 := Scalar.addi v3644 c27_i32
  let c256_i32_2785 : BitVec 32 := 256#32
  let v3646 : BitVec 32 := Scalar.muli v3645 c256_i32_2785
  v3646
def k1_mult216 : BitVec 32 :=
  let c0_i32_42 : BitVec 32 := 0#32
  let c65_i32_2799 : BitVec 32 := 65#32
  let v3664 : BitVec 32 := Scalar.muli c0_i32_42 c65_i32_2799
  let c26_i32_2800 : BitVec 32 := 26#32
  let v3665 : BitVec 32 := Scalar.addi v3664 c26_i32_2800
  let c256_i32_2801 : BitVec 32 := 256#32
  let v3666 : BitVec 32 := Scalar.muli v3665 c256_i32_2801
  v3666
def k1_mult217 : BitVec 32 :=
  let c0_i32_42 : BitVec 32 := 0#32
  let c65_i32_2809 : BitVec 32 := 65#32
  let v3677 : BitVec 32 := Scalar.muli c0_i32_42 c65_i32_2809
  let c27_i32_2810 : BitVec 32 := 27#32
  let v3678 : BitVec 32 := Scalar.addi v3677 c27_i32_2810
  let c256_i32_2811 : BitVec 32 := 256#32
  let v3679 : BitVec 32 := Scalar.muli v3678 c256_i32_2811
  v3679
def k1_mult218 : BitVec 32 :=
  let c0_i32_42 : BitVec 32 := 0#32
  let c65_i32_2825 : BitVec 32 := 65#32
  let v3697 : BitVec 32 := Scalar.muli c0_i32_42 c65_i32_2825
  let c26_i32_2826 : BitVec 32 := 26#32
  let v3698 : BitVec 32 := Scalar.addi v3697 c26_i32_2826
  let c256_i32_2827 : BitVec 32 := 256#32
  let v3699 : BitVec 32 := Scalar.muli v3698 c256_i32_2827
  v3699
def k1_mult219 : BitVec 32 :=
  let c0_i32_42 : BitVec 32 := 0#32
  let c65_i32_2835 : BitVec 32 := 65#32
  let v3710 : BitVec 32 := Scalar.muli c0_i32_42 c65_i32_2835
  let c27_i32_2836 : BitVec 32 := 27#32
  let v3711 : BitVec 32 := Scalar.addi v3710 c27_i32_2836
  let c256_i32_2837 : BitVec 32 := 256#32
  let v3712 : BitVec 32 := Scalar.muli v3711 c256_i32_2837
  v3712
def k1_mult220 : BitVec 32 :=
  let c0_i32_42 : BitVec 32 := 0#32
  let c65_i32_2851 : BitVec 32 := 65#32
  let v3730 : BitVec 32 := Scalar.muli c0_i32_42 c65_i32_2851
  let c27_i32_2852 : BitVec 32 := 27#32
  let v3731 : BitVec 32 := Scalar.addi v3730 c27_i32_2852
  let c256_i32_2853 : BitVec 32 := 256#32
  let v3732 : BitVec 32 := Scalar.muli v3731 c256_i32_2853
  v3732
def k1_mult221 : BitVec 32 :=
  let c0_i32_42 : BitVec 32 := 0#32
  let c65_i32_2861 : BitVec 32 := 65#32
  let v3743 : BitVec 32 := Scalar.muli c0_i32_42 c65_i32_2861
  let c27_i32_2862 : BitVec 32 := 27#32
  let v3744 : BitVec 32 := Scalar.addi v3743 c27_i32_2862
  let c256_i32_2863 : BitVec 32 := 256#32
  let v3745 : BitVec 32 := Scalar.muli v3744 c256_i32_2863
  v3745
def k1_mult222 : BitVec 32 :=
  let c0_i32_42 : BitVec 32 := 0#32
  let c65_i32_2877 : BitVec 32 := 65#32
  let v3763 : BitVec 32 := Scalar.muli c0_i32_42 c65_i32_2877
  let c27_i32_2878 : BitVec 32 := 27#32
  let v3764 : BitVec 32 := Scalar.addi v3763 c27_i32_2878
  let c256_i32_2879 : BitVec 32 := 256#32
  let v3765 : BitVec 32 := Scalar.muli v3764 c256_i32_2879
  v3765
def k1_mult223 : BitVec 32 :=
  let c0_i32_42 : BitVec 32 := 0#32
  let c65_i32_2887 : BitVec 32 := 65#32
  let v3776 : BitVec 32 := Scalar.muli c0_i32_42 c65_i32_2887
  let c28_i32 : BitVec 32 := 28#32
  let v3777 : BitVec 32 := Scalar.addi v3776 c28_i32
  let c256_i32_2888 : BitVec 32 := 256#32
  let v3778 : BitVec 32 := Scalar.muli v3777 c256_i32_2888
  v3778
def k1_mult224 : BitVec 32 :=
  let c0_i32_42 : BitVec 32 := 0#32
  let c65_i32_2902 : BitVec 32 := 65#32
  let v3796 : BitVec 32 := Scalar.muli c0_i32_42 c65_i32_2902
  let c27_i32_2903 : BitVec 32 := 27#32
  let v3797 : BitVec 32 := Scalar.addi v3796 c27_i32_2903
  let c256_i32_2904 : BitVec 32 := 256#32
  let v3798 : BitVec 32 := Scalar.muli v3797 c256_i32_2904
  v3798
def k1_mult225 : BitVec 32 :=
  let c0_i32_42 : BitVec 32 := 0#32
  let c65_i32_2912 : BitVec 32 := 65#32
  let v3809 : BitVec 32 := Scalar.muli c0_i32_42 c65_i32_2912
  let c28_i32_2913 : BitVec 32 := 28#32
  let v3810 : BitVec 32 := Scalar.addi v3809 c28_i32_2913
  let c256_i32_2914 : BitVec 32 := 256#32
  let v3811 : BitVec 32 := Scalar.muli v3810 c256_i32_2914
  v3811
def k1_mult226 : BitVec 32 :=
  let c0_i32_42 : BitVec 32 := 0#32
  let c65_i32_2928 : BitVec 32 := 65#32
  let v3829 : BitVec 32 := Scalar.muli c0_i32_42 c65_i32_2928
  let c27_i32_2929 : BitVec 32 := 27#32
  let v3830 : BitVec 32 := Scalar.addi v3829 c27_i32_2929
  let c256_i32_2930 : BitVec 32 := 256#32
  let v3831 : BitVec 32 := Scalar.muli v3830 c256_i32_2930
  v3831
def k1_mult227 : BitVec 32 :=
  let c0_i32_42 : BitVec 32 := 0#32
  let c65_i32_2938 : BitVec 32 := 65#32
  let v3842 : BitVec 32 := Scalar.muli c0_i32_42 c65_i32_2938
  let c28_i32_2939 : BitVec 32 := 28#32
  let v3843 : BitVec 32 := Scalar.addi v3842 c28_i32_2939
  let c256_i32_2940 : BitVec 32 := 256#32
  let v3844 : BitVec 32 := Scalar.muli v3843 c256_i32_2940
  v3844
def k1_mult228 : BitVec 32 :=
  let c0_i32_42 : BitVec 32 := 0#32
  let c65_i32_2954 : BitVec 32 := 65#32
  let v3862 : BitVec 32 := Scalar.muli c0_i32_42 c65_i32_2954
  let c28_i32_2955 : BitVec 32 := 28#32
  let v3863 : BitVec 32 := Scalar.addi v3862 c28_i32_2955
  let c256_i32_2956 : BitVec 32 := 256#32
  let v3864 : BitVec 32 := Scalar.muli v3863 c256_i32_2956
  v3864
def k1_mult229 : BitVec 32 :=
  let c0_i32_42 : BitVec 32 := 0#32
  let c65_i32_2964 : BitVec 32 := 65#32
  let v3875 : BitVec 32 := Scalar.muli c0_i32_42 c65_i32_2964
  let c28_i32_2965 : BitVec 32 := 28#32
  let v3876 : BitVec 32 := Scalar.addi v3875 c28_i32_2965
  let c256_i32_2966 : BitVec 32 := 256#32
  let v3877 : BitVec 32 := Scalar.muli v3876 c256_i32_2966
  v3877
def k1_mult230 : BitVec 32 :=
  let c0_i32_42 : BitVec 32 := 0#32
  let c65_i32_2980 : BitVec 32 := 65#32
  let v3895 : BitVec 32 := Scalar.muli c0_i32_42 c65_i32_2980
  let c28_i32_2981 : BitVec 32 := 28#32
  let v3896 : BitVec 32 := Scalar.addi v3895 c28_i32_2981
  let c256_i32_2982 : BitVec 32 := 256#32
  let v3897 : BitVec 32 := Scalar.muli v3896 c256_i32_2982
  v3897
def k1_mult231 : BitVec 32 :=
  let c0_i32_42 : BitVec 32 := 0#32
  let c65_i32_2990 : BitVec 32 := 65#32
  let v3908 : BitVec 32 := Scalar.muli c0_i32_42 c65_i32_2990
  let c29_i32 : BitVec 32 := 29#32
  let v3909 : BitVec 32 := Scalar.addi v3908 c29_i32
  let c256_i32_2991 : BitVec 32 := 256#32
  let v3910 : BitVec 32 := Scalar.muli v3909 c256_i32_2991
  v3910
def k1_mult232 : BitVec 32 :=
  let c0_i32_42 : BitVec 32 := 0#32
  let c65_i32_3005 : BitVec 32 := 65#32
  let v3928 : BitVec 32 := Scalar.muli c0_i32_42 c65_i32_3005
  let c28_i32_3006 : BitVec 32 := 28#32
  let v3929 : BitVec 32 := Scalar.addi v3928 c28_i32_3006
  let c256_i32_3007 : BitVec 32 := 256#32
  let v3930 : BitVec 32 := Scalar.muli v3929 c256_i32_3007
  v3930
def k1_mult233 : BitVec 32 :=
  let c0_i32_42 : BitVec 32 := 0#32
  let c65_i32_3015 : BitVec 32 := 65#32
  let v3941 : BitVec 32 := Scalar.muli c0_i32_42 c65_i32_3015
  let c29_i32_3016 : BitVec 32 := 29#32
  let v3942 : BitVec 32 := Scalar.addi v3941 c29_i32_3016
  let c256_i32_3017 : BitVec 32 := 256#32
  let v3943 : BitVec 32 := Scalar.muli v3942 c256_i32_3017
  v3943
def k1_mult234 : BitVec 32 :=
  let c0_i32_42 : BitVec 32 := 0#32
  let c65_i32_3031 : BitVec 32 := 65#32
  let v3961 : BitVec 32 := Scalar.muli c0_i32_42 c65_i32_3031
  let c28_i32_3032 : BitVec 32 := 28#32
  let v3962 : BitVec 32 := Scalar.addi v3961 c28_i32_3032
  let c256_i32_3033 : BitVec 32 := 256#32
  let v3963 : BitVec 32 := Scalar.muli v3962 c256_i32_3033
  v3963
def k1_mult235 : BitVec 32 :=
  let c0_i32_42 : BitVec 32 := 0#32
  let c65_i32_3041 : BitVec 32 := 65#32
  let v3974 : BitVec 32 := Scalar.muli c0_i32_42 c65_i32_3041
  let c29_i32_3042 : BitVec 32 := 29#32
  let v3975 : BitVec 32 := Scalar.addi v3974 c29_i32_3042
  let c256_i32_3043 : BitVec 32 := 256#32
  let v3976 : BitVec 32 := Scalar.muli v3975 c256_i32_3043
  v3976
def k1_mult236 : BitVec 32 :=
  let c0_i32_42 : BitVec 32 := 0#32
  let c65_i32_3057 : BitVec 32 := 65#32
  let v3994 : BitVec 32 := Scalar.muli c0_i32_42 c65_i32_3057
  let c29_i32_3058 : BitVec 32 := 29#32
  let v3995 : BitVec 32 := Scalar.addi v3994 c29_i32_3058
  let c256_i32_3059 : BitVec 32 := 256#32
  let v3996 : BitVec 32 := Scalar.muli v3995 c256_i32_3059
  v3996
def k1_mult237 : BitVec 32 :=
  let c0_i32_42 : BitVec 32 := 0#32
  let c65_i32_3067 : BitVec 32 := 65#32
  let v4007 : BitVec 32 := Scalar.muli c0_i32_42 c65_i32_3067
  let c29_i32_3068 : BitVec 32 := 29#32
  let v4008 : BitVec 32 := Scalar.addi v4007 c29_i32_3068
  let c256_i32_3069 : BitVec 32 := 256#32
  let v4009 : BitVec 32 := Scalar.muli v4008 c256_i32_3069
  v4009
def k1_mult238 : BitVec 32 :=
  let c0_i32_42 : BitVec 32 := 0#32
  let c65_i32_3083 : BitVec 32 := 65#32
  let v4027 : BitVec 32 := Scalar.muli c0_i32_42 c65_i32_3083
  let c29_i32_3084 : BitVec 32 := 29#32
  let v4028 : BitVec 32 := Scalar.addi v4027 c29_i32_3084
  let c256_i32_3085 : BitVec 32 := 256#32
  let v4029 : BitVec 32 := Scalar.muli v4028 c256_i32_3085
  v4029
def k1_mult239 : BitVec 32 :=
  let c0_i32_42 : BitVec 32 := 0#32
  let c65_i32_3093 : BitVec 32 := 65#32
  let v4040 : BitVec 32 := Scalar.muli c0_i32_42 c65_i32_3093
  let c30_i32 : BitVec 32 := 30#32
  let v4041 : BitVec 32 := Scalar.addi v4040 c30_i32
  let c256_i32_3094 : BitVec 32 := 256#32
  let v4042 : BitVec 32 := Scalar.muli v4041 c256_i32_3094
  v4042
def k1_mult240 : BitVec 32 :=
  let c0_i32_42 : BitVec 32 := 0#32
  let c65_i32_3108 : BitVec 32 := 65#32
  let v4060 : BitVec 32 := Scalar.muli c0_i32_42 c65_i32_3108
  let c29_i32_3109 : BitVec 32 := 29#32
  let v4061 : BitVec 32 := Scalar.addi v4060 c29_i32_3109
  let c256_i32_3110 : BitVec 32 := 256#32
  let v4062 : BitVec 32 := Scalar.muli v4061 c256_i32_3110
  v4062
def k1_mult241 : BitVec 32 :=
  let c0_i32_42 : BitVec 32 := 0#32
  let c65_i32_3118 : BitVec 32 := 65#32
  let v4073 : BitVec 32 := Scalar.muli c0_i32_42 c65_i32_3118
  let c30_i32_3119 : BitVec 32 := 30#32
  let v4074 : BitVec 32 := Scalar.addi v4073 c30_i32_3119
  let c256_i32_3120 : BitVec 32 := 256#32
  let v4075 : BitVec 32 := Scalar.muli v4074 c256_i32_3120
  v4075
def k1_mult242 : BitVec 32 :=
  let c0_i32_42 : BitVec 32 := 0#32
  let c65_i32_3134 : BitVec 32 := 65#32
  let v4093 : BitVec 32 := Scalar.muli c0_i32_42 c65_i32_3134
  let c29_i32_3135 : BitVec 32 := 29#32
  let v4094 : BitVec 32 := Scalar.addi v4093 c29_i32_3135
  let c256_i32_3136 : BitVec 32 := 256#32
  let v4095 : BitVec 32 := Scalar.muli v4094 c256_i32_3136
  v4095
def k1_mult243 : BitVec 32 :=
  let c0_i32_42 : BitVec 32 := 0#32
  let c65_i32_3144 : BitVec 32 := 65#32
  let v4106 : BitVec 32 := Scalar.muli c0_i32_42 c65_i32_3144
  let c30_i32_3145 : BitVec 32 := 30#32
  let v4107 : BitVec 32 := Scalar.addi v4106 c30_i32_3145
  let c256_i32_3146 : BitVec 32 := 256#32
  let v4108 : BitVec 32 := Scalar.muli v4107 c256_i32_3146
  v4108
def k1_mult244 : BitVec 32 :=
  let c0_i32_42 : BitVec 32 := 0#32
  let c65_i32_3160 : BitVec 32 := 65#32
  let v4126 : BitVec 32 := Scalar.muli c0_i32_42 c65_i32_3160
  let c30_i32_3161 : BitVec 32 := 30#32
  let v4127 : BitVec 32 := Scalar.addi v4126 c30_i32_3161
  let c256_i32_3162 : BitVec 32 := 256#32
  let v4128 : BitVec 32 := Scalar.muli v4127 c256_i32_3162
  v4128
def k1_mult245 : BitVec 32 :=
  let c0_i32_42 : BitVec 32 := 0#32
  let c65_i32_3170 : BitVec 32 := 65#32
  let v4139 : BitVec 32 := Scalar.muli c0_i32_42 c65_i32_3170
  let c30_i32_3171 : BitVec 32 := 30#32
  let v4140 : BitVec 32 := Scalar.addi v4139 c30_i32_3171
  let c256_i32_3172 : BitVec 32 := 256#32
  let v4141 : BitVec 32 := Scalar.muli v4140 c256_i32_3172
  v4141
def k1_mult246 : BitVec 32 :=
  let c0_i32_42 : BitVec 32 := 0#32
  let c65_i32_3186 : BitVec 32 := 65#32
  let v4159 : BitVec 32 := Scalar.muli c0_i32_42 c65_i32_3186
  let c30_i32_3187 : BitVec 32 := 30#32
  let v4160 : BitVec 32 := Scalar.addi v4159 c30_i32_3187
  let c256_i32_3188 : BitVec 32 := 256#32
  let v4161 : BitVec 32 := Scalar.muli v4160 c256_i32_3188
  v4161
def k1_mult247 : BitVec 32 :=
  let c0_i32_42 : BitVec 32 := 0#32
  let c65_i32_3196 : BitVec 32 := 65#32
  let v4172 : BitVec 32 := Scalar.muli c0_i32_42 c65_i32_3196
  let c31_i32 : BitVec 32 := 31#32
  let v4173 : BitVec 32 := Scalar.addi v4172 c31_i32
  let c256_i32_3197 : BitVec 32 := 256#32
  let v4174 : BitVec 32 := Scalar.muli v4173 c256_i32_3197
  v4174
def k1_mult248 : BitVec 32 :=
  let c0_i32_42 : BitVec 32 := 0#32
  let c65_i32_3211 : BitVec 32 := 65#32
  let v4192 : BitVec 32 := Scalar.muli c0_i32_42 c65_i32_3211
  let c30_i32_3212 : BitVec 32 := 30#32
  let v4193 : BitVec 32 := Scalar.addi v4192 c30_i32_3212
  let c256_i32_3213 : BitVec 32 := 256#32
  let v4194 : BitVec 32 := Scalar.muli v4193 c256_i32_3213
  v4194
def k1_mult249 : BitVec 32 :=
  let c0_i32_42 : BitVec 32 := 0#32
  let c65_i32_3221 : BitVec 32 := 65#32
  let v4205 : BitVec 32 := Scalar.muli c0_i32_42 c65_i32_3221
  let c31_i32_3222 : BitVec 32 := 31#32
  let v4206 : BitVec 32 := Scalar.addi v4205 c31_i32_3222
  let c256_i32_3223 : BitVec 32 := 256#32
  let v4207 : BitVec 32 := Scalar.muli v4206 c256_i32_3223
  v4207
def k1_mult250 : BitVec 32 :=
  let c0_i32_42 : BitVec 32 := 0#32
  let c65_i32_3237 : BitVec 32 := 65#32
  let v4225 : BitVec 32 := Scalar.muli c0_i32_42 c65_i32_3237
  let c30_i32_3238 : BitVec 32 := 30#32
  let v4226 : BitVec 32 := Scalar.addi v4225 c30_i32_3238
  let c256_i32_3239 : BitVec 32 := 256#32
  let v4227 : BitVec 32 := Scalar.muli v4226 c256_i32_3239
  v4227
def k1_mult251 : BitVec 32 :=
  let c0_i32_42 : BitVec 32 := 0#32
  let c65_i32_3247 : BitVec 32 := 65#32
  let v4238 : BitVec 32 := Scalar.muli c0_i32_42 c65_i32_3247
  let c31_i32_3248 : BitVec 32 := 31#32
  let v4239 : BitVec 32 := Scalar.addi v4238 c31_i32_3248
  let c256_i32_3249 : BitVec 32 := 256#32
  let v4240 : BitVec 32 := Scalar.muli v4239 c256_i32_3249
  v4240
def k1_mult252 : BitVec 32 :=
  let c0_i32_42 : BitVec 32 := 0#32
  let c65_i32_3263 : BitVec 32 := 65#32
  let v4258 : BitVec 32 := Scalar.muli c0_i32_42 c65_i32_3263
  let c31_i32_3264 : BitVec 32 := 31#32
  let v4259 : BitVec 32 := Scalar.addi v4258 c31_i32_3264
  let c256_i32_3265 : BitVec 32 := 256#32
  let v4260 : BitVec 32 := Scalar.muli v4259 c256_i32_3265
  v4260
def k1_mult253 : BitVec 32 :=
  let c0_i32_42 : BitVec 32 := 0#32
  let c65_i32_3273 : BitVec 32 := 65#32
  let v4271 : BitVec 32 := Scalar.muli c0_i32_42 c65_i32_3273
  let c31_i32_3274 : BitVec 32 := 31#32
  let v4272 : BitVec 32 := Scalar.addi v4271 c31_i32_3274
  let c256_i32_3275 : BitVec 32 := 256#32
  let v4273 : BitVec 32 := Scalar.muli v4272 c256_i32_3275
  v4273
def k1_mult254 : BitVec 32 :=
  let c0_i32_42 : BitVec 32 := 0#32
  let c65_i32_3289 : BitVec 32 := 65#32
  let v4291 : BitVec 32 := Scalar.muli c0_i32_42 c65_i32_3289
  let c31_i32_3290 : BitVec 32 := 31#32
  let v4292 : BitVec 32 := Scalar.addi v4291 c31_i32_3290
  let c256_i32_3291 : BitVec 32 := 256#32
  let v4293 : BitVec 32 := Scalar.muli v4292 c256_i32_3291
  v4293
def k1_mult255 : BitVec 32 :=
  let c0_i32_42 : BitVec 32 := 0#32
  let c65_i32_3299 : BitVec 32 := 65#32
  let v4304 : BitVec 32 := Scalar.muli c0_i32_42 c65_i32_3299
  let c32_i32 : BitVec 32 := 32#32
  let v4305 : BitVec 32 := Scalar.addi v4304 c32_i32
  let c256_i32_3300 : BitVec 32 := 256#32
  let v4306 : BitVec 32 := Scalar.muli v4305 c256_i32_3300
  v4306
def k1_mult256 : BitVec 32 :=
  let c0_i32_42 : BitVec 32 := 0#32
  let c65_i32_3314 : BitVec 32 := 65#32
  let v4324 : BitVec 32 := Scalar.muli c0_i32_42 c65_i32_3314
  let c31_i32_3315 : BitVec 32 := 31#32
  let v4325 : BitVec 32 := Scalar.addi v4324 c31_i32_3315
  let c256_i32_3316 : BitVec 32 := 256#32
  let v4326 : BitVec 32 := Scalar.muli v4325 c256_i32_3316
  v4326
def k1_mult257 : BitVec 32 :=
  let c0_i32_42 : BitVec 32 := 0#32
  let c65_i32_3324 : BitVec 32 := 65#32
  let v4337 : BitVec 32 := Scalar.muli c0_i32_42 c65_i32_3324
  let c32_i32_3325 : BitVec 32 := 32#32
  let v4338 : BitVec 32 := Scalar.addi v4337 c32_i32_3325
  let c256_i32_3326 : BitVec 32 := 256#32
  let v4339 : BitVec 32 := Scalar.muli v4338 c256_i32_3326
  v4339
def k1_mult258 : BitVec 32 :=
  let c0_i32_42 : BitVec 32 := 0#32
  let c65_i32_3340 : BitVec 32 := 65#32
  let v4357 : BitVec 32 := Scalar.muli c0_i32_42 c65_i32_3340
  let c31_i32_3341 : BitVec 32 := 31#32
  let v4358 : BitVec 32 := Scalar.addi v4357 c31_i32_3341
  let c256_i32_3342 : BitVec 32 := 256#32
  let v4359 : BitVec 32 := Scalar.muli v4358 c256_i32_3342
  v4359
def k1_mult259 : BitVec 32 :=
  let c0_i32_42 : BitVec 32 := 0#32
  let c65_i32_3350 : BitVec 32 := 65#32
  let v4370 : BitVec 32 := Scalar.muli c0_i32_42 c65_i32_3350
  let c32_i32_3351 : BitVec 32 := 32#32
  let v4371 : BitVec 32 := Scalar.addi v4370 c32_i32_3351
  let c256_i32_3352 : BitVec 32 := 256#32
  let v4372 : BitVec 32 := Scalar.muli v4371 c256_i32_3352
  v4372
def k1_mult260 : BitVec 32 :=
  let c0_i32_42 : BitVec 32 := 0#32
  let c65_i32_3366 : BitVec 32 := 65#32
  let v4390 : BitVec 32 := Scalar.muli c0_i32_42 c65_i32_3366
  let c32_i32_3367 : BitVec 32 := 32#32
  let v4391 : BitVec 32 := Scalar.addi v4390 c32_i32_3367
  let c256_i32_3368 : BitVec 32 := 256#32
  let v4392 : BitVec 32 := Scalar.muli v4391 c256_i32_3368
  v4392
def k1_mult261 : BitVec 32 :=
  let c0_i32_42 : BitVec 32 := 0#32
  let c65_i32_3376 : BitVec 32 := 65#32
  let v4403 : BitVec 32 := Scalar.muli c0_i32_42 c65_i32_3376
  let c32_i32_3377 : BitVec 32 := 32#32
  let v4404 : BitVec 32 := Scalar.addi v4403 c32_i32_3377
  let c256_i32_3378 : BitVec 32 := 256#32
  let v4405 : BitVec 32 := Scalar.muli v4404 c256_i32_3378
  v4405
def k1_mult262 : BitVec 32 :=
  let c0_i32_42 : BitVec 32 := 0#32
  let c65_i32_3392 : BitVec 32 := 65#32
  let v4423 : BitVec 32 := Scalar.muli c0_i32_42 c65_i32_3392
  let c32_i32_3393 : BitVec 32 := 32#32
  let v4424 : BitVec 32 := Scalar.addi v4423 c32_i32_3393
  let c256_i32_3394 : BitVec 32 := 256#32
  let v4425 : BitVec 32 := Scalar.muli v4424 c256_i32_3394
  v4425
def k1_mult263 : BitVec 32 :=
  let c0_i32_42 : BitVec 32 := 0#32
  let c65_i32_3402 : BitVec 32 := 65#32
  let v4436 : BitVec 32 := Scalar.muli c0_i32_42 c65_i32_3402
  let c33_i32 : BitVec 32 := 33#32
  let v4437 : BitVec 32 := Scalar.addi v4436 c33_i32
  let c256_i32_3403 : BitVec 32 := 256#32
  let v4438 : BitVec 32 := Scalar.muli v4437 c256_i32_3403
  v4438
def k1_mult264 : BitVec 32 :=
  let c0_i32_42 : BitVec 32 := 0#32
  let c65_i32_3417 : BitVec 32 := 65#32
  let v4456 : BitVec 32 := Scalar.muli c0_i32_42 c65_i32_3417
  let c32_i32_3418 : BitVec 32 := 32#32
  let v4457 : BitVec 32 := Scalar.addi v4456 c32_i32_3418
  let c256_i32_3419 : BitVec 32 := 256#32
  let v4458 : BitVec 32 := Scalar.muli v4457 c256_i32_3419
  v4458
def k1_mult265 : BitVec 32 :=
  let c0_i32_42 : BitVec 32 := 0#32
  let c65_i32_3427 : BitVec 32 := 65#32
  let v4469 : BitVec 32 := Scalar.muli c0_i32_42 c65_i32_3427
  let c33_i32_3428 : BitVec 32 := 33#32
  let v4470 : BitVec 32 := Scalar.addi v4469 c33_i32_3428
  let c256_i32_3429 : BitVec 32 := 256#32
  let v4471 : BitVec 32 := Scalar.muli v4470 c256_i32_3429
  v4471
def k1_mult266 : BitVec 32 :=
  let c0_i32_42 : BitVec 32 := 0#32
  let c65_i32_3443 : BitVec 32 := 65#32
  let v4489 : BitVec 32 := Scalar.muli c0_i32_42 c65_i32_3443
  let c32_i32_3444 : BitVec 32 := 32#32
  let v4490 : BitVec 32 := Scalar.addi v4489 c32_i32_3444
  let c256_i32_3445 : BitVec 32 := 256#32
  let v4491 : BitVec 32 := Scalar.muli v4490 c256_i32_3445
  v4491
def k1_mult267 : BitVec 32 :=
  let c0_i32_42 : BitVec 32 := 0#32
  let c65_i32_3453 : BitVec 32 := 65#32
  let v4502 : BitVec 32 := Scalar.muli c0_i32_42 c65_i32_3453
  let c33_i32_3454 : BitVec 32 := 33#32
  let v4503 : BitVec 32 := Scalar.addi v4502 c33_i32_3454
  let c256_i32_3455 : BitVec 32 := 256#32
  let v4504 : BitVec 32 := Scalar.muli v4503 c256_i32_3455
  v4504
def k1_mult268 : BitVec 32 :=
  let c0_i32_42 : BitVec 32 := 0#32
  let c65_i32_3469 : BitVec 32 := 65#32
  let v4522 : BitVec 32 := Scalar.muli c0_i32_42 c65_i32_3469
  let c33_i32_3470 : BitVec 32 := 33#32
  let v4523 : BitVec 32 := Scalar.addi v4522 c33_i32_3470
  let c256_i32_3471 : BitVec 32 := 256#32
  let v4524 : BitVec 32 := Scalar.muli v4523 c256_i32_3471
  v4524
def k1_mult269 : BitVec 32 :=
  let c0_i32_42 : BitVec 32 := 0#32
  let c65_i32_3479 : BitVec 32 := 65#32
  let v4535 : BitVec 32 := Scalar.muli c0_i32_42 c65_i32_3479
  let c33_i32_3480 : BitVec 32 := 33#32
  let v4536 : BitVec 32 := Scalar.addi v4535 c33_i32_3480
  let c256_i32_3481 : BitVec 32 := 256#32
  let v4537 : BitVec 32 := Scalar.muli v4536 c256_i32_3481
  v4537
def k1_mult270 : BitVec 32 :=
  let c0_i32_42 : BitVec 32 := 0#32
  let c65_i32_3495 : BitVec 32 := 65#32
  let v4555 : BitVec 32 := Scalar.muli c0_i32_42 c65_i32_3495
  let c33_i32_3496 : BitVec 32 := 33#32
  let v4556 : BitVec 32 := Scalar.addi v4555 c33_i32_3496
  let c256_i32_3497 : BitVec 32 := 256#32
  let v4557 : BitVec 32 := Scalar.muli v4556 c256_i32_3497
  v4557
def k1_mult271 : BitVec 32 :=
  let c0_i32_42 : BitVec 32 := 0#32
  let c65_i32_3505 : BitVec 32 := 65#32
  let v4568 : BitVec 32 := Scalar.muli c0_i32_42 c65_i32_3505
  let c34_i32 : BitVec 32 := 34#32
  let v4569 : BitVec 32 := Scalar.addi v4568 c34_i32
  let c256_i32_3506 : BitVec 32 := 256#32
  let v4570 : BitVec 32 := Scalar.muli v4569 c256_i32_3506
  v4570
def k1_mult272 : BitVec 32 :=
  let c0_i32_42 : BitVec 32 := 0#32
  let c65_i32_3520 : BitVec 32 := 65#32
  let v4588 : BitVec 32 := Scalar.muli c0_i32_42 c65_i32_3520
  let c33_i32_3521 : BitVec 32 := 33#32
  let v4589 : BitVec 32 := Scalar.addi v4588 c33_i32_3521
  let c256_i32_3522 : BitVec 32 := 256#32
  let v4590 : BitVec 32 := Scalar.muli v4589 c256_i32_3522
  v4590
def k1_mult273 : BitVec 32 :=
  let c0_i32_42 : BitVec 32 := 0#32
  let c65_i32_3530 : BitVec 32 := 65#32
  let v4601 : BitVec 32 := Scalar.muli c0_i32_42 c65_i32_3530
  let c34_i32_3531 : BitVec 32 := 34#32
  let v4602 : BitVec 32 := Scalar.addi v4601 c34_i32_3531
  let c256_i32_3532 : BitVec 32 := 256#32
  let v4603 : BitVec 32 := Scalar.muli v4602 c256_i32_3532
  v4603
def k1_mult274 : BitVec 32 :=
  let c0_i32_42 : BitVec 32 := 0#32
  let c65_i32_3546 : BitVec 32 := 65#32
  let v4621 : BitVec 32 := Scalar.muli c0_i32_42 c65_i32_3546
  let c33_i32_3547 : BitVec 32 := 33#32
  let v4622 : BitVec 32 := Scalar.addi v4621 c33_i32_3547
  let c256_i32_3548 : BitVec 32 := 256#32
  let v4623 : BitVec 32 := Scalar.muli v4622 c256_i32_3548
  v4623
def k1_mult275 : BitVec 32 :=
  let c0_i32_42 : BitVec 32 := 0#32
  let c65_i32_3556 : BitVec 32 := 65#32
  let v4634 : BitVec 32 := Scalar.muli c0_i32_42 c65_i32_3556
  let c34_i32_3557 : BitVec 32 := 34#32
  let v4635 : BitVec 32 := Scalar.addi v4634 c34_i32_3557
  let c256_i32_3558 : BitVec 32 := 256#32
  let v4636 : BitVec 32 := Scalar.muli v4635 c256_i32_3558
  v4636
def k1_mult276 : BitVec 32 :=
  let c0_i32_42 : BitVec 32 := 0#32
  let c65_i32_3572 : BitVec 32 := 65#32
  let v4654 : BitVec 32 := Scalar.muli c0_i32_42 c65_i32_3572
  let c34_i32_3573 : BitVec 32 := 34#32
  let v4655 : BitVec 32 := Scalar.addi v4654 c34_i32_3573
  let c256_i32_3574 : BitVec 32 := 256#32
  let v4656 : BitVec 32 := Scalar.muli v4655 c256_i32_3574
  v4656
def k1_mult277 : BitVec 32 :=
  let c0_i32_42 : BitVec 32 := 0#32
  let c65_i32_3582 : BitVec 32 := 65#32
  let v4667 : BitVec 32 := Scalar.muli c0_i32_42 c65_i32_3582
  let c34_i32_3583 : BitVec 32 := 34#32
  let v4668 : BitVec 32 := Scalar.addi v4667 c34_i32_3583
  let c256_i32_3584 : BitVec 32 := 256#32
  let v4669 : BitVec 32 := Scalar.muli v4668 c256_i32_3584
  v4669
def k1_mult278 : BitVec 32 :=
  let c0_i32_42 : BitVec 32 := 0#32
  let c65_i32_3598 : BitVec 32 := 65#32
  let v4687 : BitVec 32 := Scalar.muli c0_i32_42 c65_i32_3598
  let c34_i32_3599 : BitVec 32 := 34#32
  let v4688 : BitVec 32 := Scalar.addi v4687 c34_i32_3599
  let c256_i32_3600 : BitVec 32 := 256#32
  let v4689 : BitVec 32 := Scalar.muli v4688 c256_i32_3600
  v4689
def k1_mult279 : BitVec 32 :=
  let c0_i32_42 : BitVec 32 := 0#32
  let c65_i32_3608 : BitVec 32 := 65#32
  let v4700 : BitVec 32 := Scalar.muli c0_i32_42 c65_i32_3608
  let c35_i32 : BitVec 32 := 35#32
  let v4701 : BitVec 32 := Scalar.addi v4700 c35_i32
  let c256_i32_3609 : BitVec 32 := 256#32
  let v4702 : BitVec 32 := Scalar.muli v4701 c256_i32_3609
  v4702
def k1_mult280 : BitVec 32 :=
  let c0_i32_42 : BitVec 32 := 0#32
  let c65_i32_3623 : BitVec 32 := 65#32
  let v4720 : BitVec 32 := Scalar.muli c0_i32_42 c65_i32_3623
  let c34_i32_3624 : BitVec 32 := 34#32
  let v4721 : BitVec 32 := Scalar.addi v4720 c34_i32_3624
  let c256_i32_3625 : BitVec 32 := 256#32
  let v4722 : BitVec 32 := Scalar.muli v4721 c256_i32_3625
  v4722
def k1_mult281 : BitVec 32 :=
  let c0_i32_42 : BitVec 32 := 0#32
  let c65_i32_3633 : BitVec 32 := 65#32
  let v4733 : BitVec 32 := Scalar.muli c0_i32_42 c65_i32_3633
  let c35_i32_3634 : BitVec 32 := 35#32
  let v4734 : BitVec 32 := Scalar.addi v4733 c35_i32_3634
  let c256_i32_3635 : BitVec 32 := 256#32
  let v4735 : BitVec 32 := Scalar.muli v4734 c256_i32_3635
  v4735
def k1_mult282 : BitVec 32 :=
  let c0_i32_42 : BitVec 32 := 0#32
  let c65_i32_3649 : BitVec 32 := 65#32
  let v4753 : BitVec 32 := Scalar.muli c0_i32_42 c65_i32_3649
  let c34_i32_3650 : BitVec 32 := 34#32
  let v4754 : BitVec 32 := Scalar.addi v4753 c34_i32_3650
  let c256_i32_3651 : BitVec 32 := 256#32
  let v4755 : BitVec 32 := Scalar.muli v4754 c256_i32_3651
  v4755
def k1_mult283 : BitVec 32 :=
  let c0_i32_42 : BitVec 32 := 0#32
  let c65_i32_3659 : BitVec 32 := 65#32
  let v4766 : BitVec 32 := Scalar.muli c0_i32_42 c65_i32_3659
  let c35_i32_3660 : BitVec 32 := 35#32
  let v4767 : BitVec 32 := Scalar.addi v4766 c35_i32_3660
  let c256_i32_3661 : BitVec 32 := 256#32
  let v4768 : BitVec 32 := Scalar.muli v4767 c256_i32_3661
  v4768
def k1_mult284 : BitVec 32 :=
  let c0_i32_42 : BitVec 32 := 0#32
  let c65_i32_3675 : BitVec 32 := 65#32
  let v4786 : BitVec 32 := Scalar.muli c0_i32_42 c65_i32_3675
  let c35_i32_3676 : BitVec 32 := 35#32
  let v4787 : BitVec 32 := Scalar.addi v4786 c35_i32_3676
  let c256_i32_3677 : BitVec 32 := 256#32
  let v4788 : BitVec 32 := Scalar.muli v4787 c256_i32_3677
  v4788
def k1_mult285 : BitVec 32 :=
  let c0_i32_42 : BitVec 32 := 0#32
  let c65_i32_3685 : BitVec 32 := 65#32
  let v4799 : BitVec 32 := Scalar.muli c0_i32_42 c65_i32_3685
  let c35_i32_3686 : BitVec 32 := 35#32
  let v4800 : BitVec 32 := Scalar.addi v4799 c35_i32_3686
  let c256_i32_3687 : BitVec 32 := 256#32
  let v4801 : BitVec 32 := Scalar.muli v4800 c256_i32_3687
  v4801
def k1_mult286 : BitVec 32 :=
  let c0_i32_42 : BitVec 32 := 0#32
  let c65_i32_3701 : BitVec 32 := 65#32
  let v4819 : BitVec 32 := Scalar.muli c0_i32_42 c65_i32_3701
  let c35_i32_3702 : BitVec 32 := 35#32
  let v4820 : BitVec 32 := Scalar.addi v4819 c35_i32_3702
  let c256_i32_3703 : BitVec 32 := 256#32
  let v4821 : BitVec 32 := Scalar.muli v4820 c256_i32_3703
  v4821
def k1_mult287 : BitVec 32 :=
  let c0_i32_42 : BitVec 32 := 0#32
  let c65_i32_3711 : BitVec 32 := 65#32
  let v4832 : BitVec 32 := Scalar.muli c0_i32_42 c65_i32_3711
  let c36_i32 : BitVec 32 := 36#32
  let v4833 : BitVec 32 := Scalar.addi v4832 c36_i32
  let c256_i32_3712 : BitVec 32 := 256#32
  let v4834 : BitVec 32 := Scalar.muli v4833 c256_i32_3712
  v4834
def k1_mult288 : BitVec 32 :=
  let c0_i32_42 : BitVec 32 := 0#32
  let c65_i32_3726 : BitVec 32 := 65#32
  let v4852 : BitVec 32 := Scalar.muli c0_i32_42 c65_i32_3726
  let c35_i32_3727 : BitVec 32 := 35#32
  let v4853 : BitVec 32 := Scalar.addi v4852 c35_i32_3727
  let c256_i32_3728 : BitVec 32 := 256#32
  let v4854 : BitVec 32 := Scalar.muli v4853 c256_i32_3728
  v4854
def k1_mult289 : BitVec 32 :=
  let c0_i32_42 : BitVec 32 := 0#32
  let c65_i32_3736 : BitVec 32 := 65#32
  let v4865 : BitVec 32 := Scalar.muli c0_i32_42 c65_i32_3736
  let c36_i32_3737 : BitVec 32 := 36#32
  let v4866 : BitVec 32 := Scalar.addi v4865 c36_i32_3737
  let c256_i32_3738 : BitVec 32 := 256#32
  let v4867 : BitVec 32 := Scalar.muli v4866 c256_i32_3738
  v4867
def k1_mult290 : BitVec 32 :=
  let c0_i32_42 : BitVec 32 := 0#32
  let c65_i32_3752 : BitVec 32 := 65#32
  let v4885 : BitVec 32 := Scalar.muli c0_i32_42 c65_i32_3752
  let c35_i32_3753 : BitVec 32 := 35#32
  let v4886 : BitVec 32 := Scalar.addi v4885 c35_i32_3753
  let c256_i32_3754 : BitVec 32 := 256#32
  let v4887 : BitVec 32 := Scalar.muli v4886 c256_i32_3754
  v4887
def k1_mult291 : BitVec 32 :=
  let c0_i32_42 : BitVec 32 := 0#32
  let c65_i32_3762 : BitVec 32 := 65#32
  let v4898 : BitVec 32 := Scalar.muli c0_i32_42 c65_i32_3762
  let c36_i32_3763 : BitVec 32 := 36#32
  let v4899 : BitVec 32 := Scalar.addi v4898 c36_i32_3763
  let c256_i32_3764 : BitVec 32 := 256#32
  let v4900 : BitVec 32 := Scalar.muli v4899 c256_i32_3764
  v4900
def k1_mult292 : BitVec 32 :=
  let c0_i32_42 : BitVec 32 := 0#32
  let c65_i32_3778 : BitVec 32 := 65#32
  let v4918 : BitVec 32 := Scalar.muli c0_i32_42 c65_i32_3778
  let c36_i32_3779 : BitVec 32 := 36#32
  let v4919 : BitVec 32 := Scalar.addi v4918 c36_i32_3779
  let c256_i32_3780 : BitVec 32 := 256#32
  let v4920 : BitVec 32 := Scalar.muli v4919 c256_i32_3780
  v4920
def k1_mult293 : BitVec 32 :=
  let c0_i32_42 : BitVec 32 := 0#32
  let c65_i32_3788 : BitVec 32 := 65#32
  let v4931 : BitVec 32 := Scalar.muli c0_i32_42 c65_i32_3788
  let c36_i32_3789 : BitVec 32 := 36#32
  let v4932 : BitVec 32 := Scalar.addi v4931 c36_i32_3789
  let c256_i32_3790 : BitVec 32 := 256#32
  let v4933 : BitVec 32 := Scalar.muli v4932 c256_i32_3790
  v4933
def k1_mult294 : BitVec 32 :=
  let c0_i32_42 : BitVec 32 := 0#32
  let c65_i32_3804 : BitVec 32 := 65#32
  let v4951 : BitVec 32 := Scalar.muli c0_i32_42 c65_i32_3804
  let c36_i32_3805 : BitVec 32 := 36#32
  let v4952 : BitVec 32 := Scalar.addi v4951 c36_i32_3805
  let c256_i32_3806 : BitVec 32 := 256#32
  let v4953 : BitVec 32 := Scalar.muli v4952 c256_i32_3806
  v4953
def k1_mult295 : BitVec 32 :=
  let c0_i32_42 : BitVec 32 := 0#32
  let c65_i32_3814 : BitVec 32 := 65#32
  let v4964 : BitVec 32 := Scalar.muli c0_i32_42 c65_i32_3814
  let c37_i32 : BitVec 32 := 37#32
  let v4965 : BitVec 32 := Scalar.addi v4964 c37_i32
  let c256_i32_3815 : BitVec 32 := 256#32
  let v4966 : BitVec 32 := Scalar.muli v4965 c256_i32_3815
  v4966
def k1_mult296 : BitVec 32 :=
  let c0_i32_42 : BitVec 32 := 0#32
  let c65_i32_3829 : BitVec 32 := 65#32
  let v4984 : BitVec 32 := Scalar.muli c0_i32_42 c65_i32_3829
  let c36_i32_3830 : BitVec 32 := 36#32
  let v4985 : BitVec 32 := Scalar.addi v4984 c36_i32_3830
  let c256_i32_3831 : BitVec 32 := 256#32
  let v4986 : BitVec 32 := Scalar.muli v4985 c256_i32_3831
  v4986
def k1_mult297 : BitVec 32 :=
  let c0_i32_42 : BitVec 32 := 0#32
  let c65_i32_3839 : BitVec 32 := 65#32
  let v4997 : BitVec 32 := Scalar.muli c0_i32_42 c65_i32_3839
  let c37_i32_3840 : BitVec 32 := 37#32
  let v4998 : BitVec 32 := Scalar.addi v4997 c37_i32_3840
  let c256_i32_3841 : BitVec 32 := 256#32
  let v4999 : BitVec 32 := Scalar.muli v4998 c256_i32_3841
  v4999
def k1_mult298 : BitVec 32 :=
  let c0_i32_42 : BitVec 32 := 0#32
  let c65_i32_3855 : BitVec 32 := 65#32
  let v5017 : BitVec 32 := Scalar.muli c0_i32_42 c65_i32_3855
  let c36_i32_3856 : BitVec 32 := 36#32
  let v5018 : BitVec 32 := Scalar.addi v5017 c36_i32_3856
  let c256_i32_3857 : BitVec 32 := 256#32
  let v5019 : BitVec 32 := Scalar.muli v5018 c256_i32_3857
  v5019
def k1_mult299 : BitVec 32 :=
  let c0_i32_42 : BitVec 32 := 0#32
  let c65_i32_3865 : BitVec 32 := 65#32
  let v5030 : BitVec 32 := Scalar.muli c0_i32_42 c65_i32_3865
  let c37_i32_3866 : BitVec 32 := 37#32
  let v5031 : BitVec 32 := Scalar.addi v5030 c37_i32_3866
  let c256_i32_3867 : BitVec 32 := 256#32
  let v5032 : BitVec 32 := Scalar.muli v5031 c256_i32_3867
  v5032
def k1_mult300 : BitVec 32 :=
  let c0_i32_42 : BitVec 32 := 0#32
  let c65_i32_3881 : BitVec 32 := 65#32
  let v5050 : BitVec 32 := Scalar.muli c0_i32_42 c65_i32_3881
  let c37_i32_3882 : BitVec 32 := 37#32
  let v5051 : BitVec 32 := Scalar.addi v5050 c37_i32_3882
  let c256_i32_3883 : BitVec 32 := 256#32
  let v5052 : BitVec 32 := Scalar.muli v5051 c256_i32_3883
  v5052
def k1_mult301 : BitVec 32 :=
  let c0_i32_42 : BitVec 32 := 0#32
  let c65_i32_3891 : BitVec 32 := 65#32
  let v5063 : BitVec 32 := Scalar.muli c0_i32_42 c65_i32_3891
  let c37_i32_3892 : BitVec 32 := 37#32
  let v5064 : BitVec 32 := Scalar.addi v5063 c37_i32_3892
  let c256_i32_3893 : BitVec 32 := 256#32
  let v5065 : BitVec 32 := Scalar.muli v5064 c256_i32_3893
  v5065
def k1_mult302 : BitVec 32 :=
  let c0_i32_42 : BitVec 32 := 0#32
  let c65_i32_3907 : BitVec 32 := 65#32
  let v5083 : BitVec 32 := Scalar.muli c0_i32_42 c65_i32_3907
  let c37_i32_3908 : BitVec 32 := 37#32
  let v5084 : BitVec 32 := Scalar.addi v5083 c37_i32_3908
  let c256_i32_3909 : BitVec 32 := 256#32
  let v5085 : BitVec 32 := Scalar.muli v5084 c256_i32_3909
  v5085
def k1_mult303 : BitVec 32 :=
  let c0_i32_42 : BitVec 32 := 0#32
  let c65_i32_3917 : BitVec 32 := 65#32
  let v5096 : BitVec 32 := Scalar.muli c0_i32_42 c65_i32_3917
  let c38_i32 : BitVec 32 := 38#32
  let v5097 : BitVec 32 := Scalar.addi v5096 c38_i32
  let c256_i32_3918 : BitVec 32 := 256#32
  let v5098 : BitVec 32 := Scalar.muli v5097 c256_i32_3918
  v5098
def k1_mult304 : BitVec 32 :=
  let c0_i32_42 : BitVec 32 := 0#32
  let c65_i32_3932 : BitVec 32 := 65#32
  let v5116 : BitVec 32 := Scalar.muli c0_i32_42 c65_i32_3932
  let c37_i32_3933 : BitVec 32 := 37#32
  let v5117 : BitVec 32 := Scalar.addi v5116 c37_i32_3933
  let c256_i32_3934 : BitVec 32 := 256#32
  let v5118 : BitVec 32 := Scalar.muli v5117 c256_i32_3934
  v5118
def k1_mult305 : BitVec 32 :=
  let c0_i32_42 : BitVec 32 := 0#32
  let c65_i32_3942 : BitVec 32 := 65#32
  let v5129 : BitVec 32 := Scalar.muli c0_i32_42 c65_i32_3942
  let c38_i32_3943 : BitVec 32 := 38#32
  let v5130 : BitVec 32 := Scalar.addi v5129 c38_i32_3943
  let c256_i32_3944 : BitVec 32 := 256#32
  let v5131 : BitVec 32 := Scalar.muli v5130 c256_i32_3944
  v5131
def k1_mult306 : BitVec 32 :=
  let c0_i32_42 : BitVec 32 := 0#32
  let c65_i32_3958 : BitVec 32 := 65#32
  let v5149 : BitVec 32 := Scalar.muli c0_i32_42 c65_i32_3958
  let c37_i32_3959 : BitVec 32 := 37#32
  let v5150 : BitVec 32 := Scalar.addi v5149 c37_i32_3959
  let c256_i32_3960 : BitVec 32 := 256#32
  let v5151 : BitVec 32 := Scalar.muli v5150 c256_i32_3960
  v5151
def k1_mult307 : BitVec 32 :=
  let c0_i32_42 : BitVec 32 := 0#32
  let c65_i32_3968 : BitVec 32 := 65#32
  let v5162 : BitVec 32 := Scalar.muli c0_i32_42 c65_i32_3968
  let c38_i32_3969 : BitVec 32 := 38#32
  let v5163 : BitVec 32 := Scalar.addi v5162 c38_i32_3969
  let c256_i32_3970 : BitVec 32 := 256#32
  let v5164 : BitVec 32 := Scalar.muli v5163 c256_i32_3970
  v5164
def k1_mult308 : BitVec 32 :=
  let c0_i32_42 : BitVec 32 := 0#32
  let c65_i32_3984 : BitVec 32 := 65#32
  let v5182 : BitVec 32 := Scalar.muli c0_i32_42 c65_i32_3984
  let c38_i32_3985 : BitVec 32 := 38#32
  let v5183 : BitVec 32 := Scalar.addi v5182 c38_i32_3985
  let c256_i32_3986 : BitVec 32 := 256#32
  let v5184 : BitVec 32 := Scalar.muli v5183 c256_i32_3986
  v5184
def k1_mult309 : BitVec 32 :=
  let c0_i32_42 : BitVec 32 := 0#32
  let c65_i32_3994 : BitVec 32 := 65#32
  let v5195 : BitVec 32 := Scalar.muli c0_i32_42 c65_i32_3994
  let c38_i32_3995 : BitVec 32 := 38#32
  let v5196 : BitVec 32 := Scalar.addi v5195 c38_i32_3995
  let c256_i32_3996 : BitVec 32 := 256#32
  let v5197 : BitVec 32 := Scalar.muli v5196 c256_i32_3996
  v5197
def k1_mult310 : BitVec 32 :=
  let c0_i32_42 : BitVec 32 := 0#32
  let c65_i32_4010 : BitVec 32 := 65#32
  let v5215 : BitVec 32 := Scalar.muli c0_i32_42 c65_i32_4010
  let c38_i32_4011 : BitVec 32 := 38#32
  let v5216 : BitVec 32 := Scalar.addi v5215 c38_i32_4011
  let c256_i32_4012 : BitVec 32 := 256#32
  let v5217 : BitVec 32 := Scalar.muli v5216 c256_i32_4012
  v5217
def k1_mult311 : BitVec 32 :=
  let c0_i32_42 : BitVec 32 := 0#32
  let c65_i32_4020 : BitVec 32 := 65#32
  let v5228 : BitVec 32 := Scalar.muli c0_i32_42 c65_i32_4020
  let c39_i32 : BitVec 32 := 39#32
  let v5229 : BitVec 32 := Scalar.addi v5228 c39_i32
  let c256_i32_4021 : BitVec 32 := 256#32
  let v5230 : BitVec 32 := Scalar.muli v5229 c256_i32_4021
  v5230
def k1_mult312 : BitVec 32 :=
  let c0_i32_42 : BitVec 32 := 0#32
  let c65_i32_4035 : BitVec 32 := 65#32
  let v5248 : BitVec 32 := Scalar.muli c0_i32_42 c65_i32_4035
  let c38_i32_4036 : BitVec 32 := 38#32
  let v5249 : BitVec 32 := Scalar.addi v5248 c38_i32_4036
  let c256_i32_4037 : BitVec 32 := 256#32
  let v5250 : BitVec 32 := Scalar.muli v5249 c256_i32_4037
  v5250
def k1_mult313 : BitVec 32 :=
  let c0_i32_42 : BitVec 32 := 0#32
  let c65_i32_4045 : BitVec 32 := 65#32
  let v5261 : BitVec 32 := Scalar.muli c0_i32_42 c65_i32_4045
  let c39_i32_4046 : BitVec 32 := 39#32
  let v5262 : BitVec 32 := Scalar.addi v5261 c39_i32_4046
  let c256_i32_4047 : BitVec 32 := 256#32
  let v5263 : BitVec 32 := Scalar.muli v5262 c256_i32_4047
  v5263
def k1_mult314 : BitVec 32 :=
  let c0_i32_42 : BitVec 32 := 0#32
  let c65_i32_4061 : BitVec 32 := 65#32
  let v5281 : BitVec 32 := Scalar.muli c0_i32_42 c65_i32_4061
  let c38_i32_4062 : BitVec 32 := 38#32
  let v5282 : BitVec 32 := Scalar.addi v5281 c38_i32_4062
  let c256_i32_4063 : BitVec 32 := 256#32
  let v5283 : BitVec 32 := Scalar.muli v5282 c256_i32_4063
  v5283
def k1_mult315 : BitVec 32 :=
  let c0_i32_42 : BitVec 32 := 0#32
  let c65_i32_4071 : BitVec 32 := 65#32
  let v5294 : BitVec 32 := Scalar.muli c0_i32_42 c65_i32_4071
  let c39_i32_4072 : BitVec 32 := 39#32
  let v5295 : BitVec 32 := Scalar.addi v5294 c39_i32_4072
  let c256_i32_4073 : BitVec 32 := 256#32
  let v5296 : BitVec 32 := Scalar.muli v5295 c256_i32_4073
  v5296
def k1_mult316 : BitVec 32 :=
  let c0_i32_42 : BitVec 32 := 0#32
  let c65_i32_4087 : BitVec 32 := 65#32
  let v5314 : BitVec 32 := Scalar.muli c0_i32_42 c65_i32_4087
  let c39_i32_4088 : BitVec 32 := 39#32
  let v5315 : BitVec 32 := Scalar.addi v5314 c39_i32_4088
  let c256_i32_4089 : BitVec 32 := 256#32
  let v5316 : BitVec 32 := Scalar.muli v5315 c256_i32_4089
  v5316
def k1_mult317 : BitVec 32 :=
  let c0_i32_42 : BitVec 32 := 0#32
  let c65_i32_4097 : BitVec 32 := 65#32
  let v5327 : BitVec 32 := Scalar.muli c0_i32_42 c65_i32_4097
  let c39_i32_4098 : BitVec 32 := 39#32
  let v5328 : BitVec 32 := Scalar.addi v5327 c39_i32_4098
  let c256_i32_4099 : BitVec 32 := 256#32
  let v5329 : BitVec 32 := Scalar.muli v5328 c256_i32_4099
  v5329
def k1_mult318 : BitVec 32 :=
  let c0_i32_42 : BitVec 32 := 0#32
  let c65_i32_4113 : BitVec 32 := 65#32
  let v5347 : BitVec 32 := Scalar.muli c0_i32_42 c65_i32_4113
  let c39_i32_4114 : BitVec 32 := 39#32
  let v5348 : BitVec 32 := Scalar.addi v5347 c39_i32_4114
  let c256_i32_4115 : BitVec 32 := 256#32
  let v5349 : BitVec 32 := Scalar.muli v5348 c256_i32_4115
  v5349
def k1_mult319 : BitVec 32 :=
  let c0_i32_42 : BitVec 32 := 0#32
  let c65_i32_4123 : BitVec 32 := 65#32
  let v5360 : BitVec 32 := Scalar.muli c0_i32_42 c65_i32_4123
  let c40_i32 : BitVec 32 := 40#32
  let v5361 : BitVec 32 := Scalar.addi v5360 c40_i32
  let c256_i32_4124 : BitVec 32 := 256#32
  let v5362 : BitVec 32 := Scalar.muli v5361 c256_i32_4124
  v5362
def k1_mult320 : BitVec 32 :=
  let c0_i32_42 : BitVec 32 := 0#32
  let c65_i32_4138 : BitVec 32 := 65#32
  let v5380 : BitVec 32 := Scalar.muli c0_i32_42 c65_i32_4138
  let c39_i32_4139 : BitVec 32 := 39#32
  let v5381 : BitVec 32 := Scalar.addi v5380 c39_i32_4139
  let c256_i32_4140 : BitVec 32 := 256#32
  let v5382 : BitVec 32 := Scalar.muli v5381 c256_i32_4140
  v5382
def k1_mult321 : BitVec 32 :=
  let c0_i32_42 : BitVec 32 := 0#32
  let c65_i32_4148 : BitVec 32 := 65#32
  let v5393 : BitVec 32 := Scalar.muli c0_i32_42 c65_i32_4148
  let c40_i32_4149 : BitVec 32 := 40#32
  let v5394 : BitVec 32 := Scalar.addi v5393 c40_i32_4149
  let c256_i32_4150 : BitVec 32 := 256#32
  let v5395 : BitVec 32 := Scalar.muli v5394 c256_i32_4150
  v5395
def k1_mult322 : BitVec 32 :=
  let c0_i32_42 : BitVec 32 := 0#32
  let c65_i32_4164 : BitVec 32 := 65#32
  let v5413 : BitVec 32 := Scalar.muli c0_i32_42 c65_i32_4164
  let c39_i32_4165 : BitVec 32 := 39#32
  let v5414 : BitVec 32 := Scalar.addi v5413 c39_i32_4165
  let c256_i32_4166 : BitVec 32 := 256#32
  let v5415 : BitVec 32 := Scalar.muli v5414 c256_i32_4166
  v5415
def k1_mult323 : BitVec 32 :=
  let c0_i32_42 : BitVec 32 := 0#32
  let c65_i32_4174 : BitVec 32 := 65#32
  let v5426 : BitVec 32 := Scalar.muli c0_i32_42 c65_i32_4174
  let c40_i32_4175 : BitVec 32 := 40#32
  let v5427 : BitVec 32 := Scalar.addi v5426 c40_i32_4175
  let c256_i32_4176 : BitVec 32 := 256#32
  let v5428 : BitVec 32 := Scalar.muli v5427 c256_i32_4176
  v5428
def k1_mult324 : BitVec 32 :=
  let c0_i32_42 : BitVec 32 := 0#32
  let c65_i32_4190 : BitVec 32 := 65#32
  let v5446 : BitVec 32 := Scalar.muli c0_i32_42 c65_i32_4190
  let c40_i32_4191 : BitVec 32 := 40#32
  let v5447 : BitVec 32 := Scalar.addi v5446 c40_i32_4191
  let c256_i32_4192 : BitVec 32 := 256#32
  let v5448 : BitVec 32 := Scalar.muli v5447 c256_i32_4192
  v5448
def k1_mult325 : BitVec 32 :=
  let c0_i32_42 : BitVec 32 := 0#32
  let c65_i32_4200 : BitVec 32 := 65#32
  let v5459 : BitVec 32 := Scalar.muli c0_i32_42 c65_i32_4200
  let c40_i32_4201 : BitVec 32 := 40#32
  let v5460 : BitVec 32 := Scalar.addi v5459 c40_i32_4201
  let c256_i32_4202 : BitVec 32 := 256#32
  let v5461 : BitVec 32 := Scalar.muli v5460 c256_i32_4202
  v5461
def k1_mult326 : BitVec 32 :=
  let c0_i32_42 : BitVec 32 := 0#32
  let c65_i32_4216 : BitVec 32 := 65#32
  let v5479 : BitVec 32 := Scalar.muli c0_i32_42 c65_i32_4216
  let c40_i32_4217 : BitVec 32 := 40#32
  let v5480 : BitVec 32 := Scalar.addi v5479 c40_i32_4217
  let c256_i32_4218 : BitVec 32 := 256#32
  let v5481 : BitVec 32 := Scalar.muli v5480 c256_i32_4218
  v5481
def k1_mult327 : BitVec 32 :=
  let c0_i32_42 : BitVec 32 := 0#32
  let c65_i32_4226 : BitVec 32 := 65#32
  let v5492 : BitVec 32 := Scalar.muli c0_i32_42 c65_i32_4226
  let c41_i32 : BitVec 32 := 41#32
  let v5493 : BitVec 32 := Scalar.addi v5492 c41_i32
  let c256_i32_4227 : BitVec 32 := 256#32
  let v5494 : BitVec 32 := Scalar.muli v5493 c256_i32_4227
  v5494
def k1_mult328 : BitVec 32 :=
  let c0_i32_42 : BitVec 32 := 0#32
  let c65_i32_4241 : BitVec 32 := 65#32
  let v5512 : BitVec 32 := Scalar.muli c0_i32_42 c65_i32_4241
  let c40_i32_4242 : BitVec 32 := 40#32
  let v5513 : BitVec 32 := Scalar.addi v5512 c40_i32_4242
  let c256_i32_4243 : BitVec 32 := 256#32
  let v5514 : BitVec 32 := Scalar.muli v5513 c256_i32_4243
  v5514
def k1_mult329 : BitVec 32 :=
  let c0_i32_42 : BitVec 32 := 0#32
  let c65_i32_4251 : BitVec 32 := 65#32
  let v5525 : BitVec 32 := Scalar.muli c0_i32_42 c65_i32_4251
  let c41_i32_4252 : BitVec 32 := 41#32
  let v5526 : BitVec 32 := Scalar.addi v5525 c41_i32_4252
  let c256_i32_4253 : BitVec 32 := 256#32
  let v5527 : BitVec 32 := Scalar.muli v5526 c256_i32_4253
  v5527
def k1_mult330 : BitVec 32 :=
  let c0_i32_42 : BitVec 32 := 0#32
  let c65_i32_4267 : BitVec 32 := 65#32
  let v5545 : BitVec 32 := Scalar.muli c0_i32_42 c65_i32_4267
  let c40_i32_4268 : BitVec 32 := 40#32
  let v5546 : BitVec 32 := Scalar.addi v5545 c40_i32_4268
  let c256_i32_4269 : BitVec 32 := 256#32
  let v5547 : BitVec 32 := Scalar.muli v5546 c256_i32_4269
  v5547
def k1_mult331 : BitVec 32 :=
  let c0_i32_42 : BitVec 32 := 0#32
  let c65_i32_4277 : BitVec 32 := 65#32
  let v5558 : BitVec 32 := Scalar.muli c0_i32_42 c65_i32_4277
  let c41_i32_4278 : BitVec 32 := 41#32
  let v5559 : BitVec 32 := Scalar.addi v5558 c41_i32_4278
  let c256_i32_4279 : BitVec 32 := 256#32
  let v5560 : BitVec 32 := Scalar.muli v5559 c256_i32_4279
  v5560
def k1_mult332 : BitVec 32 :=
  let c0_i32_42 : BitVec 32 := 0#32
  let c65_i32_4293 : BitVec 32 := 65#32
  let v5578 : BitVec 32 := Scalar.muli c0_i32_42 c65_i32_4293
  let c41_i32_4294 : BitVec 32 := 41#32
  let v5579 : BitVec 32 := Scalar.addi v5578 c41_i32_4294
  let c256_i32_4295 : BitVec 32 := 256#32
  let v5580 : BitVec 32 := Scalar.muli v5579 c256_i32_4295
  v5580
def k1_mult333 : BitVec 32 :=
  let c0_i32_42 : BitVec 32 := 0#32
  let c65_i32_4303 : BitVec 32 := 65#32
  let v5591 : BitVec 32 := Scalar.muli c0_i32_42 c65_i32_4303
  let c41_i32_4304 : BitVec 32 := 41#32
  let v5592 : BitVec 32 := Scalar.addi v5591 c41_i32_4304
  let c256_i32_4305 : BitVec 32 := 256#32
  let v5593 : BitVec 32 := Scalar.muli v5592 c256_i32_4305
  v5593
def k1_mult334 : BitVec 32 :=
  let c0_i32_42 : BitVec 32 := 0#32
  let c65_i32_4319 : BitVec 32 := 65#32
  let v5611 : BitVec 32 := Scalar.muli c0_i32_42 c65_i32_4319
  let c41_i32_4320 : BitVec 32 := 41#32
  let v5612 : BitVec 32 := Scalar.addi v5611 c41_i32_4320
  let c256_i32_4321 : BitVec 32 := 256#32
  let v5613 : BitVec 32 := Scalar.muli v5612 c256_i32_4321
  v5613
def k1_mult335 : BitVec 32 :=
  let c0_i32_42 : BitVec 32 := 0#32
  let c65_i32_4329 : BitVec 32 := 65#32
  let v5624 : BitVec 32 := Scalar.muli c0_i32_42 c65_i32_4329
  let c42_i32 : BitVec 32 := 42#32
  let v5625 : BitVec 32 := Scalar.addi v5624 c42_i32
  let c256_i32_4330 : BitVec 32 := 256#32
  let v5626 : BitVec 32 := Scalar.muli v5625 c256_i32_4330
  v5626
def k1_mult336 : BitVec 32 :=
  let c0_i32_42 : BitVec 32 := 0#32
  let c65_i32_4344 : BitVec 32 := 65#32
  let v5644 : BitVec 32 := Scalar.muli c0_i32_42 c65_i32_4344
  let c41_i32_4345 : BitVec 32 := 41#32
  let v5645 : BitVec 32 := Scalar.addi v5644 c41_i32_4345
  let c256_i32_4346 : BitVec 32 := 256#32
  let v5646 : BitVec 32 := Scalar.muli v5645 c256_i32_4346
  v5646
def k1_mult337 : BitVec 32 :=
  let c0_i32_42 : BitVec 32 := 0#32
  let c65_i32_4354 : BitVec 32 := 65#32
  let v5657 : BitVec 32 := Scalar.muli c0_i32_42 c65_i32_4354
  let c42_i32_4355 : BitVec 32 := 42#32
  let v5658 : BitVec 32 := Scalar.addi v5657 c42_i32_4355
  let c256_i32_4356 : BitVec 32 := 256#32
  let v5659 : BitVec 32 := Scalar.muli v5658 c256_i32_4356
  v5659
def k1_mult338 : BitVec 32 :=
  let c0_i32_42 : BitVec 32 := 0#32
  let c65_i32_4370 : BitVec 32 := 65#32
  let v5677 : BitVec 32 := Scalar.muli c0_i32_42 c65_i32_4370
  let c41_i32_4371 : BitVec 32 := 41#32
  let v5678 : BitVec 32 := Scalar.addi v5677 c41_i32_4371
  let c256_i32_4372 : BitVec 32 := 256#32
  let v5679 : BitVec 32 := Scalar.muli v5678 c256_i32_4372
  v5679
def k1_mult339 : BitVec 32 :=
  let c0_i32_42 : BitVec 32 := 0#32
  let c65_i32_4380 : BitVec 32 := 65#32
  let v5690 : BitVec 32 := Scalar.muli c0_i32_42 c65_i32_4380
  let c42_i32_4381 : BitVec 32 := 42#32
  let v5691 : BitVec 32 := Scalar.addi v5690 c42_i32_4381
  let c256_i32_4382 : BitVec 32 := 256#32
  let v5692 : BitVec 32 := Scalar.muli v5691 c256_i32_4382
  v5692
def k1_mult340 : BitVec 32 :=
  let c0_i32_42 : BitVec 32 := 0#32
  let c65_i32_4396 : BitVec 32 := 65#32
  let v5710 : BitVec 32 := Scalar.muli c0_i32_42 c65_i32_4396
  let c42_i32_4397 : BitVec 32 := 42#32
  let v5711 : BitVec 32 := Scalar.addi v5710 c42_i32_4397
  let c256_i32_4398 : BitVec 32 := 256#32
  let v5712 : BitVec 32 := Scalar.muli v5711 c256_i32_4398
  v5712
def k1_mult341 : BitVec 32 :=
  let c0_i32_42 : BitVec 32 := 0#32
  let c65_i32_4406 : BitVec 32 := 65#32
  let v5723 : BitVec 32 := Scalar.muli c0_i32_42 c65_i32_4406
  let c42_i32_4407 : BitVec 32 := 42#32
  let v5724 : BitVec 32 := Scalar.addi v5723 c42_i32_4407
  let c256_i32_4408 : BitVec 32 := 256#32
  let v5725 : BitVec 32 := Scalar.muli v5724 c256_i32_4408
  v5725
def k1_mult342 : BitVec 32 :=
  let c0_i32_42 : BitVec 32 := 0#32
  let c65_i32_4422 : BitVec 32 := 65#32
  let v5743 : BitVec 32 := Scalar.muli c0_i32_42 c65_i32_4422
  let c42_i32_4423 : BitVec 32 := 42#32
  let v5744 : BitVec 32 := Scalar.addi v5743 c42_i32_4423
  let c256_i32_4424 : BitVec 32 := 256#32
  let v5745 : BitVec 32 := Scalar.muli v5744 c256_i32_4424
  v5745
def k1_mult343 : BitVec 32 :=
  let c0_i32_42 : BitVec 32 := 0#32
  let c65_i32_4432 : BitVec 32 := 65#32
  let v5756 : BitVec 32 := Scalar.muli c0_i32_42 c65_i32_4432
  let c43_i32 : BitVec 32 := 43#32
  let v5757 : BitVec 32 := Scalar.addi v5756 c43_i32
  let c256_i32_4433 : BitVec 32 := 256#32
  let v5758 : BitVec 32 := Scalar.muli v5757 c256_i32_4433
  v5758
def k1_mult344 : BitVec 32 :=
  let c0_i32_42 : BitVec 32 := 0#32
  let c65_i32_4447 : BitVec 32 := 65#32
  let v5776 : BitVec 32 := Scalar.muli c0_i32_42 c65_i32_4447
  let c42_i32_4448 : BitVec 32 := 42#32
  let v5777 : BitVec 32 := Scalar.addi v5776 c42_i32_4448
  let c256_i32_4449 : BitVec 32 := 256#32
  let v5778 : BitVec 32 := Scalar.muli v5777 c256_i32_4449
  v5778
def k1_mult345 : BitVec 32 :=
  let c0_i32_42 : BitVec 32 := 0#32
  let c65_i32_4457 : BitVec 32 := 65#32
  let v5789 : BitVec 32 := Scalar.muli c0_i32_42 c65_i32_4457
  let c43_i32_4458 : BitVec 32 := 43#32
  let v5790 : BitVec 32 := Scalar.addi v5789 c43_i32_4458
  let c256_i32_4459 : BitVec 32 := 256#32
  let v5791 : BitVec 32 := Scalar.muli v5790 c256_i32_4459
  v5791
def k1_mult346 : BitVec 32 :=
  let c0_i32_42 : BitVec 32 := 0#32
  let c65_i32_4473 : BitVec 32 := 65#32
  let v5809 : BitVec 32 := Scalar.muli c0_i32_42 c65_i32_4473
  let c42_i32_4474 : BitVec 32 := 42#32
  let v5810 : BitVec 32 := Scalar.addi v5809 c42_i32_4474
  let c256_i32_4475 : BitVec 32 := 256#32
  let v5811 : BitVec 32 := Scalar.muli v5810 c256_i32_4475
  v5811
def k1_mult347 : BitVec 32 :=
  let c0_i32_42 : BitVec 32 := 0#32
  let c65_i32_4483 : BitVec 32 := 65#32
  let v5822 : BitVec 32 := Scalar.muli c0_i32_42 c65_i32_4483
  let c43_i32_4484 : BitVec 32 := 43#32
  let v5823 : BitVec 32 := Scalar.addi v5822 c43_i32_4484
  let c256_i32_4485 : BitVec 32 := 256#32
  let v5824 : BitVec 32 := Scalar.muli v5823 c256_i32_4485
  v5824
def k1_mult348 : BitVec 32 :=
  let c0_i32_42 : BitVec 32 := 0#32
  let c65_i32_4499 : BitVec 32 := 65#32
  let v5842 : BitVec 32 := Scalar.muli c0_i32_42 c65_i32_4499
  let c43_i32_4500 : BitVec 32 := 43#32
  let v5843 : BitVec 32 := Scalar.addi v5842 c43_i32_4500
  let c256_i32_4501 : BitVec 32 := 256#32
  let v5844 : BitVec 32 := Scalar.muli v5843 c256_i32_4501
  v5844
def k1_mult349 : BitVec 32 :=
  let c0_i32_42 : BitVec 32 := 0#32
  let c65_i32_4509 : BitVec 32 := 65#32
  let v5855 : BitVec 32 := Scalar.muli c0_i32_42 c65_i32_4509
  let c43_i32_4510 : BitVec 32 := 43#32
  let v5856 : BitVec 32 := Scalar.addi v5855 c43_i32_4510
  let c256_i32_4511 : BitVec 32 := 256#32
  let v5857 : BitVec 32 := Scalar.muli v5856 c256_i32_4511
  v5857
def k1_mult350 : BitVec 32 :=
  let c0_i32_42 : BitVec 32 := 0#32
  let c65_i32_4525 : BitVec 32 := 65#32
  let v5875 : BitVec 32 := Scalar.muli c0_i32_42 c65_i32_4525
  let c43_i32_4526 : BitVec 32 := 43#32
  let v5876 : BitVec 32 := Scalar.addi v5875 c43_i32_4526
  let c256_i32_4527 : BitVec 32 := 256#32
  let v5877 : BitVec 32 := Scalar.muli v5876 c256_i32_4527
  v5877
def k1_mult351 : BitVec 32 :=
  let c0_i32_42 : BitVec 32 := 0#32
  let c65_i32_4535 : BitVec 32 := 65#32
  let v5888 : BitVec 32 := Scalar.muli c0_i32_42 c65_i32_4535
  let c44_i32 : BitVec 32 := 44#32
  let v5889 : BitVec 32 := Scalar.addi v5888 c44_i32
  let c256_i32_4536 : BitVec 32 := 256#32
  let v5890 : BitVec 32 := Scalar.muli v5889 c256_i32_4536
  v5890
def k1_mult352 : BitVec 32 :=
  let c0_i32_42 : BitVec 32 := 0#32
  let c65_i32_4550 : BitVec 32 := 65#32
  let v5908 : BitVec 32 := Scalar.muli c0_i32_42 c65_i32_4550
  let c43_i32_4551 : BitVec 32 := 43#32
  let v5909 : BitVec 32 := Scalar.addi v5908 c43_i32_4551
  let c256_i32_4552 : BitVec 32 := 256#32
  let v5910 : BitVec 32 := Scalar.muli v5909 c256_i32_4552
  v5910
def k1_mult353 : BitVec 32 :=
  let c0_i32_42 : BitVec 32 := 0#32
  let c65_i32_4560 : BitVec 32 := 65#32
  let v5921 : BitVec 32 := Scalar.muli c0_i32_42 c65_i32_4560
  let c44_i32_4561 : BitVec 32 := 44#32
  let v5922 : BitVec 32 := Scalar.addi v5921 c44_i32_4561
  let c256_i32_4562 : BitVec 32 := 256#32
  let v5923 : BitVec 32 := Scalar.muli v5922 c256_i32_4562
  v5923
def k1_mult354 : BitVec 32 :=
  let c0_i32_42 : BitVec 32 := 0#32
  let c65_i32_4576 : BitVec 32 := 65#32
  let v5941 : BitVec 32 := Scalar.muli c0_i32_42 c65_i32_4576
  let c43_i32_4577 : BitVec 32 := 43#32
  let v5942 : BitVec 32 := Scalar.addi v5941 c43_i32_4577
  let c256_i32_4578 : BitVec 32 := 256#32
  let v5943 : BitVec 32 := Scalar.muli v5942 c256_i32_4578
  v5943
def k1_mult355 : BitVec 32 :=
  let c0_i32_42 : BitVec 32 := 0#32
  let c65_i32_4586 : BitVec 32 := 65#32
  let v5954 : BitVec 32 := Scalar.muli c0_i32_42 c65_i32_4586
  let c44_i32_4587 : BitVec 32 := 44#32
  let v5955 : BitVec 32 := Scalar.addi v5954 c44_i32_4587
  let c256_i32_4588 : BitVec 32 := 256#32
  let v5956 : BitVec 32 := Scalar.muli v5955 c256_i32_4588
  v5956
def k1_mult356 : BitVec 32 :=
  let c0_i32_42 : BitVec 32 := 0#32
  let c65_i32_4602 : BitVec 32 := 65#32
  let v5974 : BitVec 32 := Scalar.muli c0_i32_42 c65_i32_4602
  let c44_i32_4603 : BitVec 32 := 44#32
  let v5975 : BitVec 32 := Scalar.addi v5974 c44_i32_4603
  let c256_i32_4604 : BitVec 32 := 256#32
  let v5976 : BitVec 32 := Scalar.muli v5975 c256_i32_4604
  v5976
def k1_mult357 : BitVec 32 :=
  let c0_i32_42 : BitVec 32 := 0#32
  let c65_i32_4612 : BitVec 32 := 65#32
  let v5987 : BitVec 32 := Scalar.muli c0_i32_42 c65_i32_4612
  let c44_i32_4613 : BitVec 32 := 44#32
  let v5988 : BitVec 32 := Scalar.addi v5987 c44_i32_4613
  let c256_i32_4614 : BitVec 32 := 256#32
  let v5989 : BitVec 32 := Scalar.muli v5988 c256_i32_4614
  v5989
def k1_mult358 : BitVec 32 :=
  let c0_i32_42 : BitVec 32 := 0#32
  let c65_i32_4628 : BitVec 32 := 65#32
  let v6007 : BitVec 32 := Scalar.muli c0_i32_42 c65_i32_4628
  let c44_i32_4629 : BitVec 32 := 44#32
  let v6008 : BitVec 32 := Scalar.addi v6007 c44_i32_4629
  let c256_i32_4630 : BitVec 32 := 256#32
  let v6009 : BitVec 32 := Scalar.muli v6008 c256_i32_4630
  v6009
def k1_mult359 : BitVec 32 :=
  let c0_i32_42 : BitVec 32 := 0#32
  let c65_i32_4638 : BitVec 32 := 65#32
  let v6020 : BitVec 32 := Scalar.muli c0_i32_42 c65_i32_4638
  let c45_i32 : BitVec 32 := 45#32
  let v6021 : BitVec 32 := Scalar.addi v6020 c45_i32
  let c256_i32_4639 : BitVec 32 := 256#32
  let v6022 : BitVec 32 := Scalar.muli v6021 c256_i32_4639
  v6022
def k1_mult360 : BitVec 32 :=
  let c0_i32_42 : BitVec 32 := 0#32
  let c65_i32_4653 : BitVec 32 := 65#32
  let v6040 : BitVec 32 := Scalar.muli c0_i32_42 c65_i32_4653
  let c44_i32_4654 : BitVec 32 := 44#32
  let v6041 : BitVec 32 := Scalar.addi v6040 c44_i32_4654
  let c256_i32_4655 : BitVec 32 := 256#32
  let v6042 : BitVec 32 := Scalar.muli v6041 c256_i32_4655
  v6042
def k1_mult361 : BitVec 32 :=
  let c0_i32_42 : BitVec 32 := 0#32
  let c65_i32_4663 : BitVec 32 := 65#32
  let v6053 : BitVec 32 := Scalar.muli c0_i32_42 c65_i32_4663
  let c45_i32_4664 : BitVec 32 := 45#32
  let v6054 : BitVec 32 := Scalar.addi v6053 c45_i32_4664
  let c256_i32_4665 : BitVec 32 := 256#32
  let v6055 : BitVec 32 := Scalar.muli v6054 c256_i32_4665
  v6055
def k1_mult362 : BitVec 32 :=
  let c0_i32_42 : BitVec 32 := 0#32
  let c65_i32_4679 : BitVec 32 := 65#32
  let v6073 : BitVec 32 := Scalar.muli c0_i32_42 c65_i32_4679
  let c44_i32_4680 : BitVec 32 := 44#32
  let v6074 : BitVec 32 := Scalar.addi v6073 c44_i32_4680
  let c256_i32_4681 : BitVec 32 := 256#32
  let v6075 : BitVec 32 := Scalar.muli v6074 c256_i32_4681
  v6075
def k1_mult363 : BitVec 32 :=
  let c0_i32_42 : BitVec 32 := 0#32
  let c65_i32_4689 : BitVec 32 := 65#32
  let v6086 : BitVec 32 := Scalar.muli c0_i32_42 c65_i32_4689
  let c45_i32_4690 : BitVec 32 := 45#32
  let v6087 : BitVec 32 := Scalar.addi v6086 c45_i32_4690
  let c256_i32_4691 : BitVec 32 := 256#32
  let v6088 : BitVec 32 := Scalar.muli v6087 c256_i32_4691
  v6088
def k1_mult364 : BitVec 32 :=
  let c0_i32_42 : BitVec 32 := 0#32
  let c65_i32_4705 : BitVec 32 := 65#32
  let v6106 : BitVec 32 := Scalar.muli c0_i32_42 c65_i32_4705
  let c45_i32_4706 : BitVec 32 := 45#32
  let v6107 : BitVec 32 := Scalar.addi v6106 c45_i32_4706
  let c256_i32_4707 : BitVec 32 := 256#32
  let v6108 : BitVec 32 := Scalar.muli v6107 c256_i32_4707
  v6108
def k1_mult365 : BitVec 32 :=
  let c0_i32_42 : BitVec 32 := 0#32
  let c65_i32_4715 : BitVec 32 := 65#32
  let v6119 : BitVec 32 := Scalar.muli c0_i32_42 c65_i32_4715
  let c45_i32_4716 : BitVec 32 := 45#32
  let v6120 : BitVec 32 := Scalar.addi v6119 c45_i32_4716
  let c256_i32_4717 : BitVec 32 := 256#32
  let v6121 : BitVec 32 := Scalar.muli v6120 c256_i32_4717
  v6121
def k1_mult366 : BitVec 32 :=
  let c0_i32_42 : BitVec 32 := 0#32
  let c65_i32_4731 : BitVec 32 := 65#32
  let v6139 : BitVec 32 := Scalar.muli c0_i32_42 c65_i32_4731
  let c45_i32_4732 : BitVec 32 := 45#32
  let v6140 : BitVec 32 := Scalar.addi v6139 c45_i32_4732
  let c256_i32_4733 : BitVec 32 := 256#32
  let v6141 : BitVec 32 := Scalar.muli v6140 c256_i32_4733
  v6141
def k1_mult367 : BitVec 32 :=
  let c0_i32_42 : BitVec 32 := 0#32
  let c65_i32_4741 : BitVec 32 := 65#32
  let v6152 : BitVec 32 := Scalar.muli c0_i32_42 c65_i32_4741
  let c46_i32 : BitVec 32 := 46#32
  let v6153 : BitVec 32 := Scalar.addi v6152 c46_i32
  let c256_i32_4742 : BitVec 32 := 256#32
  let v6154 : BitVec 32 := Scalar.muli v6153 c256_i32_4742
  v6154
def k1_mult368 : BitVec 32 :=
  let c0_i32_42 : BitVec 32 := 0#32
  let c65_i32_4756 : BitVec 32 := 65#32
  let v6172 : BitVec 32 := Scalar.muli c0_i32_42 c65_i32_4756
  let c45_i32_4757 : BitVec 32 := 45#32
  let v6173 : BitVec 32 := Scalar.addi v6172 c45_i32_4757
  let c256_i32_4758 : BitVec 32 := 256#32
  let v6174 : BitVec 32 := Scalar.muli v6173 c256_i32_4758
  v6174
def k1_mult369 : BitVec 32 :=
  let c0_i32_42 : BitVec 32 := 0#32
  let c65_i32_4766 : BitVec 32 := 65#32
  let v6185 : BitVec 32 := Scalar.muli c0_i32_42 c65_i32_4766
  let c46_i32_4767 : BitVec 32 := 46#32
  let v6186 : BitVec 32 := Scalar.addi v6185 c46_i32_4767
  let c256_i32_4768 : BitVec 32 := 256#32
  let v6187 : BitVec 32 := Scalar.muli v6186 c256_i32_4768
  v6187
def k1_mult370 : BitVec 32 :=
  let c0_i32_42 : BitVec 32 := 0#32
  let c65_i32_4782 : BitVec 32 := 65#32
  let v6205 : BitVec 32 := Scalar.muli c0_i32_42 c65_i32_4782
  let c45_i32_4783 : BitVec 32 := 45#32
  let v6206 : BitVec 32 := Scalar.addi v6205 c45_i32_4783
  let c256_i32_4784 : BitVec 32 := 256#32
  let v6207 : BitVec 32 := Scalar.muli v6206 c256_i32_4784
  v6207
def k1_mult371 : BitVec 32 :=
  let c0_i32_42 : BitVec 32 := 0#32
  let c65_i32_4792 : BitVec 32 := 65#32
  let v6218 : BitVec 32 := Scalar.muli c0_i32_42 c65_i32_4792
  let c46_i32_4793 : BitVec 32 := 46#32
  let v6219 : BitVec 32 := Scalar.addi v6218 c46_i32_4793
  let c256_i32_4794 : BitVec 32 := 256#32
  let v6220 : BitVec 32 := Scalar.muli v6219 c256_i32_4794
  v6220
def k1_mult372 : BitVec 32 :=
  let c0_i32_42 : BitVec 32 := 0#32
  let c65_i32_4808 : BitVec 32 := 65#32
  let v6238 : BitVec 32 := Scalar.muli c0_i32_42 c65_i32_4808
  let c46_i32_4809 : BitVec 32 := 46#32
  let v6239 : BitVec 32 := Scalar.addi v6238 c46_i32_4809
  let c256_i32_4810 : BitVec 32 := 256#32
  let v6240 : BitVec 32 := Scalar.muli v6239 c256_i32_4810
  v6240
def k1_mult373 : BitVec 32 :=
  let c0_i32_42 : BitVec 32 := 0#32
  let c65_i32_4818 : BitVec 32 := 65#32
  let v6251 : BitVec 32 := Scalar.muli c0_i32_42 c65_i32_4818
  let c46_i32_4819 : BitVec 32 := 46#32
  let v6252 : BitVec 32 := Scalar.addi v6251 c46_i32_4819
  let c256_i32_4820 : BitVec 32 := 256#32
  let v6253 : BitVec 32 := Scalar.muli v6252 c256_i32_4820
  v6253
def k1_mult374 : BitVec 32 :=
  let c0_i32_42 : BitVec 32 := 0#32
  let c65_i32_4834 : BitVec 32 := 65#32
  let v6271 : BitVec 32 := Scalar.muli c0_i32_42 c65_i32_4834
  let c46_i32_4835 : BitVec 32 := 46#32
  let v6272 : BitVec 32 := Scalar.addi v6271 c46_i32_4835
  let c256_i32_4836 : BitVec 32 := 256#32
  let v6273 : BitVec 32 := Scalar.muli v6272 c256_i32_4836
  v6273
def k1_mult375 : BitVec 32 :=
  let c0_i32_42 : BitVec 32 := 0#32
  let c65_i32_4844 : BitVec 32 := 65#32
  let v6284 : BitVec 32 := Scalar.muli c0_i32_42 c65_i32_4844
  let c47_i32 : BitVec 32 := 47#32
  let v6285 : BitVec 32 := Scalar.addi v6284 c47_i32
  let c256_i32_4845 : BitVec 32 := 256#32
  let v6286 : BitVec 32 := Scalar.muli v6285 c256_i32_4845
  v6286
def k1_mult376 : BitVec 32 :=
  let c0_i32_42 : BitVec 32 := 0#32
  let c65_i32_4859 : BitVec 32 := 65#32
  let v6304 : BitVec 32 := Scalar.muli c0_i32_42 c65_i32_4859
  let c46_i32_4860 : BitVec 32 := 46#32
  let v6305 : BitVec 32 := Scalar.addi v6304 c46_i32_4860
  let c256_i32_4861 : BitVec 32 := 256#32
  let v6306 : BitVec 32 := Scalar.muli v6305 c256_i32_4861
  v6306
def k1_mult377 : BitVec 32 :=
  let c0_i32_42 : BitVec 32 := 0#32
  let c65_i32_4869 : BitVec 32 := 65#32
  let v6317 : BitVec 32 := Scalar.muli c0_i32_42 c65_i32_4869
  let c47_i32_4870 : BitVec 32 := 47#32
  let v6318 : BitVec 32 := Scalar.addi v6317 c47_i32_4870
  let c256_i32_4871 : BitVec 32 := 256#32
  let v6319 : BitVec 32 := Scalar.muli v6318 c256_i32_4871
  v6319
def k1_mult378 : BitVec 32 :=
  let c0_i32_42 : BitVec 32 := 0#32
  let c65_i32_4885 : BitVec 32 := 65#32
  let v6337 : BitVec 32 := Scalar.muli c0_i32_42 c65_i32_4885
  let c46_i32_4886 : BitVec 32 := 46#32
  let v6338 : BitVec 32 := Scalar.addi v6337 c46_i32_4886
  let c256_i32_4887 : BitVec 32 := 256#32
  let v6339 : BitVec 32 := Scalar.muli v6338 c256_i32_4887
  v6339
def k1_mult379 : BitVec 32 :=
  let c0_i32_42 : BitVec 32 := 0#32
  let c65_i32_4895 : BitVec 32 := 65#32
  let v6350 : BitVec 32 := Scalar.muli c0_i32_42 c65_i32_4895
  let c47_i32_4896 : BitVec 32 := 47#32
  let v6351 : BitVec 32 := Scalar.addi v6350 c47_i32_4896
  let c256_i32_4897 : BitVec 32 := 256#32
  let v6352 : BitVec 32 := Scalar.muli v6351 c256_i32_4897
  v6352
def k1_mult380 : BitVec 32 :=
  let c0_i32_42 : BitVec 32 := 0#32
  let c65_i32_4911 : BitVec 32 := 65#32
  let v6370 : BitVec 32 := Scalar.muli c0_i32_42 c65_i32_4911
  let c47_i32_4912 : BitVec 32 := 47#32
  let v6371 : BitVec 32 := Scalar.addi v6370 c47_i32_4912
  let c256_i32_4913 : BitVec 32 := 256#32
  let v6372 : BitVec 32 := Scalar.muli v6371 c256_i32_4913
  v6372
def k1_mult381 : BitVec 32 :=
  let c0_i32_42 : BitVec 32 := 0#32
  let c65_i32_4921 : BitVec 32 := 65#32
  let v6383 : BitVec 32 := Scalar.muli c0_i32_42 c65_i32_4921
  let c47_i32_4922 : BitVec 32 := 47#32
  let v6384 : BitVec 32 := Scalar.addi v6383 c47_i32_4922
  let c256_i32_4923 : BitVec 32 := 256#32
  let v6385 : BitVec 32 := Scalar.muli v6384 c256_i32_4923
  v6385
def k1_mult382 : BitVec 32 :=
  let c0_i32_42 : BitVec 32 := 0#32
  let c65_i32_4937 : BitVec 32 := 65#32
  let v6403 : BitVec 32 := Scalar.muli c0_i32_42 c65_i32_4937
  let c47_i32_4938 : BitVec 32 := 47#32
  let v6404 : BitVec 32 := Scalar.addi v6403 c47_i32_4938
  let c256_i32_4939 : BitVec 32 := 256#32
  let v6405 : BitVec 32 := Scalar.muli v6404 c256_i32_4939
  v6405
def k1_mult383 : BitVec 32 :=
  let c0_i32_42 : BitVec 32 := 0#32
  let c65_i32_4947 : BitVec 32 := 65#32
  let v6416 : BitVec 32 := Scalar.muli c0_i32_42 c65_i32_4947
  let c48_i32 : BitVec 32 := 48#32
  let v6417 : BitVec 32 := Scalar.addi v6416 c48_i32
  let c256_i32_4948 : BitVec 32 := 256#32
  let v6418 : BitVec 32 := Scalar.muli v6417 c256_i32_4948
  v6418
def k1_mult384 : BitVec 32 :=
  let c0_i32_42 : BitVec 32 := 0#32
  let c65_i32_4962 : BitVec 32 := 65#32
  let v6436 : BitVec 32 := Scalar.muli c0_i32_42 c65_i32_4962
  let c47_i32_4963 : BitVec 32 := 47#32
  let v6437 : BitVec 32 := Scalar.addi v6436 c47_i32_4963
  let c256_i32_4964 : BitVec 32 := 256#32
  let v6438 : BitVec 32 := Scalar.muli v6437 c256_i32_4964
  v6438
def k1_mult385 : BitVec 32 :=
  let c0_i32_42 : BitVec 32 := 0#32
  let c65_i32_4972 : BitVec 32 := 65#32
  let v6449 : BitVec 32 := Scalar.muli c0_i32_42 c65_i32_4972
  let c48_i32_4973 : BitVec 32 := 48#32
  let v6450 : BitVec 32 := Scalar.addi v6449 c48_i32_4973
  let c256_i32_4974 : BitVec 32 := 256#32
  let v6451 : BitVec 32 := Scalar.muli v6450 c256_i32_4974
  v6451
def k1_mult386 : BitVec 32 :=
  let c0_i32_42 : BitVec 32 := 0#32
  let c65_i32_4988 : BitVec 32 := 65#32
  let v6469 : BitVec 32 := Scalar.muli c0_i32_42 c65_i32_4988
  let c47_i32_4989 : BitVec 32 := 47#32
  let v6470 : BitVec 32 := Scalar.addi v6469 c47_i32_4989
  let c256_i32_4990 : BitVec 32 := 256#32
  let v6471 : BitVec 32 := Scalar.muli v6470 c256_i32_4990
  v6471
def k1_mult387 : BitVec 32 :=
  let c0_i32_42 : BitVec 32 := 0#32
  let c65_i32_4998 : BitVec 32 := 65#32
  let v6482 : BitVec 32 := Scalar.muli c0_i32_42 c65_i32_4998
  let c48_i32_4999 : BitVec 32 := 48#32
  let v6483 : BitVec 32 := Scalar.addi v6482 c48_i32_4999
  let c256_i32_5000 : BitVec 32 := 256#32
  let v6484 : BitVec 32 := Scalar.muli v6483 c256_i32_5000
  v6484
def k1_mult388 : BitVec 32 :=
  let c0_i32_42 : BitVec 32 := 0#32
  let c65_i32_5014 : BitVec 32 := 65#32
  let v6502 : BitVec 32 := Scalar.muli c0_i32_42 c65_i32_5014
  let c48_i32_5015 : BitVec 32 := 48#32
  let v6503 : BitVec 32 := Scalar.addi v6502 c48_i32_5015
  let c256_i32_5016 : BitVec 32 := 256#32
  let v6504 : BitVec 32 := Scalar.muli v6503 c256_i32_5016
  v6504
def k1_mult389 : BitVec 32 :=
  let c0_i32_42 : BitVec 32 := 0#32
  let c65_i32_5024 : BitVec 32 := 65#32
  let v6515 : BitVec 32 := Scalar.muli c0_i32_42 c65_i32_5024
  let c48_i32_5025 : BitVec 32 := 48#32
  let v6516 : BitVec 32 := Scalar.addi v6515 c48_i32_5025
  let c256_i32_5026 : BitVec 32 := 256#32
  let v6517 : BitVec 32 := Scalar.muli v6516 c256_i32_5026
  v6517
def k1_mult390 : BitVec 32 :=
  let c0_i32_42 : BitVec 32 := 0#32
  let c65_i32_5040 : BitVec 32 := 65#32
  let v6535 : BitVec 32 := Scalar.muli c0_i32_42 c65_i32_5040
  let c48_i32_5041 : BitVec 32 := 48#32
  let v6536 : BitVec 32 := Scalar.addi v6535 c48_i32_5041
  let c256_i32_5042 : BitVec 32 := 256#32
  let v6537 : BitVec 32 := Scalar.muli v6536 c256_i32_5042
  v6537
def k1_mult391 : BitVec 32 :=
  let c0_i32_42 : BitVec 32 := 0#32
  let c65_i32_5050 : BitVec 32 := 65#32
  let v6548 : BitVec 32 := Scalar.muli c0_i32_42 c65_i32_5050
  let c49_i32 : BitVec 32 := 49#32
  let v6549 : BitVec 32 := Scalar.addi v6548 c49_i32
  let c256_i32_5051 : BitVec 32 := 256#32
  let v6550 : BitVec 32 := Scalar.muli v6549 c256_i32_5051
  v6550
def k1_mult392 : BitVec 32 :=
  let c0_i32_42 : BitVec 32 := 0#32
  let c65_i32_5065 : BitVec 32 := 65#32
  let v6568 : BitVec 32 := Scalar.muli c0_i32_42 c65_i32_5065
  let c48_i32_5066 : BitVec 32 := 48#32
  let v6569 : BitVec 32 := Scalar.addi v6568 c48_i32_5066
  let c256_i32_5067 : BitVec 32 := 256#32
  let v6570 : BitVec 32 := Scalar.muli v6569 c256_i32_5067
  v6570
def k1_mult393 : BitVec 32 :=
  let c0_i32_42 : BitVec 32 := 0#32
  let c65_i32_5075 : BitVec 32 := 65#32
  let v6581 : BitVec 32 := Scalar.muli c0_i32_42 c65_i32_5075
  let c49_i32_5076 : BitVec 32 := 49#32
  let v6582 : BitVec 32 := Scalar.addi v6581 c49_i32_5076
  let c256_i32_5077 : BitVec 32 := 256#32
  let v6583 : BitVec 32 := Scalar.muli v6582 c256_i32_5077
  v6583
def k1_mult394 : BitVec 32 :=
  let c0_i32_42 : BitVec 32 := 0#32
  let c65_i32_5091 : BitVec 32 := 65#32
  let v6601 : BitVec 32 := Scalar.muli c0_i32_42 c65_i32_5091
  let c48_i32_5092 : BitVec 32 := 48#32
  let v6602 : BitVec 32 := Scalar.addi v6601 c48_i32_5092
  let c256_i32_5093 : BitVec 32 := 256#32
  let v6603 : BitVec 32 := Scalar.muli v6602 c256_i32_5093
  v6603
def k1_mult395 : BitVec 32 :=
  let c0_i32_42 : BitVec 32 := 0#32
  let c65_i32_5101 : BitVec 32 := 65#32
  let v6614 : BitVec 32 := Scalar.muli c0_i32_42 c65_i32_5101
  let c49_i32_5102 : BitVec 32 := 49#32
  let v6615 : BitVec 32 := Scalar.addi v6614 c49_i32_5102
  let c256_i32_5103 : BitVec 32 := 256#32
  let v6616 : BitVec 32 := Scalar.muli v6615 c256_i32_5103
  v6616
def k1_mult396 : BitVec 32 :=
  let c0_i32_42 : BitVec 32 := 0#32
  let c65_i32_5117 : BitVec 32 := 65#32
  let v6634 : BitVec 32 := Scalar.muli c0_i32_42 c65_i32_5117
  let c49_i32_5118 : BitVec 32 := 49#32
  let v6635 : BitVec 32 := Scalar.addi v6634 c49_i32_5118
  let c256_i32_5119 : BitVec 32 := 256#32
  let v6636 : BitVec 32 := Scalar.muli v6635 c256_i32_5119
  v6636
def k1_mult397 : BitVec 32 :=
  let c0_i32_42 : BitVec 32 := 0#32
  let c65_i32_5127 : BitVec 32 := 65#32
  let v6647 : BitVec 32 := Scalar.muli c0_i32_42 c65_i32_5127
  let c49_i32_5128 : BitVec 32 := 49#32
  let v6648 : BitVec 32 := Scalar.addi v6647 c49_i32_5128
  let c256_i32_5129 : BitVec 32 := 256#32
  let v6649 : BitVec 32 := Scalar.muli v6648 c256_i32_5129
  v6649
def k1_mult398 : BitVec 32 :=
  let c0_i32_42 : BitVec 32 := 0#32
  let c65_i32_5143 : BitVec 32 := 65#32
  let v6667 : BitVec 32 := Scalar.muli c0_i32_42 c65_i32_5143
  let c49_i32_5144 : BitVec 32 := 49#32
  let v6668 : BitVec 32 := Scalar.addi v6667 c49_i32_5144
  let c256_i32_5145 : BitVec 32 := 256#32
  let v6669 : BitVec 32 := Scalar.muli v6668 c256_i32_5145
  v6669
def k1_mult399 : BitVec 32 :=
  let c0_i32_42 : BitVec 32 := 0#32
  let c65_i32_5153 : BitVec 32 := 65#32
  let v6680 : BitVec 32 := Scalar.muli c0_i32_42 c65_i32_5153
  let c50_i32 : BitVec 32 := 50#32
  let v6681 : BitVec 32 := Scalar.addi v6680 c50_i32
  let c256_i32_5154 : BitVec 32 := 256#32
  let v6682 : BitVec 32 := Scalar.muli v6681 c256_i32_5154
  v6682
def k1_mult400 : BitVec 32 :=
  let c0_i32_42 : BitVec 32 := 0#32
  let c65_i32_5168 : BitVec 32 := 65#32
  let v6700 : BitVec 32 := Scalar.muli c0_i32_42 c65_i32_5168
  let c49_i32_5169 : BitVec 32 := 49#32
  let v6701 : BitVec 32 := Scalar.addi v6700 c49_i32_5169
  let c256_i32_5170 : BitVec 32 := 256#32
  let v6702 : BitVec 32 := Scalar.muli v6701 c256_i32_5170
  v6702
def k1_mult401 : BitVec 32 :=
  let c0_i32_42 : BitVec 32 := 0#32
  let c65_i32_5178 : BitVec 32 := 65#32
  let v6713 : BitVec 32 := Scalar.muli c0_i32_42 c65_i32_5178
  let c50_i32_5179 : BitVec 32 := 50#32
  let v6714 : BitVec 32 := Scalar.addi v6713 c50_i32_5179
  let c256_i32_5180 : BitVec 32 := 256#32
  let v6715 : BitVec 32 := Scalar.muli v6714 c256_i32_5180
  v6715
def k1_mult402 : BitVec 32 :=
  let c0_i32_42 : BitVec 32 := 0#32
  let c65_i32_5194 : BitVec 32 := 65#32
  let v6733 : BitVec 32 := Scalar.muli c0_i32_42 c65_i32_5194
  let c49_i32_5195 : BitVec 32 := 49#32
  let v6734 : BitVec 32 := Scalar.addi v6733 c49_i32_5195
  let c256_i32_5196 : BitVec 32 := 256#32
  let v6735 : BitVec 32 := Scalar.muli v6734 c256_i32_5196
  v6735
def k1_mult403 : BitVec 32 :=
  let c0_i32_42 : BitVec 32 := 0#32
  let c65_i32_5204 : BitVec 32 := 65#32
  let v6746 : BitVec 32 := Scalar.muli c0_i32_42 c65_i32_5204
  let c50_i32_5205 : BitVec 32 := 50#32
  let v6747 : BitVec 32 := Scalar.addi v6746 c50_i32_5205
  let c256_i32_5206 : BitVec 32 := 256#32
  let v6748 : BitVec 32 := Scalar.muli v6747 c256_i32_5206
  v6748
def k1_mult404 : BitVec 32 :=
  let c0_i32_42 : BitVec 32 := 0#32
  let c65_i32_5220 : BitVec 32 := 65#32
  let v6766 : BitVec 32 := Scalar.muli c0_i32_42 c65_i32_5220
  let c50_i32_5221 : BitVec 32 := 50#32
  let v6767 : BitVec 32 := Scalar.addi v6766 c50_i32_5221
  let c256_i32_5222 : BitVec 32 := 256#32
  let v6768 : BitVec 32 := Scalar.muli v6767 c256_i32_5222
  v6768
def k1_mult405 : BitVec 32 :=
  let c0_i32_42 : BitVec 32 := 0#32
  let c65_i32_5230 : BitVec 32 := 65#32
  let v6779 : BitVec 32 := Scalar.muli c0_i32_42 c65_i32_5230
  let c50_i32_5231 : BitVec 32 := 50#32
  let v6780 : BitVec 32 := Scalar.addi v6779 c50_i32_5231
  let c256_i32_5232 : BitVec 32 := 256#32
  let v6781 : BitVec 32 := Scalar.muli v6780 c256_i32_5232
  v6781
def k1_mult406 : BitVec 32 :=
  let c0_i32_42 : BitVec 32 := 0#32
  let c65_i32_5246 : BitVec 32 := 65#32
  let v6799 : BitVec 32 := Scalar.muli c0_i32_42 c65_i32_5246
  let c50_i32_5247 : BitVec 32 := 50#32
  let v6800 : BitVec 32 := Scalar.addi v6799 c50_i32_5247
  let c256_i32_5248 : BitVec 32 := 256#32
  let v6801 : BitVec 32 := Scalar.muli v6800 c256_i32_5248
  v6801
def k1_mult407 : BitVec 32 :=
  let c0_i32_42 : BitVec 32 := 0#32
  let c65_i32_5256 : BitVec 32 := 65#32
  let v6812 : BitVec 32 := Scalar.muli c0_i32_42 c65_i32_5256
  let c51_i32 : BitVec 32 := 51#32
  let v6813 : BitVec 32 := Scalar.addi v6812 c51_i32
  let c256_i32_5257 : BitVec 32 := 256#32
  let v6814 : BitVec 32 := Scalar.muli v6813 c256_i32_5257
  v6814
def k1_mult408 : BitVec 32 :=
  let c0_i32_42 : BitVec 32 := 0#32
  let c65_i32_5271 : BitVec 32 := 65#32
  let v6832 : BitVec 32 := Scalar.muli c0_i32_42 c65_i32_5271
  let c50_i32_5272 : BitVec 32 := 50#32
  let v6833 : BitVec 32 := Scalar.addi v6832 c50_i32_5272
  let c256_i32_5273 : BitVec 32 := 256#32
  let v6834 : BitVec 32 := Scalar.muli v6833 c256_i32_5273
  v6834
def k1_mult409 : BitVec 32 :=
  let c0_i32_42 : BitVec 32 := 0#32
  let c65_i32_5281 : BitVec 32 := 65#32
  let v6845 : BitVec 32 := Scalar.muli c0_i32_42 c65_i32_5281
  let c51_i32_5282 : BitVec 32 := 51#32
  let v6846 : BitVec 32 := Scalar.addi v6845 c51_i32_5282
  let c256_i32_5283 : BitVec 32 := 256#32
  let v6847 : BitVec 32 := Scalar.muli v6846 c256_i32_5283
  v6847
def k1_mult410 : BitVec 32 :=
  let c0_i32_42 : BitVec 32 := 0#32
  let c65_i32_5297 : BitVec 32 := 65#32
  let v6865 : BitVec 32 := Scalar.muli c0_i32_42 c65_i32_5297
  let c50_i32_5298 : BitVec 32 := 50#32
  let v6866 : BitVec 32 := Scalar.addi v6865 c50_i32_5298
  let c256_i32_5299 : BitVec 32 := 256#32
  let v6867 : BitVec 32 := Scalar.muli v6866 c256_i32_5299
  v6867
def k1_mult411 : BitVec 32 :=
  let c0_i32_42 : BitVec 32 := 0#32
  let c65_i32_5307 : BitVec 32 := 65#32
  let v6878 : BitVec 32 := Scalar.muli c0_i32_42 c65_i32_5307
  let c51_i32_5308 : BitVec 32 := 51#32
  let v6879 : BitVec 32 := Scalar.addi v6878 c51_i32_5308
  let c256_i32_5309 : BitVec 32 := 256#32
  let v6880 : BitVec 32 := Scalar.muli v6879 c256_i32_5309
  v6880
def k1_mult412 : BitVec 32 :=
  let c0_i32_42 : BitVec 32 := 0#32
  let c65_i32_5323 : BitVec 32 := 65#32
  let v6898 : BitVec 32 := Scalar.muli c0_i32_42 c65_i32_5323
  let c51_i32_5324 : BitVec 32 := 51#32
  let v6899 : BitVec 32 := Scalar.addi v6898 c51_i32_5324
  let c256_i32_5325 : BitVec 32 := 256#32
  let v6900 : BitVec 32 := Scalar.muli v6899 c256_i32_5325
  v6900
def k1_mult413 : BitVec 32 :=
  let c0_i32_42 : BitVec 32 := 0#32
  let c65_i32_5333 : BitVec 32 := 65#32
  let v6911 : BitVec 32 := Scalar.muli c0_i32_42 c65_i32_5333
  let c51_i32_5334 : BitVec 32 := 51#32
  let v6912 : BitVec 32 := Scalar.addi v6911 c51_i32_5334
  let c256_i32_5335 : BitVec 32 := 256#32
  let v6913 : BitVec 32 := Scalar.muli v6912 c256_i32_5335
  v6913
def k1_mult414 : BitVec 32 :=
  let c0_i32_42 : BitVec 32 := 0#32
  let c65_i32_5349 : BitVec 32 := 65#32
  let v6931 : BitVec 32 := Scalar.muli c0_i32_42 c65_i32_5349
  let c51_i32_5350 : BitVec 32 := 51#32
  let v6932 : BitVec 32 := Scalar.addi v6931 c51_i32_5350
  let c256_i32_5351 : BitVec 32 := 256#32
  let v6933 : BitVec 32 := Scalar.muli v6932 c256_i32_5351
  v6933
def k1_mult415 : BitVec 32 :=
  let c0_i32_42 : BitVec 32 := 0#32
  let c65_i32_5359 : BitVec 32 := 65#32
  let v6944 : BitVec 32 := Scalar.muli c0_i32_42 c65_i32_5359
  let c52_i32 : BitVec 32 := 52#32
  let v6945 : BitVec 32 := Scalar.addi v6944 c52_i32
  let c256_i32_5360 : BitVec 32 := 256#32
  let v6946 : BitVec 32 := Scalar.muli v6945 c256_i32_5360
  v6946
def k1_mult416 : BitVec 32 :=
  let c0_i32_42 : BitVec 32 := 0#32
  let c65_i32_5374 : BitVec 32 := 65#32
  let v6964 : BitVec 32 := Scalar.muli c0_i32_42 c65_i32_5374
  let c51_i32_5375 : BitVec 32 := 51#32
  let v6965 : BitVec 32 := Scalar.addi v6964 c51_i32_5375
  let c256_i32_5376 : BitVec 32 := 256#32
  let v6966 : BitVec 32 := Scalar.muli v6965 c256_i32_5376
  v6966
def k1_mult417 : BitVec 32 :=
  let c0_i32_42 : BitVec 32 := 0#32
  let c65_i32_5384 : BitVec 32 := 65#32
  let v6977 : BitVec 32 := Scalar.muli c0_i32_42 c65_i32_5384
  let c52_i32_5385 : BitVec 32 := 52#32
  let v6978 : BitVec 32 := Scalar.addi v6977 c52_i32_5385
  let c256_i32_5386 : BitVec 32 := 256#32
  let v6979 : BitVec 32 := Scalar.muli v6978 c256_i32_5386
  v6979
def k1_mult418 : BitVec 32 :=
  let c0_i32_42 : BitVec 32 := 0#32
  let c65_i32_5400 : BitVec 32 := 65#32
  let v6997 : BitVec 32 := Scalar.muli c0_i32_42 c65_i32_5400
  let c51_i32_5401 : BitVec 32 := 51#32
  let v6998 : BitVec 32 := Scalar.addi v6997 c51_i32_5401
  let c256_i32_5402 : BitVec 32 := 256#32
  let v6999 : BitVec 32 := Scalar.muli v6998 c256_i32_5402
  v6999
def k1_mult419 : BitVec 32 :=
  let c0_i32_42 : BitVec 32 := 0#32
  let c65_i32_5410 : BitVec 32 := 65#32
  let v7010 : BitVec 32 := Scalar.muli c0_i32_42 c65_i32_5410
  let c52_i32_5411 : BitVec 32 := 52#32
  let v7011 : BitVec 32 := Scalar.addi v7010 c52_i32_5411
  let c256_i32_5412 : BitVec 32 := 256#32
  let v7012 : BitVec 32 := Scalar.muli v7011 c256_i32_5412
  v7012
def k1_mult420 : BitVec 32 :=
  let c0_i32_42 : BitVec 32 := 0#32
  let c65_i32_5426 : BitVec 32 := 65#32
  let v7030 : BitVec 32 := Scalar.muli c0_i32_42 c65_i32_5426
  let c52_i32_5427 : BitVec 32 := 52#32
  let v7031 : BitVec 32 := Scalar.addi v7030 c52_i32_5427
  let c256_i32_5428 : BitVec 32 := 256#32
  let v7032 : BitVec 32 := Scalar.muli v7031 c256_i32_5428
  v7032
def k1_mult421 : BitVec 32 :=
  let c0_i32_42 : BitVec 32 := 0#32
  let c65_i32_5436 : BitVec 32 := 65#32
  let v7043 : BitVec 32 := Scalar.muli c0_i32_42 c65_i32_5436
  let c52_i32_5437 : BitVec 32 := 52#32
  let v7044 : BitVec 32 := Scalar.addi v7043 c52_i32_5437
  let c256_i32_5438 : BitVec 32 := 256#32
  let v7045 : BitVec 32 := Scalar.muli v7044 c256_i32_5438
  v7045
def k1_mult422 : BitVec 32 :=
  let c0_i32_42 : BitVec 32 := 0#32
  let c65_i32_5452 : BitVec 32 := 65#32
  let v7063 : BitVec 32 := Scalar.muli c0_i32_42 c65_i32_5452
  let c52_i32_5453 : BitVec 32 := 52#32
  let v7064 : BitVec 32 := Scalar.addi v7063 c52_i32_5453
  let c256_i32_5454 : BitVec 32 := 256#32
  let v7065 : BitVec 32 := Scalar.muli v7064 c256_i32_5454
  v7065
def k1_mult423 : BitVec 32 :=
  let c0_i32_42 : BitVec 32 := 0#32
  let c65_i32_5462 : BitVec 32 := 65#32
  let v7076 : BitVec 32 := Scalar.muli c0_i32_42 c65_i32_5462
  let c53_i32 : BitVec 32 := 53#32
  let v7077 : BitVec 32 := Scalar.addi v7076 c53_i32
  let c256_i32_5463 : BitVec 32 := 256#32
  let v7078 : BitVec 32 := Scalar.muli v7077 c256_i32_5463
  v7078
def k1_mult424 : BitVec 32 :=
  let c0_i32_42 : BitVec 32 := 0#32
  let c65_i32_5477 : BitVec 32 := 65#32
  let v7096 : BitVec 32 := Scalar.muli c0_i32_42 c65_i32_5477
  let c52_i32_5478 : BitVec 32 := 52#32
  let v7097 : BitVec 32 := Scalar.addi v7096 c52_i32_5478
  let c256_i32_5479 : BitVec 32 := 256#32
  let v7098 : BitVec 32 := Scalar.muli v7097 c256_i32_5479
  v7098
def k1_mult425 : BitVec 32 :=
  let c0_i32_42 : BitVec 32 := 0#32
  let c65_i32_5487 : BitVec 32 := 65#32
  let v7109 : BitVec 32 := Scalar.muli c0_i32_42 c65_i32_5487
  let c53_i32_5488 : BitVec 32 := 53#32
  let v7110 : BitVec 32 := Scalar.addi v7109 c53_i32_5488
  let c256_i32_5489 : BitVec 32 := 256#32
  let v7111 : BitVec 32 := Scalar.muli v7110 c256_i32_5489
  v7111
def k1_mult426 : BitVec 32 :=
  let c0_i32_42 : BitVec 32 := 0#32
  let c65_i32_5503 : BitVec 32 := 65#32
  let v7129 : BitVec 32 := Scalar.muli c0_i32_42 c65_i32_5503
  let c52_i32_5504 : BitVec 32 := 52#32
  let v7130 : BitVec 32 := Scalar.addi v7129 c52_i32_5504
  let c256_i32_5505 : BitVec 32 := 256#32
  let v7131 : BitVec 32 := Scalar.muli v7130 c256_i32_5505
  v7131
def k1_mult427 : BitVec 32 :=
  let c0_i32_42 : BitVec 32 := 0#32
  let c65_i32_5513 : BitVec 32 := 65#32
  let v7142 : BitVec 32 := Scalar.muli c0_i32_42 c65_i32_5513
  let c53_i32_5514 : BitVec 32 := 53#32
  let v7143 : BitVec 32 := Scalar.addi v7142 c53_i32_5514
  let c256_i32_5515 : BitVec 32 := 256#32
  let v7144 : BitVec 32 := Scalar.muli v7143 c256_i32_5515
  v7144
def k1_mult428 : BitVec 32 :=
  let c0_i32_42 : BitVec 32 := 0#32
  let c65_i32_5529 : BitVec 32 := 65#32
  let v7162 : BitVec 32 := Scalar.muli c0_i32_42 c65_i32_5529
  let c53_i32_5530 : BitVec 32 := 53#32
  let v7163 : BitVec 32 := Scalar.addi v7162 c53_i32_5530
  let c256_i32_5531 : BitVec 32 := 256#32
  let v7164 : BitVec 32 := Scalar.muli v7163 c256_i32_5531
  v7164
def k1_mult429 : BitVec 32 :=
  let c0_i32_42 : BitVec 32 := 0#32
  let c65_i32_5539 : BitVec 32 := 65#32
  let v7175 : BitVec 32 := Scalar.muli c0_i32_42 c65_i32_5539
  let c53_i32_5540 : BitVec 32 := 53#32
  let v7176 : BitVec 32 := Scalar.addi v7175 c53_i32_5540
  let c256_i32_5541 : BitVec 32 := 256#32
  let v7177 : BitVec 32 := Scalar.muli v7176 c256_i32_5541
  v7177
def k1_mult430 : BitVec 32 :=
  let c0_i32_42 : BitVec 32 := 0#32
  let c65_i32_5555 : BitVec 32 := 65#32
  let v7195 : BitVec 32 := Scalar.muli c0_i32_42 c65_i32_5555
  let c53_i32_5556 : BitVec 32 := 53#32
  let v7196 : BitVec 32 := Scalar.addi v7195 c53_i32_5556
  let c256_i32_5557 : BitVec 32 := 256#32
  let v7197 : BitVec 32 := Scalar.muli v7196 c256_i32_5557
  v7197
def k1_mult431 : BitVec 32 :=
  let c0_i32_42 : BitVec 32 := 0#32
  let c65_i32_5565 : BitVec 32 := 65#32
  let v7208 : BitVec 32 := Scalar.muli c0_i32_42 c65_i32_5565
  let c54_i32 : BitVec 32 := 54#32
  let v7209 : BitVec 32 := Scalar.addi v7208 c54_i32
  let c256_i32_5566 : BitVec 32 := 256#32
  let v7210 : BitVec 32 := Scalar.muli v7209 c256_i32_5566
  v7210
def k1_mult432 : BitVec 32 :=
  let c0_i32_42 : BitVec 32 := 0#32
  let c65_i32_5580 : BitVec 32 := 65#32
  let v7228 : BitVec 32 := Scalar.muli c0_i32_42 c65_i32_5580
  let c53_i32_5581 : BitVec 32 := 53#32
  let v7229 : BitVec 32 := Scalar.addi v7228 c53_i32_5581
  let c256_i32_5582 : BitVec 32 := 256#32
  let v7230 : BitVec 32 := Scalar.muli v7229 c256_i32_5582
  v7230
def k1_mult433 : BitVec 32 :=
  let c0_i32_42 : BitVec 32 := 0#32
  let c65_i32_5590 : BitVec 32 := 65#32
  let v7241 : BitVec 32 := Scalar.muli c0_i32_42 c65_i32_5590
  let c54_i32_5591 : BitVec 32 := 54#32
  let v7242 : BitVec 32 := Scalar.addi v7241 c54_i32_5591
  let c256_i32_5592 : BitVec 32 := 256#32
  let v7243 : BitVec 32 := Scalar.muli v7242 c256_i32_5592
  v7243
def k1_mult434 : BitVec 32 :=
  let c0_i32_42 : BitVec 32 := 0#32
  let c65_i32_5606 : BitVec 32 := 65#32
  let v7261 : BitVec 32 := Scalar.muli c0_i32_42 c65_i32_5606
  let c53_i32_5607 : BitVec 32 := 53#32
  let v7262 : BitVec 32 := Scalar.addi v7261 c53_i32_5607
  let c256_i32_5608 : BitVec 32 := 256#32
  let v7263 : BitVec 32 := Scalar.muli v7262 c256_i32_5608
  v7263
def k1_mult435 : BitVec 32 :=
  let c0_i32_42 : BitVec 32 := 0#32
  let c65_i32_5616 : BitVec 32 := 65#32
  let v7274 : BitVec 32 := Scalar.muli c0_i32_42 c65_i32_5616
  let c54_i32_5617 : BitVec 32 := 54#32
  let v7275 : BitVec 32 := Scalar.addi v7274 c54_i32_5617
  let c256_i32_5618 : BitVec 32 := 256#32
  let v7276 : BitVec 32 := Scalar.muli v7275 c256_i32_5618
  v7276
def k1_mult436 : BitVec 32 :=
  let c0_i32_42 : BitVec 32 := 0#32
  let c65_i32_5632 : BitVec 32 := 65#32
  let v7294 : BitVec 32 := Scalar.muli c0_i32_42 c65_i32_5632
  let c54_i32_5633 : BitVec 32 := 54#32
  let v7295 : BitVec 32 := Scalar.addi v7294 c54_i32_5633
  let c256_i32_5634 : BitVec 32 := 256#32
  let v7296 : BitVec 32 := Scalar.muli v7295 c256_i32_5634
  v7296
def k1_mult437 : BitVec 32 :=
  let c0_i32_42 : BitVec 32 := 0#32
  let c65_i32_5642 : BitVec 32 := 65#32
  let v7307 : BitVec 32 := Scalar.muli c0_i32_42 c65_i32_5642
  let c54_i32_5643 : BitVec 32 := 54#32
  let v7308 : BitVec 32 := Scalar.addi v7307 c54_i32_5643
  let c256_i32_5644 : BitVec 32 := 256#32
  let v7309 : BitVec 32 := Scalar.muli v7308 c256_i32_5644
  v7309
def k1_mult438 : BitVec 32 :=
  let c0_i32_42 : BitVec 32 := 0#32
  let c65_i32_5658 : BitVec 32 := 65#32
  let v7327 : BitVec 32 := Scalar.muli c0_i32_42 c65_i32_5658
  let c54_i32_5659 : BitVec 32 := 54#32
  let v7328 : BitVec 32 := Scalar.addi v7327 c54_i32_5659
  let c256_i32_5660 : BitVec 32 := 256#32
  let v7329 : BitVec 32 := Scalar.muli v7328 c256_i32_5660
  v7329
def k1_mult439 : BitVec 32 :=
  let c0_i32_42 : BitVec 32 := 0#32
  let c65_i32_5668 : BitVec 32 := 65#32
  let v7340 : BitVec 32 := Scalar.muli c0_i32_42 c65_i32_5668
  let c55_i32 : BitVec 32 := 55#32
  let v7341 : BitVec 32 := Scalar.addi v7340 c55_i32
  let c256_i32_5669 : BitVec 32 := 256#32
  let v7342 : BitVec 32 := Scalar.muli v7341 c256_i32_5669
  v7342
def k1_mult440 : BitVec 32 :=
  let c0_i32_42 : BitVec 32 := 0#32
  let c65_i32_5683 : BitVec 32 := 65#32
  let v7360 : BitVec 32 := Scalar.muli c0_i32_42 c65_i32_5683
  let c54_i32_5684 : BitVec 32 := 54#32
  let v7361 : BitVec 32 := Scalar.addi v7360 c54_i32_5684
  let c256_i32_5685 : BitVec 32 := 256#32
  let v7362 : BitVec 32 := Scalar.muli v7361 c256_i32_5685
  v7362
def k1_mult441 : BitVec 32 :=
  let c0_i32_42 : BitVec 32 := 0#32
  let c65_i32_5693 : BitVec 32 := 65#32
  let v7373 : BitVec 32 := Scalar.muli c0_i32_42 c65_i32_5693
  let c55_i32_5694 : BitVec 32 := 55#32
  let v7374 : BitVec 32 := Scalar.addi v7373 c55_i32_5694
  let c256_i32_5695 : BitVec 32 := 256#32
  let v7375 : BitVec 32 := Scalar.muli v7374 c256_i32_5695
  v7375
def k1_mult442 : BitVec 32 :=
  let c0_i32_42 : BitVec 32 := 0#32
  let c65_i32_5709 : BitVec 32 := 65#32
  let v7393 : BitVec 32 := Scalar.muli c0_i32_42 c65_i32_5709
  let c54_i32_5710 : BitVec 32 := 54#32
  let v7394 : BitVec 32 := Scalar.addi v7393 c54_i32_5710
  let c256_i32_5711 : BitVec 32 := 256#32
  let v7395 : BitVec 32 := Scalar.muli v7394 c256_i32_5711
  v7395
def k1_mult443 : BitVec 32 :=
  let c0_i32_42 : BitVec 32 := 0#32
  let c65_i32_5719 : BitVec 32 := 65#32
  let v7406 : BitVec 32 := Scalar.muli c0_i32_42 c65_i32_5719
  let c55_i32_5720 : BitVec 32 := 55#32
  let v7407 : BitVec 32 := Scalar.addi v7406 c55_i32_5720
  let c256_i32_5721 : BitVec 32 := 256#32
  let v7408 : BitVec 32 := Scalar.muli v7407 c256_i32_5721
  v7408
def k1_mult444 : BitVec 32 :=
  let c0_i32_42 : BitVec 32 := 0#32
  let c65_i32_5735 : BitVec 32 := 65#32
  let v7426 : BitVec 32 := Scalar.muli c0_i32_42 c65_i32_5735
  let c55_i32_5736 : BitVec 32 := 55#32
  let v7427 : BitVec 32 := Scalar.addi v7426 c55_i32_5736
  let c256_i32_5737 : BitVec 32 := 256#32
  let v7428 : BitVec 32 := Scalar.muli v7427 c256_i32_5737
  v7428
def k1_mult445 : BitVec 32 :=
  let c0_i32_42 : BitVec 32 := 0#32
  let c65_i32_5745 : BitVec 32 := 65#32
  let v7439 : BitVec 32 := Scalar.muli c0_i32_42 c65_i32_5745
  let c55_i32_5746 : BitVec 32 := 55#32
  let v7440 : BitVec 32 := Scalar.addi v7439 c55_i32_5746
  let c256_i32_5747 : BitVec 32 := 256#32
  let v7441 : BitVec 32 := Scalar.muli v7440 c256_i32_5747
  v7441
def k1_mult446 : BitVec 32 :=
  let c0_i32_42 : BitVec 32 := 0#32
  let c65_i32_5761 : BitVec 32 := 65#32
  let v7459 : BitVec 32 := Scalar.muli c0_i32_42 c65_i32_5761
  let c55_i32_5762 : BitVec 32 := 55#32
  let v7460 : BitVec 32 := Scalar.addi v7459 c55_i32_5762
  let c256_i32_5763 : BitVec 32 := 256#32
  let v7461 : BitVec 32 := Scalar.muli v7460 c256_i32_5763
  v7461
def k1_mult447 : BitVec 32 :=
  let c0_i32_42 : BitVec 32 := 0#32
  let c65_i32_5771 : BitVec 32 := 65#32
  let v7472 : BitVec 32 := Scalar.muli c0_i32_42 c65_i32_5771
  let c56_i32 : BitVec 32 := 56#32
  let v7473 : BitVec 32 := Scalar.addi v7472 c56_i32
  let c256_i32_5772 : BitVec 32 := 256#32
  let v7474 : BitVec 32 := Scalar.muli v7473 c256_i32_5772
  v7474
def k1_mult448 : BitVec 32 :=
  let c0_i32_42 : BitVec 32 := 0#32
  let c65_i32_5786 : BitVec 32 := 65#32
  let v7492 : BitVec 32 := Scalar.muli c0_i32_42 c65_i32_5786
  let c55_i32_5787 : BitVec 32 := 55#32
  let v7493 : BitVec 32 := Scalar.addi v7492 c55_i32_5787
  let c256_i32_5788 : BitVec 32 := 256#32
  let v7494 : BitVec 32 := Scalar.muli v7493 c256_i32_5788
  v7494
def k1_mult449 : BitVec 32 :=
  let c0_i32_42 : BitVec 32 := 0#32
  let c65_i32_5796 : BitVec 32 := 65#32
  let v7505 : BitVec 32 := Scalar.muli c0_i32_42 c65_i32_5796
  let c56_i32_5797 : BitVec 32 := 56#32
  let v7506 : BitVec 32 := Scalar.addi v7505 c56_i32_5797
  let c256_i32_5798 : BitVec 32 := 256#32
  let v7507 : BitVec 32 := Scalar.muli v7506 c256_i32_5798
  v7507
def k1_mult450 : BitVec 32 :=
  let c0_i32_42 : BitVec 32 := 0#32
  let c65_i32_5812 : BitVec 32 := 65#32
  let v7525 : BitVec 32 := Scalar.muli c0_i32_42 c65_i32_5812
  let c55_i32_5813 : BitVec 32 := 55#32
  let v7526 : BitVec 32 := Scalar.addi v7525 c55_i32_5813
  let c256_i32_5814 : BitVec 32 := 256#32
  let v7527 : BitVec 32 := Scalar.muli v7526 c256_i32_5814
  v7527
def k1_mult451 : BitVec 32 :=
  let c0_i32_42 : BitVec 32 := 0#32
  let c65_i32_5822 : BitVec 32 := 65#32
  let v7538 : BitVec 32 := Scalar.muli c0_i32_42 c65_i32_5822
  let c56_i32_5823 : BitVec 32 := 56#32
  let v7539 : BitVec 32 := Scalar.addi v7538 c56_i32_5823
  let c256_i32_5824 : BitVec 32 := 256#32
  let v7540 : BitVec 32 := Scalar.muli v7539 c256_i32_5824
  v7540
def k1_mult452 : BitVec 32 :=
  let c0_i32_42 : BitVec 32 := 0#32
  let c65_i32_5838 : BitVec 32 := 65#32
  let v7558 : BitVec 32 := Scalar.muli c0_i32_42 c65_i32_5838
  let c56_i32_5839 : BitVec 32 := 56#32
  let v7559 : BitVec 32 := Scalar.addi v7558 c56_i32_5839
  let c256_i32_5840 : BitVec 32 := 256#32
  let v7560 : BitVec 32 := Scalar.muli v7559 c256_i32_5840
  v7560
def k1_mult453 : BitVec 32 :=
  let c0_i32_42 : BitVec 32 := 0#32
  let c65_i32_5848 : BitVec 32 := 65#32
  let v7571 : BitVec 32 := Scalar.muli c0_i32_42 c65_i32_5848
  let c56_i32_5849 : BitVec 32 := 56#32
  let v7572 : BitVec 32 := Scalar.addi v7571 c56_i32_5849
  let c256_i32_5850 : BitVec 32 := 256#32
  let v7573 : BitVec 32 := Scalar.muli v7572 c256_i32_5850
  v7573
def k1_mult454 : BitVec 32 :=
  let c0_i32_42 : BitVec 32 := 0#32
  let c65_i32_5864 : BitVec 32 := 65#32
  let v7591 : BitVec 32 := Scalar.muli c0_i32_42 c65_i32_5864
  let c56_i32_5865 : BitVec 32 := 56#32
  let v7592 : BitVec 32 := Scalar.addi v7591 c56_i32_5865
  let c256_i32_5866 : BitVec 32 := 256#32
  let v7593 : BitVec 32 := Scalar.muli v7592 c256_i32_5866
  v7593
def k1_mult455 : BitVec 32 :=
  let c0_i32_42 : BitVec 32 := 0#32
  let c65_i32_5874 : BitVec 32 := 65#32
  let v7604 : BitVec 32 := Scalar.muli c0_i32_42 c65_i32_5874
  let c57_i32 : BitVec 32 := 57#32
  let v7605 : BitVec 32 := Scalar.addi v7604 c57_i32
  let c256_i32_5875 : BitVec 32 := 256#32
  let v7606 : BitVec 32 := Scalar.muli v7605 c256_i32_5875
  v7606
def k1_mult456 : BitVec 32 :=
  let c0_i32_42 : BitVec 32 := 0#32
  let c65_i32_5889 : BitVec 32 := 65#32
  let v7624 : BitVec 32 := Scalar.muli c0_i32_42 c65_i32_5889
  let c56_i32_5890 : BitVec 32 := 56#32
  let v7625 : BitVec 32 := Scalar.addi v7624 c56_i32_5890
  let c256_i32_5891 : BitVec 32 := 256#32
  let v7626 : BitVec 32 := Scalar.muli v7625 c256_i32_5891
  v7626
def k1_mult457 : BitVec 32 :=
  let c0_i32_42 : BitVec 32 := 0#32
  let c65_i32_5899 : BitVec 32 := 65#32
  let v7637 : BitVec 32 := Scalar.muli c0_i32_42 c65_i32_5899
  let c57_i32_5900 : BitVec 32 := 57#32
  let v7638 : BitVec 32 := Scalar.addi v7637 c57_i32_5900
  let c256_i32_5901 : BitVec 32 := 256#32
  let v7639 : BitVec 32 := Scalar.muli v7638 c256_i32_5901
  v7639
def k1_mult458 : BitVec 32 :=
  let c0_i32_42 : BitVec 32 := 0#32
  let c65_i32_5915 : BitVec 32 := 65#32
  let v7657 : BitVec 32 := Scalar.muli c0_i32_42 c65_i32_5915
  let c56_i32_5916 : BitVec 32 := 56#32
  let v7658 : BitVec 32 := Scalar.addi v7657 c56_i32_5916
  let c256_i32_5917 : BitVec 32 := 256#32
  let v7659 : BitVec 32 := Scalar.muli v7658 c256_i32_5917
  v7659
def k1_mult459 : BitVec 32 :=
  let c0_i32_42 : BitVec 32 := 0#32
  let c65_i32_5925 : BitVec 32 := 65#32
  let v7670 : BitVec 32 := Scalar.muli c0_i32_42 c65_i32_5925
  let c57_i32_5926 : BitVec 32 := 57#32
  let v7671 : BitVec 32 := Scalar.addi v7670 c57_i32_5926
  let c256_i32_5927 : BitVec 32 := 256#32
  let v7672 : BitVec 32 := Scalar.muli v7671 c256_i32_5927
  v7672
def k1_mult460 : BitVec 32 :=
  let c0_i32_42 : BitVec 32 := 0#32
  let c65_i32_5941 : BitVec 32 := 65#32
  let v7690 : BitVec 32 := Scalar.muli c0_i32_42 c65_i32_5941
  let c57_i32_5942 : BitVec 32 := 57#32
  let v7691 : BitVec 32 := Scalar.addi v7690 c57_i32_5942
  let c256_i32_5943 : BitVec 32 := 256#32
  let v7692 : BitVec 32 := Scalar.muli v7691 c256_i32_5943
  v7692
def k1_mult461 : BitVec 32 :=
  let c0_i32_42 : BitVec 32 := 0#32
  let c65_i32_5951 : BitVec 32 := 65#32
  let v7703 : BitVec 32 := Scalar.muli c0_i32_42 c65_i32_5951
  let c57_i32_5952 : BitVec 32 := 57#32
  let v7704 : BitVec 32 := Scalar.addi v7703 c57_i32_5952
  let c256_i32_5953 : BitVec 32 := 256#32
  let v7705 : BitVec 32 := Scalar.muli v7704 c256_i32_5953
  v7705
def k1_mult462 : BitVec 32 :=
  let c0_i32_42 : BitVec 32 := 0#32
  let c65_i32_5967 : BitVec 32 := 65#32
  let v7723 : BitVec 32 := Scalar.muli c0_i32_42 c65_i32_5967
  let c57_i32_5968 : BitVec 32 := 57#32
  let v7724 : BitVec 32 := Scalar.addi v7723 c57_i32_5968
  let c256_i32_5969 : BitVec 32 := 256#32
  let v7725 : BitVec 32 := Scalar.muli v7724 c256_i32_5969
  v7725
def k1_mult463 : BitVec 32 :=
  let c0_i32_42 : BitVec 32 := 0#32
  let c65_i32_5977 : BitVec 32 := 65#32
  let v7736 : BitVec 32 := Scalar.muli c0_i32_42 c65_i32_5977
  let c58_i32 : BitVec 32 := 58#32
  let v7737 : BitVec 32 := Scalar.addi v7736 c58_i32
  let c256_i32_5978 : BitVec 32 := 256#32
  let v7738 : BitVec 32 := Scalar.muli v7737 c256_i32_5978
  v7738
def k1_mult464 : BitVec 32 :=
  let c0_i32_42 : BitVec 32 := 0#32
  let c65_i32_5992 : BitVec 32 := 65#32
  let v7756 : BitVec 32 := Scalar.muli c0_i32_42 c65_i32_5992
  let c57_i32_5993 : BitVec 32 := 57#32
  let v7757 : BitVec 32 := Scalar.addi v7756 c57_i32_5993
  let c256_i32_5994 : BitVec 32 := 256#32
  let v7758 : BitVec 32 := Scalar.muli v7757 c256_i32_5994
  v7758
def k1_mult465 : BitVec 32 :=
  let c0_i32_42 : BitVec 32 := 0#32
  let c65_i32_6002 : BitVec 32 := 65#32
  let v7769 : BitVec 32 := Scalar.muli c0_i32_42 c65_i32_6002
  let c58_i32_6003 : BitVec 32 := 58#32
  let v7770 : BitVec 32 := Scalar.addi v7769 c58_i32_6003
  let c256_i32_6004 : BitVec 32 := 256#32
  let v7771 : BitVec 32 := Scalar.muli v7770 c256_i32_6004
  v7771
def k1_mult466 : BitVec 32 :=
  let c0_i32_42 : BitVec 32 := 0#32
  let c65_i32_6018 : BitVec 32 := 65#32
  let v7789 : BitVec 32 := Scalar.muli c0_i32_42 c65_i32_6018
  let c57_i32_6019 : BitVec 32 := 57#32
  let v7790 : BitVec 32 := Scalar.addi v7789 c57_i32_6019
  let c256_i32_6020 : BitVec 32 := 256#32
  let v7791 : BitVec 32 := Scalar.muli v7790 c256_i32_6020
  v7791
def k1_mult467 : BitVec 32 :=
  let c0_i32_42 : BitVec 32 := 0#32
  let c65_i32_6028 : BitVec 32 := 65#32
  let v7802 : BitVec 32 := Scalar.muli c0_i32_42 c65_i32_6028
  let c58_i32_6029 : BitVec 32 := 58#32
  let v7803 : BitVec 32 := Scalar.addi v7802 c58_i32_6029
  let c256_i32_6030 : BitVec 32 := 256#32
  let v7804 : BitVec 32 := Scalar.muli v7803 c256_i32_6030
  v7804
def k1_mult468 : BitVec 32 :=
  let c0_i32_42 : BitVec 32 := 0#32
  let c65_i32_6044 : BitVec 32 := 65#32
  let v7822 : BitVec 32 := Scalar.muli c0_i32_42 c65_i32_6044
  let c58_i32_6045 : BitVec 32 := 58#32
  let v7823 : BitVec 32 := Scalar.addi v7822 c58_i32_6045
  let c256_i32_6046 : BitVec 32 := 256#32
  let v7824 : BitVec 32 := Scalar.muli v7823 c256_i32_6046
  v7824
def k1_mult469 : BitVec 32 :=
  let c0_i32_42 : BitVec 32 := 0#32
  let c65_i32_6054 : BitVec 32 := 65#32
  let v7835 : BitVec 32 := Scalar.muli c0_i32_42 c65_i32_6054
  let c58_i32_6055 : BitVec 32 := 58#32
  let v7836 : BitVec 32 := Scalar.addi v7835 c58_i32_6055
  let c256_i32_6056 : BitVec 32 := 256#32
  let v7837 : BitVec 32 := Scalar.muli v7836 c256_i32_6056
  v7837
def k1_mult470 : BitVec 32 :=
  let c0_i32_42 : BitVec 32 := 0#32
  let c65_i32_6070 : BitVec 32 := 65#32
  let v7855 : BitVec 32 := Scalar.muli c0_i32_42 c65_i32_6070
  let c58_i32_6071 : BitVec 32 := 58#32
  let v7856 : BitVec 32 := Scalar.addi v7855 c58_i32_6071
  let c256_i32_6072 : BitVec 32 := 256#32
  let v7857 : BitVec 32 := Scalar.muli v7856 c256_i32_6072
  v7857
def k1_mult471 : BitVec 32 :=
  let c0_i32_42 : BitVec 32 := 0#32
  let c65_i32_6080 : BitVec 32 := 65#32
  let v7868 : BitVec 32 := Scalar.muli c0_i32_42 c65_i32_6080
  let c59_i32 : BitVec 32 := 59#32
  let v7869 : BitVec 32 := Scalar.addi v7868 c59_i32
  let c256_i32_6081 : BitVec 32 := 256#32
  let v7870 : BitVec 32 := Scalar.muli v7869 c256_i32_6081
  v7870
def k1_mult472 : BitVec 32 :=
  let c0_i32_42 : BitVec 32 := 0#32
  let c65_i32_6095 : BitVec 32 := 65#32
  let v7888 : BitVec 32 := Scalar.muli c0_i32_42 c65_i32_6095
  let c58_i32_6096 : BitVec 32 := 58#32
  let v7889 : BitVec 32 := Scalar.addi v7888 c58_i32_6096
  let c256_i32_6097 : BitVec 32 := 256#32
  let v7890 : BitVec 32 := Scalar.muli v7889 c256_i32_6097
  v7890
def k1_mult473 : BitVec 32 :=
  let c0_i32_42 : BitVec 32 := 0#32
  let c65_i32_6105 : BitVec 32 := 65#32
  let v7901 : BitVec 32 := Scalar.muli c0_i32_42 c65_i32_6105
  let c59_i32_6106 : BitVec 32 := 59#32
  let v7902 : BitVec 32 := Scalar.addi v7901 c59_i32_6106
  let c256_i32_6107 : BitVec 32 := 256#32
  let v7903 : BitVec 32 := Scalar.muli v7902 c256_i32_6107
  v7903
def k1_mult474 : BitVec 32 :=
  let c0_i32_42 : BitVec 32 := 0#32
  let c65_i32_6121 : BitVec 32 := 65#32
  let v7921 : BitVec 32 := Scalar.muli c0_i32_42 c65_i32_6121
  let c58_i32_6122 : BitVec 32 := 58#32
  let v7922 : BitVec 32 := Scalar.addi v7921 c58_i32_6122
  let c256_i32_6123 : BitVec 32 := 256#32
  let v7923 : BitVec 32 := Scalar.muli v7922 c256_i32_6123
  v7923
def k1_mult475 : BitVec 32 :=
  let c0_i32_42 : BitVec 32 := 0#32
  let c65_i32_6131 : BitVec 32 := 65#32
  let v7934 : BitVec 32 := Scalar.muli c0_i32_42 c65_i32_6131
  let c59_i32_6132 : BitVec 32 := 59#32
  let v7935 : BitVec 32 := Scalar.addi v7934 c59_i32_6132
  let c256_i32_6133 : BitVec 32 := 256#32
  let v7936 : BitVec 32 := Scalar.muli v7935 c256_i32_6133
  v7936
def k1_mult476 : BitVec 32 :=
  let c0_i32_42 : BitVec 32 := 0#32
  let c65_i32_6147 : BitVec 32 := 65#32
  let v7954 : BitVec 32 := Scalar.muli c0_i32_42 c65_i32_6147
  let c59_i32_6148 : BitVec 32 := 59#32
  let v7955 : BitVec 32 := Scalar.addi v7954 c59_i32_6148
  let c256_i32_6149 : BitVec 32 := 256#32
  let v7956 : BitVec 32 := Scalar.muli v7955 c256_i32_6149
  v7956
def k1_mult477 : BitVec 32 :=
  let c0_i32_42 : BitVec 32 := 0#32
  let c65_i32_6157 : BitVec 32 := 65#32
  let v7967 : BitVec 32 := Scalar.muli c0_i32_42 c65_i32_6157
  let c59_i32_6158 : BitVec 32 := 59#32
  let v7968 : BitVec 32 := Scalar.addi v7967 c59_i32_6158
  let c256_i32_6159 : BitVec 32 := 256#32
  let v7969 : BitVec 32 := Scalar.muli v7968 c256_i32_6159
  v7969
def k1_mult478 : BitVec 32 :=
  let c0_i32_42 : BitVec 32 := 0#32
  let c65_i32_6173 : BitVec 32 := 65#32
  let v7987 : BitVec 32 := Scalar.muli c0_i32_42 c65_i32_6173
  let c59_i32_6174 : BitVec 32 := 59#32
  let v7988 : BitVec 32 := Scalar.addi v7987 c59_i32_6174
  let c256_i32_6175 : BitVec 32 := 256#32
  let v7989 : BitVec 32 := Scalar.muli v7988 c256_i32_6175
  v7989
def k1_mult479 : BitVec 32 :=
  let c0_i32_42 : BitVec 32 := 0#32
  let c65_i32_6183 : BitVec 32 := 65#32
  let v8000 : BitVec 32 := Scalar.muli c0_i32_42 c65_i32_6183
  let c60_i32 : BitVec 32 := 60#32
  let v8001 : BitVec 32 := Scalar.addi v8000 c60_i32
  let c256_i32_6184 : BitVec 32 := 256#32
  let v8002 : BitVec 32 := Scalar.muli v8001 c256_i32_6184
  v8002
def k1_mult480 : BitVec 32 :=
  let c0_i32_42 : BitVec 32 := 0#32
  let c65_i32_6198 : BitVec 32 := 65#32
  let v8020 : BitVec 32 := Scalar.muli c0_i32_42 c65_i32_6198
  let c59_i32_6199 : BitVec 32 := 59#32
  let v8021 : BitVec 32 := Scalar.addi v8020 c59_i32_6199
  let c256_i32_6200 : BitVec 32 := 256#32
  let v8022 : BitVec 32 := Scalar.muli v8021 c256_i32_6200
  v8022
def k1_mult481 : BitVec 32 :=
  let c0_i32_42 : BitVec 32 := 0#32
  let c65_i32_6208 : BitVec 32 := 65#32
  let v8033 : BitVec 32 := Scalar.muli c0_i32_42 c65_i32_6208
  let c60_i32_6209 : BitVec 32 := 60#32
  let v8034 : BitVec 32 := Scalar.addi v8033 c60_i32_6209
  let c256_i32_6210 : BitVec 32 := 256#32
  let v8035 : BitVec 32 := Scalar.muli v8034 c256_i32_6210
  v8035
def k1_mult482 : BitVec 32 :=
  let c0_i32_42 : BitVec 32 := 0#32
  let c65_i32_6224 : BitVec 32 := 65#32
  let v8053 : BitVec 32 := Scalar.muli c0_i32_42 c65_i32_6224
  let c59_i32_6225 : BitVec 32 := 59#32
  let v8054 : BitVec 32 := Scalar.addi v8053 c59_i32_6225
  let c256_i32_6226 : BitVec 32 := 256#32
  let v8055 : BitVec 32 := Scalar.muli v8054 c256_i32_6226
  v8055
def k1_mult483 : BitVec 32 :=
  let c0_i32_42 : BitVec 32 := 0#32
  let c65_i32_6234 : BitVec 32 := 65#32
  let v8066 : BitVec 32 := Scalar.muli c0_i32_42 c65_i32_6234
  let c60_i32_6235 : BitVec 32 := 60#32
  let v8067 : BitVec 32 := Scalar.addi v8066 c60_i32_6235
  let c256_i32_6236 : BitVec 32 := 256#32
  let v8068 : BitVec 32 := Scalar.muli v8067 c256_i32_6236
  v8068
def k1_mult484 : BitVec 32 :=
  let c0_i32_42 : BitVec 32 := 0#32
  let c65_i32_6250 : BitVec 32 := 65#32
  let v8086 : BitVec 32 := Scalar.muli c0_i32_42 c65_i32_6250
  let c60_i32_6251 : BitVec 32 := 60#32
  let v8087 : BitVec 32 := Scalar.addi v8086 c60_i32_6251
  let c256_i32_6252 : BitVec 32 := 256#32
  let v8088 : BitVec 32 := Scalar.muli v8087 c256_i32_6252
  v8088
def k1_mult485 : BitVec 32 :=
  let c0_i32_42 : BitVec 32 := 0#32
  let c65_i32_6260 : BitVec 32 := 65#32
  let v8099 : BitVec 32 := Scalar.muli c0_i32_42 c65_i32_6260
  let c60_i32_6261 : BitVec 32 := 60#32
  let v8100 : BitVec 32 := Scalar.addi v8099 c60_i32_6261
  let c256_i32_6262 : BitVec 32 := 256#32
  let v8101 : BitVec 32 := Scalar.muli v8100 c256_i32_6262
  v8101
def k1_mult486 : BitVec 32 :=
  let c0_i32_42 : BitVec 32 := 0#32
  let c65_i32_6276 : BitVec 32 := 65#32
  let v8119 : BitVec 32 := Scalar.muli c0_i32_42 c65_i32_6276
  let c60_i32_6277 : BitVec 32 := 60#32
  let v8120 : BitVec 32 := Scalar.addi v8119 c60_i32_6277
  let c256_i32_6278 : BitVec 32 := 256#32
  let v8121 : BitVec 32 := Scalar.muli v8120 c256_i32_6278
  v8121
def k1_mult487 : BitVec 32 :=
  let c0_i32_42 : BitVec 32 := 0#32
  let c65_i32_6286 : BitVec 32 := 65#32
  let v8132 : BitVec 32 := Scalar.muli c0_i32_42 c65_i32_6286
  let c61_i32 : BitVec 32 := 61#32
  let v8133 : BitVec 32 := Scalar.addi v8132 c61_i32
  let c256_i32_6287 : BitVec 32 := 256#32
  let v8134 : BitVec 32 := Scalar.muli v8133 c256_i32_6287
  v8134
def k1_mult488 : BitVec 32 :=
  let c0_i32_42 : BitVec 32 := 0#32
  let c65_i32_6301 : BitVec 32 := 65#32
  let v8152 : BitVec 32 := Scalar.muli c0_i32_42 c65_i32_6301
  let c60_i32_6302 : BitVec 32 := 60#32
  let v8153 : BitVec 32 := Scalar.addi v8152 c60_i32_6302
  let c256_i32_6303 : BitVec 32 := 256#32
  let v8154 : BitVec 32 := Scalar.muli v8153 c256_i32_6303
  v8154
def k1_mult489 : BitVec 32 :=
  let c0_i32_42 : BitVec 32 := 0#32
  let c65_i32_6311 : BitVec 32 := 65#32
  let v8165 : BitVec 32 := Scalar.muli c0_i32_42 c65_i32_6311
  let c61_i32_6312 : BitVec 32 := 61#32
  let v8166 : BitVec 32 := Scalar.addi v8165 c61_i32_6312
  let c256_i32_6313 : BitVec 32 := 256#32
  let v8167 : BitVec 32 := Scalar.muli v8166 c256_i32_6313
  v8167
def k1_mult490 : BitVec 32 :=
  let c0_i32_42 : BitVec 32 := 0#32
  let c65_i32_6327 : BitVec 32 := 65#32
  let v8185 : BitVec 32 := Scalar.muli c0_i32_42 c65_i32_6327
  let c60_i32_6328 : BitVec 32 := 60#32
  let v8186 : BitVec 32 := Scalar.addi v8185 c60_i32_6328
  let c256_i32_6329 : BitVec 32 := 256#32
  let v8187 : BitVec 32 := Scalar.muli v8186 c256_i32_6329
  v8187
def k1_mult491 : BitVec 32 :=
  let c0_i32_42 : BitVec 32 := 0#32
  let c65_i32_6337 : BitVec 32 := 65#32
  let v8198 : BitVec 32 := Scalar.muli c0_i32_42 c65_i32_6337
  let c61_i32_6338 : BitVec 32 := 61#32
  let v8199 : BitVec 32 := Scalar.addi v8198 c61_i32_6338
  let c256_i32_6339 : BitVec 32 := 256#32
  let v8200 : BitVec 32 := Scalar.muli v8199 c256_i32_6339
  v8200
def k1_mult492 : BitVec 32 :=
  let c0_i32_42 : BitVec 32 := 0#32
  let c65_i32_6353 : BitVec 32 := 65#32
  let v8218 : BitVec 32 := Scalar.muli c0_i32_42 c65_i32_6353
  let c61_i32_6354 : BitVec 32 := 61#32
  let v8219 : BitVec 32 := Scalar.addi v8218 c61_i32_6354
  let c256_i32_6355 : BitVec 32 := 256#32
  let v8220 : BitVec 32 := Scalar.muli v8219 c256_i32_6355
  v8220
def k1_mult493 : BitVec 32 :=
  let c0_i32_42 : BitVec 32 := 0#32
  let c65_i32_6363 : BitVec 32 := 65#32
  let v8231 : BitVec 32 := Scalar.muli c0_i32_42 c65_i32_6363
  let c61_i32_6364 : BitVec 32 := 61#32
  let v8232 : BitVec 32 := Scalar.addi v8231 c61_i32_6364
  let c256_i32_6365 : BitVec 32 := 256#32
  let v8233 : BitVec 32 := Scalar.muli v8232 c256_i32_6365
  v8233
def k1_mult494 : BitVec 32 :=
  let c0_i32_42 : BitVec 32 := 0#32
  let c65_i32_6379 : BitVec 32 := 65#32
  let v8251 : BitVec 32 := Scalar.muli c0_i32_42 c65_i32_6379
  let c61_i32_6380 : BitVec 32 := 61#32
  let v8252 : BitVec 32 := Scalar.addi v8251 c61_i32_6380
  let c256_i32_6381 : BitVec 32 := 256#32
  let v8253 : BitVec 32 := Scalar.muli v8252 c256_i32_6381
  v8253
def k1_mult495 : BitVec 32 :=
  let c0_i32_42 : BitVec 32 := 0#32
  let c65_i32_6389 : BitVec 32 := 65#32
  let v8264 : BitVec 32 := Scalar.muli c0_i32_42 c65_i32_6389
  let c62_i32 : BitVec 32 := 62#32
  let v8265 : BitVec 32 := Scalar.addi v8264 c62_i32
  let c256_i32_6390 : BitVec 32 := 256#32
  let v8266 : BitVec 32 := Scalar.muli v8265 c256_i32_6390
  v8266
def k1_mult496 : BitVec 32 :=
  let c0_i32_42 : BitVec 32 := 0#32
  let c65_i32_6404 : BitVec 32 := 65#32
  let v8284 : BitVec 32 := Scalar.muli c0_i32_42 c65_i32_6404
  let c61_i32_6405 : BitVec 32 := 61#32
  let v8285 : BitVec 32 := Scalar.addi v8284 c61_i32_6405
  let c256_i32_6406 : BitVec 32 := 256#32
  let v8286 : BitVec 32 := Scalar.muli v8285 c256_i32_6406
  v8286
def k1_mult497 : BitVec 32 :=
  let c0_i32_42 : BitVec 32 := 0#32
  let c65_i32_6414 : BitVec 32 := 65#32
  let v8297 : BitVec 32 := Scalar.muli c0_i32_42 c65_i32_6414
  let c62_i32_6415 : BitVec 32 := 62#32
  let v8298 : BitVec 32 := Scalar.addi v8297 c62_i32_6415
  let c256_i32_6416 : BitVec 32 := 256#32
  let v8299 : BitVec 32 := Scalar.muli v8298 c256_i32_6416
  v8299
def k1_mult498 : BitVec 32 :=
  let c0_i32_42 : BitVec 32 := 0#32
  let c65_i32_6430 : BitVec 32 := 65#32
  let v8317 : BitVec 32 := Scalar.muli c0_i32_42 c65_i32_6430
  let c61_i32_6431 : BitVec 32 := 61#32
  let v8318 : BitVec 32 := Scalar.addi v8317 c61_i32_6431
  let c256_i32_6432 : BitVec 32 := 256#32
  let v8319 : BitVec 32 := Scalar.muli v8318 c256_i32_6432
  v8319
def k1_mult499 : BitVec 32 :=
  let c0_i32_42 : BitVec 32 := 0#32
  let c65_i32_6440 : BitVec 32 := 65#32
  let v8330 : BitVec 32 := Scalar.muli c0_i32_42 c65_i32_6440
  let c62_i32_6441 : BitVec 32 := 62#32
  let v8331 : BitVec 32 := Scalar.addi v8330 c62_i32_6441
  let c256_i32_6442 : BitVec 32 := 256#32
  let v8332 : BitVec 32 := Scalar.muli v8331 c256_i32_6442
  v8332
def k1_mult500 : BitVec 32 :=
  let c0_i32_42 : BitVec 32 := 0#32
  let c65_i32_6456 : BitVec 32 := 65#32
  let v8350 : BitVec 32 := Scalar.muli c0_i32_42 c65_i32_6456
  let c62_i32_6457 : BitVec 32 := 62#32
  let v8351 : BitVec 32 := Scalar.addi v8350 c62_i32_6457
  let c256_i32_6458 : BitVec 32 := 256#32
  let v8352 : BitVec 32 := Scalar.muli v8351 c256_i32_6458
  v8352
def k1_mult501 : BitVec 32 :=
  let c0_i32_42 : BitVec 32 := 0#32
  let c65_i32_6466 : BitVec 32 := 65#32
  let v8363 : BitVec 32 := Scalar.muli c0_i32_42 c65_i32_6466
  let c62_i32_6467 : BitVec 32 := 62#32
  let v8364 : BitVec 32 := Scalar.addi v8363 c62_i32_6467
  let c256_i32_6468 : BitVec 32 := 256#32
  let v8365 : BitVec 32 := Scalar.muli v8364 c256_i32_6468
  v8365
def k1_mult502 : BitVec 32 :=
  let c0_i32_42 : BitVec 32 := 0#32
  let c65_i32_6482 : BitVec 32 := 65#32
  let v8383 : BitVec 32 := Scalar.muli c0_i32_42 c65_i32_6482
  let c62_i32_6483 : BitVec 32 := 62#32
  let v8384 : BitVec 32 := Scalar.addi v8383 c62_i32_6483
  let c256_i32_6484 : BitVec 32 := 256#32
  let v8385 : BitVec 32 := Scalar.muli v8384 c256_i32_6484
  v8385
def k1_mult503 : BitVec 32 :=
  let c0_i32_42 : BitVec 32 := 0#32
  let c65_i32_6492 : BitVec 32 := 65#32
  let v8396 : BitVec 32 := Scalar.muli c0_i32_42 c65_i32_6492
  let c63_i32 : BitVec 32 := 63#32
  let v8397 : BitVec 32 := Scalar.addi v8396 c63_i32
  let c256_i32_6493 : BitVec 32 := 256#32
  let v8398 : BitVec 32 := Scalar.muli v8397 c256_i32_6493
  v8398
def k1_mult504 : BitVec 32 :=
  let c0_i32_42 : BitVec 32 := 0#32
  let c65_i32_6507 : BitVec 32 := 65#32
  let v8416 : BitVec 32 := Scalar.muli c0_i32_42 c65_i32_6507
  let c62_i32_6508 : BitVec 32 := 62#32
  let v8417 : BitVec 32 := Scalar.addi v8416 c62_i32_6508
  let c256_i32_6509 : BitVec 32 := 256#32
  let v8418 : BitVec 32 := Scalar.muli v8417 c256_i32_6509
  v8418
def k1_mult505 : BitVec 32 :=
  let c0_i32_42 : BitVec 32 := 0#32
  let c65_i32_6517 : BitVec 32 := 65#32
  let v8429 : BitVec 32 := Scalar.muli c0_i32_42 c65_i32_6517
  let c63_i32_6518 : BitVec 32 := 63#32
  let v8430 : BitVec 32 := Scalar.addi v8429 c63_i32_6518
  let c256_i32_6519 : BitVec 32 := 256#32
  let v8431 : BitVec 32 := Scalar.muli v8430 c256_i32_6519
  v8431
def k1_mult506 : BitVec 32 :=
  let c0_i32_42 : BitVec 32 := 0#32
  let c65_i32_6533 : BitVec 32 := 65#32
  let v8449 : BitVec 32 := Scalar.muli c0_i32_42 c65_i32_6533
  let c62_i32_6534 : BitVec 32 := 62#32
  let v8450 : BitVec 32 := Scalar.addi v8449 c62_i32_6534
  let c256_i32_6535 : BitVec 32 := 256#32
  let v8451 : BitVec 32 := Scalar.muli v8450 c256_i32_6535
  v8451
def k1_mult507 : BitVec 32 :=
  let c0_i32_42 : BitVec 32 := 0#32
  let c65_i32_6543 : BitVec 32 := 65#32
  let v8462 : BitVec 32 := Scalar.muli c0_i32_42 c65_i32_6543
  let c63_i32_6544 : BitVec 32 := 63#32
  let v8463 : BitVec 32 := Scalar.addi v8462 c63_i32_6544
  let c256_i32_6545 : BitVec 32 := 256#32
  let v8464 : BitVec 32 := Scalar.muli v8463 c256_i32_6545
  v8464
def k1_mult508 : BitVec 32 :=
  let c0_i32_42 : BitVec 32 := 0#32
  let c65_i32_6559 : BitVec 32 := 65#32
  let v8482 : BitVec 32 := Scalar.muli c0_i32_42 c65_i32_6559
  let c63_i32_6560 : BitVec 32 := 63#32
  let v8483 : BitVec 32 := Scalar.addi v8482 c63_i32_6560
  let c256_i32_6561 : BitVec 32 := 256#32
  let v8484 : BitVec 32 := Scalar.muli v8483 c256_i32_6561
  v8484
def k1_mult509 : BitVec 32 :=
  let c0_i32_42 : BitVec 32 := 0#32
  let c65_i32_6569 : BitVec 32 := 65#32
  let v8495 : BitVec 32 := Scalar.muli c0_i32_42 c65_i32_6569
  let c63_i32_6570 : BitVec 32 := 63#32
  let v8496 : BitVec 32 := Scalar.addi v8495 c63_i32_6570
  let c256_i32_6571 : BitVec 32 := 256#32
  let v8497 : BitVec 32 := Scalar.muli v8496 c256_i32_6571
  v8497
def k1_mult510 : BitVec 32 :=
  let c0_i32_42 : BitVec 32 := 0#32
  let c65_i32_6585 : BitVec 32 := 65#32
  let v8515 : BitVec 32 := Scalar.muli c0_i32_42 c65_i32_6585
  let c63_i32_6586 : BitVec 32 := 63#32
  let v8516 : BitVec 32 := Scalar.addi v8515 c63_i32_6586
  let c256_i32_6587 : BitVec 32 := 256#32
  let v8517 : BitVec 32 := Scalar.muli v8516 c256_i32_6587
  v8517
def k1_mult511 : BitVec 32 :=
  let c0_i32_42 : BitVec 32 := 0#32
  let c65_i32_6595 : BitVec 32 := 65#32
  let v8528 : BitVec 32 := Scalar.muli c0_i32_42 c65_i32_6595
  let c64_i32 : BitVec 32 := 64#32
  let v8529 : BitVec 32 := Scalar.addi v8528 c64_i32
  let c256_i32_6596 : BitVec 32 := 256#32
  let v8530 : BitVec 32 := Scalar.muli v8529 c256_i32_6596
  v8530
def k1_mult512 : BitVec 32 :=
  let c0_i32_42 : BitVec 32 := 0#32
  let c65_i32_6610 : BitVec 32 := 65#32
  let v8548 : BitVec 32 := Scalar.muli c0_i32_42 c65_i32_6610
  let c63_i32_6611 : BitVec 32 := 63#32
  let v8549 : BitVec 32 := Scalar.addi v8548 c63_i32_6611
  let c256_i32_6612 : BitVec 32 := 256#32
  let v8550 : BitVec 32 := Scalar.muli v8549 c256_i32_6612
  v8550
def k1_mult513 : BitVec 32 :=
  let c0_i32_42 : BitVec 32 := 0#32
  let c65_i32_6620 : BitVec 32 := 65#32
  let v8561 : BitVec 32 := Scalar.muli c0_i32_42 c65_i32_6620
  let c64_i32_6621 : BitVec 32 := 64#32
  let v8562 : BitVec 32 := Scalar.addi v8561 c64_i32_6621
  let c256_i32_6622 : BitVec 32 := 256#32
  let v8563 : BitVec 32 := Scalar.muli v8562 c256_i32_6622
  v8563
def k1_mult514 : BitVec 32 :=
  let c0_i32_42 : BitVec 32 := 0#32
  let c65_i32_6636 : BitVec 32 := 65#32
  let v8581 : BitVec 32 := Scalar.muli c0_i32_42 c65_i32_6636
  let c63_i32_6637 : BitVec 32 := 63#32
  let v8582 : BitVec 32 := Scalar.addi v8581 c63_i32_6637
  let c256_i32_6638 : BitVec 32 := 256#32
  let v8583 : BitVec 32 := Scalar.muli v8582 c256_i32_6638
  v8583
def k1_mult515 : BitVec 32 :=
  let c0_i32_42 : BitVec 32 := 0#32
  let c65_i32_6646 : BitVec 32 := 65#32
  let v8594 : BitVec 32 := Scalar.muli c0_i32_42 c65_i32_6646
  let c64_i32_6647 : BitVec 32 := 64#32
  let v8595 : BitVec 32 := Scalar.addi v8594 c64_i32_6647
  let c256_i32_6648 : BitVec 32 := 256#32
  let v8596 : BitVec 32 := Scalar.muli v8595 c256_i32_6648
  v8596
def k1_mult516 : BitVec 32 :=
  let c0_i32_42 : BitVec 32 := 0#32
  let c65_i32_6662 : BitVec 32 := 65#32
  let v8614 : BitVec 32 := Scalar.muli c0_i32_42 c65_i32_6662
  let c64_i32_6663 : BitVec 32 := 64#32
  let v8615 : BitVec 32 := Scalar.addi v8614 c64_i32_6663
  let c256_i32_6664 : BitVec 32 := 256#32
  let v8616 : BitVec 32 := Scalar.muli v8615 c256_i32_6664
  v8616
def k1_mult517 : BitVec 32 :=
  let c0_i32_42 : BitVec 32 := 0#32
  let c65_i32_6672 : BitVec 32 := 65#32
  let v8627 : BitVec 32 := Scalar.muli c0_i32_42 c65_i32_6672
  let c64_i32_6673 : BitVec 32 := 64#32
  let v8628 : BitVec 32 := Scalar.addi v8627 c64_i32_6673
  let c256_i32_6674 : BitVec 32 := 256#32
  let v8629 : BitVec 32 := Scalar.muli v8628 c256_i32_6674
  v8629
def k1_mult518 : BitVec 32 :=
  let c0_i32_42 : BitVec 32 := 0#32
  let c65_i32_6688 : BitVec 32 := 65#32
  let v8647 : BitVec 32 := Scalar.muli c0_i32_42 c65_i32_6688
  let c64_i32_6689 : BitVec 32 := 64#32
  let v8648 : BitVec 32 := Scalar.addi v8647 c64_i32_6689
  let c256_i32_6690 : BitVec 32 := 256#32
  let v8649 : BitVec 32 := Scalar.muli v8648 c256_i32_6690
  v8649
def k1_mult519 : BitVec 32 :=
  let c0_i32_42 : BitVec 32 := 0#32
  let c65_i32_6708 : BitVec 32 := 65#32
  let v8671 : BitVec 32 := Scalar.muli c0_i32_42 c65_i32_6708
  let c64_i32_6709 : BitVec 32 := 64#32
  let v8672 : BitVec 32 := Scalar.addi v8671 c64_i32_6709
  let c256_i32_6710 : BitVec 32 := 256#32
  let v8673 : BitVec 32 := Scalar.muli v8672 c256_i32_6710
  v8673
def k1_mult520 : BitVec 32 :=
  let c0_i32_42 : BitVec 32 := 0#32
  let c65_i32_6728 : BitVec 32 := 65#32
  let v8695 : BitVec 32 := Scalar.muli c0_i32_42 c65_i32_6728
  let c64_i32_6729 : BitVec 32 := 64#32
  let v8696 : BitVec 32 := Scalar.addi v8695 c64_i32_6729
  let c256_i32_6730 : BitVec 32 := 256#32
  let v8697 : BitVec 32 := Scalar.muli v8696 c256_i32_6730
  v8697
def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .smem S2x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x16640x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x128x16640 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== ReferenceIdeal.lean ====
abbrev S2x16384x512 : Shape := ⟨3, ![2, 16384, 512]⟩
abbrev S2x256x512 : Shape := ⟨3, ![2, 256, 512]⟩
abbrev S32 : Shape := ⟨1, ![32]⟩
abbrev S64 : Shape := ⟨1, ![64]⟩
abbrev S_ : Shape := ⟨0, ![]⟩
abbrev S2x16640x512 : Shape := ⟨3, ![2, 16640, 512]⟩
abbrev S2x16640x8x2x32 : Shape := ⟨5, ![2, 16640, 8, 2, 32]⟩
abbrev S2x16640x8x64 : Shape := ⟨4, ![2, 16640, 8, 64]⟩
abbrev S2x16384x8x2x32 : Shape := ⟨5, ![2, 16384, 8, 2, 32]⟩
abbrev S2x8x2x16384x16640 : Shape := ⟨5, ![2, 8, 2, 16384, 16640]⟩
abbrev S2x8x2x16384 : Shape := ⟨4, ![2, 8, 2, 16384]⟩
abbrev S2x8x2x16384x1 : Shape := ⟨5, ![2, 8, 2, 16384, 1]⟩
abbrev S2x8x64x2x16384 : Shape := ⟨5, ![2, 8, 64, 2, 16384]⟩
abbrev S2x16384x8x2x64 : Shape := ⟨5, ![2, 16384, 8, 2, 64]⟩
abbrev S2x16384x8x1x64 : Shape := ⟨5, ![2, 16384, 8, 1, 64]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩

abbrev nBuf : Space → Nat
  | .hbm => 75
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x256x512, .f32⟩
  | .hbm, ⟨3, _⟩ => ⟨S2x16384x512, .f32⟩
  | .hbm, ⟨4, _⟩ => ⟨S2x256x512, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S64, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x16640x512, .f32⟩
  | .hbm, ⟨22, _⟩ => ⟨S2x16640x8x2x32, .f32⟩
  | .hbm, ⟨23, _⟩ => ⟨S2x16640x512, .f32⟩
  | .hbm, ⟨24, _⟩ => ⟨S2x16640x8x64, .f32⟩
  | .hbm, ⟨25, _⟩ => ⟨S2x16384x8x2x32, .f32⟩
  | .hbm, ⟨26, _⟩ => ⟨S2x8x2x16384x16640, .f32⟩
  | .hbm, ⟨27, _⟩ => ⟨S_, .f32⟩
  | .hbm, ⟨28, _⟩ => ⟨S_, .f32⟩
  | .hbm, ⟨29, _⟩ => ⟨S2x8x2x16384x16640, .f32⟩
  | .hbm, ⟨30, _⟩ => ⟨S2x8x2x16384x16640, .f32⟩
  | .hbm, ⟨31, _⟩ => ⟨S_, .f32⟩
  | .hbm, ⟨32, _⟩ => ⟨S2x8x2x16384, .f32⟩
  | .hbm, ⟨33, _⟩ => ⟨S_, .f32⟩
  | .hbm, ⟨34, _⟩ => ⟨S2x8x2x16384, .f32⟩
  | .hbm, ⟨35, _⟩ => ⟨S2x8x2x16384, .f32⟩
  | .hbm, ⟨36, _⟩ => ⟨S2x8x2x16384x1, .f32⟩
  | .hbm, ⟨37, _⟩ => ⟨S2x8x2x16384x16640, .f32⟩
  | .hbm, ⟨38, _⟩ => ⟨S2x8x2x16384x16640, .f32⟩
  | .hbm, ⟨39, _⟩ => ⟨S2x8x2x16384x16640, .f32⟩
  | .hbm, ⟨40, _⟩ => ⟨S_, .f32⟩
  | .hbm, ⟨41, _⟩ => ⟨S2x8x2x16384, .f32⟩
  | .hbm, ⟨42, _⟩ => ⟨S2x8x2x16384x1, .f32⟩
  | .hbm, ⟨43, _⟩ => ⟨S2x8x2x16384x16640, .f32⟩
  | .hbm, ⟨44, _⟩ => ⟨S2x8x2x16384x16640, .f32⟩
  | .hbm, ⟨45, _⟩ => ⟨S2x8x64x2x16384, .f32⟩
  | .hbm, ⟨46, _⟩ => ⟨S2x16384x8x2x64, .f32⟩
  | .hbm, ⟨47, _⟩ => ⟨S2x16384x8x1x64, .f32⟩
  | .hbm, ⟨48, _⟩ => ⟨S2x16384x8x64, .f32⟩
  | .hbm, ⟨49, _⟩ => ⟨S2x16384x8x1x64, .f32⟩
  | .hbm, ⟨50, _⟩ => ⟨S2x16384x8x64, .f32⟩
  | .hbm, ⟨51, _⟩ => ⟨S2x16384x8x64, .f32⟩
  | .hbm, ⟨52, _⟩ => ⟨S2x16384x8x64, .f32⟩
  | .hbm, ⟨53, _⟩ => ⟨S2x16384x8x64, .f32⟩
  | .hbm, ⟨54, _⟩ => ⟨S2x16384x8x64, .f32⟩
  | .hbm, ⟨55, _⟩ => ⟨S_, .f32⟩
  | .hbm, ⟨56, _⟩ => ⟨S2x16384x8, .f32⟩
  | .hbm, ⟨57, _⟩ => ⟨S2x16384x8x1, .f32⟩
  | .hbm, ⟨58, _⟩ => ⟨S_, .f32⟩
  | .hbm, ⟨59, _⟩ => ⟨S2x16384x8x1, .f32⟩
  | .hbm, ⟨60, _⟩ => ⟨S2x16384x8x1, .f32⟩
  | .hbm, ⟨61, _⟩ => ⟨S_, .f32⟩
  | .hbm, ⟨62, _⟩ => ⟨S2x16384x8x1, .f32⟩
  | .hbm, ⟨63, _⟩ => ⟨S2x16384x8x1, .f32⟩
  | .hbm, ⟨64, _⟩ => ⟨S2x16384x8x1, .f32⟩
  | .hbm, ⟨65, _⟩ => ⟨S2x16384x8x64, .f32⟩
  | .hbm, ⟨66, _⟩ => ⟨S2x16384x8x64, .f32⟩
  | .hbm, ⟨67, _⟩ => ⟨S1x1x1x64, .f32⟩
  | .hbm, ⟨68, _⟩ => ⟨S2x16384x8x64, .f32⟩
  | .hbm, ⟨69, _⟩ => ⟨S2x16384x8x64, .f32⟩
  | .hbm, ⟨70, _⟩ => ⟨S_, .f32⟩
  | .hbm, ⟨71, _⟩ => ⟨S2x16384x8x64, .f32⟩
  | .hbm, ⟨72, _⟩ => ⟨S2x16384x8x64, .f32⟩
  | .hbm, ⟨73, _⟩ => ⟨S2x16384x512, .f32⟩
  | .hbm, ⟨74, _⟩ => ⟨S2x16384x512, .bf16⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024 : Shape := ⟨1, ![1024]⟩
abbrev S2x1024 : Shape := ⟨2, ![2, 1024]⟩
abbrev S1024x2816 : Shape := ⟨2, ![1024, 2816]⟩
abbrev S3x2816 : Shape := ⟨2, ![3, 2816]⟩
abbrev S2816x1024 : Shape := ⟨2, ![2816, 1024]⟩
abbrev S2x1x1024 : Shape := ⟨3, ![2, 1, 1024]⟩
abbrev S1x1024 : Shape := ⟨2, ![1, 1024]⟩
abbrev S1x512x1024 : Shape := ⟨3, ![1, 512, 1024]⟩
abbrev S1x8x1024 : Shape := ⟨3, ![1, 8, 1024]⟩
abbrev S1x1x1024 : Shape := ⟨3, ![1, 1, 1024]⟩
abbrev S528x1408 : Shape := ⟨2, ![528, 1408]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024x1408 : Shape := ⟨2, ![1024, 1408]⟩
abbrev S512x1408 : Shape := ⟨2, ![512, 1408]⟩
abbrev S16x1408 : Shape := ⟨2, ![16, 1408]⟩
abbrev S8x1408 : Shape := ⟨2, ![8, 1408]⟩
abbrev S3x1408 : Shape := ⟨2, ![3, 1408]⟩
abbrev S1x1408 : Shape := ⟨2, ![1, 1408]⟩
abbrev S1408x1024 : Shape := ⟨2, ![1408, 1024]⟩

abbrev nBuf : Space → Nat
  | .hbm => 19
  | .vmem => 21
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816x1024, .f32⟩
  | .hbm, ⟨9, _⟩ => ⟨S1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x2816, .bf16⟩
  | .local _ .vmem, ⟨14, _⟩ => ⟨S1024x2816, .bf16⟩
  | .local _ .vmem, ⟨15, _⟩ => ⟨S3x2816, .f32⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S528x1408, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S2x16384x1024 : Shape := ⟨3, ![2, 16384, 1024]⟩
abbrev S1024 : Shape := ⟨1, ![1024]⟩
abbrev S2x1024 : Shape := ⟨2, ![2, 1024]⟩
abbrev S1024x2816 : Shape := ⟨2, ![1024, 2816]⟩
abbrev S3x2816 : Shape := ⟨2, ![3, 2816]⟩
abbrev S2816x1024 : Shape := ⟨2, ![2816, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩
abbrev S2x16386x2816 : Shape := ⟨3, ![2, 16386, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 91
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816x1024, .f32⟩
  | .hbm, ⟨9, _⟩ => ⟨S1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x2816, .f32⟩
  | .hbm, ⟨37, _⟩ => ⟨S_, .i32⟩
  | .hbm, ⟨38, _⟩ => ⟨S_, .f32⟩
  | .hbm, ⟨39, _⟩ => ⟨S2x16386x2816, .f32⟩
  | .hbm, ⟨40, _⟩ => ⟨S1x2816, .f32⟩
  | .hbm, ⟨41, _⟩ => ⟨S2816, .f32⟩
  | .hbm, ⟨42, _⟩ => ⟨S2x16384x2816, .f32⟩
  | .hbm, ⟨43, _⟩ => ⟨S1x1x2816, .f32⟩
  | .hbm, ⟨44, _⟩ => ⟨S2x16384x2816, .f32⟩
  | .hbm, ⟨45, _⟩ => ⟨S2x16384x2816, .f32⟩
  | .hbm, ⟨46, _⟩ => ⟨S1x2816, .f32⟩
  | .hbm, ⟨47, _⟩ => ⟨S2816, .f32⟩
  | .hbm, ⟨48, _⟩ => ⟨S2x16384x2816, .f32⟩
  | .hbm, ⟨49, _⟩ => ⟨S1x1x2816, .f32⟩
  | .hbm, ⟨50, _⟩ => ⟨S2x16384x2816, .f32⟩
  | .hbm, ⟨51, _⟩ => ⟨S2x16384x2816, .f32⟩
  | .hbm, ⟨52, _⟩ => ⟨S2x16384x2816, .f32⟩
  | .hbm, ⟨53, _⟩ => ⟨S1x2816, .f32⟩
  | .hbm, ⟨54, _⟩ => ⟨S2816, .f32⟩
  | .hbm, ⟨55, _⟩ => ⟨S2x16384x2816, .f32⟩
  | .hbm, ⟨56, _⟩ => ⟨S1x1x2816, .f32⟩
  | .hbm, ⟨57, _⟩ => ⟨S2x16384x2816, .f32⟩
  | .hbm, ⟨58, _⟩ => ⟨S2x16384x2816, .f32⟩
  | .hbm, ⟨59, _⟩ => ⟨S2x16384x2816, .f32⟩
  | .hbm, ⟨60, _⟩ => ⟨S2x16384x2816, .f32⟩
  | .hbm, ⟨61, _⟩ => ⟨S2x16384x2816, .f32⟩
  | .hbm, ⟨62, _⟩ => ⟨S_, .f32⟩
  | .hbm, ⟨63, _⟩ => ⟨S2x16384x2816, .f32⟩
  | .hbm, ⟨64, _⟩ => ⟨S2x16384x2816, .f32⟩
  | .hbm, ⟨65, _⟩ => ⟨S_, .f32⟩
  | .hbm, ⟨66, _⟩ => ⟨S2x16384x2816, .f32⟩
  | .hbm, ⟨67, _⟩ => ⟨S2x16384x2816, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S2x16384x1024, .f32⟩
  | .hbm, ⟨72, _⟩ => ⟨S2x16384x1024, .f32⟩
  | .hbm, ⟨73, _⟩ => ⟨S2x16384x1024, .f32⟩
  | .hbm, ⟨74, _⟩ => ⟨S2x16384x1024, .f32⟩
  | .hbm, ⟨75, _⟩ => ⟨S2x16384x1024, .f32⟩
  | .hbm, ⟨76, _⟩ => ⟨S_, .f32⟩
  | .hbm, ⟨77, _⟩ => ⟨S2x16384, .f32⟩
  | .hbm, ⟨78, _⟩ => ⟨S2x16384x1, .f32⟩
  | .hbm, ⟨79, _⟩ => ⟨S_, .f32⟩
  | .hbm, ⟨80, _⟩ => ⟨S2x16384x1, .f32⟩
  | .hbm, ⟨81, _⟩ => ⟨S2x16384x1, .f32⟩
  | .hbm, ⟨82, _⟩ => ⟨S_, .f32⟩
  | .hbm, ⟨83, _⟩ => ⟨S2x16384x1, .f32⟩
  | .hbm, ⟨84, _⟩ => ⟨S2x16384x1, .f32⟩
  | .hbm, ⟨85, _⟩ => ⟨S2x16384x1, .f32⟩
  | .hbm, ⟨86, _⟩ => ⟨S2x16384x1024, .f32⟩
  | .hbm, ⟨87, _⟩ => ⟨S2x16384x1024, .f32⟩
  | .hbm, ⟨88, _⟩ => ⟨S1x1x1024, .f32⟩
  | .hbm, ⟨89, _⟩ => ⟨S2x16384x1024, .f32⟩
  | .hbm, ⟨90, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_3 : Ref sig .tc := ⟨.hbm, 76, rfl⟩
abbrev main_v52 : Ref sig .tc := ⟨.hbm, 77, rfl⟩
abbrev main_v53 : Ref sig .tc := ⟨.hbm, 78, rfl⟩
abbrev main_cst_4 : Ref sig .tc := ⟨.hbm, 79, rfl⟩
abbrev main_v54 : Ref sig .tc := ⟨.hbm, 80, rfl⟩
abbrev main_v55 : Ref sig .tc := ⟨.hbm, 81, rfl⟩
abbrev main_cst_5 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S2x1024 : Shape := ⟨2, ![2, 1024]⟩
abbrev S1024x2816 : Shape := ⟨2, ![1024, 2816]⟩
abbrev S3x2816 : Shape := ⟨2, ![3, 2816]⟩
abbrev S2816x1024 : Shape := ⟨2, ![2816, 1024]⟩
abbrev S2x1x1024 : Shape := ⟨3, ![2, 1, 1024]⟩
abbrev S1x1024 : Shape := ⟨2, ![1, 1024]⟩
abbrev S1x512x1024 : Shape := ⟨3, ![1, 512, 1024]⟩
abbrev S1x8x1024 : Shape := ⟨3, ![1, 8, 1024]⟩
abbrev S1x1x1024 : Shape := ⟨3, ![1, 1, 1024]⟩
abbrev S528x1408 : Shape := ⟨2, ![528, 1408]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024x1408 : Shape := ⟨2, ![1024, 1408]⟩
abbrev S512x1408 : Shape := ⟨2, ![512, 1408]⟩
abbrev S16x1408 : Shape := ⟨2, ![16, 1408]⟩
abbrev S8x1408 : Shape := ⟨2, ![8, 1408]⟩
abbrev S3x1408 : Shape := ⟨2, ![3, 1408]⟩
abbrev S1x1408 : Shape := ⟨2, ![1, 1408]⟩
abbrev S1408x1024 : Shape := ⟨2, ![1408, 1024]⟩

abbrev nBuf : Space → Nat
  | .hbm => 19
  | .vmem => 21
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816x1024, .f32⟩
  | .hbm, ⟨9, _⟩ => ⟨S1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x2816, .bf16⟩
  | .local _ .vmem, ⟨14, _⟩ => ⟨S1024x2816, .bf16⟩
  | .local _ .vmem, ⟨15, _⟩ => ⟨S3x2816, .f32⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S528x1408, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S2x16384x1024 : Shape := ⟨3, ![2, 16384, 1024]⟩
abbrev S1024 : Shape := ⟨1, ![1024]⟩
abbrev S2x1024 : Shape := ⟨2, ![2, 1024]⟩
abbrev S1024x2816 : Shape := ⟨2, ![1024, 2816]⟩
abbrev S3x2816 : Shape := ⟨2, ![3, 2816]⟩
abbrev S2816x1024 : Shape := ⟨2, ![2816, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩
abbrev S2x16386x2816 : Shape := ⟨3, ![2, 16386, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 75
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1024x2816, .f32⟩
  | .hbm, ⟨6, _⟩ => ⟨S1024x2816, .f32⟩
  | .hbm, ⟨7, _⟩ => ⟨S3x2816, .f32⟩
  | .hbm, ⟨8, _⟩ => ⟨S2816x1024, .f32⟩
  | .hbm, ⟨9, _⟩ => ⟨S1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x2816, .f32⟩
  | .hbm, ⟨37, _⟩ => ⟨S_, .i32⟩
  | .hbm, ⟨38, _⟩ => ⟨S_, .f32⟩
  | .hbm, ⟨39, _⟩ => ⟨S2x16386x2816, .f32⟩
  | .hbm, ⟨40, _⟩ => ⟨S1x2816, .f32⟩
  | .hbm, ⟨41, _⟩ => ⟨S2816, .f32⟩
  | .hbm, ⟨42, _⟩ => ⟨S2x16384x2816, .f32⟩
  | .hbm, ⟨43, _⟩ => ⟨S1x1x2816, .f32⟩
  | .hbm, ⟨44, _⟩ => ⟨S2x16384x2816, .f32⟩
  | .hbm, ⟨45, _⟩ => ⟨S2x16384x2816, .f32⟩
  | .hbm, ⟨46, _⟩ => ⟨S1x2816, .f32⟩
  | .hbm, ⟨47, _⟩ => ⟨S2816, .f32⟩
  | .hbm, ⟨48, _⟩ => ⟨S2x16384x2816, .f32⟩
  | .hbm, ⟨49, _⟩ => ⟨S1x1x2816, .f32⟩
  | .hbm, ⟨50, _⟩ => ⟨S2x16384x2816, .f32⟩
  | .hbm, ⟨51, _⟩ => ⟨S2x16384x2816, .f32⟩
  | .hbm, ⟨52, _⟩ => ⟨S2x16384x2816, .f32⟩
  | .hbm, ⟨53, _⟩ => ⟨S1x2816, .f32⟩
  | .hbm, ⟨54, _⟩ => ⟨S2816, .f32⟩
  | .hbm, ⟨55, _⟩ => ⟨S2x16384x2816, .f32⟩
  | .hbm, ⟨56, _⟩ => ⟨S1x1x2816, .f32⟩
  | .hbm, ⟨57, _⟩ => ⟨S2x16384x2816, .f32⟩
  | .hbm, ⟨58, _⟩ => ⟨S2x16384x2816, .f32⟩
  | .hbm, ⟨59, _⟩ => ⟨S2x16384x2816, .f32⟩
  | .hbm, ⟨60, _⟩ => ⟨S2x16384x2816, .f32⟩
  | .hbm, ⟨61, _⟩ => ⟨S2x16384x2816, .f32⟩
  | .hbm, ⟨62, _⟩ => ⟨S_, .f32⟩
  | .hbm, ⟨63, _⟩ => ⟨S2x16384x2816, .f32⟩
  | .hbm, ⟨64, _⟩ => ⟨S2x16384x2816, .f32⟩
  | .hbm, ⟨65, _⟩ => ⟨S_, .f32⟩
  | .hbm, ⟨66, _⟩ => ⟨S2x16384x2816, .f32⟩
  | .hbm, ⟨67, _⟩ => ⟨S2x16384x2816, .f32⟩
  | .hbm, ⟨68, _⟩ => ⟨S2x16384x2816, .f32⟩
  | .hbm, ⟨69, _⟩ => ⟨S2x16384x2816, .f32⟩
  | .hbm, ⟨70, _⟩ => ⟨S2x16384x2816, .f32⟩
  | .hbm, ⟨71, _⟩ => ⟨S2x16384x1024, .f32⟩
  | .hbm, ⟨72, _⟩ => ⟨S2x16384x1024, .f32⟩
  | .hbm, ⟨73, _⟩ => ⟨S2x16384x1024, .f32⟩
  | .hbm, ⟨74, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S2x1024 : Shape := ⟨2, ![2, 1024]⟩
abbrev S1024x1792 : Shape := ⟨2, ![1024, 1792]⟩
abbrev S1x1024 : Shape := ⟨2, ![1, 1024]⟩
abbrev S2x1x1024 : Shape := ⟨3, ![2, 1, 1024]⟩
abbrev S2x16384x768 : Shape := ⟨3, ![2, 16384, 768]⟩
abbrev S2x16384x256 : Shape := ⟨3, ![2, 16384, 256]⟩
abbrev S1x512x1024 : Shape := ⟨3, ![1, 512, 1024]⟩
abbrev S1x1x1024 : Shape := ⟨3, ![1, 1, 1024]⟩
abbrev S1x512x768 : Shape := ⟨3, ![1, 512, 768]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x1792 : Shape := ⟨2, ![512, 1792]⟩
abbrev S512x768 : Shape := ⟨2, ![512, 768]⟩
abbrev S512x256 : Shape := ⟨2, ![512, 256]⟩

abbrev nBuf : Space → Nat
  | .hbm => 12
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x1792, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S1024x1792, .bf16⟩
  | .hbm, ⟨9, _⟩ => ⟨S2x16384x768, .f32⟩
  | .hbm, ⟨10, _⟩ => ⟨S2x16384x768, .f32⟩
  | .hbm, ⟨11, _⟩ => ⟨S2x16384x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1792, .bf16⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x256, .f32⟩
  | .local _ .vmem, ⟨13, _⟩ => ⟨S1x512x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S2x16384x1024 : Shape := ⟨3, ![2, 16384, 1024]⟩
abbrev S1024 : Shape := ⟨1, ![1024]⟩
abbrev S2x1024 : Shape := ⟨2, ![2, 1024]⟩
abbrev S1024x1792 : Shape := ⟨2, ![1024, 1792]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x16384x1792 : Shape := ⟨3, ![2, 16384, 1792]⟩
abbrev S2x16384x768 : Shape := ⟨3, ![2, 16384, 768]⟩
abbrev S2x16384x256 : Shape := ⟨3, ![2, 16384, 256]⟩

abbrev nBuf : Space → Nat
  | .hbm => 34
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x1792, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x16384x1024, .f32⟩
  | .hbm, ⟨26, _⟩ => ⟨S2x16384x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x1792, .f32⟩
  | .hbm, ⟨31, _⟩ => ⟨S2x16384x768, .f32⟩
  | .hbm, ⟨32, _⟩ => ⟨S2x16384x768, .f32⟩
  | .hbm, ⟨33, _⟩ => ⟨S2x16384x256, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x16384x768 : Shape := ⟨3, ![2, 16384, 768]⟩
abbrev S2x16384x256 : Shape := ⟨3, ![2, 16384, 256]⟩
abbrev S256x256 : Shape := ⟨2, ![256, 256]⟩
abbrev S1024x1024 : Shape := ⟨2, ![1024, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x512x768 : Shape := ⟨3, ![1, 512, 768]⟩
abbrev S1x512x256 : Shape := ⟨3, ![1, 512, 256]⟩
abbrev S1x1x1024 : Shape := ⟨3, ![1, 1, 1024]⟩
abbrev S512x768 : Shape := ⟨2, ![512, 768]⟩
abbrev S512x256 : Shape := ⟨2, ![512, 256]⟩
abbrev S768x1024 : Shape := ⟨2, ![768, 1024]⟩
abbrev S512x1024 : Shape := ⟨2, ![512, 1024]⟩
abbrev S256x1024 : Shape := ⟨2, ![256, 1024]⟩
abbrev S1x1024 : Shape := ⟨2, ![1, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .f32⟩
  | .hbm, ⟨2, _⟩ => ⟨S2x16384x768, .f32⟩
  | .hbm, ⟨3, _⟩ => ⟨S2x16384x768, .f32⟩
  | .hbm, ⟨4, _⟩ => ⟨S2x16384x256, .f32⟩
  | .hbm, ⟨5, _⟩ => ⟨S256x256, .f32⟩
  | .hbm, ⟨6, _⟩ => ⟨S1024x1024, .f32⟩
  | .hbm, ⟨7, _⟩ => ⟨S2x1024, .f32⟩
  | .hbm, ⟨8, _⟩ => ⟨S256x256, .bf16⟩
  | .hbm, ⟨9, _⟩ => ⟨S1024x1024, .bf16⟩
  | .hbm, ⟨10, _⟩ => ⟨S2x1x1024, .f32⟩
  | .hbm, ⟨11, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x256, .f32⟩
  | .local _ .vmem, ⟨9, _⟩ => ⟨S1x512x256, .f32⟩
  | .local _ .vmem, ⟨10, _⟩ => ⟨S256x256, .bf16⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S2x16384x1024 : Shape := ⟨3, ![2, 16384, 1024]⟩
abbrev S2x16384x768 : Shape := ⟨3, ![2, 16384, 768]⟩
abbrev S2x16384x256 : Shape := ⟨3, ![2, 16384, 256]⟩
abbrev S256x256 : Shape := ⟨2, ![256, 256]⟩
abbrev S1024x1024 : Shape := ⟨2, ![1024, 1024]⟩
abbrev S2x1024 : Shape := ⟨2, ![2, 1024]⟩
abbrev S_ : Shape := ⟨0, ![]⟩
abbrev S2x1x1024 : Shape := ⟨3, ![2, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .f32⟩
  | .hbm, ⟨2, _⟩ => ⟨S2x16384x768, .f32⟩
  | .hbm, ⟨3, _⟩ => ⟨S2x16384x768, .f32⟩
  | .hbm, ⟨4, _⟩ => ⟨S2x16384x256, .f32⟩
  | .hbm, ⟨5, _⟩ => ⟨S256x256, .f32⟩
  | .hbm, ⟨6, _⟩ => ⟨S1024x1024, .f32⟩
  | .hbm, ⟨7, _⟩ => ⟨S2x1024, .f32⟩
  | .hbm, ⟨8, _⟩ => ⟨S2x16384x256, .f32⟩
  | .hbm, ⟨9, _⟩ => ⟨S2x16384x256, .f32⟩
  | .hbm, ⟨10, _⟩ => ⟨S_, .f32⟩
  | .hbm, ⟨11, _⟩ => ⟨S2x16384x256, .f32⟩
  | .hbm, ⟨12, _⟩ => ⟨S2x16384x256, .f32⟩
  | .hbm, ⟨13, _⟩ => ⟨S2x16384x256, .f32⟩
  | .hbm, ⟨14, _⟩ => ⟨S_, .f32⟩
  | .hbm, ⟨15, _⟩ => ⟨S2x16384x256, .f32⟩
  | .hbm, ⟨16, _⟩ => ⟨S2x16384x256, .f32⟩
  | .hbm, ⟨17, _⟩ => ⟨S2x16384x256, .f32⟩
  | .hbm, ⟨18, _⟩ => ⟨S_, .f32⟩
  | .hbm, ⟨19, _⟩ => ⟨S2x16384x256, .f32⟩
  | .hbm, ⟨20, _⟩ => ⟨S2x16384x256, .f32⟩
  | .hbm, ⟨21, _⟩ => ⟨S_, .f32⟩
  | .hbm, ⟨22, _⟩ => ⟨S2x16384x256, .f32⟩
  | .hbm, ⟨23, _⟩ => ⟨S2x16384x256, .f32⟩
  | .hbm, ⟨24, _⟩ => ⟨S2x16384x256, .f32⟩
  | .hbm, ⟨25, _⟩ => ⟨S2x16384x768, .f32⟩
  | .hbm, ⟨26, _⟩ => ⟨S2x16384x768, .f32⟩
  | .hbm, ⟨27, _⟩ => ⟨S2x16384x768, .f32⟩
  | .hbm, ⟨28, _⟩ => ⟨S_, .f32⟩
  | .hbm, ⟨29, _⟩ => ⟨S2x16384x768, .f32⟩
  | .hbm, ⟨30, _⟩ => ⟨S2x16384x768, .f32⟩
  | .hbm, ⟨31, _⟩ => ⟨S2x16384x768, .f32⟩
  | .hbm, ⟨32, _⟩ => ⟨S_, .f32⟩
  | .hbm, ⟨33, _⟩ => ⟨S2x16384x768, .f32⟩
  | .hbm, ⟨34, _⟩ => ⟨S2x16384x768, .f32⟩
  | .hbm, ⟨35, _⟩ => ⟨S2x16384x768, .f32⟩
  | .hbm, ⟨36, _⟩ => ⟨S_, .f32⟩
  | .hbm, ⟨37, _⟩ => ⟨S2x16384x768, .f32⟩
  | .hbm, ⟨38, _⟩ => ⟨S2x16384x768, .f32⟩
  | .hbm, ⟨39, _⟩ => ⟨S_, .f32⟩
  | .hbm, ⟨40, _⟩ => ⟨S2x16384x768, .f32⟩
  | .hbm, ⟨41, _⟩ => ⟨S2x16384x768, .f32⟩
  | .hbm, ⟨42, _⟩ => ⟨S2x16384x768, .f32⟩
  | .hbm, ⟨43, _⟩ => ⟨S2x16384x768, .f32⟩
  | .hbm, ⟨44, _⟩ => ⟨S2x16384x256, .f32⟩
  | .hbm, ⟨45, _⟩ => ⟨S2x16384x256, .f32⟩
  | .hbm, ⟨46, _⟩ => ⟨S2x16384x256, .f32⟩
  | .hbm, ⟨47, _⟩ => ⟨S_, .f32⟩
  | .hbm, ⟨48, _⟩ => ⟨S2x16384x256, .f32⟩
  | .hbm, ⟨49, _⟩ => ⟨S2x16384x256, .f32⟩
  | .hbm, ⟨50, _⟩ => ⟨S_, .f32⟩
  | .hbm, ⟨51, _⟩ => ⟨S2x16384x256, .f32⟩
  | .hbm, ⟨52, _⟩ => ⟨S2x16384x256, .f32⟩
  | .hbm, ⟨53, _⟩ => ⟨S2x16384x256, .f32⟩
  | .hbm, ⟨54, _⟩ => ⟨S2x16384x1024, .f32⟩
  | .hbm, ⟨55, _⟩ => ⟨S2x16384x1024, .f32⟩
  | .hbm, ⟨56, _⟩ => ⟨S2x1x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel6.lean ====
abbrev S2x16384x1024 : Shape := ⟨3, ![2, 16384, 1024]⟩
abbrev S2x16384x512 : Shape := ⟨3, ![2, 16384, 512]⟩
abbrev S1024x1024 : Shape := ⟨2, ![1024, 1024]⟩
abbrev S2x1024 : Shape := ⟨2, ![2, 1024]⟩
abbrev S2x1x1024 : Shape := ⟨3, ![2, 1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x512 : Shape := ⟨2, ![512, 512]⟩
abbrev S512x1024 : Shape := ⟨2, ![512, 1024]⟩
abbrev S1x1024 : Shape := ⟨2, ![1, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S2x1024, .f32⟩
  | .hbm, ⟨5, _⟩ => ⟨S2x16384x512, .bf16⟩
  | .hbm, ⟨6, _⟩ => ⟨S2x16384x512, .bf16⟩
  | .hbm, ⟨7, _⟩ => ⟨S1024x1024, .bf16⟩
  | .hbm, ⟨8, _⟩ => ⟨S2x1x1024, .f32⟩
  | .hbm, ⟨9, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x512x1024, .f32⟩
  | .local _ .vmem, ⟨10, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S2x16384x1024 : Shape := ⟨3, ![2, 16384, 1024]⟩
abbrev S2x16384x512 : Shape := ⟨3, ![2, 16384, 512]⟩
abbrev S1024x1024 : Shape := ⟨2, ![1024, 1024]⟩
abbrev S2x1024 : Shape := ⟨2, ![2, 1024]⟩
abbrev S2x1x1024 : Shape := ⟨3, ![2, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S1024x1024, .f32⟩
  | .hbm, ⟨4, _⟩ => ⟨S2x1024, .f32⟩
  | .hbm, ⟨5, _⟩ => ⟨S2x1x1024, .f32⟩
  | .hbm, ⟨6, _⟩ => ⟨S2x16384x1024, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Slabs.lean ====
module

public import Idealize.ShloMosaic.Lib.Tactic
public import Idealize.ShloMosaic.Lib.VecWindow
public import Idealize.ShloMosaic.Lib.Memref

@[expose] public section

/-!
# Loads and stores of a buffer held by its values

A buffer held at the values `X`: a load at a unit rectangle gives the window of `X` there, an unmasked store puts its
payload over the window. A buffer made of slabs, none over another: held slab by slab at `f`, a load of slab `s` gives
`f s` and a store there changes `f` at `s` alone.
-/

noncomputable section

namespace Cert.Att

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ) (bd : Option 𝒱.V) (E : Set Name)
variable {sp : Space} {s : Shape} {e : EltTy}

local notation "𝕄" => MT nD τ sig Ix Val Name U Lvl

/-- A load at a unit rectangle of a buffer held at `X`. -/
theorem wp_load_owns {cs : CoreSpace} {m : Memref sig c.2.kind cs s e} {off size : Fin s.rank → ℕ} {inb : ∀ a, off a + size a ≤ s.size a}
    {hl : m.view.LoadsAt (Rect.unit off size inb).toLoadRect} {q : PosShare TreeShare} {X : s.Idx → Val e}
    {Q : ((Rect.unit off size inb).toLoadRect.shape.Idx → Val e) → sProp 𝕄} :
    (owns c m q X : sProp 𝕄) ⊢ iprop((owns c m q X -∗ Q (VecWindow.window X off size inb))
      -∗ wp frame (wpE defs 𝒱 c bd) E (Prog.lift (.load m (Rect.unit off size inb).toLoadRect hl)) Q) := by
  unfold owns Prog.lift
  iintro ⟨%f, %hf, H⟩ HQ
  iapply (wp_load_rect 𝒱 c bd E (m := m) (r := Rect.unit off size inb) (S := m.view.set) (f := f)
    (View.set_slice_subset m.view (Rect.unit off size inb))) $$ H
  iintro H
  iapply le_wp_ret
  have hw : (m.access (Rect.unit off size inb)).read Val f = VecWindow.window X off size inb := by
    subst hf; exact View.readAt_unit m.view f inb rfl inb
  rw [hw]
  iapply HQ
  iexists f
  isplitr
  · ipureintro; exact hf
  iexact H

/-- An unmasked store at a unit rectangle of a buffer held at `X`. -/
theorem wp_store_owns {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : Finset.univ = Finset.univ ∨ ∀ a, (Rect.unit off size inb).stride a = 1}
    {X : s.Idx → Val e} {Q : PUnit → sProp 𝕄} :
    (owns c m fullShare X : sProp 𝕄) ⊢ iprop((owns c m fullShare (VecWindow.put X off size w) -∗ Q ⟨⟩)
      -∗ wp frame (wpE defs 𝒱 c bd) E (Prog.lift (.store m (Rect.unit off size inb) w Finset.univ hx hm)) Q) := by
  unfold owns Prog.lift
  iintro ⟨%f, %hf, H⟩ HQ
  rw [← View.writes_nil m.view f]
  iapply (wp_store_writes 𝒱 c bd E (m := m) (r := Rect.unit off size inb) (w := w) (S := m.view.set) (f := f) (L := [])
    (View.set_slice_subset m.view (Rect.unit off size inb))) $$ H
  iintro H
  iapply le_wp_ret
  iapply HQ
  iexists _
  isplitr
  swap
  · iexact H
  ipureintro
  subst hf
  rw [View.read_writes_cons_put m.view f inb w [] rfl, View.writes_nil]

/-- The one element of a unit rectangle, read from a scalar buffer held at `X`. -/
theorem wp_smem_owns {m : Memref sig c.2.kind .smem s e} {off size : Fin s.rank → ℕ} {inb : ∀ a, off a + size a ≤ s.size a}
    {h1 : (Rect.unit off size inb).shape.numel = 1} {hp : e.packing = 1} {q : PosShare TreeShare} {X : s.Idx → Val e}
    {Q : Val e → sProp 𝕄} :
    (owns c m q X : sProp 𝕄) ⊢ iprop((owns c m q X -∗ Q (VecWindow.window X off size inb (Shape.Idx.first (h1.symm ▸ Nat.one_pos))))
      -∗ wp frame (wpE defs 𝒱 c bd) E (smemLoad m (Rect.unit off size inb) h1 hp) Q) := by
  unfold owns smemLoad
  iintro ⟨%f, %hf, H⟩ HQ
  iapply (wp_smemLoadElt 𝒱 c bd E (m := m) (r := Rect.unit off size inb) (S := m.view.set) (f := f)
    (View.set_slice_subset m.view (Rect.unit off size inb))) $$ H
  iintro H
  iapply le_wp_ret
  have hw : (m.access (Rect.unit off size inb)).read Val f = VecWindow.window X off size inb := by
    subst hf; exact View.readAt_unit m.view f inb rfl inb
  rw [hw]
  iapply HQ
  iexists f
  isplitr
  · ipureintro; exact hf
  iexact H

/-- A payload put over a whole array is what the array then is. -/
theorem put_whole {α : Type} (x : s.Idx → α) {off : Fin s.rank → ℕ} (h0 : ∀ a, off a = 0) (w : s.Idx → α) :
    VecWindow.put x off s.size w = w := by
  funext y
  unfold VecWindow.put
  rw [dif_pos (fun a => ⟨by rw [h0 a]; exact Nat.zero_le _, by rw [h0 a, Nat.zero_add]; exact (y a).isLt⟩)]
  congr 1
  funext a
  apply Fin.ext
  show (y a).val - off a = (y a).val
  rw [h0 a, Nat.sub_zero]

/-- The window that is a whole array. -/
theorem window_whole {α : Type} (x : s.Idx → α) {off : Fin s.rank → ℕ} (h0 : ∀ a, off a = 0)
    (inb : ∀ a, off a + s.size a ≤ s.size a) : VecWindow.window x off s.size inb = x := by
  funext y
  show x _ = x y
  congr 1
  funext a
  apply Fin.ext
  show off a + 1 * (y a).val = (y a).val
  rw [h0 a]; omega

section Slabs

variable {N : ℕ} {off : Fin N → Fin s.rank → ℕ} {size : Fin s.rank → ℕ}
variable (inb : ∀ n a, off n a + size a ≤ s.size a)

/-- Held slab by slab at `f`. -/
def slabs {cs : CoreSpace} (m : Memref sig c.2.kind cs s e) (f : Fin N → ((a : Fin s.rank) → Fin (size a)) → Val e) : sProp 𝕄 :=
  iprop(∃ X, ⌜∀ n, VecWindow.window X (off n) size (inb n) = f n⌝ ∗ owns c m fullShare X)

/-- A load of slab `n`. -/
theorem wp_load_slab {cs : CoreSpace} {m : Memref sig c.2.kind cs s e} (n : Fin N)
    {hl : m.view.LoadsAt (Rect.unit (off n) size (inb n)).toLoadRect} {f : Fin N → ((a : Fin s.rank) → Fin (size a)) → Val e}
    {Q : ((Rect.unit (off n) size (inb n)).toLoadRect.shape.Idx → Val e) → sProp 𝕄} :
    (slabs c inb m f : sProp 𝕄) ⊢ iprop((slabs c inb m f -∗ Q (f n))
      -∗ wp frame (wpE defs 𝒱 c bd) E (Prog.lift (.load m (Rect.unit (off n) size (inb n)).toLoadRect hl)) Q) := by
  unfold slabs
  iintro ⟨%X, %hX, H⟩ HQ
  iapply (wp_load_owns 𝒱 c bd E) $$ H
  iintro H
  rw [hX n]
  iapply HQ
  iexists X
  isplitr
  · ipureintro; exact hX
  iexact H

/-- An unmasked store of slab `n`, no slab over another. -/
theorem wp_store_slab {cs : CoreSpace} {m : Memref sig c.2.kind cs s e} (n : Fin N)
    (hd : ∀ n n' : Fin N, n ≠ n' → ∃ a, off n' a + size a ≤ off n a ∨ off n a + size a ≤ off n' a)
    {w : (Rect.unit (off n) size (inb n)).shape.Idx → Val e}
    {hx : (m.access (Rect.unit (off n) size (inb n))).Stores Finset.univ}
    {hm : Finset.univ = Finset.univ ∨ ∀ a, (Rect.unit (off n) size (inb n)).stride a = 1}
    {f : Fin N → ((a : Fin s.rank) → Fin (size a)) → Val e} {Q : PUnit → sProp 𝕄} :
    (slabs c inb m f : sProp 𝕄) ⊢ iprop((slabs c inb m (Function.update f n w) -∗ Q ⟨⟩)
      -∗ wp frame (wpE defs 𝒱 c bd) E (Prog.lift (.store m (Rect.unit (off n) size (inb n)) w Finset.univ hx hm)) Q) := by
  unfold slabs
  iintro ⟨%X, %hX, H⟩ HQ
  iapply (wp_store_owns 𝒱 c bd E) $$ H
  iintro H
  iapply HQ
  iexists _
  isplitr
  swap
  · iexact H
  ipureintro
  intro n'
  by_cases h : n' = n
  · subst h
    rw [Function.update_self]
    exact VecWindow.window_put_same X _ _ _ w
  · rw [Function.update_of_ne h]
    obtain ⟨a, ha⟩ := hd n n' (Ne.symm h)
    exact (VecWindow.window_put_of_disjoint X (off n) size (off n') size (inb n') w a ha).trans (hX n')

end Slabs

end Cert.Att
-- ==== Proof.Common.lean ====
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop

@[expose] public section

/-!
# What both attention calls share

The resources of the whole program, the buffers the host operations run within, and the proof data of a call that is not
entered.
-/

noncomputable section

namespace Cert.KernelIdeal.Att

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

/-- Two copies of the pipelines' round state: one that the launch theorem keeps, one that the branch spends. -/
abbrev UU : Type := UR sig nD τ × UR sig nD τ

local notation "𝕄" => MT nD τ sig Unit (Elt F) ℕ UU ℕ

/-- Contents of every buffer of a core's TensorCore. -/
abbrev Contents (F : FTy → Type) : Type := (c : Dev nD) → (b : Ref sig .tc) → Buf (Elt F) ((c : Thread nD τ).loc b)

/-- No core owes another anything, so no level is assigned. -/
abbrev L : GSem nD τ sig → Finset Unit := fun _ => ∅
abbrev lv : GSem nD τ sig → Unit → ℕ := fun _ _ => 0
abbrev 𝒱₀ : Variants := Variants.none

/-- The unscoped references of the TensorCore. -/
def ucRefs : Finset (DevRef τ sig) := (StableHlo.tcRefs τ sig).filter fun b => ¬ b.isScoped

omit [FloatOps F] in
/-- The unscoped buffers at a valuation, as a set of references held at it. -/
theorem unscoped_eq_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- A host operation names no scoped buffer. -/
theorem within_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- Proof data of a call that is not entered. -/
def idle {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

end Cert.KernelIdeal.Att

end
-- ==== Proof.Body.lean ====
module

public import proofs.«01_k».proof.Proof.Gen.KernelIdeal.Launch
public import Idealize.ShloMosaic.Lib.Tactic

@[expose] public section

set_option maxRecDepth 65536

/-!
# The bounded kernel's body as a walk over its tiles

The printed body of the kernel is straight-line: 65 key tiles of 256 keys, each scored and summed for the four softmaxes
of a pair of heads, one after the other, with three scores in flight. Here the same text is written once for a tile and a
softmax (`step`) and walked over the 260 pairs (`walk`); `body_eq` says that the printed body is this walk.
-/

noncomputable section

namespace Cert.KernelIdeal.Att

open Idealize.ShloMosaic Idealize.SL.Sem
open Facts₀ Facts

variable {F : FTy → Type} [FloatOps F] [Facts]

/-! ## The values -/

/-- The query block, transposed. -/
def qT (v0 : Vec F S1x512x128 .bf16) : FVec F S128x512 .f32 :=
  transpose S128x512 [1, 0] (extf .f32 (shapeCast S512x128 v0 shapeCasts_S1x512x128_S512x128) bitsLt_bf16_f32)
    transposes_S512x128_p1_0_S128x512

/-- The row number of each entry. -/
def rowIx : IVec S128x512 32 := iota .tc S128x512 32 [0] iota_S128x512_d0_w32

/-- Ones in the first column, zeros elsewhere: the columns appended to a tile of keys. -/
def oneCol : FVec F S256x128 .bf16 :=
  truncf .bf16 (select (cmpi .eq (iota .tc S256x128 32 [1] iota_S256x128_d1_w32) (broadcast S256x128 0#32))
    (broadcast S256x128 (Scalar.ofBits (F := F) .f32 0x3F800000#32))
    (broadcast S256x128 (Scalar.ofBits (F := F) .f32 0x00000000#32))) bitsLt_bf16_f32

/-- The rows of softmax `s`'s queries, the other rows zero. -/
def qS (v0 : Vec F S1x512x128 .bf16) (s : BitVec 32) : FVec F S128x512 .f32 :=
  select (cmpi .eq (shrsi rowIx (broadcast S128x512 5#32)) (broadcast S128x512 s)) (qT v0)
    (broadcast S128x512 (Scalar.ofBits (F := F) .f32 0x00000000#32))

/-- The bound of softmax `s`'s scores, negated, in one row. -/
def negB (v0 : Vec F S1x512x128 .bf16) (s : BitVec 32) (kn : Elt F .f32) : FVec F S1x512 .f32 :=
  subf (broadcast S1x512 (Scalar.ofBits (F := F) .f32 0x00000000#32))
    (mulf (sqrt (shapeCast S1x512 (multiReduction .add [0] S512 (mulf (qS v0 s) (qS v0 s)) 0x00000000#32
      reduces_S128x512_S512 (.inl rfl) rfl) shapeCasts_S512_S1x512)) (broadcast S1x512 kn))

/-- The right factor of softmax `s`'s scores: its queries, and under them the negated bound in the first row. -/
def wS (v0 : Vec F S1x512x128 .bf16) (s : BitVec 32) (kn : Elt F .f32) : FVec F S256x512 .bf16 :=
  truncf .bf16 (concatenate S256x512 0 [⟨S128x512, qS v0 s⟩,
    ⟨S128x512, select (cmpi .eq rowIx (broadcast S128x512 0#32))
      (broadcastTo S128x512 (shapeCast S1x512 (negB v0 s kn) shapeCasts_S1x512_S1x512) broadcasts_S1x512_S128x512)
      (broadcast S128x512 (Scalar.ofBits (F := F) .f32 0x00000000#32))⟩]
    concatenates_S128x512_S128x512_S256x512_d0) bitsLt_bf16_f32

/-- The scores of a tile of keys. -/
def score (k : Vec F S1x256x128 .bf16) (w : FVec F S256x512 .bf16) : FVec F S256x512 .f32 :=
  matmul dot_S256x256_S256x512_S256x512_1_0_0_1_n_n none
    (concatenate S256x256 1 [⟨S256x128, shapeCast S256x128 k shapeCasts_S1x256x128_S256x128⟩, ⟨S256x128, oneCol (F := F)⟩]
      concatenates_S256x128_S256x128_S256x256_d1) w (constant S256x512 .f32 0x00000000#32)

/-- The partial denominators after a tile with the scores `sc`. -/
def lNew (sc : FVec F S256x512 .f32) (l : Vec F S1x8x512 .f32) : FVec F S1x8x512 .f32 :=
  shapeCast S1x8x512 (addf (shapeCast S8x512 l shapeCasts_S1x8x512_S8x512)
    (multiReduction .add [0] S8x512 (shapeCast S32x8x512 (exp2 sc) shapeCasts_S256x512_S32x8x512) 0x00000000#32
      reduces_S32x8x512_S8x512 (.inl rfl) rfl)) shapeCasts_S8x512_S1x8x512

/-- The numerators after a tile with the scores `sc` and the values `v`. -/
def aNew (sc : FVec F S256x512 .f32) (v : Vec F S1x1x64x256 .bf16) (a : Vec F S1x64x512 .f32) : FVec F S1x64x512 .f32 :=
  shapeCast S1x64x512 (addf (shapeCast S64x512 a shapeCasts_S1x64x512_S64x512)
    (matmul dot_S64x256_S256x512_S64x512_1_0_0_1_n_n none (shapeCast S64x256 v shapeCasts_S1x1x64x256_S64x256)
      (truncf .bf16 (exp2 sc) bitsLt_bf16_f32) (constant S64x512 .f32 0x00000000#32))) shapeCasts_S64x512_S1x64x512

/-- One softmax's output: the numerators over the summed denominators. -/
def quo (l : Vec F S1x8x512 .f32) (a : Vec F S1x64x512 .f32) : FVec F S64x512 .f32 :=
  divf (shapeCast S64x512 a shapeCasts_S1x64x512_S64x512)
    (broadcastTo S64x512 (shapeCast S1x512 (multiReduction .add [0] S512 (shapeCast S8x512 l shapeCasts_S1x8x512_S8x512)
      0x00000000#32 reduces_S8x512_S512 (.inl rfl) rfl) shapeCasts_S512_S1x512) broadcasts_S1x512_S64x512)

/-- The difference of a head's two softmaxes. -/
def dif (lam : Elt F .f32) (o₀ o₁ : FVec F S64x512 .f32) : FVec F S64x512 .f32 :=
  subf o₀ (mulf (broadcast S64x512 lam) o₁)

/-- A head's normed output. -/
def nrm (d : FVec F S64x512 .f32) (g : Vec F S64x1 .f32) : FVec F S64x512 .f32 :=
  mulf (mulf (mulf d (broadcastTo S64x512 (rsqrt (addf (divf (shapeCast S1x512
      (multiReduction .add [0] S512 (mulf d d) 0x00000000#32 reduces_S64x512_S512 (.inl rfl) rfl) shapeCasts_S512_S1x512)
        (broadcast S1x512 (Scalar.ofBits (F := F) .f32 0x42800000#32)))
      (broadcast S1x512 (Scalar.ofBits (F := F) .f32 0x358637BD#32)))) broadcasts_S1x512_S64x512))
    (broadcastTo S64x512 (shapeCast S64x1 g shapeCasts_S64x1_S64x1) broadcasts_S64x1_S64x512))
    (broadcast S64x512 (Scalar.ofBits (F := F) .f32 0x3F4CCCCD#32))

/-- The block stored: the two heads' outputs, transposed. -/
def outB (y₀ y₁ : FVec F S64x512 .f32) : FVec F S1x512x128 .bf16 :=
  shapeCast S1x512x128 (truncf .bf16 (transpose S512x128 [1, 0] (concatenate S128x512 0 [⟨S64x512, y₀⟩, ⟨S64x512, y₁⟩]
    concatenates_S64x512_S64x512_S128x512_d0) transposes_S128x512_p1_0_S512x128) bitsLt_bf16_f32)
    shapeCasts_S512x128_S1x512x128

/-! ## The places -/

/-- Key tile `u`. -/
def offK (u : ℕ) : Fin 3 → ℕ := ![0, 256 * u, 0]

/-- The values of key tile `u`, for the head of softmax `s`. -/
def offV (s u : ℕ) : Fin 4 → ℕ := ![0, 0, 64 * (s / 2), 256 * u]

/-- Slab `s` of a scratch. -/
def offS (s : ℕ) : Fin 3 → ℕ := ![s, 0, 0]

theorem inbK (u : Fin 65) : ∀ a, offK u.val a + S1x256x128.size a ≤ S1x16640x128.size a := by
  revert u; decide

theorem inbV (s : Fin 4) (u : Fin 65) : ∀ a, offV s.val u.val a + S1x1x64x256.size a ≤ S1x1x128x16640.size a := by
  revert s u; decide

theorem inbL (s : Fin 4) : ∀ a, offS s.val a + S1x8x512.size a ≤ S4x8x512.size a := by
  revert s; decide

theorem inbA (s : Fin 4) : ∀ a, offS s.val a + S1x64x512.size a ≤ S4x64x512.size a := by
  revert s; decide

/-! ## The text -/

/-- One tile of one softmax: the scores are exponentiated and added to the denominators and the numerators. -/
def step (arg7 : Memref sig .tc .vmem S1x1x128x16640 .bf16) (arg10 : Memref sig .tc .vmem S4x64x512 .f32) (arg11 : Memref sig .tc .vmem S4x8x512 .f32) (s : Fin 4) (u : Fin 65) (sc : FVec F S256x512 .f32) : Prog (TpuEff nD τ sig (Elt F) Λ₀ .tc) PUnit := do
  let l : Vec F S1x8x512 .f32 ← Prog.lift (.load arg11 (Rect.unit (s := S4x8x512) (offS s.val) S1x8x512.size (inbL s)).toLoadRect (View.loadsAt_vmem h_S1x8x512))
  let _ : Vec F S1x8x512 .f32 ← Prog.lift (.load arg11 (Rect.unit (s := S4x8x512) (offS s.val) S1x8x512.size (inbL s)).toLoadRect (View.loadsAt_vmem h_S1x8x512))
  Prog.lift (.store arg11 (Rect.unit (s := S4x8x512) (offS s.val) S1x8x512.size (inbL s)) (lNew sc l) Finset.univ (View.stores_vmem_bits_univ h_S1x8x512 rfl) (.inl rfl))
  let a : Vec F S1x64x512 .f32 ← Prog.lift (.load arg10 (Rect.unit (s := S4x64x512) (offS s.val) S1x64x512.size (inbA s)).toLoadRect (View.loadsAt_vmem h_S1x64x512))
  let v : Vec F S1x1x64x256 .bf16 ← Prog.lift (.load arg7 (Rect.unit (s := S1x1x128x16640) (offV s.val u.val) S1x1x64x256.size (inbV s u)).toLoadRect (View.loadsAt_vmem h_S1x1x64x256))
  let _ : Vec F S1x64x512 .f32 ← Prog.lift (.load arg10 (Rect.unit (s := S4x64x512) (offS s.val) S1x64x512.size (inbA s)).toLoadRect (View.loadsAt_vmem h_S1x64x512))
  Prog.lift (.store arg10 (Rect.unit (s := S4x64x512) (offS s.val) S1x64x512.size (inbA s)) (aNew sc v a) Finset.univ (View.stores_vmem_bits_univ h_S1x64x512 rfl) (.inl rfl))

/-- Key tile `u` is read. -/
def loadK (arg6 : Memref sig .tc .vmem S1x16640x128 .bf16) (u : Fin 65) : Prog (TpuEff nD τ sig (Elt F) Λ₀ .tc) (Vec F S1x256x128 .bf16) :=
  Prog.lift (.load arg6 (Rect.unit (s := S1x16640x128) (offK u.val) S1x256x128.size (inbK u)).toLoadRect (View.loadsAt_vmem h_S1x256x128))

/-- The tile of the `n`-th step. -/
def tl (n : ℕ) : Fin 65 := Fin.ofNat 65 (n / 4)

/-- The softmax of the `n`-th step. -/
def sm (n : ℕ) : Fin 4 := Fin.ofNat 4 n

/-- From step `n` on, with the scores of steps `n` and `n + 1` in flight: `fuel` steps that score ahead and two that do not. -/
def walk (arg6 : Memref sig .tc .vmem S1x16640x128 .bf16) (arg7 : Memref sig .tc .vmem S1x1x128x16640 .bf16) (arg10 : Memref sig .tc .vmem S4x64x512 .f32) (arg11 : Memref sig .tc .vmem S4x8x512 .f32) (w : Fin 4 → FVec F S256x512 .bf16) : ℕ → ℕ → FVec F S256x512 .f32 → FVec F S256x512 .f32 →
    Prog (TpuEff nD τ sig (Elt F) Λ₀ .tc) PUnit
  | 0, n, a, b => do
    step arg7 arg10 arg11 (sm n) (tl n) a
    step arg7 arg10 arg11 (sm (n + 1)) (tl (n + 1)) b
  | fuel + 1, n, a, b => do
    let k ← loadK arg6 (tl (n + 2))
    step arg7 arg10 arg11 (sm n) (tl n) a
    walk arg6 arg7 arg10 arg11 w fuel (n + 1) b (score k (w (sm (n + 2))))

/-- The right factor of softmax `s`, its key norm read. -/
def loadN (i : grid1.Coords) (arg4 : Memref sig .tc .smem S2x16 .f32) (s : Fin 4) : Prog (TpuEff nD τ sig (Elt F) Λ₀ .tc) (Elt F .f32) :=
  smemLoad arg4 (Rect.unit (s := S2x16) (k1_off1 i (BitVec.ofNat 32 s.val)) S1x1.size (k1_off1_inb i s)) numel1_S1x1 rfl

/-- Softmax `s`'s denominators and numerators are read. -/
def loadL (arg11 : Memref sig .tc .vmem S4x8x512 .f32) (s : Fin 4) : Prog (TpuEff nD τ sig (Elt F) Λ₀ .tc) (Vec F S1x8x512 .f32) :=
  Prog.lift (.load arg11 (Rect.unit (s := S4x8x512) (offS s.val) S1x8x512.size (inbL s)).toLoadRect (View.loadsAt_vmem h_S1x8x512))

def loadA (arg10 : Memref sig .tc .vmem S4x64x512 .f32) (s : Fin 4) : Prog (TpuEff nD τ sig (Elt F) Λ₀ .tc) (Vec F S1x64x512 .f32) :=
  Prog.lift (.load arg10 (Rect.unit (s := S4x64x512) (offS s.val) S1x64x512.size (inbA s)).toLoadRect (View.loadsAt_vmem h_S1x64x512))

/-- The end: the heads' outputs are divided, subtracted, normed and stored. -/
def ending (arg3 : Memref sig .tc .smem S1 .f32) (arg8 : Memref sig .tc .vmem S128x1 .f32) (arg9 : Memref sig .tc .vmem S1x512x128 .bf16) (harg9 : arg9.IsWhole) (arg10 : Memref sig .tc .vmem S4x64x512 .f32) (arg11 : Memref sig .tc .vmem S4x8x512 .f32) : Prog (TpuEff nD τ sig (Elt F) Λ₀ .tc) PUnit := do
  let lam : Elt F .f32 ← smemLoad arg3 (Rect.unit (s := S1) ![0] S1.size inb_S1_S1_0) numel1_S1 rfl
  let l₀ ← loadL arg11 0
  let l₁ ← loadL arg11 1
  let a₀ ← loadA arg10 0
  let a₁ ← loadA arg10 1
  let g₀ : Vec F S64x1 .f32 ← Prog.lift (.load arg8 (Rect.unit (s := S128x1) ![0, 0] S64x1.size inb_S128x1_S64x1_0_0).toLoadRect (View.loadsAt_vmem h_S64x1))
  let l₂ ← loadL arg11 2
  let l₃ ← loadL arg11 3
  let a₂ ← loadA arg10 2
  let a₃ ← loadA arg10 3
  let g₁ : Vec F S64x1 .f32 ← Prog.lift (.load arg8 (Rect.unit (s := S128x1) ![64, 0] S64x1.size inb_S128x1_S64x1_64_0).toLoadRect (View.loadsAt_vmem h_S64x1))
  let _ : Vec F S1x512x128 .bf16 ← Prog.lift (.load arg9 (Rect.unit (s := S1x512x128) ![0, 0, 0] S1x512x128.size inb_S1x512x128_S1x512x128_0_0_0).toLoadRect (View.loadsAt_vmem h_S1x512x128))
  Prog.lift (.store arg9 (Rect.unit (s := S1x512x128) ![0, 0, 0] S1x512x128.size inb_S1x512x128_S1x512x128_0_0_0)
    (outB (nrm (dif lam (quo l₀ a₀) (quo l₁ a₁)) g₀) (nrm (dif lam (quo l₂ a₂) (quo l₃ a₃)) g₁))
    Finset.univ (View.stores_vmem h_S1x512x128 (harg9.storeExact_slice rfl _ packedbf16_S1x512x128_S1x512x128_0_0_0) (fun _ => rfl)) (.inl rfl))

/-- The whole body. -/
def body (i : grid1.Coords) (arg3 : Memref sig .tc .smem S1 .f32) (harg3 : arg3.IsWhole) (arg4 : Memref sig .tc .smem S2x16 .f32) (harg4 : arg4.IsWhole) (arg5 : Memref sig .tc .vmem S1x512x128 .bf16) (harg5 : arg5.IsWhole) (arg6 : Memref sig .tc .vmem S1x16640x128 .bf16) (harg6 : arg6.IsWhole) (arg7 : Memref sig .tc .vmem S1x1x128x16640 .bf16) (harg7 : arg7.IsWhole) (arg8 : Memref sig .tc .vmem S128x1 .f32) (harg8 : arg8.IsWhole) (arg9 : Memref sig .tc .vmem S1x512x128 .bf16) (harg9 : arg9.IsWhole) (arg10 : Memref sig .tc .vmem S4x64x512 .f32) (harg10 : arg10.IsWhole) (arg11 : Memref sig .tc .vmem S4x8x512 .f32) (harg11 : arg11.IsWhole) : Prog (TpuEff nD τ sig (Elt F) Λ₀ .tc) PUnit := do
  let v0 : Vec F S1x512x128 .bf16 ← Prog.lift (.load arg5 (Rect.unit (s := S1x512x128) ![0, 0, 0] S1x512x128.size inb_S1x512x128_S1x512x128_0_0_0).toLoadRect (View.loadsAt_vmem h_S1x512x128))
  let n₀ ← loadN i arg4 0
  let n₁ ← loadN i arg4 1
  let n₂ ← loadN i arg4 2
  let n₃ ← loadN i arg4 3
  let w : Fin 4 → FVec F S256x512 .bf16 := ![wS v0 0#32 n₀, wS v0 1#32 n₁, wS v0 2#32 n₂, wS v0 3#32 n₃]
  let _ : Vec F S4x64x512 .f32 ← Prog.lift (.load arg10 (Rect.unit (s := S4x64x512) ![0, 0, 0] S4x64x512.size inb_S4x64x512_S4x64x512_0_0_0).toLoadRect (View.loadsAt_vmem h_S4x64x512))
  Prog.lift (.store arg10 (Rect.unit (s := S4x64x512) ![0, 0, 0] S4x64x512.size inb_S4x64x512_S4x64x512_0_0_0) (shapeCast S4x64x512 (broadcast S4x64x512 (Scalar.ofBits (F := F) .f32 0x00000000#32)) shapeCasts_S4x64x512_S4x64x512) Finset.univ (View.stores_vmem_bits_univ h_S4x64x512 rfl) (.inl rfl))
  let _ : Vec F S4x8x512 .f32 ← Prog.lift (.load arg11 (Rect.unit (s := S4x8x512) ![0, 0, 0] S4x8x512.size inb_S4x8x512_S4x8x512_0_0_0).toLoadRect (View.loadsAt_vmem h_S4x8x512))
  Prog.lift (.store arg11 (Rect.unit (s := S4x8x512) ![0, 0, 0] S4x8x512.size inb_S4x8x512_S4x8x512_0_0_0) (shapeCast S4x8x512 (broadcast S4x8x512 (Scalar.ofBits (F := F) .f32 0x00000000#32)) shapeCasts_S4x8x512_S4x8x512) Finset.univ (View.stores_vmem_bits_univ h_S4x8x512 rfl) (.inl rfl))
  let k₀ ← loadK arg6 (tl 0)
  let k₁ ← loadK arg6 (tl 1)
  walk arg6 arg7 arg10 arg11 w 258 0 (score k₀ (w 0)) (score k₁ (w 1))
  ending arg3 arg8 arg9 harg9 arg10 arg11

/-- The printed body is the walk. -/
theorem body_eq (i : grid1.Coords) (arg3 : Memref sig .tc .smem S1 .f32) (harg3 : arg3.IsWhole) (arg4 : Memref sig .tc .smem S2x16 .f32) (harg4 : arg4.IsWhole) (arg5 : Memref sig .tc .vmem S1x512x128 .bf16) (harg5 : arg5.IsWhole) (arg6 : Memref sig .tc .vmem S1x16640x128 .bf16) (harg6 : arg6.IsWhole) (arg7 : Memref sig .tc .vmem S1x1x128x16640 .bf16) (harg7 : arg7.IsWhole) (arg8 : Memref sig .tc .vmem S128x1 .f32) (harg8 : arg8.IsWhole) (arg9 : Memref sig .tc .vmem S1x512x128 .bf16) (harg9 : arg9.IsWhole) (arg10 : Memref sig .tc .vmem S4x64x512 .f32) (harg10 : arg10.IsWhole) (arg11 : Memref sig .tc .vmem S4x8x512 .f32) (harg11 : arg11.IsWhole) : cc1_diff_attention_bounded (F := F) i arg3 harg3 arg4 harg4 arg5 harg5 arg6 harg6 arg7 harg7 arg8 harg8 arg9 harg9 arg10 harg10 arg11 harg11 = body i arg3 harg3 arg4 harg4 arg5 harg5 arg6 harg6 arg7 harg7 arg8 harg8 arg9 harg9 arg10 harg10 arg11 harg11 := by
  sl_kernel_rfl

end Cert.KernelIdeal.Att
-- ==== Proof.Running.lean ====
module

public import proofs.«01_k».proof.Proof.Body

@[expose] public section

set_option maxRecDepth 65536

/-!
# The running-maximum kernel's body, by softmax

The printed body keeps for each of the four softmaxes of a pair of heads the maximum of the scores so far, and under it
the numerators with the denominator as one more row. Here the same text is written once for a softmax (`scoreP`,
`absorbP`); `rbody_eq` says that the printed body is this text.
-/

noncomputable section

namespace Cert.KernelIdeal.Att

open Idealize.ShloMosaic Idealize.SL.Sem
open Facts₀ Facts

variable {F : FTy → Type} [FloatOps F] [Facts]

/-! ## The values -/

/-- Ones in the first row, zeros below: the rows appended to a tile of values. -/
def oneRow : FVec F S16x256 .bf16 :=
  truncf .bf16 (select (cmpi .eq (iota .tc S16x256 32 [0] iota_S16x256_d0_w32) (broadcast S16x256 0#32))
    (broadcast S16x256 (Scalar.ofBits (F := F) .f32 0x3F800000#32))
    (broadcast S16x256 (Scalar.ofBits (F := F) .f32 0x00000000#32))) bitsLt_bf16_f32

/-- A tile of the first head's values, the row of ones under it. -/
def vTop (v : Vec F S1x1x128x256 .bf16) : FVec F S80x256 .bf16 :=
  concatenate S80x256 0 [⟨S64x256, extractStridedSlice S64x256 ![0, 0] (shapeCast S128x256 v shapeCasts_S1x1x128x256_S128x256) slices_S128x256_o0_0_S64x256⟩,
    ⟨S16x256, oneRow (F := F)⟩] concatenates_S64x256_S16x256_S80x256_d0

/-- A tile of the second head's values, the row of ones under it. -/
def vBot (v : Vec F S1x1x128x256 .bf16) : FVec F S80x256 .bf16 :=
  concatenate S80x256 0 [⟨S64x256, extractStridedSlice S64x256 ![64, 0] (shapeCast S128x256 v shapeCasts_S1x1x128x256_S128x256) slices_S128x256_o64_0_S64x256⟩,
    ⟨S16x256, oneRow (F := F)⟩] concatenates_S64x256_S16x256_S80x256_d0

/-- Softmax `s`'s queries as the right factor of its scores. -/
def rq (v0 : Vec F S1x512x128 .bf16) (s : BitVec 32) : FVec F S128x512 .bf16 := truncf .bf16 (qS v0 s) bitsLt_bf16_f32

/-- The scores of a tile of keys. -/
def rscore (k : Vec F S1x256x128 .bf16) (w : FVec F S128x512 .bf16) : FVec F S256x512 .f32 :=
  matmul dot_S256x128_S128x512_S256x512_1_0_0_1_n_n none (shapeCast S256x128 k shapeCasts_S1x256x128_S256x128) w
    (constant S256x512 .f32 0x00000000#32)

/-- The greatest score of each query in a tile. -/
def tmax (sc : FVec F S256x512 .f32) : FVec F S1x512 .f32 :=
  shapeCast S1x512 (multiReduction .maximumf [0] S512 sc 0xFF800000#32 reduces_S256x512_S512 (.inl rfl) rfl) shapeCasts_S512_S1x512

/-- The scores as a slab. -/
def inS (sc : FVec F S256x512 .f32) : FVec F S1x256x512 .f32 := shapeCast S1x256x512 sc shapeCasts_S256x512_S1x256x512

/-- The sums after a tile with the scores `sl` and the values `v`, the maximum going from `m` to `m'`. -/
def aStep (sl : Vec F S1x256x512 .f32) (m m' : FVec F S1x512 .f32) (v : FVec F S80x256 .bf16) (a : Vec F S1x80x512 .f32) : FVec F S1x80x512 .f32 :=
  shapeCast S1x80x512 (addf (mulf (broadcastTo S80x512 (exp2 (subf m m')) broadcasts_S1x512_S80x512) (shapeCast S80x512 a shapeCasts_S1x80x512_S80x512))
    (matmul dot_S80x256_S256x512_S80x512_1_0_0_1_n_n none v
      (truncf .bf16 (exp2 (subf (shapeCast S256x512 sl shapeCasts_S1x256x512_S256x512) (broadcastTo S256x512 m' broadcasts_S1x512_S256x512))) bitsLt_bf16_f32)
      (constant S80x512 .f32 0x00000000#32))) shapeCasts_S80x512_S1x80x512

/-- One softmax's output: the numerators over the denominator. -/
def rquo (a : Vec F S1x80x512 .f32) : FVec F S64x512 .f32 :=
  divf (extractStridedSlice S64x512 ![0, 0] (shapeCast S80x512 a shapeCasts_S1x80x512_S80x512) slices_S80x512_o0_0_S64x512)
    (broadcastTo S64x512 (extractStridedSlice S1x512 ![64, 0] (shapeCast S80x512 a shapeCasts_S1x80x512_S80x512) slices_S80x512_o64_0_S1x512)
      broadcasts_S1x512_S64x512)

/-- The value the maxima start from. -/
def mLow : FVec F S1x512 .f32 := broadcast S1x512 (Scalar.ofBits (F := F) .f32 0xF149F2CA#32)

/-! ## The places -/

theorem inbS (s : Fin 4) : ∀ a, offS s.val a + S1x256x512.size a ≤ S4x256x512.size a := by
  revert s; decide

theorem inbR (s : Fin 4) : ∀ a, offS s.val a + S1x80x512.size a ≤ S4x80x512.size a := by
  revert s; decide

/-! ## The text -/

/-- A tile's scores of softmax `s` are stored; their maxima. -/
def scoreP (arg5 : Memref sig .tc .vmem S1x16640x128 .bf16) (arg10 : Memref sig .tc .vmem S4x256x512 .f32) (s : Fin 4) (off : Fin 3 → ℕ) (inb : ∀ a, off a + S1x256x128.size a ≤ S1x16640x128.size a) (w : FVec F S128x512 .bf16) : Prog (TpuEff nD τ sig (Elt F) Λ₀ .tc) (FVec F S1x512 .f32) := do
  let k : Vec F S1x256x128 .bf16 ← Prog.lift (.load arg5 (Rect.unit (s := S1x16640x128) off S1x256x128.size inb).toLoadRect (View.loadsAt_vmem h_S1x256x128))
  let _ : Vec F S1x256x512 .f32 ← Prog.lift (.load arg10 (Rect.unit (s := S4x256x512) (offS s.val) S1x256x512.size (inbS s)).toLoadRect (View.loadsAt_vmem h_S1x256x512))
  Prog.lift (.store arg10 (Rect.unit (s := S4x256x512) (offS s.val) S1x256x512.size (inbS s)) (inS (rscore k w)) Finset.univ (View.stores_vmem_bits_univ h_S1x256x512 rfl) (.inl rfl))
  pure (tmax (rscore k w))

/-- A tile of softmax `s` is added to its sums; the new maxima. -/
def absorbP (arg9 : Memref sig .tc .vmem S4x80x512 .f32) (arg10 : Memref sig .tc .vmem S4x256x512 .f32) (s : Fin 4) (v : FVec F S80x256 .bf16) (m mt : FVec F S1x512 .f32) : Prog (TpuEff nD τ sig (Elt F) Λ₀ .tc) (FVec F S1x512 .f32) := do
  let sl : Vec F S1x256x512 .f32 ← Prog.lift (.load arg10 (Rect.unit (s := S4x256x512) (offS s.val) S1x256x512.size (inbS s)).toLoadRect (View.loadsAt_vmem h_S1x256x512))
  let a : Vec F S1x80x512 .f32 ← Prog.lift (.load arg9 (Rect.unit (s := S4x80x512) (offS s.val) S1x80x512.size (inbR s)).toLoadRect (View.loadsAt_vmem h_S1x80x512))
  let _ : Vec F S1x80x512 .f32 ← Prog.lift (.load arg9 (Rect.unit (s := S4x80x512) (offS s.val) S1x80x512.size (inbR s)).toLoadRect (View.loadsAt_vmem h_S1x80x512))
  Prog.lift (.store arg9 (Rect.unit (s := S4x80x512) (offS s.val) S1x80x512.size (inbR s)) (aStep sl m (maximumf m mt) v a) Finset.univ (View.stores_vmem_bits_univ h_S1x80x512 rfl) (.inl rfl))
  pure (maximumf m mt)

/-- One trip of the loop. -/
def iter (arg5 : Memref sig .tc .vmem S1x16640x128 .bf16) (arg6 : Memref sig .tc .vmem S1x1x128x16640 .bf16) (arg9 : Memref sig .tc .vmem S4x80x512 .f32) (arg10 : Memref sig .tc .vmem S4x256x512 .f32) (w : Fin 4 → FVec F S128x512 .bf16) (t : Fin k0_t1_loop.trips) (m₀ m₁ m₂ m₃ a b : FVec F S1x512 .f32) : Prog (TpuEff nD τ sig (Elt F) Λ₀ .tc) (FVec F S1x512 .f32 × FVec F S1x512 .f32 × FVec F S1x512 .f32 × FVec F S1x512 .f32 × FVec F S1x512 .f32 × FVec F S1x512 .f32) := do
  let v : Vec F S1x1x128x256 .bf16 ← Prog.lift (.load arg6 (Rect.unit (s := S1x1x128x16640) (k0_off1 t) S1x1x128x256.size (k0_off1_inb t)).toLoadRect (View.loadsAt_vmem h_S1x1x128x256))
  let c ← scoreP arg5 arg10 2 (k0_off2 t) (k0_off2_inb t) (w 2)
  let d ← scoreP arg5 arg10 3 (k0_off2 t) (k0_off2_inb t) (w 3)
  let m₀' ← absorbP arg9 arg10 0 (vTop v) m₀ a
  let a' ← scoreP arg5 arg10 0 (k0_off3 t) (k0_off3_inb t) (w 0)
  let m₁' ← absorbP arg9 arg10 1 (vTop v) m₁ b
  let b' ← scoreP arg5 arg10 1 (k0_off3 t) (k0_off3_inb t) (w 1)
  let m₂' ← absorbP arg9 arg10 2 (vBot v) m₂ c
  let m₃' ← absorbP arg9 arg10 3 (vBot v) m₃ d
  pure (m₀', m₁', m₂', m₃', a', b')

/-- Softmax `s`'s sums are read. -/
def loadR (arg9 : Memref sig .tc .vmem S4x80x512 .f32) (s : Fin 4) : Prog (TpuEff nD τ sig (Elt F) Λ₀ .tc) (Vec F S1x80x512 .f32) :=
  Prog.lift (.load arg9 (Rect.unit (s := S4x80x512) (offS s.val) S1x80x512.size (inbR s)).toLoadRect (View.loadsAt_vmem h_S1x80x512))

/-- The loop, and the sums it leaves: the scalar, the first head's output, and the second head's two sums as they are divided. -/
def mid (arg3 : Memref sig .tc .smem S1 .f32) (arg5 : Memref sig .tc .vmem S1x16640x128 .bf16) (arg6 : Memref sig .tc .vmem S1x1x128x16640 .bf16) (arg7 : Memref sig .tc .vmem S128x1 .f32) (arg9 : Memref sig .tc .vmem S4x80x512 .f32) (arg10 : Memref sig .tc .vmem S4x256x512 .f32) (w : Fin 4 → FVec F S128x512 .bf16) (a b : FVec F S1x512 .f32) : Prog (TpuEff nD τ sig (Elt F) Λ₀ .tc) (Σ' (_ : Elt F .f32) (_ : FVec F S64x512 .f32) (_ : FVec F S80x512 .f32) (_ : FVec F S64x512 .f32), FVec F S64x512 .f32) := do
  let _ ← Scf.Loop.for k0_t1_loop k0_t1_ok (mLow (F := F), mLow (F := F), mLow (F := F), mLow (F := F), a, b)
    fun t (m₀, m₁, m₂, m₃, a, b) => iter arg5 arg6 arg9 arg10 w t m₀ m₁ m₂ m₃ a b
  let lam : Elt F .f32 ← smemLoad arg3 (Rect.unit (s := S1) ![0] S1.size inb_S1_S1_0) numel1_S1 rfl
  let a₀ ← loadR arg9 0
  let a₁ ← loadR arg9 1
  let g₀ : Vec F S64x1 .f32 ← Prog.lift (.load arg7 (Rect.unit (s := S128x1) ![0, 0] S64x1.size inb_S128x1_S64x1_0_0).toLoadRect (View.loadsAt_vmem h_S64x1))
  let a₂ ← loadR arg9 2
  let a₃ ← loadR arg9 3
  pure ⟨lam, nrm (dif lam (rquo a₀) (rquo a₁)) g₀, shapeCast S80x512 a₃ shapeCasts_S1x80x512_S80x512,
    extractStridedSlice S64x512 ![0, 0] (shapeCast S80x512 a₂ shapeCasts_S1x80x512_S80x512) slices_S80x512_o0_0_S64x512,
    broadcastTo S64x512 (extractStridedSlice S1x512 ![64, 0] (shapeCast S80x512 a₂ shapeCasts_S1x80x512_S80x512) slices_S80x512_o64_0_S1x512)
      broadcasts_S1x512_S64x512⟩

/-- The end: the second head's output, and the block is stored. -/
def rending (arg7 : Memref sig .tc .vmem S128x1 .f32) (arg8 : Memref sig .tc .vmem S1x512x128 .bf16) (harg8 : arg8.IsWhole) (r : Σ' (_ : Elt F .f32) (_ : FVec F S64x512 .f32) (_ : FVec F S80x512 .f32) (_ : FVec F S64x512 .f32), FVec F S64x512 .f32) : Prog (TpuEff nD τ sig (Elt F) Λ₀ .tc) PUnit := do
  let g₁ : Vec F S64x1 .f32 ← Prog.lift (.load arg7 (Rect.unit (s := S128x1) ![64, 0] S64x1.size inb_S128x1_S64x1_64_0).toLoadRect (View.loadsAt_vmem h_S64x1))
  let _ : Vec F S1x512x128 .bf16 ← Prog.lift (.load arg8 (Rect.unit (s := S1x512x128) ![0, 0, 0] S1x512x128.size inb_S1x512x128_S1x512x128_0_0_0).toLoadRect (View.loadsAt_vmem h_S1x512x128))
  Prog.lift (.store arg8 (Rect.unit (s := S1x512x128) ![0, 0, 0] S1x512x128.size inb_S1x512x128_S1x512x128_0_0_0)
    (outB r.2.1 (nrm (dif r.1 (divf r.2.2.2.1 r.2.2.2.2)
      (divf (extractStridedSlice S64x512 ![0, 0] r.2.2.1 slices_S80x512_o0_0_S64x512)
        (broadcastTo S64x512 (extractStridedSlice S1x512 ![64, 0] r.2.2.1 slices_S80x512_o64_0_S1x512) broadcasts_S1x512_S64x512))) g₁))
    Finset.univ (View.stores_vmem h_S1x512x128 (harg8.storeExact_slice rfl _ packedbf16_S1x512x128_S1x512x128_0_0_0) (fun _ => rfl)) (.inl rfl))

/-- The whole body. -/
def rbody (i : grid0.Coords) (arg3 : Memref sig .tc .smem S1 .f32) (harg3 : arg3.IsWhole) (arg4 : Memref sig .tc .vmem S1x512x128 .bf16) (harg4 : arg4.IsWhole) (arg5 : Memref sig .tc .vmem S1x16640x128 .bf16) (harg5 : arg5.IsWhole) (arg6 : Memref sig .tc .vmem S1x1x128x16640 .bf16) (harg6 : arg6.IsWhole) (arg7 : Memref sig .tc .vmem S128x1 .f32) (harg7 : arg7.IsWhole) (arg8 : Memref sig .tc .vmem S1x512x128 .bf16) (harg8 : arg8.IsWhole) (arg9 : Memref sig .tc .vmem S4x80x512 .f32) (harg9 : arg9.IsWhole) (arg10 : Memref sig .tc .vmem S4x256x512 .f32) (harg10 : arg10.IsWhole) : Prog (TpuEff nD τ sig (Elt F) Λ₀ .tc) PUnit := do
  let v0 : Vec F S1x512x128 .bf16 ← Prog.lift (.load arg4 (Rect.unit (s := S1x512x128) ![0, 0, 0] S1x512x128.size inb_S1x512x128_S1x512x128_0_0_0).toLoadRect (View.loadsAt_vmem h_S1x512x128))
  let w : Fin 4 → FVec F S128x512 .bf16 := ![rq v0 0#32, rq v0 1#32, rq v0 2#32, rq v0 3#32]
  let _ : Vec F S4x80x512 .f32 ← Prog.lift (.load arg9 (Rect.unit (s := S4x80x512) ![0, 0, 0] S4x80x512.size inb_S4x80x512_S4x80x512_0_0_0).toLoadRect (View.loadsAt_vmem h_S4x80x512))
  Prog.lift (.store arg9 (Rect.unit (s := S4x80x512) ![0, 0, 0] S4x80x512.size inb_S4x80x512_S4x80x512_0_0_0) (shapeCast S4x80x512 (broadcast S4x80x512 (Scalar.ofBits (F := F) .f32 0x00000000#32)) shapeCasts_S4x80x512_S4x80x512) Finset.univ (View.stores_vmem_bits_univ h_S4x80x512 rfl) (.inl rfl))
  let a ← scoreP arg5 arg10 0 (offK (0 : Fin 65).val) (inbK 0) (w 0)
  let b ← scoreP arg5 arg10 1 (offK (0 : Fin 65).val) (inbK 0) (w 1)
  let r ← mid arg3 arg5 arg6 arg7 arg9 arg10 w a b
  rending arg7 arg8 harg8 r

/-- The printed body is this text. -/
theorem rbody_eq (i : grid0.Coords) (arg3 : Memref sig .tc .smem S1 .f32) (harg3 : arg3.IsWhole) (arg4 : Memref sig .tc .vmem S1x512x128 .bf16) (harg4 : arg4.IsWhole) (arg5 : Memref sig .tc .vmem S1x16640x128 .bf16) (harg5 : arg5.IsWhole) (arg6 : Memref sig .tc .vmem S1x1x128x16640 .bf16) (harg6 : arg6.IsWhole) (arg7 : Memref sig .tc .vmem S128x1 .f32) (harg7 : arg7.IsWhole) (arg8 : Memref sig .tc .vmem S1x512x128 .bf16) (harg8 : arg8.IsWhole) (arg9 : Memref sig .tc .vmem S4x80x512 .f32) (harg9 : arg9.IsWhole) (arg10 : Memref sig .tc .vmem S4x256x512 .f32) (harg10 : arg10.IsWhole) : cc0_diff_attention (F := F) i arg3 harg3 arg4 harg4 arg5 harg5 arg6 harg6 arg7 harg7 arg8 harg8 arg9 harg9 arg10 harg10 = rbody i arg3 harg3 arg4 harg4 arg5 harg5 arg6 harg6 arg7 harg7 arg8 harg8 arg9 harg9 arg10 harg10 := by
  sl_kernel_rfl

/-! ## The printed offsets -/

theorem off1_eq (t : Fin k0_t1_loop.trips) : k0_off1 t = ![0, 0, 0, 256 * t.val] := by
  revert t; decide

theorem off2_eq (t : Fin k0_t1_loop.trips) : k0_off2 t = offK t.val := by
  revert t; decide

theorem off3_eq (t : Fin k0_t1_loop.trips) : k0_off3 t = offK (min (t.val + 1) 64) := by
  revert t; decide

end Cert.KernelIdeal.Att
-- ==== Proof.BodyRun.lean ====
module

public import proofs.«01_k».proof.Proof.Body
public import proofs.«01_k».proof.Proof.Slabs

@[expose] public section

set_option backward.isDefEq.respectTransparency.types false

/-!
# What the bounded kernel's body leaves

The walk's pure content: after `n` steps the partial denominators are `accL … n` and the numerators `accA … n`, slab by
slab; the block the body stores is `outV`. The rule `body_run` runs the body from its buffers held by their values.
-/

noncomputable section

namespace Cert.KernelIdeal.Att

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Facts₀ Facts
open Cert.Att

variable {F : FTy → Type} [FloatOps F] [Facts]

/-! ## The pure content -/

/-- The denominators after `n` steps with the scores `sc`. -/
def accL (sc : ℕ → FVec F S256x512 .f32) (z : Fin 4 → Vec F S1x8x512 .f32) : ℕ → Fin 4 → Vec F S1x8x512 .f32
  | 0 => z
  | n + 1 => Function.update (accL sc z n) (sm n) (lNew (sc n) (accL sc z n (sm n)))

/-- The numerators after `n` steps with the scores `sc` and the values `v`. -/
def accA (sc : ℕ → FVec F S256x512 .f32) (v : ℕ → Vec F S1x1x64x256 .bf16) (z : Fin 4 → Vec F S1x64x512 .f32) :
    ℕ → Fin 4 → Vec F S1x64x512 .f32
  | 0 => z
  | n + 1 => Function.update (accA sc v z n) (sm n) (aNew (sc n) (v n) (accA sc v z n (sm n)))

/-- The tile of keys of step `n`. -/
def keyT (K : Vec F S1x16640x128 .bf16) (n : ℕ) : Vec F S1x256x128 .bf16 :=
  VecWindow.window K (offK (tl n).val) S1x256x128.size (inbK (tl n))

/-- The tile of values of step `n`. -/
def valT (V : Vec F S1x1x128x16640 .bf16) (n : ℕ) : Vec F S1x1x64x256 .bf16 :=
  VecWindow.window V (offV (sm n).val (tl n).val) S1x1x64x256.size (inbV (sm n) (tl n))

/-- The scores of step `n`. -/
def scT (K : Vec F S1x16640x128 .bf16) (w : Fin 4 → FVec F S256x512 .bf16) (n : ℕ) : FVec F S256x512 .f32 :=
  score (keyT K n) (w (sm n))

/-- Softmax `s`'s key norm. -/
def knV (i : grid1.Coords) (N : Vec F S2x16 .f32) (s : Fin 4) : Elt F .f32 :=
  VecWindow.window N (k1_off1 i (BitVec.ofNat 32 s.val)) S1x1.size (k1_off1_inb i s)
    (Shape.Idx.first (numel1_S1x1.symm ▸ Nat.one_pos))

/-- Softmax `s`'s right factor. -/
def wV (i : grid1.Coords) (q : Vec F S1x512x128 .bf16) (N : Vec F S2x16 .f32) : Fin 4 → FVec F S256x512 .bf16 :=
  ![wS q 0#32 (knV i N 0), wS q 1#32 (knV i N 1), wS q 2#32 (knV i N 2), wS q 3#32 (knV i N 3)]

/-- No denominator yet. -/
def zeroL : Fin 4 → Vec F S1x8x512 .f32 := fun s =>
  VecWindow.window (shapeCast S4x8x512 (broadcast S4x8x512 (Scalar.ofBits (F := F) .f32 0x00000000#32)) shapeCasts_S4x8x512_S4x8x512)
    (offS s.val) S1x8x512.size (inbL s)

/-- No numerator yet. -/
def zeroA : Fin 4 → Vec F S1x64x512 .f32 := fun s =>
  VecWindow.window (shapeCast S4x64x512 (broadcast S4x64x512 (Scalar.ofBits (F := F) .f32 0x00000000#32)) shapeCasts_S4x64x512_S4x64x512)
    (offS s.val) S1x64x512.size (inbA s)

/-- The difference of two softmaxes as a scalar `lam` weighs them. -/
def lamV (L : Vec F S1 .f32) : Elt F .f32 :=
  VecWindow.window L ![0] S1.size inb_S1_S1_0 (Shape.Idx.first (numel1_S1.symm ▸ Nat.one_pos))

/-- The block the body stores. -/
def outV (i : grid1.Coords) (L : Vec F S1 .f32) (N : Vec F S2x16 .f32) (q : Vec F S1x512x128 .bf16)
    (K : Vec F S1x16640x128 .bf16) (V : Vec F S1x1x128x16640 .bf16) (g : Vec F S128x1 .f32) : Vec F S1x512x128 .bf16 :=
  let l := accL (scT K (wV i q N)) zeroL 260
  let a := accA (scT K (wV i q N)) (valT V) zeroA 260
  outB (nrm (dif (lamV L) (quo (l 0) (a 0)) (quo (l 1) (a 1))) (VecWindow.window g ![0, 0] S64x1.size inb_S128x1_S64x1_0_0))
    (nrm (dif (lamV L) (quo (l 2) (a 2)) (quo (l 3) (a 3))) (VecWindow.window g ![64, 0] S64x1.size inb_S128x1_S64x1_64_0))

/-! ## The rules -/

variable {Name : Type} [DecidableEq Name] {U : Type} [URA U]
local notation "𝕄" => MT nD τ sig Unit (Elt F) Name U ℕ

variable (c : Dev nD) (arg3 : Memref sig .tc .smem S1 .f32) (arg4 : Memref sig .tc .smem S2x16 .f32) (arg5 : Memref sig .tc .vmem S1x512x128 .bf16)
  (arg6 : Memref sig .tc .vmem S1x16640x128 .bf16) (arg7 : Memref sig .tc .vmem S1x1x128x16640 .bf16) (arg8 : Memref sig .tc .vmem S128x1 .f32)
  (arg9 : Memref sig .tc .vmem S1x512x128 .bf16) (arg10 : Memref sig .tc .vmem S4x64x512 .f32) (arg11 : Memref sig .tc .vmem S4x8x512 .f32)

/-- No slab of the denominators is over another. -/
theorem disjL : ∀ n n' : Fin 4, n ≠ n' → ∃ a, offS n'.val a + S1x8x512.size a ≤ offS n.val a ∨ offS n.val a + S1x8x512.size a ≤ offS n'.val a := by
  intro n n' h
  refine ⟨0, ?_⟩
  show n'.val + 1 ≤ n.val ∨ n.val + 1 ≤ n'.val
  have := Fin.val_ne_of_ne h
  omega

/-- No slab of the numerators is over another. -/
theorem disjA : ∀ n n' : Fin 4, n ≠ n' → ∃ a, offS n'.val a + S1x64x512.size a ≤ offS n.val a ∨ offS n.val a + S1x64x512.size a ≤ offS n'.val a := by
  intro n n' h
  refine ⟨0, ?_⟩
  show n'.val + 1 ≤ n.val ∨ n.val + 1 ≤ n'.val
  have := Fin.val_ne_of_ne h
  omega

/-- The denominators held slab by slab. -/
abbrev heldL (m : Memref sig .tc .vmem S4x8x512 .f32) (l : Fin 4 → Vec F S1x8x512 .f32) : sProp 𝕄 :=
  slabs (s := S4x8x512) (off := fun n : Fin 4 => offS n.val) (size := S1x8x512.size) c inbL m l

/-- The numerators held slab by slab. -/
abbrev heldA (m : Memref sig .tc .vmem S4x64x512 .f32) (a : Fin 4 → Vec F S1x64x512 .f32) : sProp 𝕄 :=
  slabs (s := S4x64x512) (off := fun n : Fin 4 => offS n.val) (size := S1x64x512.size) c inbA m a

/-- A load of a slab of the denominators. -/
theorem loadL_run (m : Memref sig .tc .vmem S4x8x512 .f32) (s : Fin 4) {hl : m.view.LoadsAt (Rect.unit (s := S4x8x512) (offS s.val) S1x8x512.size (inbL s)).toLoadRect}
    {l : Fin 4 → Vec F S1x8x512 .f32} {Q : Vec F S1x8x512 .f32 → sProp 𝕄} :
    (heldL c m l : sProp 𝕄) ⊢ iprop((heldL c m l -∗ Q (l s))
      -∗ wp frame (wpE (defs₀ (F := F)) Variants.none c none) Set.univ
        (Prog.lift (.load m (Rect.unit (s := S4x8x512) (offS s.val) S1x8x512.size (inbL s)).toLoadRect hl)) Q) :=
  @wp_load_slab nD τ sig Unit _ (Elt F) Name _ U _ ℕ Λ₀ _ (defs₀ (F := F)) Variants.none (c : Thread nD τ) none Set.univ S4x8x512 .f32 4 (fun n : Fin 4 => offS n.val) S1x8x512.size inbL .vmem m s hl l Q

/-- An unmasked store of a slab of the denominators. -/
theorem storeL_run (m : Memref sig .tc .vmem S4x8x512 .f32) (s : Fin 4) {w : Vec F S1x8x512 .f32}
    {hx : (m.access (Rect.unit (s := S4x8x512) (offS s.val) S1x8x512.size (inbL s))).Stores Finset.univ}
    {hm : Finset.univ = Finset.univ ∨ ∀ a, (Rect.unit (s := S4x8x512) (offS s.val) S1x8x512.size (inbL s)).stride a = 1}
    {l : Fin 4 → Vec F S1x8x512 .f32} {Q : PUnit → sProp 𝕄} :
    (heldL c m l : sProp 𝕄) ⊢ iprop((heldL c m (Function.update l s w) -∗ Q ⟨⟩)
      -∗ wp frame (wpE (defs₀ (F := F)) Variants.none c none) Set.univ
        (Prog.lift (.store m (Rect.unit (s := S4x8x512) (offS s.val) S1x8x512.size (inbL s)) w Finset.univ hx hm)) Q) :=
  @wp_store_slab nD τ sig Unit _ (Elt F) Name _ U _ ℕ Λ₀ _ (defs₀ (F := F)) Variants.none (c : Thread nD τ) none Set.univ S4x8x512 .f32 4 (fun n : Fin 4 => offS n.val) S1x8x512.size inbL .vmem m s disjL w hx hm l Q

/-- A load of a slab of the numerators. -/
theorem loadA_run (m : Memref sig .tc .vmem S4x64x512 .f32) (s : Fin 4) {hl : m.view.LoadsAt (Rect.unit (s := S4x64x512) (offS s.val) S1x64x512.size (inbA s)).toLoadRect}
    {l : Fin 4 → Vec F S1x64x512 .f32} {Q : Vec F S1x64x512 .f32 → sProp 𝕄} :
    (heldA c m l : sProp 𝕄) ⊢ iprop((heldA c m l -∗ Q (l s))
      -∗ wp frame (wpE (defs₀ (F := F)) Variants.none c none) Set.univ
        (Prog.lift (.load m (Rect.unit (s := S4x64x512) (offS s.val) S1x64x512.size (inbA s)).toLoadRect hl)) Q) :=
  @wp_load_slab nD τ sig Unit _ (Elt F) Name _ U _ ℕ Λ₀ _ (defs₀ (F := F)) Variants.none (c : Thread nD τ) none Set.univ S4x64x512 .f32 4 (fun n : Fin 4 => offS n.val) S1x64x512.size inbA .vmem m s hl l Q

/-- An unmasked store of a slab of the numerators. -/
theorem storeA_run (m : Memref sig .tc .vmem S4x64x512 .f32) (s : Fin 4) {w : Vec F S1x64x512 .f32}
    {hx : (m.access (Rect.unit (s := S4x64x512) (offS s.val) S1x64x512.size (inbA s))).Stores Finset.univ}
    {hm : Finset.univ = Finset.univ ∨ ∀ a, (Rect.unit (s := S4x64x512) (offS s.val) S1x64x512.size (inbA s)).stride a = 1}
    {l : Fin 4 → Vec F S1x64x512 .f32} {Q : PUnit → sProp 𝕄} :
    (heldA c m l : sProp 𝕄) ⊢ iprop((heldA c m (Function.update l s w) -∗ Q ⟨⟩)
      -∗ wp frame (wpE (defs₀ (F := F)) Variants.none c none) Set.univ
        (Prog.lift (.store m (Rect.unit (s := S4x64x512) (offS s.val) S1x64x512.size (inbA s)) w Finset.univ hx hm)) Q) :=
  @wp_store_slab nD τ sig Unit _ (Elt F) Name _ U _ ℕ Λ₀ _ (defs₀ (F := F)) Variants.none (c : Thread nD τ) none Set.univ S4x64x512 .f32 4 (fun n : Fin 4 => offS n.val) S1x64x512.size inbA .vmem m s disjA w hx hm l Q

/-- One step. -/
theorem step_run (s : Fin 4) (u : Fin 65) (sc : FVec F S256x512 .f32) (V : Vec F S1x1x128x16640 .bf16)
    (l : Fin 4 → Vec F S1x8x512 .f32) (a : Fin 4 → Vec F S1x64x512 .f32) {Q : PUnit → sProp 𝕄} :
    iprop(heldL c arg11 l ∗ heldA c arg10 a ∗ owns c arg7 fullShare V
      ∗ (iprop(heldL c arg11 (Function.update l s (lNew sc (l s)))
          ∗ heldA c arg10 (Function.update a s (aNew sc (VecWindow.window V (offV s.val u.val) S1x1x64x256.size (inbV s u)) (a s)))
          ∗ owns c arg7 fullShare V) -∗ Q ⟨⟩))
      ⊢ wp frame (wpE (defs₀ (F := F)) Variants.none c none) Set.univ (step arg7 arg10 arg11 s u sc) Q := by
  unfold step
  iintro ⟨HL, HA, HV, Hk⟩
  rw [wp_bind]
  iapply (loadL_run c _ s) $$ HL
  iintro HL
  rw [wp_bind]
  iapply (loadL_run c _ s) $$ HL
  iintro HL
  rw [wp_bind]
  iapply (storeL_run c _ s) $$ HL
  iintro HL
  rw [wp_bind]
  iapply (loadA_run c _ s) $$ HA
  iintro HA
  rw [wp_bind]
  iapply (wp_load_owns Variants.none c none Set.univ) $$ HV
  iintro HV
  rw [wp_bind]
  iapply (loadA_run c _ s) $$ HA
  iintro HA
  iapply (storeA_run c _ s) $$ HA
  iintro HA
  iapply Hk
  isplitl [HL]; · iexact HL
  isplitl [HA]; · iexact HA
  iexact HV

/-- The walk, from its `n`-th step on. -/
theorem walk_run (K : Vec F S1x16640x128 .bf16) (V : Vec F S1x1x128x16640 .bf16) (w : Fin 4 → FVec F S256x512 .bf16)
    (zl : Fin 4 → Vec F S1x8x512 .f32) (za : Fin 4 → Vec F S1x64x512 .f32) {Q : PUnit → sProp 𝕄} : ∀ fuel n : ℕ,
    iprop(heldL c arg11 (accL (scT K w) zl n) ∗ heldA c arg10 (accA (scT K w) (valT V) za n)
      ∗ owns c arg6 fullShare K ∗ owns c arg7 fullShare V
      ∗ (iprop(heldL c arg11 (accL (scT K w) zl (n + fuel + 2)) ∗ heldA c arg10 (accA (scT K w) (valT V) za (n + fuel + 2))
          ∗ owns c arg6 fullShare K ∗ owns c arg7 fullShare V) -∗ Q ⟨⟩))
      ⊢ wp frame (wpE (defs₀ (F := F)) Variants.none c none) Set.univ
          (walk arg6 arg7 arg10 arg11 w fuel n (scT K w n) (scT K w (n + 1))) Q
  | 0, n => by
    unfold walk
    iintro ⟨HL, HA, HK, HV, Hk⟩
    rw [wp_bind]
    iapply (step_run c arg7 arg10 arg11 (sm n) (tl n) (scT K w n) V (accL (scT K w) zl n) (accA (scT K w) (valT V) za n))
    isplitl [HL]; · iexact HL
    isplitl [HA]; · iexact HA
    isplitl [HV]; · iexact HV
    iintro ⟨HL, HA, HV⟩
    iapply (step_run c arg7 arg10 arg11 (sm (n + 1)) (tl (n + 1)) (scT K w (n + 1)) V (accL (scT K w) zl (n + 1)) (accA (scT K w) (valT V) za (n + 1)))
    isplitl [HL]; · iexact HL
    isplitl [HA]; · iexact HA
    isplitl [HV]; · iexact HV
    iintro ⟨HL, HA, HV⟩
    iapply Hk
    isplitl [HL]; · iexact HL
    isplitl [HA]; · iexact HA
    isplitl [HK]; · iexact HK
    iexact HV
  | fuel + 1, n => by
    unfold walk loadK
    iintro ⟨HL, HA, HK, HV, Hk⟩
    rw [wp_bind]
    iapply (wp_load_owns Variants.none c none Set.univ) $$ HK
    iintro HK
    rw [wp_bind]
    iapply (step_run c arg7 arg10 arg11 (sm n) (tl n) (scT K w n) V (accL (scT K w) zl n) (accA (scT K w) (valT V) za n))
    isplitl [HL]; · iexact HL
    isplitl [HA]; · iexact HA
    isplitl [HV]; · iexact HV
    iintro ⟨HL, HA, HV⟩
    iapply (walk_run K V w zl za fuel (n + 1))
    isplitl [HL]; · iexact HL
    isplitl [HA]; · iexact HA
    isplitl [HK]; · iexact HK
    isplitl [HV]; · iexact HV
    iintro H
    iapply Hk
    rw [show n + (fuel + 1) + 2 = n + 1 + fuel + 2 by omega]
    iexact H

/-- A buffer stored whole is held slab by slab at the payload's slabs. -/
theorem slabs_of_owns {N : ℕ} {s : Shape} {e : EltTy} {off : Fin N → Fin s.rank → ℕ} {size : Fin s.rank → ℕ}
    (inb : ∀ n a, off n a + size a ≤ s.size a) {cs : CoreSpace} (m : Memref sig .tc cs s e) (X : s.Idx → Elt F e) :
    (owns c m fullShare X : sProp 𝕄) ⊢ slabs c inb m (fun n => VecWindow.window X (off n) size (inb n)) := by
  unfold slabs
  iintro H
  iexists X
  isplitr
  · ipureintro; exact fun _ => rfl
  iexact H

/-- The end of the body. -/
theorem ending_run (harg9 : arg9.IsWhole) (L : Vec F S1 .f32) (g : Vec F S128x1 .f32) (l : Fin 4 → Vec F S1x8x512 .f32)
    (a : Fin 4 → Vec F S1x64x512 .f32) (o : Vec F S1x512x128 .bf16) {Q : PUnit → sProp 𝕄} :
    iprop(owns c arg3 fullShare L ∗ owns c arg8 fullShare g ∗ owns c arg9 fullShare o ∗ heldL c arg11 l ∗ heldA c arg10 a
      ∗ (iprop(owns c arg3 fullShare L ∗ owns c arg8 fullShare g
          ∗ owns c arg9 fullShare (outB (nrm (dif (lamV L) (quo (l 0) (a 0)) (quo (l 1) (a 1))) (VecWindow.window g ![0, 0] S64x1.size inb_S128x1_S64x1_0_0))
              (nrm (dif (lamV L) (quo (l 2) (a 2)) (quo (l 3) (a 3))) (VecWindow.window g ![64, 0] S64x1.size inb_S128x1_S64x1_64_0)))
          ∗ heldL c arg11 l ∗ heldA c arg10 a) -∗ Q ⟨⟩))
      ⊢ wp frame (wpE (defs₀ (F := F)) Variants.none c none) Set.univ (ending arg3 arg8 arg9 harg9 arg10 arg11) Q := by
  unfold ending loadL loadA
  iintro ⟨H3, H8, H9, HL, HA, Hk⟩
  rw [wp_bind]
  iapply (wp_smem_owns Variants.none c none Set.univ) $$ H3
  iintro H3
  rw [wp_bind]
  iapply (loadL_run c _ 0) $$ HL
  iintro HL
  rw [wp_bind]
  iapply (loadL_run c _ 1) $$ HL
  iintro HL
  rw [wp_bind]
  iapply (loadA_run c _ 0) $$ HA
  iintro HA
  rw [wp_bind]
  iapply (loadA_run c _ 1) $$ HA
  iintro HA
  rw [wp_bind]
  iapply (wp_load_owns Variants.none c none Set.univ) $$ H8
  iintro H8
  rw [wp_bind]
  iapply (loadL_run c _ 2) $$ HL
  iintro HL
  rw [wp_bind]
  iapply (loadL_run c _ 3) $$ HL
  iintro HL
  rw [wp_bind]
  iapply (loadA_run c _ 2) $$ HA
  iintro HA
  rw [wp_bind]
  iapply (loadA_run c _ 3) $$ HA
  iintro HA
  rw [wp_bind]
  iapply (wp_load_owns Variants.none c none Set.univ) $$ H8
  iintro H8
  rw [wp_bind]
  iapply (wp_load_owns Variants.none c none Set.univ) $$ H9
  iintro H9
  iapply (wp_store_owns Variants.none c none Set.univ) $$ H9
  iintro H9
  iapply Hk
  isplitl [H3]; · iexact H3
  isplitl [H8]; · iexact H8
  isplitl [H9]
  · rw [put_whole (s := S1x512x128) _ (by decide)]
    iexact H9
  isplitl [HL]; · iexact HL
  iexact HA

/-- The key norm of softmax `s` is read. -/
theorem loadN_run (i : grid1.Coords) (s : Fin 4) (N : Vec F S2x16 .f32) {Q : Elt F .f32 → sProp 𝕄} :
    (owns c arg4 fullShare N : sProp 𝕄) ⊢ iprop((owns c arg4 fullShare N -∗ Q (knV i N s))
      -∗ wp frame (wpE (defs₀ (F := F)) Variants.none c none) Set.univ (loadN i arg4 s) Q) := by
  unfold loadN knV
  iintro H HQ
  iapply (wp_smem_owns Variants.none c none Set.univ) $$ H
  iintro H
  iapply HQ
  iexact H

/-- The body, from its buffers held by their values. -/
theorem body_run (i : grid1.Coords) (harg3 : arg3.IsWhole) (harg4 : arg4.IsWhole) (harg5 : arg5.IsWhole) (harg6 : arg6.IsWhole)
    (harg7 : arg7.IsWhole) (harg8 : arg8.IsWhole) (harg9 : arg9.IsWhole) (harg10 : arg10.IsWhole) (harg11 : arg11.IsWhole)
    (L : Vec F S1 .f32) (N : Vec F S2x16 .f32) (q : Vec F S1x512x128 .bf16)
    (K : Vec F S1x16640x128 .bf16) (V : Vec F S1x1x128x16640 .bf16) (g : Vec F S128x1 .f32) (o : Vec F S1x512x128 .bf16)
    (x : Vec F S4x64x512 .f32) (y : Vec F S4x8x512 .f32) {Q : PUnit → sProp 𝕄} :
    iprop(owns c arg3 fullShare L ∗ owns c arg4 fullShare N ∗ owns c arg5 fullShare q ∗ owns c arg6 fullShare K
      ∗ owns c arg7 fullShare V ∗ owns c arg8 fullShare g ∗ owns c arg9 fullShare o ∗ owns c arg10 fullShare x ∗ owns c arg11 fullShare y
      ∗ (iprop(owns c arg3 fullShare L ∗ owns c arg4 fullShare N ∗ owns c arg5 fullShare q ∗ owns c arg6 fullShare K
          ∗ owns c arg7 fullShare V ∗ owns c arg8 fullShare g ∗ owns c arg9 fullShare (outV i L N q K V g)
          ∗ (∃ x', owns c arg10 fullShare x') ∗ (∃ y', owns c arg11 fullShare y')) -∗ Q ⟨⟩))
      ⊢ wp frame (wpE (defs₀ (F := F)) Variants.none c none) Set.univ
        (cc1_diff_attention_bounded (F := F) i arg3 harg3 arg4 harg4 arg5 harg5 arg6 harg6 arg7 harg7 arg8 harg8 arg9 harg9 arg10 harg10 arg11 harg11) Q := by
  rw [body_eq]
  unfold body loadK
  iintro ⟨H3, H4, H5, H6, H7, H8, H9, H10, H11, Hk⟩
  rw [wp_bind]
  iapply (wp_load_owns Variants.none c none Set.univ) $$ H5
  iintro H5
  rw [window_whole (s := S1x512x128) _ (by decide)]
  rw [wp_bind]
  iapply (loadN_run c arg4 i 0 N) $$ H4
  iintro H4
  rw [wp_bind]
  iapply (loadN_run c arg4 i 1 N) $$ H4
  iintro H4
  rw [wp_bind]
  iapply (loadN_run c arg4 i 2 N) $$ H4
  iintro H4
  rw [wp_bind]
  iapply (loadN_run c arg4 i 3 N) $$ H4
  iintro H4
  rw [wp_bind]
  iapply (wp_load_owns Variants.none c none Set.univ) $$ H10
  iintro H10
  rw [wp_bind]
  iapply (wp_store_owns Variants.none c none Set.univ) $$ H10
  iintro H10
  rw [put_whole (s := S4x64x512) _ (by decide)]
  rw [wp_bind]
  iapply (wp_load_owns Variants.none c none Set.univ) $$ H11
  iintro H11
  rw [wp_bind]
  iapply (wp_store_owns Variants.none c none Set.univ) $$ H11
  iintro H11
  rw [put_whole (s := S4x8x512) _ (by decide)]
  rw [wp_bind]
  iapply (wp_load_owns Variants.none c none Set.univ) $$ H6
  iintro H6
  rw [wp_bind]
  iapply (wp_load_owns Variants.none c none Set.univ) $$ H6
  iintro H6
  rw [wp_bind]
  iapply (walk_run c arg6 arg7 arg10 arg11 K V (wV i q N) zeroL zeroA 258 0)
  isplitl [H11]
  · iapply (slabs_of_owns c (s := S4x8x512) (off := fun n : Fin 4 => offS n.val) (size := S1x8x512.size) inbL arg11 _) $$ H11
  isplitl [H10]
  · iapply (slabs_of_owns c (s := S4x64x512) (off := fun n : Fin 4 => offS n.val) (size := S1x64x512.size) inbA arg10 _) $$ H10
  isplitl [H6]; · iexact H6
  isplitl [H7]; · iexact H7
  iintro ⟨HL, HA, H6, H7⟩
  iapply (ending_run c arg3 arg8 arg9 arg10 arg11 harg9 L g _ _ o)
  isplitl [H3]; · iexact H3
  isplitl [H8]; · iexact H8
  isplitl [H9]; · iexact H9
  isplitl [HL]; · iexact HL
  isplitl [HA]; · iexact HA
  iintro ⟨H3, H8, H9, HL, HA⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  unfold heldL heldA slabs
  icases HL with ⟨%y', %_, HL⟩
  icases HA with ⟨%x', %_, HA⟩
  isplitl [HA]
  · iexists x'; iexact HA
  iexists y'; iexact HL

end Cert.KernelIdeal.Att
-- ==== Proof.RunningRun.lean ====
module

public import proofs.«01_k».proof.Proof.Running
public import proofs.«01_k».proof.Proof.BodyRun
public import Idealize.ShloMosaic.Lib.Scf

@[expose] public section

set_option backward.isDefEq.respectTransparency.types false

/-!
# What the running-maximum kernel's body leaves

After `n` tiles softmax `s` has the maxima `mR … s n` and the sums `aR … s n`; the block the body stores is `routV`. The
rule `rbody_run` runs the body from its buffers held by their values.
-/

noncomputable section

namespace Cert.KernelIdeal.Att

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Facts₀ Facts
open Cert.Att

variable {F : FTy → Type} [FloatOps F] [Facts]

/-! ## The pure content -/

/-- Key tile `n`. -/
def keyR (K : Vec F S1x16640x128 .bf16) (n : ℕ) : Vec F S1x256x128 .bf16 :=
  VecWindow.window K (offK (Fin.ofNat 65 n).val) S1x256x128.size (inbK (Fin.ofNat 65 n))

theorem inbW (u : Fin 65) : ∀ a, (![0, 0, 0, 256 * u.val] : Fin 4 → ℕ) a + S1x1x128x256.size a ≤ S1x1x128x16640.size a := by
  revert u; decide

/-- Value tile `n`, of both heads. -/
def valR (V : Vec F S1x1x128x16640 .bf16) (n : ℕ) : Vec F S1x1x128x256 .bf16 :=
  VecWindow.window V ![0, 0, 0, 256 * (Fin.ofNat 65 n).val] S1x1x128x256.size (inbW (Fin.ofNat 65 n))

/-- Softmax `s`'s values of tile `n`, the row of ones under them. -/
def vR (V : Vec F S1x1x128x16640 .bf16) (n : ℕ) : Fin 4 → FVec F S80x256 .bf16 :=
  ![vTop (valR V n), vTop (valR V n), vBot (valR V n), vBot (valR V n)]

/-- Softmax `s`'s scores of tile `n`. -/
def scR (K : Vec F S1x16640x128 .bf16) (w : Fin 4 → FVec F S128x512 .bf16) (n : ℕ) (s : Fin 4) : FVec F S256x512 .f32 :=
  rscore (keyR K n) (w s)

/-- Softmax `s`'s maxima after `n` tiles. -/
def mR (K : Vec F S1x16640x128 .bf16) (w : Fin 4 → FVec F S128x512 .bf16) (s : Fin 4) : ℕ → FVec F S1x512 .f32
  | 0 => mLow
  | n + 1 => maximumf (mR K w s n) (tmax (scR K w n s))

/-- No sum yet. -/
def zeroR (s : Fin 4) : Vec F S1x80x512 .f32 :=
  VecWindow.window (shapeCast S4x80x512 (broadcast S4x80x512 (Scalar.ofBits (F := F) .f32 0x00000000#32)) shapeCasts_S4x80x512_S4x80x512)
    (offS s.val) S1x80x512.size (inbR s)

/-- Softmax `s`'s sums after `n` tiles. -/
def aR (K : Vec F S1x16640x128 .bf16) (V : Vec F S1x1x128x16640 .bf16) (w : Fin 4 → FVec F S128x512 .bf16) (s : Fin 4) : ℕ → Vec F S1x80x512 .f32
  | 0 => zeroR s
  | n + 1 => aStep (inS (scR K w n s)) (mR K w s n) (mR K w s (n + 1)) (vR V n s) (aR K V w s n)

/-- The four softmaxes' right factors. -/
def wR (q : Vec F S1x512x128 .bf16) : Fin 4 → FVec F S128x512 .bf16 := ![rq q 0#32, rq q 1#32, rq q 2#32, rq q 3#32]

/-- The block the body stores. -/
def routV (L : Vec F S1 .f32) (q : Vec F S1x512x128 .bf16)
    (K : Vec F S1x16640x128 .bf16) (V : Vec F S1x1x128x16640 .bf16) (g : Vec F S128x1 .f32) : Vec F S1x512x128 .bf16 :=
  outB (nrm (dif (lamV L) (rquo (aR K V (wR q) 0 65)) (rquo (aR K V (wR q) 1 65))) (VecWindow.window g ![0, 0] S64x1.size inb_S128x1_S64x1_0_0))
    (nrm (dif (lamV L) (rquo (aR K V (wR q) 2 65)) (rquo (aR K V (wR q) 3 65))) (VecWindow.window g ![64, 0] S64x1.size inb_S128x1_S64x1_64_0))

/-! ## The printed windows -/

theorem window_congr {s : Shape} {α : Type} (x : s.Idx → α) {off off' size : Fin s.rank → ℕ} (inb : ∀ a, off a + size a ≤ s.size a)
    (inb' : ∀ a, off' a + size a ≤ s.size a) (h : off = off') : VecWindow.window x off size inb = VecWindow.window x off' size inb' := by
  subst h; rfl

theorem win_off1 (V : Vec F S1x1x128x16640 .bf16) (t : Fin k0_t1_loop.trips) :
    VecWindow.window V (k0_off1 t) S1x1x128x256.size (k0_off1_inb t) = valR V t.val := by
  unfold valR
  have h : (Fin.ofNat 65 t.val).val = t.val := Nat.mod_eq_of_lt t.isLt
  exact window_congr V _ _ (by rw [off1_eq, h])

theorem win_off2 (K : Vec F S1x16640x128 .bf16) (t : Fin k0_t1_loop.trips) :
    VecWindow.window K (k0_off2 t) S1x256x128.size (k0_off2_inb t) = keyR K t.val := by
  unfold keyR
  have h : (Fin.ofNat 65 t.val).val = t.val := Nat.mod_eq_of_lt t.isLt
  exact window_congr K _ _ (by rw [off2_eq, h])

theorem win_off3 (K : Vec F S1x16640x128 .bf16) (t : Fin k0_t1_loop.trips) :
    VecWindow.window K (k0_off3 t) S1x256x128.size (k0_off3_inb t) = keyR K (min (t.val + 1) 64) := by
  unfold keyR
  have h : (Fin.ofNat 65 (min (t.val + 1) 64)).val = min (t.val + 1) 64 := Nat.mod_eq_of_lt (by omega)
  exact window_congr K _ _ (by rw [off3_eq, h])

/-! ## The rules -/

variable {Name : Type} [DecidableEq Name] {U : Type} [URA U]
local notation "𝕄" => MT nD τ sig Unit (Elt F) Name U ℕ

variable (c : Dev nD) (arg3 : Memref sig .tc .smem S1 .f32) (arg4 : Memref sig .tc .vmem S1x512x128 .bf16)
  (arg5 : Memref sig .tc .vmem S1x16640x128 .bf16) (arg6 : Memref sig .tc .vmem S1x1x128x16640 .bf16) (arg7 : Memref sig .tc .vmem S128x1 .f32)
  (arg8 : Memref sig .tc .vmem S1x512x128 .bf16) (arg9 : Memref sig .tc .vmem S4x80x512 .f32) (arg10 : Memref sig .tc .vmem S4x256x512 .f32)

/-- No slab of the scores is over another. -/
theorem disjS : ∀ n n' : Fin 4, n ≠ n' → ∃ a, offS n'.val a + S1x256x512.size a ≤ offS n.val a ∨ offS n.val a + S1x256x512.size a ≤ offS n'.val a := by
  intro n n' h
  refine ⟨0, ?_⟩
  show n'.val + 1 ≤ n.val ∨ n.val + 1 ≤ n'.val
  have := Fin.val_ne_of_ne h
  omega

/-- No slab of the sums is over another. -/
theorem disjR : ∀ n n' : Fin 4, n ≠ n' → ∃ a, offS n'.val a + S1x80x512.size a ≤ offS n.val a ∨ offS n.val a + S1x80x512.size a ≤ offS n'.val a := by
  intro n n' h
  refine ⟨0, ?_⟩
  show n'.val + 1 ≤ n.val ∨ n.val + 1 ≤ n'.val
  have := Fin.val_ne_of_ne h
  omega

/-- The scores held slab by slab. -/
abbrev heldS (m : Memref sig .tc .vmem S4x256x512 .f32) (l : Fin 4 → Vec F S1x256x512 .f32) : sProp 𝕄 :=
  slabs (s := S4x256x512) (off := fun n : Fin 4 => offS n.val) (size := S1x256x512.size) c inbS m l

/-- The sums held slab by slab. -/
abbrev heldR (m : Memref sig .tc .vmem S4x80x512 .f32) (l : Fin 4 → Vec F S1x80x512 .f32) : sProp 𝕄 :=
  slabs (s := S4x80x512) (off := fun n : Fin 4 => offS n.val) (size := S1x80x512.size) c inbR m l

/-- A load of a slab of the scores. -/
theorem loadS_run (m : Memref sig .tc .vmem S4x256x512 .f32) (s : Fin 4) {hl : m.view.LoadsAt (Rect.unit (s := S4x256x512) (offS s.val) S1x256x512.size (inbS s)).toLoadRect}
    {l : Fin 4 → Vec F S1x256x512 .f32} {Q : Vec F S1x256x512 .f32 → sProp 𝕄} :
    (heldS c m l : sProp 𝕄) ⊢ iprop((heldS c m l -∗ Q (l s))
      -∗ wp frame (wpE (defs₀ (F := F)) Variants.none c none) Set.univ
        (Prog.lift (.load m (Rect.unit (s := S4x256x512) (offS s.val) S1x256x512.size (inbS s)).toLoadRect hl)) Q) :=
  @wp_load_slab nD τ sig Unit _ (Elt F) Name _ U _ ℕ Λ₀ _ (defs₀ (F := F)) Variants.none (c : Thread nD τ) none Set.univ S4x256x512 .f32 4 (fun n : Fin 4 => offS n.val) S1x256x512.size inbS .vmem m s hl l Q

/-- An unmasked store of a slab of the scores. -/
theorem storeS_run (m : Memref sig .tc .vmem S4x256x512 .f32) (s : Fin 4) {w : Vec F S1x256x512 .f32}
    {hx : (m.access (Rect.unit (s := S4x256x512) (offS s.val) S1x256x512.size (inbS s))).Stores Finset.univ}
    {hm : Finset.univ = Finset.univ ∨ ∀ a, (Rect.unit (s := S4x256x512) (offS s.val) S1x256x512.size (inbS s)).stride a = 1}
    {l : Fin 4 → Vec F S1x256x512 .f32} {Q : PUnit → sProp 𝕄} :
    (heldS c m l : sProp 𝕄) ⊢ iprop((heldS c m (Function.update l s w) -∗ Q ⟨⟩)
      -∗ wp frame (wpE (defs₀ (F := F)) Variants.none c none) Set.univ
        (Prog.lift (.store m (Rect.unit (s := S4x256x512) (offS s.val) S1x256x512.size (inbS s)) w Finset.univ hx hm)) Q) :=
  @wp_store_slab nD τ sig Unit _ (Elt F) Name _ U _ ℕ Λ₀ _ (defs₀ (F := F)) Variants.none (c : Thread nD τ) none Set.univ S4x256x512 .f32 4 (fun n : Fin 4 => offS n.val) S1x256x512.size inbS .vmem m s disjS w hx hm l Q

/-- A load of a slab of the sums. -/
theorem loadR_run (m : Memref sig .tc .vmem S4x80x512 .f32) (s : Fin 4) {hl : m.view.LoadsAt (Rect.unit (s := S4x80x512) (offS s.val) S1x80x512.size (inbR s)).toLoadRect}
    {l : Fin 4 → Vec F S1x80x512 .f32} {Q : Vec F S1x80x512 .f32 → sProp 𝕄} :
    (heldR c m l : sProp 𝕄) ⊢ iprop((heldR c m l -∗ Q (l s))
      -∗ wp frame (wpE (defs₀ (F := F)) Variants.none c none) Set.univ
        (Prog.lift (.load m (Rect.unit (s := S4x80x512) (offS s.val) S1x80x512.size (inbR s)).toLoadRect hl)) Q) :=
  @wp_load_slab nD τ sig Unit _ (Elt F) Name _ U _ ℕ Λ₀ _ (defs₀ (F := F)) Variants.none (c : Thread nD τ) none Set.univ S4x80x512 .f32 4 (fun n : Fin 4 => offS n.val) S1x80x512.size inbR .vmem m s hl l Q

/-- An unmasked store of a slab of the sums. -/
theorem storeR_run (m : Memref sig .tc .vmem S4x80x512 .f32) (s : Fin 4) {w : Vec F S1x80x512 .f32}
    {hx : (m.access (Rect.unit (s := S4x80x512) (offS s.val) S1x80x512.size (inbR s))).Stores Finset.univ}
    {hm : Finset.univ = Finset.univ ∨ ∀ a, (Rect.unit (s := S4x80x512) (offS s.val) S1x80x512.size (inbR s)).stride a = 1}
    {l : Fin 4 → Vec F S1x80x512 .f32} {Q : PUnit → sProp 𝕄} :
    (heldR c m l : sProp 𝕄) ⊢ iprop((heldR c m (Function.update l s w) -∗ Q ⟨⟩)
      -∗ wp frame (wpE (defs₀ (F := F)) Variants.none c none) Set.univ
        (Prog.lift (.store m (Rect.unit (s := S4x80x512) (offS s.val) S1x80x512.size (inbR s)) w Finset.univ hx hm)) Q) :=
  @wp_store_slab nD τ sig Unit _ (Elt F) Name _ U _ ℕ Λ₀ _ (defs₀ (F := F)) Variants.none (c : Thread nD τ) none Set.univ S4x80x512 .f32 4 (fun n : Fin 4 => offS n.val) S1x80x512.size inbR .vmem m s disjR w hx hm l Q

/-- A tile's scores. -/
theorem score_run (s : Fin 4) (off : Fin 3 → ℕ) (inb : ∀ a, off a + S1x256x128.size a ≤ S1x16640x128.size a) (w : FVec F S128x512 .bf16)
    (K : Vec F S1x16640x128 .bf16) (S : Fin 4 → Vec F S1x256x512 .f32) {Q : FVec F S1x512 .f32 → sProp 𝕄} :
    iprop(owns c arg5 fullShare K ∗ heldS c arg10 S
      ∗ (iprop(owns c arg5 fullShare K ∗ heldS c arg10 (Function.update S s (inS (rscore (VecWindow.window K off S1x256x128.size inb) w))))
        -∗ Q (tmax (rscore (VecWindow.window K off S1x256x128.size inb) w))))
      ⊢ wp frame (wpE (defs₀ (F := F)) Variants.none c none) Set.univ (scoreP arg5 arg10 s off inb w) Q := by
  unfold scoreP
  iintro ⟨HK, HS, Hk⟩
  rw [wp_bind]
  iapply (wp_load_owns Variants.none c none Set.univ) $$ HK
  iintro HK
  rw [wp_bind]
  iapply (loadS_run c _ s) $$ HS
  iintro HS
  rw [wp_bind]
  iapply (storeS_run c _ s) $$ HS
  iintro HS
  iapply le_wp_ret
  iapply Hk
  isplitl [HK]; · iexact HK
  iexact HS

/-- A tile is added. -/
theorem absorb_run (s : Fin 4) (v : FVec F S80x256 .bf16) (m mt : FVec F S1x512 .f32)
    (S : Fin 4 → Vec F S1x256x512 .f32) (R : Fin 4 → Vec F S1x80x512 .f32) {Q : FVec F S1x512 .f32 → sProp 𝕄} :
    iprop(heldS c arg10 S ∗ heldR c arg9 R
      ∗ (iprop(heldS c arg10 S ∗ heldR c arg9 (Function.update R s (aStep (S s) m (maximumf m mt) v (R s)))) -∗ Q (maximumf m mt)))
      ⊢ wp frame (wpE (defs₀ (F := F)) Variants.none c none) Set.univ (absorbP arg9 arg10 s v m mt) Q := by
  unfold absorbP
  iintro ⟨HS, HR, Hk⟩
  rw [wp_bind]
  iapply (loadS_run c _ s) $$ HS
  iintro HS
  rw [wp_bind]
  iapply (loadR_run c _ s) $$ HR
  iintro HR
  rw [wp_bind]
  iapply (loadR_run c _ s) $$ HR
  iintro HR
  rw [wp_bind]
  iapply (storeR_run c _ s) $$ HR
  iintro HR
  iapply le_wp_ret
  iapply Hk
  isplitl [HS]; · iexact HS
  iexact HR

/-- The loop's invariant. -/
def loopI (K : Vec F S1x16640x128 .bf16) (V : Vec F S1x1x128x16640 .bf16) (w : Fin 4 → FVec F S128x512 .bf16) (n : ℕ)
    (p : FVec F S1x512 .f32 × FVec F S1x512 .f32 × FVec F S1x512 .f32 × FVec F S1x512 .f32 × FVec F S1x512 .f32 × FVec F S1x512 .f32) : sProp 𝕄 :=
  iprop(⌜p = (mR K w 0 n, mR K w 1 n, mR K w 2 n, mR K w 3 n, tmax (scR K w (min n 64) 0), tmax (scR K w (min n 64) 1))⌝
    ∗ owns c arg5 fullShare K ∗ owns c arg6 fullShare V ∗ heldR c arg9 (fun s => aR K V w s n)
    ∗ ∃ S, ⌜S 0 = inS (scR K w (min n 64) 0) ∧ S 1 = inS (scR K w (min n 64) 1)⌝ ∗ heldS c arg10 S)

/-- One trip. -/
theorem iter_run (K : Vec F S1x16640x128 .bf16) (V : Vec F S1x1x128x16640 .bf16) (w : Fin 4 → FVec F S128x512 .bf16)
    (t : Fin k0_t1_loop.trips) (p : FVec F S1x512 .f32 × FVec F S1x512 .f32 × FVec F S1x512 .f32 × FVec F S1x512 .f32 × FVec F S1x512 .f32 × FVec F S1x512 .f32) :
    (loopI c arg5 arg6 arg9 arg10 K V w t.val p : sProp 𝕄)
      ⊢ wp frame (wpE (defs₀ (F := F)) Variants.none c none) Set.univ (iter arg5 arg6 arg9 arg10 w t p.1 p.2.1 p.2.2.1 p.2.2.2.1 p.2.2.2.2.1 p.2.2.2.2.2)
          (loopI c arg5 arg6 arg9 arg10 K V w (t.val + 1)) := by
  have ht : t.val < 65 := t.isLt
  unfold loopI iter
  iintro ⟨%hp, HK, HV, HR, %S, %hS, HS⟩
  subst hp
  obtain ⟨hS0, hS1⟩ := hS
  rw [Nat.min_eq_left (by omega : t.val ≤ 64)] at hS0 hS1 ⊢
  rw [wp_bind]
  iapply (wp_load_owns Variants.none c none Set.univ) $$ HV
  iintro HV
  rw [win_off1]
  rw [wp_bind]
  iapply (score_run c arg5 arg10 2 (k0_off2 t) (k0_off2_inb t) (w 2) K S)
  isplitl [HK]; · iexact HK
  isplitl [HS]; · iexact HS
  iintro ⟨HK, HS⟩
  rw [win_off2]
  rw [wp_bind]
  iapply (score_run c arg5 arg10 3 (k0_off2 t) (k0_off2_inb t) (w 3) K _)
  isplitl [HK]; · iexact HK
  isplitl [HS]; · iexact HS
  iintro ⟨HK, HS⟩
  rw [win_off2]
  rw [wp_bind]
  iapply (absorb_run c arg9 arg10 0 (vTop (valR V t.val)) _ _ _ _)
  isplitl [HS]; · iexact HS
  isplitl [HR]; · iexact HR
  iintro ⟨HS, HR⟩
  rw [wp_bind]
  iapply (score_run c arg5 arg10 0 (k0_off3 t) (k0_off3_inb t) (w 0) K _)
  isplitl [HK]; · iexact HK
  isplitl [HS]; · iexact HS
  iintro ⟨HK, HS⟩
  rw [win_off3]
  rw [wp_bind]
  iapply (absorb_run c arg9 arg10 1 (vTop (valR V t.val)) _ _ _ _)
  isplitl [HS]; · iexact HS
  isplitl [HR]; · iexact HR
  iintro ⟨HS, HR⟩
  rw [wp_bind]
  iapply (score_run c arg5 arg10 1 (k0_off3 t) (k0_off3_inb t) (w 1) K _)
  isplitl [HK]; · iexact HK
  isplitl [HS]; · iexact HS
  iintro ⟨HK, HS⟩
  rw [win_off3]
  rw [wp_bind]
  iapply (absorb_run c arg9 arg10 2 (vBot (valR V t.val)) _ _ _ _)
  isplitl [HS]; · iexact HS
  isplitl [HR]; · iexact HR
  iintro ⟨HS, HR⟩
  rw [wp_bind]
  iapply (absorb_run c arg9 arg10 3 (vBot (valR V t.val)) _ _ _ _)
  isplitl [HS]; · iexact HS
  isplitl [HR]; · iexact HR
  iintro ⟨HS, HR⟩
  iapply le_wp_ret
  isplitr
  · ipureintro; simp only [mR, scR]
  isplitl [HK]; · iexact HK
  isplitl [HV]; · iexact HV
  isplitl [HR]
  · have e : ∀ R, R = (fun s => aR K V w s (t.val + 1)) → ((heldR c arg9 R : sProp 𝕄) ⊢ heldR c arg9 (fun s => aR K V w s (t.val + 1))) := by
      rintro _ rfl; iintro H; iexact H
    iapply (e _ ?_) $$ HR
    funext s
    fin_cases s <;> simp [Function.update, hS0, hS1, aR, mR, vR, scR]
  iexists _
  isplitr
  swap
  · iexact HS
  ipureintro
  constructor <;> simp [Function.update, scR]

/-- The loop and the sums it leaves. -/
theorem mid_run (K : Vec F S1x16640x128 .bf16) (V : Vec F S1x1x128x16640 .bf16) (w : Fin 4 → FVec F S128x512 .bf16) (L : Vec F S1 .f32) (g : Vec F S128x1 .f32)
    (S : Fin 4 → Vec F S1x256x512 .f32) (hS : S 0 = inS (scR K w 0 0) ∧ S 1 = inS (scR K w 0 1)) {Q : _ → sProp 𝕄} :
    iprop(owns c arg3 fullShare L ∗ owns c arg5 fullShare K ∗ owns c arg6 fullShare V ∗ owns c arg7 fullShare g
      ∗ heldR c arg9 (fun s => aR K V w s 0) ∗ heldS c arg10 S
      ∗ (iprop(owns c arg3 fullShare L ∗ owns c arg5 fullShare K ∗ owns c arg6 fullShare V ∗ owns c arg7 fullShare g
          ∗ heldR c arg9 (fun s => aR K V w s 65) ∗ ∃ S, heldS c arg10 S)
        -∗ Q ⟨lamV L, nrm (dif (lamV L) (rquo (aR K V w 0 65)) (rquo (aR K V w 1 65))) (VecWindow.window g ![0, 0] S64x1.size inb_S128x1_S64x1_0_0),
            shapeCast S80x512 (aR K V w 3 65) shapeCasts_S1x80x512_S80x512,
            extractStridedSlice S64x512 ![0, 0] (shapeCast S80x512 (aR K V w 2 65) shapeCasts_S1x80x512_S80x512) slices_S80x512_o0_0_S64x512,
            broadcastTo S64x512 (extractStridedSlice S1x512 ![64, 0] (shapeCast S80x512 (aR K V w 2 65) shapeCasts_S1x80x512_S80x512) slices_S80x512_o64_0_S1x512)
              broadcasts_S1x512_S64x512⟩))
      ⊢ wp frame (wpE (defs₀ (F := F)) Variants.none c none) Set.univ (mid arg3 arg5 arg6 arg7 arg9 arg10 w (tmax (scR K w 0 0)) (tmax (scR K w 0 1))) Q := by
  unfold mid loadR lamV
  iintro ⟨H3, HK, HV, Hg, HR, HS, Hk⟩
  rw [wp_bind]
  iapply (Scf.wp_for frame (wpE (defs₀ (F := F)) Variants.none c none) Set.univ k0_t1_loop.lb k0_t1_loop.ub k0_t1_loop.st k0_t1_ok _ _
    (loopI c arg5 arg6 arg9 arg10 K V w) (fun t p => iter_run c arg5 arg6 arg9 arg10 K V w t p))
  isplitl [HK HV HR HS]
  · unfold loopI
    isplitr
    · ipureintro; rfl
    isplitl [HK]; · iexact HK
    isplitl [HV]; · iexact HV
    isplitl [HR]; · iexact HR
    iexists S
    isplitr
    · ipureintro; exact hS
    iexact HS
  iintro %p HI
  unfold loopI
  icases HI with ⟨%_, HK, HV, HR, %S', %_, HS⟩
  rw [show Scf.trips k0_t1_loop.lb k0_t1_loop.ub k0_t1_loop.st = 65 by decide]
  rw [wp_bind]
  iapply (wp_smem_owns Variants.none c none Set.univ) $$ H3
  iintro H3
  rw [wp_bind]
  iapply (loadR_run c _ 0) $$ HR
  iintro HR
  rw [wp_bind]
  iapply (loadR_run c _ 1) $$ HR
  iintro HR
  rw [wp_bind]
  iapply (wp_load_owns Variants.none c none Set.univ) $$ Hg
  iintro Hg
  rw [wp_bind]
  iapply (loadR_run c _ 2) $$ HR
  iintro HR
  rw [wp_bind]
  iapply (loadR_run c _ 3) $$ HR
  iintro HR
  iapply le_wp_ret
  iapply Hk
  isplitl [H3]; · iexact H3
  isplitl [HK]; · iexact HK
  isplitl [HV]; · iexact HV
  isplitl [Hg]; · iexact Hg
  isplitl [HR]; · iexact HR
  iexists S'; iexact HS

/-- The body, from its buffers held by their values. -/
theorem rbody_run (i : grid0.Coords) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole)
    (L : Vec F S1 .f32) (q : Vec F S1x512x128 .bf16)
    (K : Vec F S1x16640x128 .bf16) (V : Vec F S1x1x128x16640 .bf16) (g : Vec F S128x1 .f32) (o : Vec F S1x512x128 .bf16)
    (x : Vec F S4x80x512 .f32) (y : Vec F S4x256x512 .f32) {Q : PUnit → sProp 𝕄} :
    iprop(owns c arg3 fullShare L ∗ owns c arg4 fullShare q ∗ owns c arg5 fullShare K
      ∗ owns c arg6 fullShare V ∗ owns c arg7 fullShare g ∗ owns c arg8 fullShare o ∗ owns c arg9 fullShare x ∗ owns c arg10 fullShare y
      ∗ (iprop(owns c arg3 fullShare L ∗ owns c arg4 fullShare q ∗ owns c arg5 fullShare K
          ∗ owns c arg6 fullShare V ∗ owns c arg7 fullShare g ∗ owns c arg8 fullShare (routV L q K V g)
          ∗ (∃ x', owns c arg9 fullShare x') ∗ (∃ y', owns c arg10 fullShare y')) -∗ Q ⟨⟩))
      ⊢ wp frame (wpE (defs₀ (F := F)) Variants.none c none) Set.univ (cc0_diff_attention (F := F) i arg3 harg3 arg4 harg4 arg5 harg5 arg6 harg6 arg7 harg7 arg8 harg8 arg9 harg9 arg10 harg10) Q := by
  rw [rbody_eq]
  unfold rbody
  iintro ⟨H3, H4, HK, HV, Hg, Ho, Hx, Hy, Hk⟩
  rw [wp_bind]
  iapply (wp_load_owns Variants.none c none Set.univ) $$ H4
  iintro H4
  rw [window_whole (s := S1x512x128) _ (by decide)]
  rw [wp_bind]
  iapply (wp_load_owns Variants.none c none Set.univ) $$ Hx
  iintro Hx
  rw [wp_bind]
  iapply (wp_store_owns Variants.none c none Set.univ) $$ Hx
  iintro Hx
  rw [put_whole (s := S4x80x512) _ (by decide)]
  ihave HR := (slabs_of_owns c (s := S4x80x512) (off := fun n : Fin 4 => offS n.val) (size := S1x80x512.size) inbR arg9 _) $$ Hx
  ihave HS := (slabs_of_owns c (s := S4x256x512) (off := fun n : Fin 4 => offS n.val) (size := S1x256x512.size) inbS arg10 _) $$ Hy
  rw [wp_bind]
  iapply (score_run c arg5 arg10 0 (offK (0 : Fin 65).val) (inbK 0) (wR q 0) K _)
  isplitl [HK]; · iexact HK
  isplitl [HS]; · iexact HS
  iintro ⟨HK, HS⟩
  rw [wp_bind]
  iapply (score_run c arg5 arg10 1 (offK (0 : Fin 65).val) (inbK 0) (wR q 1) K _)
  isplitl [HK]; · iexact HK
  isplitl [HS]; · iexact HS
  iintro ⟨HK, HS⟩
  rw [wp_bind]
  iapply (mid_run c arg3 arg5 arg6 arg7 arg9 arg10 K V (wR q) L g
    (Function.update (Function.update (fun n => VecWindow.window y (offS n.val) S1x256x512.size (inbS n)) 0
      (inS (rscore (VecWindow.window K (offK (0 : Fin 65).val) S1x256x128.size (inbK 0)) (wR q 0)))) 1
      (inS (rscore (VecWindow.window K (offK (0 : Fin 65).val) S1x256x128.size (inbK 0)) (wR q 1)))) ⟨rfl, rfl⟩)
  isplitl [H3]; · iexact H3
  isplitl [HK]; · iexact HK
  isplitl [HV]; · iexact HV
  isplitl [Hg]; · iexact Hg
  isplitl [HR]; · iexact HR
  isplitl [HS]; · iexact HS
  iintro ⟨H3, HK, HV, Hg, HR, %S', HS⟩
  unfold rending
  rw [wp_bind]
  iapply (wp_load_owns Variants.none c none Set.univ) $$ Hg
  iintro Hg
  rw [wp_bind]
  iapply (wp_load_owns Variants.none c none Set.univ) $$ Ho
  iintro Ho
  iapply (wp_store_owns Variants.none c none Set.univ) $$ Ho
  iintro Ho
  iapply Hk
  isplitl [H3]; · iexact H3
  isplitl [H4]; · iexact H4
  isplitl [HK]; · iexact HK
  isplitl [HV]; · iexact HV
  isplitl [Hg]; · iexact Hg
  isplitl [Ho]
  · rw [put_whole (s := S1x512x128) _ (by decide)]
    iexact Ho
  unfold heldS heldR slabs
  icases HS with ⟨%y', %_, HS⟩
  icases HR with ⟨%x', %_, HR⟩
  isplitl [HR]
  · iexists x'; iexact HR
  iexists y'; iexact HS

end Cert.KernelIdeal.Att
-- ==== Proof.Region0.lean ====
module

public import proofs.«01_k».proof.Proof.Common
public import proofs.«01_k».proof.Proof.RunningRun

@[expose] public section

/-!
# The running-maximum call as a region of the program

Entered from any contents of the host's buffers, it leaves them with its result array replaced by what its points wrote.
-/

noncomputable section

namespace Cert.KernelIdeal.Att

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Contents F)

/-- The block of window `w` at point `t`, read off its array at entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores at point `t`. -/
def stored0 (c : Dev nD) (t : Fin cfg0.N) : Vec F S1x512x128 .bf16 := routV (blk0 V c 0 t) (blk0 V c 1 t) (blk0 V c 2 t) (blk0 V c 3 t) (blk0 V c 4 t)

/-- The proof data of one entry: the arrays at entry, each input's buffer at its block, the output's at what was stored. -/
def dat0 (c : Dev nD) : Dat τ (Elt F) Unit ℕ UU ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => stored0 V c t
  Φ _ := Pipeline.scopedRest (Ix := Unit) (Name := ℕ) (U := UU) (Lvl := ℕ) (Val := Elt F) spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) : (dat0 V c).after 3 t = blk0 V c 3 t := by dsimp only [dat0]
theorem dat0_after4 (c : Dev nD) (t : Fin cfg0.N) : (dat0 V c).after 4 t = blk0 V c 4 t := by dsimp only [dat0]
theorem dat0_after5 (c : Dev nD) (t : Fin cfg0.N) : (dat0 V c).after 5 t = stored0 V c t := by dsimp only [dat0]

/-! Each input's buffer holds its block when the body runs. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)
theorem dat0_before2 (c : Dev nD) (t : Fin cfg0.N) (d) : (dat0 V c).before 2 t d = blk0 V c 2 t :=
  ((dat0 V c).before_in_eq_fetched 2 rfl (fun _ => rfl) (fun _ _ _ => rfl)
    (fun t => by rw [dat0_after2]; unfold Dat.blockOf blk0; rw [dat0_A]; try rfl) t d).trans
    (by unfold Dat.fetched Dat.blockOf blk0; rw [dat0_A]; try rfl)
theorem dat0_before3 (c : Dev nD) (t : Fin cfg0.N) (d) : (dat0 V c).before 3 t d = blk0 V c 3 t :=
  ((dat0 V c).before_in_eq_fetched 3 rfl (fun _ => rfl) (fun _ _ _ => rfl)
    (fun t => by rw [dat0_after3]; unfold Dat.blockOf blk0; rw [dat0_A]; try rfl) t d).trans
    (by unfold Dat.fetched Dat.blockOf blk0; rw [dat0_A]; try rfl)
theorem dat0_before4 (c : Dev nD) (t : Fin cfg0.N) (d) : (dat0 V c).before 4 t d = blk0 V c 4 t :=
  ((dat0 V c).before_in_eq_fetched 4 rfl (fun _ => rfl) (fun _ _ _ => rfl)
    (fun t => by rw [dat0_after4]; unfold Dat.blockOf blk0; rw [dat0_A]; try rfl) t d).trans
    (by unfold Dat.fetched Dat.blockOf blk0; rw [dat0_A]; try rfl)

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0) : Memref sig .tc .smem S1 .f32) fullShare ((dat0 V c).before 0 t d))
    ∗ (∃ d, owns (c : Thread nD τ) (win0_1.stage (cfg0.slots t 1) : Memref sig .tc .vmem S1x512x128 .bf16) fullShare ((dat0 V c).before 1 t d))
    ∗ (∃ d, owns (c : Thread nD τ) (win0_2.stage (cfg0.slots t 2) : Memref sig .tc .vmem S1x16640x128 .bf16) fullShare ((dat0 V c).before 2 t d))
    ∗ (∃ d, owns (c : Thread nD τ) (win0_3.stage (cfg0.slots t 3) : Memref sig .tc .vmem S1x1x128x16640 .bf16) fullShare ((dat0 V c).before 3 t d))
    ∗ (∃ d, owns (c : Thread nD τ) (win0_4.stage (cfg0.slots t 4) : Memref sig .tc .vmem S128x1 .f32) fullShare ((dat0 V c).before 4 t d))
    ∗ (∃ d, owns (c : Thread nD τ) (win0_5.stage (cfg0.slots t 5) : Memref sig .tc .vmem S1x512x128 .bf16) fullShare ((dat0 V c).before 5 t d)))

/-- and what it returns. -/
def post0 (c : Dev nD) (t : Fin cfg0.N) : sProp 𝕄 :=
  iprop((dat0 V c).Φ t.succ ∗ (dat0 V c).owesAt () t.succ
    ∗ owns (c : Thread nD τ) (win0_0.stage (cfg0.slots t 0) : Memref sig .tc .smem S1 .f32) fullShare ((dat0 V c).after 0 t)
    ∗ owns (c : Thread nD τ) (win0_1.stage (cfg0.slots t 1) : Memref sig .tc .vmem S1x512x128 .bf16) fullShare ((dat0 V c).after 1 t)
    ∗ owns (c : Thread nD τ) (win0_2.stage (cfg0.slots t 2) : Memref sig .tc .vmem S1x16640x128 .bf16) fullShare ((dat0 V c).after 2 t)
    ∗ owns (c : Thread nD τ) (win0_3.stage (cfg0.slots t 3) : Memref sig .tc .vmem S1x1x128x16640 .bf16) fullShare ((dat0 V c).after 3 t)
    ∗ owns (c : Thread nD τ) (win0_4.stage (cfg0.slots t 4) : Memref sig .tc .vmem S128x1 .f32) fullShare ((dat0 V c).after 4 t)
    ∗ owns (c : Thread nD τ) (win0_5.stage (cfg0.slots t 5) : Memref sig .tc .vmem S1x512x128 .bf16) fullShare ((dat0 V c).after 5 t))

set_option maxHeartbeats 1600000 in
/-- The body at a generic point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1, dat0_before2, dat0_before3, dat0_before4]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5,
    show (dat0 V c).Φ t.castSucc = Pipeline.scopedRest (Ix := Unit) (Name := ℕ) (U := UU) (Lvl := ℕ) (Val := Elt F) spec0 c from rfl,
    scopedRest0_eq]
  iintro ⟨⟨⟨%fs0, S0⟩, ⟨%fs1, S1⟩, R2, R3, R4, R5, R6, R7, R8, R9, R10, R11, R12, R13, R14⟩, Ho, ⟨%d0, H0⟩, ⟨%d1, H1⟩, ⟨%d2, H2⟩, ⟨%d3, H3⟩, ⟨%d4, H4⟩, ⟨%d5, H5⟩⟩
  ihave T0 := (Entails.of_eq (owns_whole (c : Thread nD τ) cc0_scratch0 fullShare fs0).symm) $$ S0
  ihave T1 := (Entails.of_eq (owns_whole (c : Thread nD τ) cc0_scratch1 fullShare fs1).symm) $$ S1
  iapply (rbody_run c _ _ _ _ _ _ _ _ (grid0.coords t) _ _ _ _ _ _ _ _ (blk0 V c 0 t) (blk0 V c 1 t) (blk0 V c 2 t) (blk0 V c 3 t) (blk0 V c 4 t) _ _ _)
  isplitl [H0]; · iexact H0
  isplitl [H1]; · iexact H1
  isplitl [H2]; · iexact H2
  isplitl [H3]; · iexact H3
  isplitl [H4]; · iexact H4
  isplitl [H5]; · iexact H5
  isplitl [T0]; · iexact T0
  isplitl [T1]; · iexact T1
  iintro ⟨H0, H1, H2, H3, H4, H5, ⟨%x', T0⟩, ⟨%y', T1⟩⟩
  ihave S0 := (Entails.of_eq (owns_whole (c : Thread nD τ) cc0_scratch0 fullShare x')) $$ T0
  ihave S1 := (Entails.of_eq (owns_whole (c : Thread nD τ) cc0_scratch1 fullShare y')) $$ T1
  isplitl [S0 S1 R2 R3 R4 R5 R6 R7 R8 R9 R10 R11 R12 R13 R14]
  · isplitl [S0]; · iexists _; iexact S0
    isplitl [S1]; · iexists _; iexact S1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  isplitl [Ho]; · iexact Ho
  isplitl [H0]; · iexact H0
  isplitl [H1]; · iexact H1
  isplitl [H2]; · iexact H2
  isplitl [H3]; · iexact H3
  isplitl [H4]; · iexact H4
  unfold stored0
  iexact H5

/-- The library's body obligation, at every point. -/
theorem obligation0 (c : Dev nD) : BodyObligation (dat0 V c) (defs₀ (F := F)) 𝒱₀ () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound0 V c t) rfl .rfl fun _ => .rfl

variable (adm : (p : Fin 2) → (pcfgs (F := F) p).Adm)

/-- The family of proof data in which only this call is entered. -/
def family0 : (p : Fin 2) → (c : Dev nD) → Dat τ (Elt F) Unit ℕ UU ℕ (Pipeline.pin (pcfgs (F := F)) adm p) c
  | ⟨0, _⟩ => fun c => dat0 V c
  | ⟨1, _⟩ => fun c => idle c

/-- The result array as the points leave it. -/
def result0 (c : Dev nD) : Buf (Elt F) ((c : Thread nD τ).loc main_case0b0_v46) := (dat0 V c).arrAt 5 cfg0.N

set_option maxHeartbeats 4000000 in
set_option backward.isDefEq.respectTransparency.types false in
/-- The region, over the state "every unscoped buffer at `V c`, the core owing nothing", to the same with the result
    array replaced. -/
def region0 (Vp : Contents F) (R : Dev nD → sProp 𝕄) (hres : ∀ c, Vp c main_case0b0_v46 = result0 V c)
    (hne : ∀ c (b : Ref sig .tc), b ≠ main_case0b0_v46 → Vp c b = V c b) :
    Pipeline.RegionSeg (pcfgs (F := F)) adm (family0 V adm) () defs₀ 𝒱₀ L lv 0 where
  win := (launch0).win.to₀
  block_pos := (launch0).block_pos
  stage_whole := (launch0).stage_whole
  K := PEmpty
  osem k := k.elim
  ho := Pipeline.OwnSemFacts.none _
  hbody c := (obligation0 V c).loose
  hwaits := Pipeline.hwaits_of_owed_zero _ _ _ _ L lv 0 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := Pipeline.arrays_of_unscopedBufs (p := 0) (pcfgs (F := F)) adm (family0 V adm) (launch0).win (launch0).arr_whole c
      ((family0 V adm 0 c).share_full fun _ => rfl) (V c) fun w => dat0_A V c w
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (family0 V adm 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (family0 V adm 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0).win (launch0).arr_whole c
      (family0 V adm) ((family0 V adm 0 c).share_full fun _ => rfl) (V c) (Vp c) ((family0 V adm 0 c).arrAt · cfg0.N)
      (fun w => by
        fin_cases w
        · exact (((family0 V adm 0 c).arrAt_in 0 rfl _).trans (dat0_A V c 0)).trans (hne c _ (by decide)).symm
        · exact (((family0 V adm 0 c).arrAt_in 1 rfl _).trans (dat0_A V c 1)).trans (hne c _ (by decide)).symm
        · exact (((family0 V adm 0 c).arrAt_in 2 rfl _).trans (dat0_A V c 2)).trans (hne c _ (by decide)).symm
        · exact (((family0 V adm 0 c).arrAt_in 3 rfl _).trans (dat0_A V c 3)).trans (hne c _ (by decide)).symm
        · exact (((family0 V adm 0 c).arrAt_in 4 rfl _).trans (dat0_A V c 4)).trans (hne c _ (by decide)).symm
        · exact (hres c).symm)
      (fun b hb => hne c b fun h => hb (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Att

end
-- ==== Proof.Region1.lean ====
module

public import proofs.«01_k».proof.Proof.Common
public import proofs.«01_k».proof.Proof.BodyRun

@[expose] public section

/-!
# The bounded call as a region of the program

Entered from any contents of the host's buffers, it leaves them with its result array replaced by what its points wrote.
-/

noncomputable section

namespace Cert.KernelIdeal.Att

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Contents F)

/-- The block of window `w` at point `t`, read off its array at entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores at point `t`. -/
def stored1 (c : Dev nD) (t : Fin cfg1.N) : Vec F S1x512x128 .bf16 := outV (grid1.coords t) (blk1 V c 0 t) (blk1 V c 1 t) (blk1 V c 2 t) (blk1 V c 3 t) (blk1 V c 4 t) (blk1 V c 5 t)

/-- The proof data of one entry: the arrays at entry, each input's buffer at its block, the output's at what was stored. -/
def dat1 (c : Dev nD) : Dat τ (Elt F) Unit ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => stored1 V c t
  Φ _ := Pipeline.scopedRest (Ix := Unit) (Name := ℕ) (U := UU) (Lvl := ℕ) (Val := Elt F) spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = stored1 V c t := by dsimp only [dat1]

/-! Each input's buffer holds its block when the body runs. -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)
theorem dat1_before3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]; try rfl) t d).trans
    (by unfold Dat.fetched Dat.blockOf blk1; rw [dat1_A]; try rfl)
theorem dat1_before4 (c : Dev nD) (t : Fin cfg1.N) (d) : (dat1 V c).before 4 t d = blk1 V c 4 t :=
  ((dat1 V c).before_in_eq_fetched 4 rfl (fun _ => rfl) (fun _ _ _ => rfl)
    (fun t => by rw [dat1_after4]; unfold Dat.blockOf blk1; rw [dat1_A]; try rfl) t d).trans
    (by unfold Dat.fetched Dat.blockOf blk1; rw [dat1_A]; try rfl)
theorem dat1_before5 (c : Dev nD) (t : Fin cfg1.N) (d) : (dat1 V c).before 5 t d = blk1 V c 5 t :=
  ((dat1 V c).before_in_eq_fetched 5 rfl (fun _ => rfl) (fun _ _ _ => rfl)
    (fun t => by rw [dat1_after5]; unfold Dat.blockOf blk1; rw [dat1_A]; try rfl) t d).trans
    (by unfold Dat.fetched Dat.blockOf blk1; rw [dat1_A]; try rfl)

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0) : Memref sig .tc .smem S1 .f32) fullShare ((dat1 V c).before 0 t d))
    ∗ (∃ d, owns (c : Thread nD τ) (win1_1.stage (cfg1.slots t 1) : Memref sig .tc .smem S2x16 .f32) fullShare ((dat1 V c).before 1 t d))
    ∗ (∃ d, owns (c : Thread nD τ) (win1_2.stage (cfg1.slots t 2) : Memref sig .tc .vmem S1x512x128 .bf16) fullShare ((dat1 V c).before 2 t d))
    ∗ (∃ d, owns (c : Thread nD τ) (win1_3.stage (cfg1.slots t 3) : Memref sig .tc .vmem S1x16640x128 .bf16) fullShare ((dat1 V c).before 3 t d))
    ∗ (∃ d, owns (c : Thread nD τ) (win1_4.stage (cfg1.slots t 4) : Memref sig .tc .vmem S1x1x128x16640 .bf16) fullShare ((dat1 V c).before 4 t d))
    ∗ (∃ d, owns (c : Thread nD τ) (win1_5.stage (cfg1.slots t 5) : Memref sig .tc .vmem S128x1 .f32) fullShare ((dat1 V c).before 5 t d))
    ∗ (∃ d, owns (c : Thread nD τ) (win1_6.stage (cfg1.slots t 6) : Memref sig .tc .vmem S1x512x128 .bf16) fullShare ((dat1 V c).before 6 t d)))

/-- and what it returns. -/
def post1 (c : Dev nD) (t : Fin cfg1.N) : sProp 𝕄 :=
  iprop((dat1 V c).Φ t.succ ∗ (dat1 V c).owesAt () t.succ
    ∗ owns (c : Thread nD τ) (win1_0.stage (cfg1.slots t 0) : Memref sig .tc .smem S1 .f32) fullShare ((dat1 V c).after 0 t)
    ∗ owns (c : Thread nD τ) (win1_1.stage (cfg1.slots t 1) : Memref sig .tc .smem S2x16 .f32) fullShare ((dat1 V c).after 1 t)
    ∗ owns (c : Thread nD τ) (win1_2.stage (cfg1.slots t 2) : Memref sig .tc .vmem S1x512x128 .bf16) fullShare ((dat1 V c).after 2 t)
    ∗ owns (c : Thread nD τ) (win1_3.stage (cfg1.slots t 3) : Memref sig .tc .vmem S1x16640x128 .bf16) fullShare ((dat1 V c).after 3 t)
    ∗ owns (c : Thread nD τ) (win1_4.stage (cfg1.slots t 4) : Memref sig .tc .vmem S1x1x128x16640 .bf16) fullShare ((dat1 V c).after 4 t)
    ∗ owns (c : Thread nD τ) (win1_5.stage (cfg1.slots t 5) : Memref sig .tc .vmem S128x1 .f32) fullShare ((dat1 V c).after 5 t)
    ∗ owns (c : Thread nD τ) (win1_6.stage (cfg1.slots t 6) : Memref sig .tc .vmem S1x512x128 .bf16) fullShare ((dat1 V c).after 6 t))

set_option maxHeartbeats 1600000 in
/-- The body at a generic point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6,
    show (dat1 V c).Φ t.castSucc = Pipeline.scopedRest (Ix := Unit) (Name := ℕ) (U := UU) (Lvl := ℕ) (Val := Elt F) spec1 c from rfl,
    scopedRest1_eq]
  iintro ⟨⟨R0, R1, R2, R3, R4, R5, R6, R7, R8, R9, R10, ⟨%fs11, S11⟩, ⟨%fs12, S12⟩, R13⟩, Ho, ⟨%d0, H0⟩, ⟨%d1, H1⟩, ⟨%d2, H2⟩, ⟨%d3, H3⟩, ⟨%d4, H4⟩, ⟨%d5, H5⟩, ⟨%d6, H6⟩⟩
  ihave T0 := (Entails.of_eq (owns_whole (c : Thread nD τ) cc1_scratch0 fullShare fs11).symm) $$ S11
  ihave T1 := (Entails.of_eq (owns_whole (c : Thread nD τ) cc1_scratch1 fullShare fs12).symm) $$ S12
  iapply (body_run c _ _ _ _ _ _ _ _ _ (grid1.coords t) _ _ _ _ _ _ _ _ _ (blk1 V c 0 t) (blk1 V c 1 t) (blk1 V c 2 t) (blk1 V c 3 t) (blk1 V c 4 t) (blk1 V c 5 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [T0]; · iexact T0
  isplitl [T1]; · iexact T1
  iintro ⟨H0, H1, H2, H3, H4, H5, H6, ⟨%x', T0⟩, ⟨%y', T1⟩⟩
  ihave S11 := (Entails.of_eq (owns_whole (c : Thread nD τ) cc1_scratch0 fullShare x')) $$ T0
  ihave S12 := (Entails.of_eq (owns_whole (c : Thread nD τ) cc1_scratch1 fullShare y')) $$ T1
  isplitl [R0 R1 R2 R3 R4 R5 R6 R7 R8 R9 R10 S11 S12 R13]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [S11]; · iexists _; iexact S11
    isplitl [S12]; · iexists _; iexact S12
    iexact R13
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold stored1
  iexact H6

/-- The library's body obligation, at every point. -/
theorem obligation1 (c : Dev nD) : BodyObligation (dat1 V c) (defs₀ (F := F)) 𝒱₀ () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound1 V c t) rfl .rfl fun _ => .rfl

variable (adm : (p : Fin 2) → (pcfgs (F := F) p).Adm)

/-- The family of proof data in which only this call is entered. -/
def family1 : (p : Fin 2) → (c : Dev nD) → Dat τ (Elt F) Unit ℕ UU ℕ (Pipeline.pin (pcfgs (F := F)) adm p) c
  | ⟨0, _⟩ => fun c => idle c
  | ⟨1, _⟩ => fun c => dat1 V c

/-- The result array as the points leave it. -/
def result1 (c : Dev nD) : Buf (Elt F) ((c : Thread nD τ).loc main_case0b1_v46) := (dat1 V c).arrAt 6 cfg1.N

set_option maxHeartbeats 4000000 in
set_option backward.isDefEq.respectTransparency.types false in
/-- The region, over the state "every unscoped buffer at `V c`, the core owing nothing", to the same with the result
    array replaced. -/
def region1 (Vp : Contents F) (R : Dev nD → sProp 𝕄) (hres : ∀ c, Vp c main_case0b1_v46 = result1 V c)
    (hne : ∀ c (b : Ref sig .tc), b ≠ main_case0b1_v46 → Vp c b = V c b) :
    Pipeline.RegionSeg (pcfgs (F := F)) adm (family1 V adm) () defs₀ 𝒱₀ L lv 1 where
  win := (launch1).win.to₀
  block_pos := (launch1).block_pos
  stage_whole := (launch1).stage_whole
  K := PEmpty
  osem k := k.elim
  ho := Pipeline.OwnSemFacts.none _
  hbody c := (obligation1 V c).loose
  hwaits := Pipeline.hwaits_of_owed_zero _ _ _ _ L lv 1 fun _ _ => rfl
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec1 c (V c) ∗ R c)
  hentry c := by
    rw [Pipeline.ownSems0_none]
    have hsplit := Pipeline.arrays_of_unscopedBufs (p := 1) (pcfgs (F := F)) adm (family1 V adm) (launch1).win (launch1).arr_whole c
      ((family1 V adm 1 c).share_full fun _ => rfl) (V c) fun w => dat1_A V c w
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (family1 V adm 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (family1 V adm 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) (launch1).win (launch1).arr_whole c
      (family1 V adm) ((family1 V adm 1 c).share_full fun _ => rfl) (V c) (Vp c) ((family1 V adm 1 c).arrAt · cfg1.N)
      (fun w => by
        fin_cases w
        · exact (((family1 V adm 1 c).arrAt_in 0 rfl _).trans (dat1_A V c 0)).trans (hne c _ (by decide)).symm
        · exact (((family1 V adm 1 c).arrAt_in 1 rfl _).trans (dat1_A V c 1)).trans (hne c _ (by decide)).symm
        · exact (((family1 V adm 1 c).arrAt_in 2 rfl _).trans (dat1_A V c 2)).trans (hne c _ (by decide)).symm
        · exact (((family1 V adm 1 c).arrAt_in 3 rfl _).trans (dat1_A V c 3)).trans (hne c _ (by decide)).symm
        · exact (((family1 V adm 1 c).arrAt_in 4 rfl _).trans (dat1_A V c 4)).trans (hne c _ (by decide)).symm
        · exact (((family1 V adm 1 c).arrAt_in 5 rfl _).trans (dat1_A V c 5)).trans (hne c _ (by decide)).symm
        · exact (hres c).symm)
      (fun b hb => hne c b fun h => hb (h ▸ Finset.mem_image.mpr ⟨6, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Att

end
-- ==== Proof.MainRun.lean ====
module

public import proofs.«01_k».proof.Proof.Region0
public import proofs.«01_k».proof.Proof.Region1

@[expose] public section

/-!
# The run of the whole program

The host operations, the read of the branch word, and the call that the word names: every execution ends, with every
buffer at contents written down here, and no semaphore raised.
-/

noncomputable section

namespace Cert.KernelIdeal.Att

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)

variable {F : FTy → Type} [FloatOps F]

local notation "𝕄" => MT nD τ sig Unit (Elt F) ℕ UU ℕ

variable (m : (ℓ : Loc nD τ sig) → Buf (Elt F) ℓ) (ρ : Dev nD → PrngReg)

/-! ## The contents along the run -/

/-- The host operations, as a list that is not unfolded. -/
def ops0 : List (HloOp τ sig (Elt F)) := hostOps0

theorem ops0_sub : ∀ op ∈ (ops0 (F := F)), op.bufs ⊆ ucRefs := by
  unfold ops0; exact fun op h => within_ucRefs op (List.forall_iff_forall_mem.mp hostOps0_sub op h)

theorem ops0_plain : ∀ op ∈ (ops0 (F := F)), op.fresh = ∅ := by
  unfold ops0; intro _ h; (repeat (cases h with | head => rfl | tail _ h => ?_)); exact nomatch h

/-- The read of the predicate, widened to the word that the branch takes. -/
abbrev rdOp : HloOp τ sig (Elt F) :=
  StableHlo.unary main_v43 main_v44 ((extui 32 · natLt_1_32) : (⟨S_, .i1⟩ : BufTy).Contents (Elt F) → (⟨S_, .i32⟩ : BufTy).Contents (Elt F))

/-- The copy of a call's result into the branch's. -/
abbrev cpOp : Fin 2 → HloOp τ sig (Elt F)
  | 0 => StableHlo.unary main_case0b0_v46 main_v45 id
  | 1 => StableHlo.unary main_case0b1_v46 main_v45 id

/-- At launch, -/
abbrev W0 (c : Dev nD) : Valuation τ sig (Elt F) := fun b => m (c, b)
/-- after the read, -/
def W1 (c : Dev nD) : Valuation τ sig (Elt F) := rdOp.result (after ops0 (W0 m c))
/-- the arm that the word names, -/
def arm (c : Dev nD) : Fin 2 := HostLoop.branch (W1 m c main_v44 HostLoop.idx0) 1
/-- the contents a call is entered from, -/
def entry (c : Dev nD) (b : Ref sig .tc) : Buf (Elt F) ((c : Thread nD τ).loc b) := W1 m c b
/-- after the call of arm `a`, -/
def W2 (a : Fin 2) (c : Dev nD) : Valuation τ sig (Elt F) :=
  match a with
  | 0 => Function.update (W1 m c) (Proc.devRef .tc main_case0b0_v46) (result0 (entry m) c)
  | 1 => Function.update (W1 m c) (Proc.devRef .tc main_case0b1_v46) (result1 (entry m) c)
/-- and after the copy. -/
def W3 (a : Fin 2) (c : Dev nD) : Valuation τ sig (Elt F) := (cpOp a).result (W2 m a c)

/-- No table is prefetched. -/
abbrev adm : (p : Fin 2) → (pcfgs (F := F) p).Adm := fun p => (cfgs p).toPCfg_adm

/-- The round state that the branch spends: both calls', on one core. -/
def ghost (c : Dev nD) : sProp 𝕄 :=
  iprop((bigSep Finset.univ fun p => Pipeline.cellsGhost (Pipeline.pin (pcfgs (F := F)) adm) (embR (A := UR sig nD τ)) p c)
    ∗ (bigSep Finset.univ fun p => Pipeline.toksInit (Pipeline.pin (pcfgs (F := F)) adm) (embR (A := UR sig nD τ)) p c))

theorem ghost_eq (c : Dev nD) : ghost (F := F) c
    = iprop((Pipeline.cellsGhost (Pipeline.pin (pcfgs (F := F)) adm) (embR (A := UR sig nD τ)) 0 c
        ∗ Pipeline.cellsGhost (Pipeline.pin (pcfgs (F := F)) adm) (embR (A := UR sig nD τ)) 1 c)
      ∗ (Pipeline.toksInit (Pipeline.pin (pcfgs (F := F)) adm) (embR (A := UR sig nD τ)) 0 c
        ∗ Pipeline.toksInit (Pipeline.pin (pcfgs (F := F)) adm) (embR (A := UR sig nD τ)) 1 c)) := by
  unfold ghost
  rw [bigSep_univ_eq_bigSepL [(0 : Fin 2), 1] (by decide) (by decide), bigSep_univ_eq_bigSepL [(0 : Fin 2), 1] (by decide) (by decide)]
  rfl

abbrev owing (c : Dev nD) : sProp 𝕄 := iprop(∃ W, owes (c : Thread nD τ) (0 : CellTallies nD τ sig Unit) W)

/-! ## The arms -/

abbrev PR (F : FTy → Type) [FloatOps F] := TpuEff nD τ sig (Elt F) (Pipeline.Sig Λ₀ (Fin 2) fun p => (pcfgs (F := F) p).Adm) .tc

/-- The arms as printed, -/
def armProg : Fin 2 → Prog (PR F) PUnit
  | 0 => do
      Prog.lift (.customCall (Pipeline.entry 0) ())
      hlo rfl (StableHlo.unary main_case0b0_v46 main_v45 id) (fun _ => .ret ⟨⟩)
      pure ⟨⟩
  | 1 => do
      Prog.lift (.customCall (Pipeline.entry 1) ())
      hlo rfl (StableHlo.unary main_case0b1_v46 main_v45 id) (fun _ => .ret ⟨⟩)
      pure ⟨⟩
  | ⟨_ + 2, h⟩ => absurd h (Nat.not_lt.2 (Nat.le_add_left _ _))

theorem armProg_zero : armProg (F := F) 0 = (do
      Prog.lift (.customCall (Pipeline.entry 0) ())
      hlo rfl (StableHlo.unary main_case0b0_v46 main_v45 id) (fun _ => .ret ⟨⟩)
      pure ⟨⟩) := rfl
theorem armProg_one : armProg (F := F) 1 = (do
      Prog.lift (.customCall (Pipeline.entry 1) ())
      hlo rfl (StableHlo.unary main_case0b1_v46 main_v45 id) (fun _ => .ret ⟨⟩)
      pure ⟨⟩) := rfl

/-- and the whole program. -/
def prog : Prog (PR F) PUnit :=
  Pipeline.chain [ StableHlo.seq ops0,
    (do
      let x ← hlo rfl (rdOp (F := F)) (HostLoop.elt main_v44)
      HostLoop.case 2 x (armProg (F := F))) ]

theorem main_eq (c : Dev nD) : main (F := F) c = prog := by
  rw [main_chain c]; rfl

local notation "WP" c => wp frame (wpE (Pipeline.defs (pcfgs (F := F)) defs₀) (Variants.lift 𝒱₀) (Dev.tc c : Thread nD τ) none) Set.univ

section
set_option backward.isDefEq.respectTransparency.types false

/-- The region of arm 0, entered after the read. -/
def seg0 := region0 (entry m) adm (fun c b => W2 m 0 c b) (fun _ => iprop(emp)) (fun c => by unfold W2; exact Function.update_self ..)
      (fun c b hb => by unfold W2 entry; exact Function.update_of_ne (StableHlo.devRef_ne_of_ne hb) ..)

theorem seg0_pre (c : Dev nD) : (seg0 m).pre c = iprop(held (c : Thread nD τ) ucRefs (W1 m c) ∗ emp ∗ owing (F := F) c) := by
  rw [← unscoped_eq_held c (W1 m c)]; rfl
theorem seg0_post (c : Dev nD) : (seg0 m).post c = iprop(held (c : Thread nD τ) ucRefs (W2 m 0 c) ∗ emp ∗ owing (F := F) c) := by
  rw [← unscoped_eq_held c (W2 m 0 c)]; rfl

/-- Its call. -/
theorem call0 (c : Dev nD) (k : PUnit → Prog (PR F) PUnit) (Q : PUnit → sProp 𝕄) :
    iprop((iprop(boundary (c : Thread nD τ) ∗ held (c : Thread nD τ) ucRefs (W2 m 0 c) ∗ emp ∗ owing (F := F) c) -∗ (WP c) (k ⟨⟩) Q)
        ∗ boundary (c : Thread nD τ) ∗ (held (c : Thread nD τ) ucRefs (W1 m c) ∗ emp ∗ owing (F := F) c) ∗ levAts L lv
        ∗ Pipeline.cellsGhost (Pipeline.pin (pcfgs (F := F)) adm) (embR (A := UR sig nD τ)) 0 c ∗ Pipeline.toksInit (Pipeline.pin (pcfgs (F := F)) adm) (embR (A := UR sig nD τ)) 0 c)
      ⊢ (WP c) (.op (.customCall (Pipeline.entry 0) ()) k) Q := by
  rw [← seg0_pre, ← seg0_post]
  exact Pipeline.RegionSeg.wp (pcfgs (F := F)) adm (family0 (entry m) adm) () cellOf_inj (embR (A := UR sig nD τ)) defs₀ 𝒱₀ L lv
    (seg0 m) c none (by nofun) k Q

/-- Arm 0: its call, then the copy of its result. -/
theorem arm0_run (c : Dev nD) {Q : PUnit → sProp 𝕄} :
    iprop(boundary (c : Thread nD τ) ∗ held (c : Thread nD τ) ucRefs (W1 m c) ∗ owing (F := F) c ∗ levAts L lv ∗ ghost (F := F) c
      ∗ (iprop(boundary (c : Thread nD τ) ∗ held (c : Thread nD τ) ucRefs (W3 m 0 c) ∗ owing (F := F) c) -∗ Q ⟨⟩))
    ⊢ (WP c) (armProg (F := F) 0) Q := by
  rw [armProg_zero, Prog.bind_lift, ghost_eq]
  iintro ⟨Hb, Hh, HO, Hl, ⟨HG, HT⟩, Hk⟩
  iapply (call0 m c _ Q)
  icases HG with ⟨HG, -⟩
  icases HT with ⟨HT, -⟩
  isplitl [Hk]
  · iintro ⟨Hb, Hh, -, HO⟩
    rw [wp_bind]
    iapply (StableHlo.wp_hlo_within (Variants.lift 𝒱₀) (c : Thread nD τ) none Set.univ (within_ucRefs _ (StableHlo.unary_bufs_sub ..))) $$ [Hb Hh]
    · isplitl [Hb]; · iexact Hb
      iexact Hh
    iintro ⟨Hb, Hh⟩
    rw [wp_ret]; imodintro
    rw [show (pure PUnit.unit : Prog (PR F) PUnit) = Prog.ret PUnit.unit from rfl, wp_ret]; imodintro
    iapply Hk
    isplitl [Hb]; · iexact Hb
    isplitl [Hh]; · unfold W3; iexact Hh
    iexact HO
  isplitl [Hb]; · iexact Hb
  isplitl [Hh HO]
  · isplitl [Hh]; · iexact Hh
    isplitr; · iempintro
    iexact HO
  isplitl [Hl]; · iexact Hl
  isplitl [HG]; · iexact HG
  iexact HT

/-- The region of arm 1, entered after the read. -/
def seg1 := region1 (entry m) adm (fun c b => W2 m 1 c b) (fun _ => iprop(emp)) (fun c => by unfold W2; exact Function.update_self ..)
      (fun c b hb => by unfold W2 entry; exact Function.update_of_ne (StableHlo.devRef_ne_of_ne hb) ..)

theorem seg1_pre (c : Dev nD) : (seg1 m).pre c = iprop(held (c : Thread nD τ) ucRefs (W1 m c) ∗ emp ∗ owing (F := F) c) := by
  rw [← unscoped_eq_held c (W1 m c)]; rfl
theorem seg1_post (c : Dev nD) : (seg1 m).post c = iprop(held (c : Thread nD τ) ucRefs (W2 m 1 c) ∗ emp ∗ owing (F := F) c) := by
  rw [← unscoped_eq_held c (W2 m 1 c)]; rfl

/-- Its call. -/
theorem call1 (c : Dev nD) (k : PUnit → Prog (PR F) PUnit) (Q : PUnit → sProp 𝕄) :
    iprop((iprop(boundary (c : Thread nD τ) ∗ held (c : Thread nD τ) ucRefs (W2 m 1 c) ∗ emp ∗ owing (F := F) c) -∗ (WP c) (k ⟨⟩) Q)
        ∗ boundary (c : Thread nD τ) ∗ (held (c : Thread nD τ) ucRefs (W1 m c) ∗ emp ∗ owing (F := F) c) ∗ levAts L lv
        ∗ Pipeline.cellsGhost (Pipeline.pin (pcfgs (F := F)) adm) (embR (A := UR sig nD τ)) 1 c ∗ Pipeline.toksInit (Pipeline.pin (pcfgs (F := F)) adm) (embR (A := UR sig nD τ)) 1 c)
      ⊢ (WP c) (.op (.customCall (Pipeline.entry 1) ()) k) Q := by
  rw [← seg1_pre, ← seg1_post]
  exact Pipeline.RegionSeg.wp (pcfgs (F := F)) adm (family1 (entry m) adm) () cellOf_inj (embR (A := UR sig nD τ)) defs₀ 𝒱₀ L lv
    (seg1 m) c none (by nofun) k Q

/-- Arm 1: its call, then the copy of its result. -/
theorem arm1_run (c : Dev nD) {Q : PUnit → sProp 𝕄} :
    iprop(boundary (c : Thread nD τ) ∗ held (c : Thread nD τ) ucRefs (W1 m c) ∗ owing (F := F) c ∗ levAts L lv ∗ ghost (F := F) c
      ∗ (iprop(boundary (c : Thread nD τ) ∗ held (c : Thread nD τ) ucRefs (W3 m 1 c) ∗ owing (F := F) c) -∗ Q ⟨⟩))
    ⊢ (WP c) (armProg (F := F) 1) Q := by
  rw [armProg_one, Prog.bind_lift, ghost_eq]
  iintro ⟨Hb, Hh, HO, Hl, ⟨HG, HT⟩, Hk⟩
  iapply (call1 m c _ Q)
  icases HG with ⟨-, HG⟩
  icases HT with ⟨-, HT⟩
  isplitl [Hk]
  · iintro ⟨Hb, Hh, -, HO⟩
    rw [wp_bind]
    iapply (StableHlo.wp_hlo_within (Variants.lift 𝒱₀) (c : Thread nD τ) none Set.univ (within_ucRefs _ (StableHlo.unary_bufs_sub ..))) $$ [Hb Hh]
    · isplitl [Hb]; · iexact Hb
      iexact Hh
    iintro ⟨Hb, Hh⟩
    rw [wp_ret]; imodintro
    rw [show (pure PUnit.unit : Prog (PR F) PUnit) = Prog.ret PUnit.unit from rfl, wp_ret]; imodintro
    iapply Hk
    isplitl [Hb]; · iexact Hb
    isplitl [Hh]; · unfold W3; iexact Hh
    iexact HO
  isplitl [Hb]; · iexact Hb
  isplitl [Hh HO]
  · isplitl [Hh]; · iexact Hh
    isplitr; · iempintro
    iexact HO
  isplitl [Hl]; · iexact Hl
  isplitl [HG]; · iexact HG
  iexact HT

theorem case_two {E : Type → Type} (v : BitVec 32) (br : Fin 2 → Prog E PUnit) : HostLoop.case 2 v br = br (HostLoop.branch v 1) := rfl

/-- The branch on the word. -/
theorem case_run (c : Dev nD) (v : BitVec 32) (hv : v = W1 m c main_v44 HostLoop.idx0) {Q : PUnit → sProp 𝕄} :
    iprop(boundary (c : Thread nD τ) ∗ held (c : Thread nD τ) ucRefs (W1 m c) ∗ owing (F := F) c ∗ levAts L lv ∗ ghost (F := F) c
      ∗ (iprop(boundary (c : Thread nD τ) ∗ held (c : Thread nD τ) ucRefs (W3 m (arm m c) c) ∗ owing (F := F) c) -∗ Q ⟨⟩))
    ⊢ (WP c) (HostLoop.case 2 v (armProg (F := F))) Q := by
  rw [case_two, show HostLoop.branch v 1 = arm m c from by rw [hv, arm]]
  generalize arm m c = a
  match a with
  | 0 => exact arm0_run m c
  | 1 => exact arm1_run m c

/-- The read, and its word. -/
theorem read_run (c : Dev nD) {Q : BitVec 32 → sProp 𝕄} :
    iprop(boundary (c : Thread nD τ) ∗ held (c : Thread nD τ) ucRefs (after ops0 (W0 m c))
      ∗ (iprop(boundary (c : Thread nD τ) ∗ held (c : Thread nD τ) ucRefs (W1 m c)) -∗ Q (W1 m c main_v44 HostLoop.idx0)))
    ⊢ (WP c) (hlo rfl (rdOp (F := F)) (HostLoop.elt main_v44)) Q := by
  iintro ⟨Hb, Hh, Hk⟩
  iapply (StableHlo.wp_hlo_within (Variants.lift 𝒱₀) (c : Thread nD τ) none Set.univ (within_ucRefs _ (StableHlo.unary_bufs_sub ..))) $$ [Hb Hh]
  · isplitl [Hb]; · iexact Hb
    iexact Hh
  iintro ⟨Hb, Hh⟩
  rw [HostLoop.elt_apply, wp_ret]; imodintro
  have key : ∀ v, v = W1 m c main_v44 HostLoop.idx0 → (Q (W1 m c main_v44 HostLoop.idx0) ⊢ Q v) := by rintro _ rfl; exact .rfl
  iapply (key _ ?_)
  · rfl
  iapply Hk
  isplitl [Hb]; · iexact Hb
  unfold W1
  iexact Hh

/-- The whole program on one core. -/
theorem prog_run (c : Dev nD) {β : Type} (k : PUnit → Prog (PR F) β) (K : β → sProp 𝕄) :
    iprop((iprop(boundary (c : Thread nD τ) ∗ held (c : Thread nD τ) ucRefs (W3 m (arm m c) c) ∗ owing (F := F) c) -∗ (WP c) (k ⟨⟩) K)
        ∗ boundary (c : Thread nD τ) ∗ (held (c : Thread nD τ) ucRefs (W0 m c) ∗ owing (F := F) c ∗ ghost (F := F) c) ∗ levAts L lv)
      ⊢ (WP c) (prog (F := F) >>= k) K := by
  iintro ⟨Hk, Hb, ⟨Hh, HO, HG⟩, Hl⟩
  rw [wp_bind]
  unfold prog
  rw [Pipeline.chain_cons]
  iapply (StableHlo.wp_seq (𝒱 := Variants.lift 𝒱₀) (bd := none) (E := Set.univ) c ucRefs _ ops0 ops0_sub ops0_plain (W0 m c)) $$ [Hb Hh]
  · isplitl [Hb]; · iexact Hb
    iexact Hh
  iintro ⟨Hb, Hh⟩
  rw [Pipeline.chain_cons, Pipeline.chain_nil, wp_bind, wp_bind]
  iapply (read_run m c)
  isplitl [Hb]; · iexact Hb
  isplitl [Hh]; · iexact Hh
  iintro ⟨Hb, Hh⟩
  generalize hv : W1 m c main_v44 HostLoop.idx0 = v
  have h := fun Q => case_run m c v hv.symm (Q := Q)
  iapply (h _)
  isplitl [Hb]; · iexact Hb
  isplitl [Hh]; · iexact Hh
  isplitl [HO]; · iexact HO
  isplitl [Hl]; · iexact Hl
  isplitl [HG]; · iexact HG
  iintro H
  rw [show (pure PUnit.unit : Prog (PR F) PUnit) = Prog.ret PUnit.unit from rfl, wp_ret]; imodintro
  iapply Hk
  iexact H

end

/-- The program as one segment. -/
def seg : Pipeline.HostSeg (Ix := Unit) (Name := ℕ) (U := UU) (Lvl := ℕ) (nD := nD) (τ := τ) (pcfgs (F := F)) defs₀ 𝒱₀ L lv where
  prog := prog
  pre c := iprop(held (c : Thread nD τ) ucRefs (W0 m c) ∗ owing (F := F) c ∗ ghost (F := F) c)
  post c := iprop(held (c : Thread nD τ) ucRefs (W3 m (arm m c) c) ∗ owing (F := F) c)
  run c _ k K := prog_run m c k K

/-- The launch element: the pipelines' start, twice. -/
def u₀ : UU := (initOf (Pipeline.cells cfgs cellOf_inj) (Pipeline.launchToks cfgs cellOf_inj), initOf (Pipeline.cells cfgs cellOf_inj) (Pipeline.launchToks cfgs cellOf_inj))

theorem seg_run : Pipeline.Seg.run (pcs := pcfgs (F := F)) (a := adm) (pdats := family0 (entry m) adm) (ι := ()) [.host (seg m)] = prog :=
  Prog.bind_pure prog

set_option maxHeartbeats 1600000 in
set_option backward.isDefEq.respectTransparency.types false in
/-- Every execution ends, with every unscoped buffer at its contents and every semaphore at zero. -/
theorem run_main : θ_run defs (onTc (τ := τ) (main (F := F))) ⟨m, fun _ => 0, ρ⟩
    (fun r => (∀ c : Dev nD, ∀ b ∈ ucRefs, r.2.mem (c, b) = W3 m (arm m c) c b) ∧ r.2.sem = fun _ => 0) :=
  Pipeline.θ_run_regions_kit_sems (pcfgs (F := F)) adm (family0 (entry m) adm) () cellOf_inj (embL (B := UR sig nD τ)) defs₀ 𝒱₀ L lv m ρ main
    [.host (seg m)]
    (fun c Q => by
      rw [main_eq]
      rw [seg_run])
    (by simp only [Pipeline.Seg.pipes_host, Pipeline.Seg.pipes_nil]; decide) (O₀ := 0) (hL := fun _ _ => rfl) (G := ghost (F := F)) (u₀ := u₀)
    (hu₀ := by
      unfold u₀
      iintro Hu
      ihave H := (ownU_pair _ _) $$ Hu
      icases H with ⟨HP, HR⟩
      imod (Pipeline.fund_ghost (Pipeline.pin (pcfgs (F := F)) adm) (embR (A := UR sig nD τ)) cellOf_inj) $$ HR with ⟨HG, HT⟩
      imodintro
      isplitl [HP]; · iexact HP
      unfold ghost
      rw [bigSep_sep']
      isplitl [HG] <;> iassumption)
    (T₀ := fun c => iprop(held (c : Thread nD τ) ucRefs (W0 m c) ∗ owing (F := F) c ∗ ghost (F := F) c))
    (Tₙ := fun c => held (c : Thread nD τ) ucRefs (W3 m (arm m c) c))
    (hch := ⟨fun _ => .rfl, fun _ => .rfl⟩)
    (hinit := by
      refine Pipeline.initEach L lv fun c => ?_
      rw [show unscopedBufs c (fun b => m ((c : Thread nD τ).loc b)) = held (c : Thread nD τ) ucRefs (W0 m c) from unscoped_eq_held c (W0 m c)]
      iintro ⟨⟨Hh, -, HO, -, -, HG⟩, -⟩
      imodintro
      isplitl [Hh]; · iexact Hh
      isplitl [HO]; · iexists ∅; iexact HO
      iexact HG)
    (QY := fun c s => ∀ b ∈ ucRefs, s.mem (c, b) = W3 m (arm m c) c b)
    (hfin := fun c s' => by
      unfold held
      iintro ⟨H, HSI⟩
      ihave Hr := (pointsTo_read_all ucRefs (fun b => ((c, b) : Loc nD τ sig)) (fun b => W3 m (arm m c) c b) s') $$ [H HSI]
      · isplitl [H]; · iexact H
        iexact HSI
      imodintro
      iexact Hr)
    (hQ := fun _ h hz => ⟨h, funext fun g => hz g (.inr (by revert g; decide))⟩)

end Cert.KernelIdeal.Att

end
-- ==== Proof.Frame.lean ====
module

public import proofs.«01_k».proof.Proof.MainRun
public import proofs.«01_k».proof.Defs

@[expose] public section

set_option maxRecDepth 16384

/-!
# The arguments are left as they were

No host operation writes an argument, no call names one as its result, and the copies after the calls write the result.
-/

noncomputable section

namespace Cert.KernelIdeal.Att

open Cert.KernelIdeal.Gen
open Idealize.ShloMosaic Idealize.ShloMosaic.TcCoe Idealize.ShloMosaic.StableHlo

variable {F : FTy → Type} [FloatOps F]
variable (m : (ℓ : Loc nD τ sig) → Buf (Elt F) ℓ) (ρ : Dev nD → PrngReg)

/-- A buffer that no host operation writes is at the read as at launch, -/
theorem W1_of_ne (c : Dev nD) (b : Ref sig .tc) (h : (ops0 (F := F)).Forall fun op => Proc.devRef .tc b ∉ op.writes) (hr : b ≠ main_v44) :
    W1 m c b = m ((c : Thread nD τ).loc b) := by
  unfold W1
  rw [HloOp.result_of_not_mem]
  · exact StableHlo.after_of_forall_not_mem (b := Proc.devRef .tc b) _ _ (List.forall_iff_forall_mem.mp h)
  · simp only [StableHlo.unary_writes, Finset.mem_singleton]; exact StableHlo.devRef_ne_of_ne hr

/-- and at the end. -/
theorem W3_of_ne (a : Fin 2) (c : Dev nD) (b : Ref sig .tc) (h : (ops0 (F := F)).Forall fun op => Proc.devRef .tc b ∉ op.writes) (hr : b ≠ main_v44)
    (h₀ : b ≠ main_case0b0_v46) (h₁ : b ≠ main_case0b1_v46) (h₂ : b ≠ main_v45) :
    W3 m a c b = m ((c : Thread nD τ).loc b) := by
  unfold W3
  fin_cases a
  · rw [HloOp.result_of_not_mem]
    · unfold W2
      exact (Function.update_of_ne (StableHlo.devRef_ne_of_ne h₀) ..).trans (W1_of_ne m c b h hr)
    · simp only [cpOp, StableHlo.unary_writes, Finset.mem_singleton]; exact StableHlo.devRef_ne_of_ne h₂
  · rw [HloOp.result_of_not_mem]
    · unfold W2
      exact (Function.update_of_ne (StableHlo.devRef_ne_of_ne h₁) ..).trans (W1_of_ne m c b h hr)
    · simp only [cpOp, StableHlo.unary_writes, Finset.mem_singleton]; exact StableHlo.devRef_ne_of_ne h₂

theorem mem_ucRefs (b : Ref sig .tc) (h : (Proc.devRef (τ := τ) .tc b).isScoped = false) : Proc.devRef .tc b ∈ ucRefs := by
  unfold ucRefs StableHlo.tcRefs
  refine Finset.mem_filter.mpr ⟨Finset.mem_map.mpr ⟨b, Finset.mem_univ _, rfl⟩, by simp [h]⟩

/-- The arguments. -/
def argRefs : List (Ref sig .tc) :=
  [main_arg0, main_arg1, main_arg2, main_arg3, main_arg4, main_arg5, main_arg6, main_arg7, main_arg8, main_arg9]

theorem args_unwritten {b : Ref sig .tc} (hb : b ∈ argRefs) : (ops0 (F := F)).Forall fun op => Proc.devRef .tc b ∉ op.writes := by
  have key : ∀ {x y : Ref sig .tc}, x ∈ argRefs → y ∉ argRefs → ¬ Proc.devRef (τ := τ) .tc x = Proc.devRef .tc y := fun hx hy =>
    StableHlo.devRef_ne_of_ne fun e => hy (e ▸ hx)
  simp only [ops0, List.Forall, StableHlo.nullary_writes, StableHlo.unary_writes, StableHlo.binary_writes, StableHlo.reshape_writes, Finset.mem_singleton]
  repeat' apply And.intro
  all_goals exact key hb (by decide)

theorem arg_kept (a : Fin 2) (c : Dev nD) {b : Ref sig .tc} (hb : b ∈ argRefs) : W3 m a c b = m ((c : Thread nD τ).loc b) := by
  have key : ∀ y : Ref sig .tc, y ∉ argRefs → b ≠ y := fun y hy e => hy (e ▸ hb)
  exact W3_of_ne m a c b (args_unwritten hb) (key _ (by decide)) (key _ (by decide)) (key _ (by decide)) (key _ (by decide))

/-- What every execution ends with. -/
theorem ends {r : PUnit × MemSt nD τ sig (Elt F)} (h : (∀ c : Dev nD, ∀ b ∈ ucRefs, r.2.mem (c, b) = W3 m (arm m c) c b) ∧ r.2.sem = fun _ => 0) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  have key : ∀ b : Ref sig .tc, b ∈ argRefs → (Proc.devRef (τ := τ) .tc b).isScoped = false →
      r.2.mem ((c.tc : Thread nD τ).loc b) = m ((c.tc : Thread nD τ).loc b) := fun b hb hs =>
    (h.1 c _ (mem_ucRefs b hs)).trans (arg_kept m _ c hb)
  exact ⟨key _ (by decide) rfl, key _ (by decide) rfl, key _ (by decide) rfl, key _ (by decide) rfl, key _ (by decide) rfl,
    key _ (by decide) rfl, key _ (by decide) rfl, key _ (by decide) rfl, key _ (by decide) rfl, key _ (by decide) rfl⟩

theorem frame_ideal : Cert.quiescent_KernelIdeal := fun m ρ _ =>
  (θ_run Cert.KernelIdeal.defs _ _).mono (fun _ h => ⟨fun c => ends m h c, h.2⟩) (run_main (F := Ideal) m ρ)

end Cert.KernelIdeal.Att

end
-- ==== Proof.Arr.lean ====
module

public import proofs.«01_k».proof.Proof.Region0
public import proofs.«01_k».proof.Proof.Region1
public import Idealize.ShloMosaic.Lib.Pipeline.ValueKit
public import Idealize.ShloMosaic.Lib.Pipeline.Covers

@[expose] public section

set_option maxRecDepth 16384

/-!
# The results, from their blocks

Point `(b, p, i)` of the grid takes rows `512 i …` of batch `b` and columns `128 p …` (two heads), with all of those
columns' keys and values. The blocks written back tile the result, so the result is a given array once every block is.
-/

noncomputable section

namespace Cert.KernelIdeal.Att

open Cert.KernelIdeal.Gen
open Idealize.ShloMosaic Idealize.ShloMosaic.TcCoe Idealize.ShloMosaic.Pipeline

variable {F : FTy → Type} [FloatOps F]
variable (V : Contents F) (c : Dev nD)

/-- A block of queries, -/
def qB {φ : FTy} (Q : FVec F S2x16384x512 φ) (b : Fin 2) (p : Fin 4) (i : Fin 32) : FVec F S1x512x128 φ := fun j =>
  Q (ix3 b ⟨i.val * 512 + (j 1).val, by have : (j 1).val < 512 := (j 1).isLt; omega⟩ ⟨p.val * 128 + (j 2).val, by have : (j 2).val < 128 := (j 2).isLt; omega⟩)
/-- of keys, -/
def kB {φ : FTy} (K : FVec F S2x16640x512 φ) (b : Fin 2) (p : Fin 4) : FVec F S1x16640x128 φ := fun j =>
  K (ix3 b (j 1) ⟨p.val * 128 + (j 2).val, by have : (j 2).val < 128 := (j 2).isLt; omega⟩)
/-- of values. -/
def vB {φ : FTy} (W : FVec F S2x4x128x16640 φ) (b : Fin 2) (p : Fin 4) : FVec F S1x1x128x16640 φ := fun j =>
  W (ix4 b p (j 2) (j 3))

theorem ix0_0 : ∀ t : Fin cfg0.N, win0_0.index t = ![0] := (by decide +kernel : ∀ t : Fin grid0.N, _)
theorem ix0_1 : ∀ t : Fin cfg0.N, win0_1.index t = ![(grid0.coords t 0).val, (grid0.coords t 2).val, (grid0.coords t 1).val] := (by decide +kernel : ∀ t : Fin grid0.N, _)
theorem ix0_2 : ∀ t : Fin cfg0.N, win0_2.index t = ![(grid0.coords t 0).val, 0, (grid0.coords t 1).val] := (by decide +kernel : ∀ t : Fin grid0.N, _)
theorem ix0_3 : ∀ t : Fin cfg0.N, win0_3.index t = ![(grid0.coords t 0).val, (grid0.coords t 1).val, 0, 0] := (by decide +kernel : ∀ t : Fin grid0.N, _)
theorem ix0_4 : ∀ t : Fin cfg0.N, win0_4.index t = ![0, 0] := (by decide +kernel : ∀ t : Fin grid0.N, _)
theorem ix0_5 : ∀ t : Fin cfg0.N, win0_5.index t = ![(grid0.coords t 0).val, (grid0.coords t 2).val, (grid0.coords t 1).val] := (by decide +kernel : ∀ t : Fin grid0.N, _)

theorem blk0_0 (t : Fin cfg0.N) : blk0 V c 0 t = V c main_v28 := by
  funext x; blk_simp [blk0]; congr 1; blk_ext [ix0_0]
theorem blk0_1 (t : Fin cfg0.N) : blk0 V c 1 t = qB (φ := .bf16) (V c main_v13) (grid0.coords t 0) (grid0.coords t 1) (grid0.coords t 2) := by
  funext x; unfold qB; blk_simp [blk0]; congr 1; blk_ext [ix0_1]
theorem blk0_2 (t : Fin cfg0.N) : blk0 V c 2 t = kB (φ := .bf16) (V c main_v16) (grid0.coords t 0) (grid0.coords t 1) := by
  funext x; unfold kB; blk_simp [blk0]; congr 1; blk_ext [ix0_2]
theorem blk0_3 (t : Fin cfg0.N) : blk0 V c 3 t = vB (φ := .bf16) (V c main_v23) (grid0.coords t 0) (grid0.coords t 1) := by
  funext x; unfold vB; blk_simp [blk0]; congr 1; blk_ext [ix0_3]
theorem blk0_4 (t : Fin cfg0.N) : blk0 V c 4 t = V c main_v27 := by
  funext x; blk_simp [blk0]; congr 1; blk_ext [ix0_4]

/-- The running-maximum call's result is `G` if every block is. -/
theorem result0_eq (G : FVec F S2x16384x512 .bf16)
    (h : ∀ (b : Fin 2) (p : Fin 4) (i : Fin 32), routV (V c main_v28) (qB (φ := .bf16) (V c main_v13) b p i) (kB (φ := .bf16) (V c main_v16) b p) (vB (φ := .bf16) (V c main_v23) b p) (V c main_v27)
      = qB G b p i) : result0 V c = G := by
  unfold result0
  refine (dat0 V c).arrAt_eq_of_covers 5 _ (by decide +kernel) fun t hf y => ?_
  blk_simp
  rw [dat0_after5, stored0, blk0_0, blk0_1, blk0_2, blk0_3, blk0_4]
  refine (congrFun (h (grid0.coords t 0) (grid0.coords t 1) (grid0.coords t 2)) y).trans ?_
  unfold qB
  congr 1
  blk_ext [ix0_5]

/-! The bounded call's. -/
theorem ix1_0 : ∀ t : Fin cfg1.N, win1_0.index t = ![0] := (by decide +kernel : ∀ t : Fin grid1.N, _)
theorem ix1_1 : ∀ t : Fin cfg1.N, win1_1.index t = ![0, 0] := (by decide +kernel : ∀ t : Fin grid1.N, _)
theorem ix1_2 : ∀ t : Fin cfg1.N, win1_2.index t = ![(grid1.coords t 0).val, (grid1.coords t 2).val, (grid1.coords t 1).val] := (by decide +kernel : ∀ t : Fin grid1.N, _)
theorem ix1_3 : ∀ t : Fin cfg1.N, win1_3.index t = ![(grid1.coords t 0).val, 0, (grid1.coords t 1).val] := (by decide +kernel : ∀ t : Fin grid1.N, _)
theorem ix1_4 : ∀ t : Fin cfg1.N, win1_4.index t = ![(grid1.coords t 0).val, (grid1.coords t 1).val, 0, 0] := (by decide +kernel : ∀ t : Fin grid1.N, _)
theorem ix1_5 : ∀ t : Fin cfg1.N, win1_5.index t = ![0, 0] := (by decide +kernel : ∀ t : Fin grid1.N, _)
theorem ix1_6 : ∀ t : Fin cfg1.N, win1_6.index t = ![(grid1.coords t 0).val, (grid1.coords t 2).val, (grid1.coords t 1).val] := (by decide +kernel : ∀ t : Fin grid1.N, _)

theorem blk1_0 (t : Fin cfg1.N) : blk1 V c 0 t = V c main_v28 := by
  funext x; blk_simp [blk1]; congr 1; blk_ext [ix1_0]
theorem blk1_1 (t : Fin cfg1.N) : blk1 V c 1 t = V c main_v34 := by
  funext x; blk_simp [blk1]; congr 1; blk_ext [ix1_1]
theorem blk1_2 (t : Fin cfg1.N) : blk1 V c 2 t = qB (φ := .bf16) (V c main_v13) (grid1.coords t 0) (grid1.coords t 1) (grid1.coords t 2) := by
  funext x; unfold qB; blk_simp [blk1]; congr 1; blk_ext [ix1_2]
theorem blk1_3 (t : Fin cfg1.N) : blk1 V c 3 t = kB (φ := .bf16) (V c main_v16) (grid1.coords t 0) (grid1.coords t 1) := by
  funext x; unfold kB; blk_simp [blk1]; congr 1; blk_ext [ix1_3]
theorem blk1_4 (t : Fin cfg1.N) : blk1 V c 4 t = vB (φ := .bf16) (V c main_v23) (grid1.coords t 0) (grid1.coords t 1) := by
  funext x; unfold vB; blk_simp [blk1]; congr 1; blk_ext [ix1_4]
theorem blk1_5 (t : Fin cfg1.N) : blk1 V c 5 t = V c main_v27 := by
  funext x; blk_simp [blk1]; congr 1; blk_ext [ix1_5]

/-- The bounded call's result is `G` if every block is. -/
theorem result1_eq (G : FVec F S2x16384x512 .bf16)
    (h : ∀ j : grid1.Coords, outV j (V c main_v28) (V c main_v34) (qB (φ := .bf16) (V c main_v13) (j 0) (j 1) (j 2)) (kB (φ := .bf16) (V c main_v16) (j 0) (j 1))
      (vB (φ := .bf16) (V c main_v23) (j 0) (j 1)) (V c main_v27) = qB G (j 0) (j 1) (j 2)) : result1 V c = G := by
  unfold result1
  refine (dat1 V c).arrAt_eq_of_covers 6 _ (by decide +kernel) fun t hf y => ?_
  blk_simp
  rw [dat1_after6, stored1, blk1_0, blk1_1, blk1_2, blk1_3, blk1_4, blk1_5]
  refine (congrFun (h (grid1.coords t)) y).trans ?_
  unfold qB
  congr 1
  blk_ext [ix1_6]

end Cert.KernelIdeal.Att

end
-- ==== Proof.Soft.lean ====
module

public import Idealize.ShloMosaic.PureOps.Ideal

@[expose] public section

/-!
# A softmax over the extended reals

The weights of a column of scores, and three ways to mix values by them: as written (subtract the greatest, exponentiate,
divide), with a bound subtracted, and by a maximum that runs along the column. A column is degenerate where some score is
`⊤` or all are `⊥`; the weights mean nothing there.
-/

noncomputable section

namespace Cert.Att.Soft

open Idealize.ShloMosaic Finset

/-! ## Sums and nonnegative real factors -/

/-- A nonnegative real factor goes through a sum. -/
theorem sum_mul_coe {ι : Type} (s : Finset ι) (f : ι → EReal) {c : ℝ} (hc : 0 ≤ c) :
    (∑ r ∈ s, f r) * (c : EReal) = ∑ r ∈ s, f r * (c : EReal) := by
  classical
  induction s using Finset.induction_on with
  | empty => simp
  | insert a s ha ih =>
    rw [sum_insert ha, sum_insert ha, mul_comm, EReal.left_distrib_of_nonneg_of_ne_top (by exact_mod_cast hc) (EReal.coe_ne_top c),
      mul_comm, mul_comm (c : EReal) (∑ r ∈ s, f r), ih]

/-- A sum of reals, each read as an extended real. -/
theorem coe_sum {ι : Type} (s : Finset ι) (f : ι → ℝ) : ((∑ r ∈ s, f r : ℝ) : EReal) = ∑ r ∈ s, (f r : EReal) := by
  classical
  induction s using Finset.induction_on with
  | empty => simp
  | insert a s ha ih => rw [sum_insert ha, sum_insert ha, EReal.coe_add, ih]

theorem bot_sub (x : EReal) : (⊥ : EReal) - x = ⊥ := by rw [sub_eq_add_neg, EReal.bot_add]

theorem sub_top (x : EReal) : x - (⊤ : EReal) = ⊥ := by rw [sub_eq_add_neg, EReal.neg_top, EReal.add_bot]

/-! ## Weights -/

/-- The exponential, zero at the infinities. -/
def ex (x : EReal) : ℝ := if x = ⊥ ∨ x = ⊤ then 0 else Real.exp x.toReal

@[simp] theorem ex_coe (r : ℝ) : ex (r : EReal) = Real.exp r := by simp [ex]
@[simp] theorem ex_bot : ex ⊥ = 0 := by simp [ex]

theorem ex_nonneg (x : EReal) : 0 ≤ ex x := by unfold ex; split <;> positivity

variable {ι : Type} [Fintype ι]

/-- The degenerate columns. -/
def Cor (x : ι → EReal) : Prop := (∃ r, x r = ⊤) ∨ ∀ r, x r = ⊥

/-- The values mixed by the weights of the scores `x`. -/
def mix (x v : ι → EReal) : EReal := ∑ r, v r * ((ex (x r) / ∑ j, ex (x j) : ℝ) : EReal)

theorem denom_pos {x : ι → EReal} (h : ¬ Cor x) : 0 < ∑ j, ex (x j) := by
  unfold Cor at h
  push Not at h
  obtain ⟨h1, r, h2⟩ := h
  refine sum_pos' (fun j _ => ex_nonneg _) ⟨r, mem_univ r, ?_⟩
  unfold ex
  rw [if_neg (by rintro (h | h); exacts [h2 h, h1 r h])]
  exact Real.exp_pos _

/-- Numerators and denominators scaled by one positive real. -/
theorem mix_of_scaled {x v : ι → EReal} (h : ¬ Cor x) {c : ℝ} (hc : 0 < c) :
    Ideal.div (∑ r, v r * ((ex (x r) * c : ℝ) : EReal)) (∑ r, ((ex (x r) * c : ℝ) : EReal)) = mix x v := by
  have hd := denom_pos h
  have hs : (∑ r, ((ex (x r) * c : ℝ) : EReal)) = (((∑ r, ex (x r)) * c : ℝ) : EReal) := by
    rw [Finset.sum_mul, coe_sum]
  rw [hs, Ideal.div_coe (by positivity), sum_mul_coe _ _ (by positivity)]
  unfold mix
  refine sum_congr rfl fun r _ => ?_
  rw [mul_assoc, ← EReal.coe_mul]
  congr 2
  field_simp

/-! ## As written -/

theorem exp_sub_coe {x : EReal} (hx : x ≠ ⊤) (M : ℝ) : Ideal.exp (x - (M : EReal)) = ((ex x * Real.exp (-M) : ℝ) : EReal) := by
  induction x with
  | bot => rw [bot_sub]; simp
  | coe r => rw [← EReal.coe_sub, Ideal.exp_coe, ex_coe, ← Real.exp_add]; rfl
  | top => exact absurd rfl hx

/-- The softmax as written, off the degenerate columns. -/
theorem written {x v : ι → EReal} (h : ¬ Cor x) {M : EReal} (hM : ∀ r, x r ≤ M) (hM' : ∃ r, M = x r) :
    ∑ r, v r * Ideal.div (Ideal.exp (x r - M)) (∑ j, Ideal.exp (x j - M)) = mix x v := by
  have h' := h
  unfold Cor at h
  push Not at h
  obtain ⟨h1, r₁, h2⟩ := h
  obtain ⟨r₀, rfl⟩ := hM'
  have hb : x r₀ ≠ ⊥ := fun hb => h2 (le_bot_iff.mp (hb ▸ hM r₁))
  obtain ⟨M, hMr⟩ : ∃ M : ℝ, x r₀ = (M : EReal) := ⟨(x r₀).toReal, (EReal.coe_toReal (h1 r₀) hb).symm⟩
  rw [hMr]
  have hd := denom_pos h'
  have he : ∀ r, Ideal.exp (x r - (M : EReal)) = ((ex (x r) * Real.exp (-M) : ℝ) : EReal) := fun r => exp_sub_coe (h1 r) M
  have hs : (∑ r, ((ex (x r) * Real.exp (-M) : ℝ) : EReal)) = (((∑ r, ex (x r)) * Real.exp (-M) : ℝ) : EReal) := by
    rw [Finset.sum_mul, coe_sum]
  simp only [he]
  rw [hs]
  have hpos : (0 : ℝ) < (∑ r, ex (x r)) * Real.exp (-M) := mul_pos hd (Real.exp_pos _)
  unfold mix
  refine sum_congr rfl fun r _ => ?_
  rw [Ideal.div_coe hpos.ne', ← EReal.coe_mul]
  congr 2
  have := (Real.exp_pos (-M)).ne'
  field_simp

/-- The softmax as written, on a degenerate column: every weight is `⊥`. -/
theorem written_cor {x v : ι → EReal} (h : Cor x) {M : EReal} (hM : ∀ r, x r ≤ M) (hM' : ∃ r, M = x r) :
    ∑ r, v r * Ideal.div (Ideal.exp (x r - M)) (∑ j, Ideal.exp (x j - M)) = ∑ r, v r * ⊥ := by
  have he : ∀ r, Ideal.exp (x r - M) = 0 := by
    intro r
    rcases h with ⟨r₁, h⟩ | h
    · have hT : M = ⊤ := top_le_iff.mp (h ▸ hM r₁)
      rw [hT, sub_top]; rfl
    · rw [h r, bot_sub]; rfl
  refine sum_congr rfl fun r _ => ?_
  simp only [he, sum_const_zero]
  simp [Ideal.div]

/-! ## Powers of two -/

theorem exp2_coe' (r : ℝ) : Ideal.exp2 (r : EReal) = ((Real.exp (r * Real.log 2) : ℝ) : EReal) := by
  rw [Ideal.exp2_coe]
  congr 1
  show (2 : ℝ) ^ r = _
  rw [Real.rpow_def_of_pos (by norm_num), mul_comm]

theorem log2_pos : (0 : ℝ) < Real.log 2 := Real.log_pos (by norm_num)

theorem exp2_sub_coe {y : EReal} (hy : y ≠ ⊤) (M : ℝ) :
    Ideal.exp2 (y - (M : EReal)) = ((ex (y * (Real.log 2 : ℝ)) * Real.exp (-(M * Real.log 2)) : ℝ) : EReal) := by
  induction y with
  | bot => rw [bot_sub, EReal.bot_mul_coe_of_pos log2_pos]; simp
  | coe r =>
    rw [← EReal.coe_sub, exp2_coe', ← EReal.coe_mul, ex_coe, ← Real.exp_add]
    congr 2; ring
  | top => exact absurd rfl hy

/-! ## With a bound subtracted -/

/-- Real scores, a real bound subtracted from each. -/
theorem shifted {x v y : ι → EReal} (h : ¬ Cor x) {B : ℝ} (hx : ∀ r, x r = y r * (Real.log 2 : ℝ)) (ht : ∀ r, y r ≠ ⊤) :
    Ideal.div (∑ r, v r * Ideal.exp2 (y r - (B : EReal))) (∑ r, Ideal.exp2 (y r - (B : EReal))) = mix x v := by
  simp only [fun r => exp2_sub_coe (ht r) B, ← hx]
  exact mix_of_scaled h (Real.exp_pos _)

/-! ## By a running maximum -/

/-- Tile by tile: the maxima. -/
def rmax (m₀ : ℝ) (t : ℕ → EReal) : ℕ → EReal
  | 0 => (m₀ : EReal)
  | n + 1 => max (rmax m₀ t n) (t n)

/-- Tile by tile: the sums, rescaled whenever the maximum moves. -/
def racc (m₀ : ℝ) (t : ℕ → EReal) (y v : ℕ → ι → EReal) : ℕ → EReal
  | 0 => 0
  | n + 1 => Ideal.exp2 (rmax m₀ t n - rmax m₀ t (n + 1)) * racc m₀ t y v n + ∑ j, v n j * Ideal.exp2 (y n j - rmax m₀ t (n + 1))

theorem rmax_ne_bot (m₀ : ℝ) (t : ℕ → EReal) (n : ℕ) : rmax m₀ t n ≠ ⊥ := by
  induction n with
  | zero => exact EReal.coe_ne_bot _
  | succ n ih => exact fun h => ih (le_bot_iff.mp (h ▸ le_max_left _ _))

theorem rmax_mono (m₀ : ℝ) (t : ℕ → EReal) (n : ℕ) : rmax m₀ t n ≤ rmax m₀ t (n + 1) := le_max_left _ _

theorem racc_top (m₀ : ℝ) (t : ℕ → EReal) (y v : ℕ → ι → EReal) {n : ℕ} (h : rmax m₀ t n = ⊤) : racc m₀ t y v n = 0 := by
  cases n with
  | zero => exact absurd h (EReal.coe_ne_top _)
  | succ n =>
    unfold racc
    rw [h]
    simp [sub_top]

/-- Below `⊤` the sums are those of the column so far, over one real factor. -/
theorem racc_real (m₀ : ℝ) (t : ℕ → EReal) (y v : ℕ → ι → EReal) (hy : ∀ n j, y n j ≤ t n) (n : ℕ) (h : rmax m₀ t n ≠ ⊤) :
    racc m₀ t y v n = ∑ k ∈ range n, ∑ j, v k j * ((ex (y k j * (Real.log 2 : ℝ)) * Real.exp (-((rmax m₀ t n).toReal * Real.log 2)) : ℝ) : EReal) := by
  induction n with
  | zero => simp [racc]
  | succ n ih =>
    have h0 : rmax m₀ t n ≠ ⊤ := fun e => h (top_le_iff.mp (e ▸ rmax_mono m₀ t n))
    have ha : rmax m₀ t n = ((rmax m₀ t n).toReal : EReal) := (EReal.coe_toReal h0 (rmax_ne_bot m₀ t n)).symm
    have hb : rmax m₀ t (n + 1) = ((rmax m₀ t (n + 1)).toReal : EReal) := (EReal.coe_toReal h (rmax_ne_bot m₀ t (n + 1))).symm
    have ht : t n ≠ ⊤ := fun e => h (top_le_iff.mp (e ▸ (le_max_right _ _ : t n ≤ rmax m₀ t (n + 1))))
    rw [sum_range_succ, racc, ih h0]
    generalize (rmax m₀ t n).toReal = a at ha ⊢
    generalize (rmax m₀ t (n + 1)).toReal = b at hb ⊢
    rw [ha, hb]
    congr 1
    · rw [← EReal.coe_sub, exp2_coe', mul_comm, sum_mul_coe _ _ (Real.exp_pos _).le]
      refine sum_congr rfl fun k _ => ?_
      rw [sum_mul_coe _ _ (Real.exp_pos _).le]
      refine sum_congr rfl fun j _ => ?_
      rw [mul_assoc, ← EReal.coe_mul, mul_assoc, ← Real.exp_add]
      congr 4
      ring
    · refine sum_congr rfl fun j _ => ?_
      rw [exp2_sub_coe (fun e => ht (top_le_iff.mp (e ▸ hy n j)))]

theorem rmax_top_iff (m₀ : ℝ) (t : ℕ → EReal) (n : ℕ) : rmax m₀ t n = ⊤ ↔ ∃ k < n, t k = ⊤ := by
  induction n with
  | zero => simp [rmax]
  | succ n ih =>
    have : rmax m₀ t (n + 1) = ⊤ ↔ rmax m₀ t n = ⊤ ∨ t n = ⊤ := by
      show max _ _ = ⊤ ↔ _
      rw [max_eq_top]
    rw [this, ih]
    constructor
    · rintro (⟨k, hk, h⟩ | h)
      exacts [⟨k, by omega, h⟩, ⟨n, by omega, h⟩]
    · rintro ⟨k, hk, h⟩
      rcases Nat.lt_succ_iff_lt_or_eq.mp hk with hk | rfl
      exacts [.inl ⟨k, hk, h⟩, .inr h]

variable {κ : Type} [Fintype κ]

/-- The running maximum mixes as the softmax does, off the degenerate columns. -/
theorem running (m₀ : ℝ) (t : ℕ → EReal) (y v : ℕ → ι → EReal) (hy : ∀ n j, y n j ≤ t n) (hy' : ∀ n, ∃ j, t n = y n j) (T : ℕ)
    {x w : κ → EReal} (e : κ ≃ Fin T × ι) (hx : ∀ r, x r = y (e r).1 (e r).2 * (Real.log 2 : ℝ)) (hw : ∀ r, w r = v (e r).1 (e r).2)
    (h : ¬ Cor x) : Ideal.div (racc m₀ t y v T) (racc m₀ t y (fun _ _ => 1) T) = mix x w := by
  have hT : rmax m₀ t T ≠ ⊤ := by
    rw [Ne, rmax_top_iff]
    rintro ⟨k, hk, hk'⟩
    obtain ⟨j, hj⟩ := hy' k
    refine h (.inl ⟨e.symm (⟨k, hk⟩, j), ?_⟩)
    rw [hx, Equiv.apply_symm_apply]
    simp only
    rw [← hj, hk', EReal.top_mul_coe_of_pos log2_pos]
  have key : ∀ u : ℕ → ι → EReal, racc m₀ t y u T
      = ∑ r, u (e r).1 (e r).2 * ((ex (x r) * Real.exp (-((rmax m₀ t T).toReal * Real.log 2)) : ℝ) : EReal) := by
    intro u
    rw [racc_real m₀ t y u hy T hT]
    rw [← Fin.sum_univ_eq_sum_range (fun k => ∑ j, u k j * ((ex (y k j * (Real.log 2 : ℝ)) * Real.exp (-((rmax m₀ t T).toReal * Real.log 2)) : ℝ) : EReal)) T,
      ← Fintype.sum_prod_type' (fun (k : Fin T) j => u k j * ((ex (y k j * (Real.log 2 : ℝ)) * Real.exp (-((rmax m₀ t T).toReal * Real.log 2)) : ℝ) : EReal)),
      ← e.sum_comp]
    exact sum_congr rfl fun r _ => by rw [hx]
  rw [key, key]
  simp only [one_mul, ← hw]
  exact mix_of_scaled h (Real.exp_pos _)

/-- On a degenerate column the sums are zero. -/
theorem running_cor (m₀ : ℝ) (t : ℕ → EReal) (y v : ℕ → ι → EReal) (hy : ∀ n j, y n j ≤ t n) (T : ℕ)
    {x : κ → EReal} (e : κ ≃ Fin T × ι) (hx : ∀ r, x r = y (e r).1 (e r).2 * (Real.log 2 : ℝ)) (h : Cor x) : racc m₀ t y v T = 0 := by
  by_cases hT : rmax m₀ t T = ⊤
  · exact racc_top m₀ t y v hT
  · rw [racc_real m₀ t y v hy T hT]
    refine sum_eq_zero fun k hk => sum_eq_zero fun j _ => ?_
    have hk' := mem_range.mp hk
    have hx' := hx (e.symm (⟨k, hk'⟩, j))
    rw [Equiv.apply_symm_apply] at hx'
    simp only at hx'
    have : ex (y k j * (Real.log 2 : ℝ)) = 0 := by
      rw [← hx']
      rcases h with ⟨r, hr⟩ | h
      · exfalso
        rw [rmax_top_iff] at hT
        refine hT ⟨(e r).1, (e r).1.isLt, top_le_iff.mp ?_⟩
        refine le_trans ?_ (hy _ (e r).2)
        rw [hx r] at hr
        rw [top_le_iff]
        by_contra hne
        generalize y (e r).1 (e r).2 = z at hr hne
        induction z with
        | bot => rw [EReal.bot_mul_coe_of_pos log2_pos] at hr; exact absurd hr (by simp)
        | coe z => rw [← EReal.coe_mul] at hr; exact EReal.coe_ne_top _ hr
        | top => exact hne rfl
      · rw [h, ex_bot]
    rw [this]; simp

/-! ## The norm over a head -/

/-- A head's output over the root of its mean square. -/
def rmsn (eps n : EReal) (d : Fin 64 → EReal) (e : Fin 64) : EReal := d e * Ideal.rsqrt (Ideal.div (∑ k, d k * d k) n + eps)

theorem mul_self_nonneg' (x : EReal) : 0 ≤ x * x := by
  induction x with
  | bot => simp
  | coe r => rw [← EReal.coe_mul]; exact_mod_cast mul_self_nonneg r
  | top => simp

/-- An infinite entry, or none but zeros: the norm gives zeros. -/
theorem rmsn_zero {eps n : ℝ} (hn : 0 < n) {d : Fin 64 → EReal} (h : (∃ e, d e = ⊤ ∨ d e = ⊥) ∨ ∀ e, d e = 0) (e : Fin 64) :
    rmsn eps n d e = 0 := by
  unfold rmsn
  rcases h with ⟨k, hk⟩ | h
  · have hk' : d k * d k = ⊤ := by rcases hk with hk | hk <;> rw [hk] <;> rfl
    have : (∑ k, d k * d k) = ⊤ := top_le_iff.mp (hk' ▸ single_le_sum (f := fun k => d k * d k) (fun j _ => mul_self_nonneg' _) (mem_univ k))
    rw [this, Ideal.div_coe hn.ne', EReal.top_mul_coe_of_pos (by positivity), EReal.top_add_coe, Ideal.rsqrt_top, mul_zero]
  · rw [h e, zero_mul]

theorem sum_mul_bot {v : ι → EReal} (h : ∃ r, v r ≠ 0) : (∑ r, v r * (⊥ : EReal)) = ⊤ ∨ (∑ r, v r * (⊥ : EReal)) = ⊥ := by
  classical
  have hb : ∀ r, v r * (⊥ : EReal) = 0 ∨ v r * (⊥ : EReal) = ⊤ ∨ v r * (⊥ : EReal) = ⊥ := by
    intro r
    rcases lt_trichotomy (v r) 0 with h | h | h
    · exact .inr (.inl (EReal.mul_bot_of_neg h))
    · left; rw [h, zero_mul]
    · exact .inr (.inr (EReal.mul_bot_of_pos h))
  obtain ⟨r, hr⟩ := h
  have hall : ∀ s : Finset ι, (∑ r ∈ s, v r * (⊥ : EReal)) = 0 ∨ (∑ r ∈ s, v r * (⊥ : EReal)) = ⊤ ∨ (∑ r ∈ s, v r * (⊥ : EReal)) = ⊥ := by
    intro s
    induction s using Finset.induction_on with
    | empty => simp
    | insert a s ha ih =>
      rw [sum_insert ha]
      rcases hb a with h1 | h1 | h1 <;> rcases ih with h2 | h2 | h2 <;> rw [h1, h2] <;> simp
  rw [← add_sum_erase univ _ (mem_univ r)]
  have hr' : v r * (⊥ : EReal) = ⊤ ∨ v r * (⊥ : EReal) = ⊥ := by
    rcases lt_trichotomy (v r) 0 with h | h | h
    exacts [.inl (EReal.mul_bot_of_neg h), absurd h hr, .inr (EReal.mul_bot_of_pos h)]
  rcases hr' with h1 | h1 <;> rcases hall (univ.erase r) with h2 | h2 | h2 <;> rw [h1, h2] <;> simp

theorem bot_sub_inf (y : EReal) : (⊥ : EReal) - y = ⊥ := bot_sub y

theorem inf_sub {x : EReal} (h : x = ⊤ ∨ x = ⊥) (y : EReal) : x - y = ⊤ ∨ x - y = ⊥ := by
  rcases h with rfl | rfl
  · induction y with
    | bot => simp
    | coe r => simp
    | top => simp [sub_top]
  · exact .inr (bot_sub y)

theorem sub_inf {y : EReal} (h : y = ⊤ ∨ y = ⊥) (x : EReal) : x - y = ⊤ ∨ x - y = ⊥ := by
  rcases h with rfl | rfl
  · exact .inr (sub_top x)
  · rw [sub_eq_add_neg, EReal.neg_bot]
    induction x with
    | bot => simp
    | coe r => simp
    | top => simp

theorem mul_inf {l y : EReal} (hl : l ≠ 0) (h : y = ⊤ ∨ y = ⊥) : l * y = ⊤ ∨ l * y = ⊥ := by
  rcases lt_or_gt_of_ne hl with hl | hl <;> rcases h with rfl | rfl
  exacts [.inr (EReal.mul_top_of_neg hl), .inl (EReal.mul_bot_of_neg hl), .inl (EReal.mul_top_of_pos hl), .inr (EReal.mul_bot_of_pos hl)]

/-- Two softmaxes' difference, normed: what a degenerate column gives does not matter. -/
theorem rmsn_diff {eps n : ℝ} (hn : 0 < n) (lam : EReal) (x₀ x₁ : ι → EReal) (v : Fin 64 → ι → EReal) {k₀ k₁ r₀ r₁ : Fin 64 → EReal}
    (hk₀ : ∀ e, Cor x₀ → k₀ e = ⊥) (hk₁ : ∀ e, Cor x₁ → k₁ e = ⊥)
    (hr₀ : ∀ e, Cor x₀ → r₀ e = ∑ r, v e r * ⊥) (hr₁ : ∀ e, Cor x₁ → r₁ e = ∑ r, v e r * ⊥)
    (hk₀' : ∀ e, ¬ Cor x₀ → k₀ e = mix x₀ (v e)) (hk₁' : ∀ e, ¬ Cor x₁ → k₁ e = mix x₁ (v e))
    (hr₀' : ∀ e, ¬ Cor x₀ → r₀ e = mix x₀ (v e)) (hr₁' : ∀ e, ¬ Cor x₁ → r₁ e = mix x₁ (v e)) :
    rmsn eps n (fun e => k₀ e - lam * k₁ e) = rmsn eps n (fun e => r₀ e - lam * r₁ e) := by
  have z0 : (∀ e r, v e r = 0) → ∀ e, r₀ e = 0 := by
    intro hv e
    by_cases h : Cor x₀
    · rw [hr₀ e h]; simp [hv]
    · rw [hr₀' e h]; simp [mix, hv]
  have z1 : (∀ e r, v e r = 0) → ∀ e, r₁ e = 0 := by
    intro hv e
    by_cases h : Cor x₁
    · rw [hr₁ e h]; simp [hv]
    · rw [hr₁' e h]; simp [mix, hv]
  have zz : (∀ e r, v e r = 0) → ∀ e, (fun e => r₀ e - lam * r₁ e) e = 0 := fun hv e => by simp [z0 hv e, z1 hv e]
  by_cases h₀ : Cor x₀
  · funext e
    rw [rmsn_zero hn (.inl ⟨0, .inr (by rw [hk₀ 0 h₀, bot_sub])⟩), rmsn_zero hn]
    by_cases hv : ∀ e r, v e r = 0
    · exact .inr (zz hv)
    · push Not at hv
      obtain ⟨e', he'⟩ := hv
      refine .inl ⟨e', ?_⟩
      exact inf_sub (by rw [hr₀ e' h₀]; exact sum_mul_bot he') _
  · by_cases h₁ : Cor x₁
    · by_cases hl : lam = 0
      · congr 1; funext e; rw [hk₀' e h₀, hr₀' e h₀, hl, zero_mul, zero_mul]
      · funext e
        rw [rmsn_zero hn (.inl ⟨0, sub_inf (mul_inf hl (.inr (hk₁ 0 h₁))) _⟩), rmsn_zero hn]
        by_cases hv : ∀ e r, v e r = 0
        · exact .inr (zz hv)
        · push Not at hv
          obtain ⟨e', he'⟩ := hv
          refine .inl ⟨e', ?_⟩
          exact sub_inf (mul_inf hl (by rw [hr₁ e' h₁]; exact sum_mul_bot he')) _
    · congr 1; funext e; rw [hk₀' e h₀, hr₀' e h₀, hk₁' e h₁, hr₁' e h₁]

end Cert.Att.Soft

end
-- ==== Proof.Elems.lean ====
module

public import proofs.«01_k».proof.Proof.RunningRun
public import proofs.«01_k».proof.Proof.BodyRun
public import proofs.«01_k».proof.Proof.Soft
public import Idealize.ShloMosaic.Lib.Pointwise

@[expose] public section

set_option maxRecDepth 16384

/-!
# The kernels' values, element by element, over the extended reals

The scores of a block's queries against a block's keys, and what the vector operations of both kernels leave at an entry.
-/

noncomputable section

namespace Cert.KernelIdeal.Att

open Cert.KernelIdeal.Gen Cert.Att
open Idealize.ShloMosaic Idealize.ShloMosaic.TcCoe
open Finset

/-! ## Constants -/

/-- The count of a head's channels, a positive real. -/
theorem c64_real : ∃ n : ℝ, 0 < n ∧ Ideal.ofBits FTy.f32 1115684864#32 = (n : EReal) := by
  refine ⟨64, by norm_num, ?_⟩
  simp [Ideal.ofBits, Ideal.ieee, -EReal.coe_mul]; norm_num

theorem eps_real : ∃ e : ℝ, Ideal.ofBits FTy.f32 897988541#32 = (e : EReal) := ⟨_, rfl⟩

theorem low_real : ∃ e : ℝ, Ideal.ofBits FTy.f32 0xF149F2CA#32 = (e : EReal) := ⟨_, rfl⟩

theorem ninf : Ideal.ofBits FTy.f32 4286578688#32 = ⊥ := by
  simp [Ideal.ofBits, Ideal.ieee]

theorem fexp2 (x : Ideal .f32) : FloatOps.exp2 (F := Ideal) x = Ideal.exp2 x := rfl

/-! ## The scores -/

/-- The score, in powers of two, of query `t` against key `r`, for softmax `s` of the block. -/
def ysc (q : Vec Ideal S1x512x128 .bf16) (K : Vec Ideal S1x16640x128 .bf16) (s : Fin 4) (t : Fin 512) (r : Fin 16640) : EReal :=
  ∑ d : Fin 32, K (ix3 0 r ⟨32 * s.val + d.val, by omega⟩) * q (ix3 0 t ⟨32 * s.val + d.val, by omega⟩)

/-- The same as a natural exponent. -/
def col (q : Vec Ideal S1x512x128 .bf16) (K : Vec Ideal S1x16640x128 .bf16) (s : Fin 4) (t : Fin 512) (r : Fin 16640) : EReal :=
  ysc q K s t r * (Real.log 2 : ℝ)

/-- Channel `e` of the values of the head of softmax `s`. -/
def vals (V : Vec Ideal S1x1x128x16640 .bf16) (s : Fin 4) (e : Fin 64) (r : Fin 16640) : EReal :=
  V (ix4 0 0 ⟨64 * (s.val / 2) + e.val, by omega⟩ r)

/-- The keys by tiles. -/
def tileE : Fin 16640 ≃ Fin 65 × Fin 256 := (finProdFinEquiv (m := 65) (n := 256)).symm

theorem tileE_val (r : Fin 16640) : 256 * (tileE r).1.val + (tileE r).2.val = r.val := by
  have h := congrArg Fin.val (Equiv.symm_apply_apply (tileE) r)
  have h2 : (tileE.symm (tileE r)).val = (tileE r).2.val + 256 * (tileE r).1.val := rfl
  omega

/-- Row `j` of tile `n`. -/
def rowOf (n : ℕ) (j : Fin 256) : Fin 16640 := ⟨256 * (n % 65) + j.val, by omega⟩

theorem rowOf_tileE (r : Fin 16640) : rowOf (tileE r).1.val (tileE r).2 = r := by
  apply Fin.ext
  have h := tileE_val r
  have h' : (tileE r).1.val % 65 = (tileE r).1.val := Nat.mod_eq_of_lt (tileE r).1.isLt
  simp only [rowOf, h']
  exact h

theorem slab_word : ∀ (d : Fin 128) (s : Fin 4),
    IntOp.cmpi CmpIPredicate.eq (IntOp.shrsi ArithUnit.vector (BitVec.ofNat 32 d.val) 5#32) (BitVec.ofNat 32 s.val) = BitVec.ofBool (d.val / 32 = s.val) := by
  decide +kernel

theorem zero_word : ∀ (d : Fin 128), IntOp.cmpi CmpIPredicate.eq (BitVec.ofNat 32 d.val) 0#32 = BitVec.ofBool (d.val = 0) := by
  decide +kernel

theorem qS_at (v0 : Vec Ideal S1x512x128 .bf16) (s : Fin 4) (d : Fin 128) (t : Fin 512) :
    qS v0 (BitVec.ofNat 32 s.val) (ix2 d t) = if d.val / 32 = s.val then v0 (ix3 0 t d) else 0 := by
  pointwise [qS, qT, rowIx]
  rw [slab_word]
  pointwise

/-- A sum over all channels of which only a softmax's remain. -/
theorem sum_slab (f : Fin 128 → EReal) (s : Fin 4) :
    (∑ x : Fin 128, if x.val / 32 = s.val then f x else 0) = ∑ d : Fin 32, f ⟨32 * s.val + d.val, by omega⟩ := by
  rw [← (finProdFinEquiv (m := 4) (n := 32)).sum_comp (fun x : Fin 128 => if x.val / 32 = s.val then f x else 0), Fintype.sum_prod_type,
    sum_eq_single s]
  · refine sum_congr rfl fun d _ => ?_
    have hv : (finProdFinEquiv (s, d)).val = d.val + 32 * s.val := rfl
    have hd := d.isLt
    rw [if_pos (by rw [hv]; omega)]
    congr 1
    apply Fin.ext
    rw [hv]
    exact Nat.add_comm _ _
  · intro b _ hb
    refine sum_eq_zero fun d _ => ?_
    have hv : (finProdFinEquiv (b, d)).val = d.val + 32 * b.val := rfl
    have hd := d.isLt
    rw [if_neg]
    intro h
    rw [hv] at h
    exact hb (Fin.ext (by omega))
  · intro h; exact absurd (mem_univ s) h

theorem sum_keys (q : Vec Ideal S1x512x128 .bf16) (K : Vec Ideal S1x16640x128 .bf16) (s : Fin 4) (t : Fin 512) (r : Fin 16640) :
    (∑ x : Fin 128, K (ix3 0 r x) * qS q (BitVec.ofNat 32 s.val) (ix2 x t)) = ysc q K s t r := by
  unfold ysc
  rw [← sum_slab (fun x => K (ix3 0 r x) * q (ix3 0 t x)) s]
  refine sum_congr rfl fun x _ => ?_
  rw [qS_at]
  split
  · rfl
  · rw [mul_zero]

theorem keyR_at (K : Vec Ideal S1x16640x128 .bf16) (n : ℕ) (r : Fin 256) (d : Fin 128) :
    keyR K n (ix3 0 r d) = K (ix3 0 (rowOf n r) d) := by
  unfold keyR VecWindow.window
  congr 1
  funext a
  apply Fin.ext
  fin_cases a
  · rfl
  · show 256 * (n % 65) + 1 * r.val = 256 * (n % 65) + r.val
    omega
  · show 0 + 1 * d.val = d.val
    omega

theorem keyT_eq (K : Vec Ideal S1x16640x128 .bf16) (n : ℕ) : keyT K n = keyR K (n / 4) := rfl

theorem valR_at (V : Vec Ideal S1x1x128x16640 .bf16) (n : ℕ) (e : Fin 128) (j : Fin 256) :
    valR V n (ix4 0 0 e j) = V (ix4 0 0 e (rowOf n j)) := by
  unfold valR VecWindow.window
  congr 1
  funext a
  apply Fin.ext
  fin_cases a
  · rfl
  · rfl
  · show 0 + 1 * e.val = e.val
    omega
  · show 256 * (n % 65) + 1 * j.val = 256 * (n % 65) + j.val
    omega

theorem valT_at (V : Vec Ideal S1x1x128x16640 .bf16) (n : ℕ) (e : Fin 64) (j : Fin 256) :
    valT V n (ix4 0 0 e j) = vals V (sm n) e (rowOf (n / 4) j) := by
  unfold valT VecWindow.window vals
  congr 1
  funext a
  apply Fin.ext
  fin_cases a
  · rfl
  · rfl
  · show 64 * ((sm n).val / 2) + 1 * e.val = 64 * ((sm n).val / 2) + e.val
    omega
  · show 256 * ((n / 4) % 65) + 1 * j.val = 256 * ((n / 4) % 65) + j.val
    omega

/-! ## The running maximum -/

theorem wR_eq (q : Vec Ideal S1x512x128 .bf16) (s : Fin 4) : wR q s = rq q (BitVec.ofNat 32 s.val) := by
  fin_cases s <;> rfl

theorem scR_at (q : Vec Ideal S1x512x128 .bf16) (K : Vec Ideal S1x16640x128 .bf16) (n : ℕ) (s : Fin 4) (j : Fin 256) (t : Fin 512) :
    scR K (wR q) n s (ix2 j t) = ysc q K s t (rowOf n j) := by
  unfold scR
  rw [wR_eq]
  pointwise [rscore, rq]
  simp only [keyR_at]
  exact sum_keys q K s t _

theorem vR_top (V : Vec Ideal S1x1x128x16640 .bf16) (n : ℕ) (s : Fin 4) (e : Fin 64) (j : Fin 256) :
    vR V n s (ix2 ⟨e.val, by omega⟩ j) = vals V s e (rowOf n j) := by
  have h0 : vTop (valR V n) (ix2 ⟨e.val, by omega⟩ j) = V (ix4 0 0 ⟨e.val, by omega⟩ (rowOf n j)) := by
    pointwise [vTop]
    exact valR_at V n _ j
  have h1 : vBot (valR V n) (ix2 ⟨e.val, by omega⟩ j) = V (ix4 0 0 ⟨64 + e.val, by omega⟩ (rowOf n j)) := by
    pointwise [vBot]
    exact valR_at V n _ j
  unfold vals
  fin_cases s
  · exact h0.trans (congrArg V (by congr 1; apply Fin.ext; show e.val = 64 * 0 + e.val; omega))
  · exact h0.trans (congrArg V (by congr 1; apply Fin.ext; show e.val = 64 * 0 + e.val; omega))
  · exact h1
  · exact h1

theorem vR_one (V : Vec Ideal S1x1x128x16640 .bf16) (n : ℕ) (s : Fin 4) (j : Fin 256) :
    vR V n s (ix2 64 j) = 1 := by
  have h0 : vTop (valR V n) (ix2 64 j) = 1 := by
    pointwise [vTop, oneRow]
  have h1 : vBot (valR V n) (ix2 64 j) = 1 := by
    pointwise [vBot, oneRow]
  fin_cases s
  exacts [h0, h0, h1, h1]

/-- The greatest score of a tile. -/
def tmx (q : Vec Ideal S1x512x128 .bf16) (K : Vec Ideal S1x16640x128 .bf16) (s : Fin 4) (t : Fin 512) (n : ℕ) : EReal :=
  Finset.fold max ⊥ (fun j => ysc q K s t (rowOf n j)) Finset.univ

theorem fold_max_ge {ι : Type} [Fintype ι] (f : ι → EReal) (j : ι) : f j ≤ Finset.fold max ⊥ f Finset.univ :=
  (Finset.le_fold_max _).mpr (.inr ⟨j, Finset.mem_univ _, le_rfl⟩)

theorem fold_max_attained {ι : Type} [Fintype ι] [Nonempty ι] (f : ι → EReal) : ∃ j, Finset.fold max ⊥ f Finset.univ = f j := by
  obtain ⟨j, _, hj⟩ := Finset.exists_max_image (Finset.univ : Finset ι) f Finset.univ_nonempty
  refine ⟨j, le_antisymm ?_ (fold_max_ge f j)⟩
  rw [Finset.fold_max_le]
  exact ⟨bot_le, fun i hi => hj i hi⟩

theorem tmx_ge (q : Vec Ideal S1x512x128 .bf16) (K : Vec Ideal S1x16640x128 .bf16) (s : Fin 4) (t : Fin 512) (n : ℕ) (j : Fin 256) :
    ysc q K s t (rowOf n j) ≤ tmx q K s t n := fold_max_ge (fun j => ysc q K s t (rowOf n j)) j

theorem tmx_attained (q : Vec Ideal S1x512x128 .bf16) (K : Vec Ideal S1x16640x128 .bf16) (s : Fin 4) (t : Fin 512) (n : ℕ) :
    ∃ j, tmx q K s t n = ysc q K s t (rowOf n j) := fold_max_attained fun j => ysc q K s t (rowOf n j)

theorem mR_at (q : Vec Ideal S1x512x128 .bf16) (K : Vec Ideal S1x16640x128 .bf16) (s : Fin 4) (t : Fin 512) (low : ℝ)
    (hl : Ideal.ofBits FTy.f32 0xF149F2CA#32 = (low : EReal)) (n : ℕ) :
    mR K (wR q) s n (ix2 0 t) = Soft.rmax low (tmx q K s t) n := by
  induction n with
  | zero => exact hl
  | succ n ih =>
    have e : mR K (wR q) s (n + 1) = maximumf (mR K (wR q) s n) (tmax (scR K (wR q) n s)) := rfl
    have ht : tmax (scR K (wR q) n s) (ix2 0 t) = tmx q K s t n := by
      pointwise [tmax]
      rw [ninf]
      simp only [scR_at]
      rfl
    rw [e, maximumf_apply, ih, ht]
    rfl

theorem zeroR_at (s : Fin 4) (r : Fin 80) (t : Fin 512) : zeroR (F := Ideal) s (ix3 0 r t) = 0 := by
  pointwise [zeroR, VecWindow.window]

theorem aR_at (q : Vec Ideal S1x512x128 .bf16) (K : Vec Ideal S1x16640x128 .bf16) (V : Vec Ideal S1x1x128x16640 .bf16) (s : Fin 4) (t : Fin 512) (low : ℝ)
    (hl : Ideal.ofBits FTy.f32 0xF149F2CA#32 = (low : EReal)) (r : Fin 80) (n : ℕ) :
    aR K V (wR q) s n (ix3 0 r t)
      = Soft.racc low (tmx q K s t) (fun n j => ysc q K s t (rowOf n j)) (fun n j => vR V n s (ix2 r j)) n := by
  induction n with
  | zero => exact zeroR_at s r t
  | succ n ih =>
    show aStep (inS (scR K (wR q) n s)) (mR K (wR q) s n) (mR K (wR q) s (n + 1)) (vR V n s) (aR K V (wR q) s n) (ix3 0 r t) = _
    unfold Soft.racc
    rw [← ih, ← mR_at q K s t low hl n, ← mR_at q K s t low hl (n + 1)]
    generalize mR K (wR q) s n = m
    generalize mR K (wR q) s (n + 1) = m'
    generalize aR K V (wR q) s n = a
    pointwise [aStep, inS]
    simp only [scR_at, fexp2]

theorem rquo_at (a : Vec Ideal S1x80x512 .f32) (e : Fin 64) (t : Fin 512) :
    rquo a (ix2 e t) = Ideal.div (a (ix3 0 ⟨e.val, by omega⟩ t)) (a (ix3 0 64 t)) := by
  pointwise [rquo]

/-- The running maximum's quotient is the softmax, -/
theorem rquo_mix (q : Vec Ideal S1x512x128 .bf16) (K : Vec Ideal S1x16640x128 .bf16) (V : Vec Ideal S1x1x128x16640 .bf16) (s : Fin 4) (t : Fin 512)
    (e : Fin 64) (h : ¬ Soft.Cor (col q K s t)) : rquo (aR K V (wR q) s 65) (ix2 e t) = Soft.mix (col q K s t) (vals V s e) := by
  obtain ⟨low, hl⟩ := low_real
  rw [rquo_at, aR_at q K V s t low hl, aR_at q K V s t low hl]
  simp only [vR_top, vR_one]
  exact Soft.running low (tmx q K s t) (fun n j => ysc q K s t (rowOf n j)) (fun n j => vals V s e (rowOf n j)) (tmx_ge q K s t)
    (tmx_attained q K s t) 65 tileE (fun r => by simp only [rowOf_tileE]; rfl) (fun r => by simp only [rowOf_tileE]) h

/-- and junk on a degenerate column. -/
theorem rquo_cor (q : Vec Ideal S1x512x128 .bf16) (K : Vec Ideal S1x16640x128 .bf16) (V : Vec Ideal S1x1x128x16640 .bf16) (s : Fin 4) (t : Fin 512)
    (e : Fin 64) (h : Soft.Cor (col q K s t)) : rquo (aR K V (wR q) s 65) (ix2 e t) = ⊥ := by
  obtain ⟨low, hl⟩ := low_real
  rw [rquo_at, aR_at q K V s t low hl, aR_at q K V s t low hl]
  have z := fun v => Soft.running_cor low (tmx q K s t) (fun n j => ysc q K s t (rowOf n j)) v (tmx_ge q K s t) 65 tileE
    (x := col q K s t) (fun r => by simp only [rowOf_tileE]; rfl) h
  rw [z, z]
  simp [Ideal.div]

end Cert.KernelIdeal.Att

end
-- ==== Proof.ElemsB.lean ====
module

public import proofs.«01_k».proof.Proof.Elems

@[expose] public section

set_option maxRecDepth 16384

/-!
# The bounded kernel's values, element by element

Where the scores and the bound are real, the bounded kernel's quotients are the softmax: the bound is the same for every
key, so it cancels.
-/

noncomputable section

namespace Cert.KernelIdeal.Att

open Cert.KernelIdeal.Gen Cert.Att
open Idealize.ShloMosaic Idealize.ShloMosaic.TcCoe
open Finset

/-- The squared length of softmax `s`'s query `t`. -/
def qsq (q : Vec Ideal S1x512x128 .bf16) (s : Fin 4) (t : Fin 512) : EReal :=
  ∑ d : Fin 32, q (ix3 0 t ⟨32 * s.val + d.val, by omega⟩) * q (ix3 0 t ⟨32 * s.val + d.val, by omega⟩)

/-- The bound of its scores. -/
def bnd (q : Vec Ideal S1x512x128 .bf16) (kn : EReal) (s : Fin 4) (t : Fin 512) : EReal := Ideal.sqrt (qsq q s t) * kn

theorem sum_qS (q : Vec Ideal S1x512x128 .bf16) (s : Fin 4) (t : Fin 512) :
    (∑ x : Fin 128, qS q (BitVec.ofNat 32 s.val) (ix2 x t) * qS q (BitVec.ofNat 32 s.val) (ix2 x t)) = qsq q s t := by
  unfold qsq
  rw [← sum_slab (fun x => q (ix3 0 t x) * q (ix3 0 t x)) s]
  refine sum_congr rfl fun x _ => ?_
  rw [qS_at]
  split
  · rfl
  · rw [mul_zero]

theorem wV_eq (i : grid1.Coords) (q : Vec Ideal S1x512x128 .bf16) (N : Vec Ideal S2x16 .f32) (s : Fin 4) :
    wV i q N s = wS q (BitVec.ofNat 32 s.val) (knV i N s) := by
  fin_cases s <;> rfl

theorem wS_top (q : Vec Ideal S1x512x128 .bf16) (s : BitVec 32) (kn : Ideal .f32) (x : Fin 128) (t : Fin 512) :
    wS q s kn (ix2 ⟨x.val, by omega⟩ t) = qS q s (ix2 x t) := by
  pointwise [wS]

theorem wS_bot (q : Vec Ideal S1x512x128 .bf16) (s : Fin 4) (kn : Ideal .f32) (t : Fin 512) :
    wS q (BitVec.ofNat 32 s.val) kn (ix2 128 t) = 0 - bnd q kn s t := by
  pointwise [wS, negB, rowIx]
  rw [sum_qS]
  rfl

theorem score_at (k : Vec Ideal S1x256x128 .bf16) (q : Vec Ideal S1x512x128 .bf16) (s : Fin 4) (kn : Ideal .f32) (j : Fin 256) (t : Fin 512) :
    score k (wS q (BitVec.ofNat 32 s.val) kn) (ix2 j t)
      = (∑ x : Fin 128, k (ix3 0 j x) * qS q (BitVec.ofNat 32 s.val) (ix2 x t)) + (0 - bnd q kn s t) := by
  have h2 := wS_bot q s kn t
  have h1 := fun x : Fin 128 => wS_top q (BitVec.ofNat 32 s.val) kn x t
  generalize wS q (BitVec.ofNat 32 s.val) kn = w at h1 h2 ⊢
  pointwise [score, oneCol]
  congr 1
  · exact sum_congr rfl fun x _ => by rw [h1]
  · simp only [zero_word]
    rw [sum_eq_single (0 : Fin 128)]
    · exact h2
    · intro b _ hb
      have : b.val ≠ 0 := fun h => hb (Fin.ext h)
      pointwise
      simp [this]
    · intro h; exact absurd (mem_univ _) h

theorem scT_at (i : grid1.Coords) (q : Vec Ideal S1x512x128 .bf16) (N : Vec Ideal S2x16 .f32) (K : Vec Ideal S1x16640x128 .bf16) (n : ℕ) (j : Fin 256) (t : Fin 512) :
    scT K (wV i q N) n (ix2 j t) = ysc q K (sm n) t (rowOf (n / 4) j) - bnd q (knV i N (sm n)) (sm n) t := by
  unfold scT
  rw [wV_eq, score_at, keyT_eq]
  simp only [keyR_at]
  rw [sum_keys, zero_sub, sub_eq_add_neg]

/-! ## The steps of one softmax -/

theorem steps_sum (f : ℕ → Fin 4 → EReal) (term : ℕ → EReal) (h0 : ∀ s, f 0 s = 0)
    (h : ∀ n s, f (n + 1) s = if s = sm n then f n s + term n else f n s) (s : Fin 4) :
    f 260 s = ∑ u : Fin 65, term (4 * u.val + s.val) := by
  have hn : ∀ n, f n s = ∑ k ∈ range n, if s = sm k then term k else 0 := by
    intro n
    induction n with
    | zero => simp [h0]
    | succ n ih =>
      rw [sum_range_succ, h, ih]
      split
      · rfl
      · rw [add_zero]
  rw [hn, ← Fin.sum_univ_eq_sum_range (fun k => if s = sm k then term k else 0) 260,
    ← (finProdFinEquiv (m := 65) (n := 4)).sum_comp (fun k : Fin 260 => if s = sm k.val then term k.val else 0), Fintype.sum_prod_type]
  refine sum_congr rfl fun u _ => ?_
  have hv : ∀ s' : Fin 4, (finProdFinEquiv (u, s')).val = s'.val + 4 * u.val := fun _ => rfl
  have hs : ∀ s' : Fin 4, sm (s'.val + 4 * u.val) = s' := fun s' => Fin.ext (by
    show (s'.val + 4 * u.val) % 4 = s'.val
    omega)
  rw [sum_eq_single s]
  · rw [hv, hs, if_pos rfl, Nat.add_comm]
  · intro b _ hb
    rw [hv, hs, if_neg (Ne.symm hb)]
  · intro h; exact absurd (mem_univ s) h

theorem zeroL_at (s : Fin 4) (r : Fin 8) (t : Fin 512) : zeroL (F := Ideal) s (ix3 0 r t) = 0 := by
  pointwise [zeroL, VecWindow.window]

theorem zeroA_at (s : Fin 4) (r : Fin 64) (t : Fin 512) : zeroA (F := Ideal) s (ix3 0 r t) = 0 := by
  pointwise [zeroA, VecWindow.window]

theorem accL_at (sc : ℕ → FVec Ideal S256x512 .f32) (s : Fin 4) (i : Fin 8) (t : Fin 512) :
    accL sc zeroL 260 s (ix3 0 i t) = ∑ u : Fin 65, ∑ x : Fin 32, Ideal.exp2 (sc (4 * u.val + s.val) (ix2 ⟨x.val * 8 + i.val, by omega⟩ t)) := by
  refine steps_sum (fun n s => accL sc zeroL n s (ix3 0 i t)) (fun n => ∑ x : Fin 32, Ideal.exp2 (sc n (ix2 ⟨x.val * 8 + i.val, by omega⟩ t)))
    (fun s => zeroL_at s i t) (fun n s => ?_) s
  show Function.update (accL sc zeroL n) (sm n) (lNew (sc n) (accL sc zeroL n (sm n))) s (ix3 0 i t) = _
  generalize accL sc zeroL n = l
  by_cases hs : s = sm n
  · subst hs
    rw [Function.update_self, if_pos rfl]
    pointwise [lNew]
    rfl
  · rw [Function.update_of_ne hs, if_neg hs]

theorem accA_at (sc : ℕ → FVec Ideal S256x512 .f32) (v : ℕ → Vec Ideal S1x1x64x256 .bf16) (s : Fin 4) (e : Fin 64) (t : Fin 512) :
    accA sc v zeroA 260 s (ix3 0 e t) = ∑ u : Fin 65, ∑ j : Fin 256, v (4 * u.val + s.val) (ix4 0 0 e j) * Ideal.exp2 (sc (4 * u.val + s.val) (ix2 j t)) := by
  refine steps_sum (fun n s => accA sc v zeroA n s (ix3 0 e t)) (fun n => ∑ j : Fin 256, v n (ix4 0 0 e j) * Ideal.exp2 (sc n (ix2 j t)))
    (fun s => zeroA_at s e t) (fun n s => ?_) s
  show Function.update (accA sc v zeroA n) (sm n) (aNew (sc n) (v n) (accA sc v zeroA n (sm n))) s (ix3 0 e t) = _
  generalize accA sc v zeroA n = l
  by_cases hs : s = sm n
  · subst hs
    rw [Function.update_self, if_pos rfl]
    pointwise [aNew]
    rfl
  · rw [Function.update_of_ne hs, if_neg hs]

theorem quo_at (l : Vec Ideal S1x8x512 .f32) (a : Vec Ideal S1x64x512 .f32) (e : Fin 64) (t : Fin 512) :
    quo l a (ix2 e t) = Ideal.div (a (ix3 0 e t)) (∑ i : Fin 8, l (ix3 0 i t)) := by
  pointwise [quo]

theorem sum_rows (f : Fin 16640 → EReal) : (∑ u : Fin 65, ∑ j : Fin 256, f (rowOf u.val j)) = ∑ r, f r := by
  rw [← Fintype.sum_prod_type' (fun (u : Fin 65) (j : Fin 256) => f (rowOf u.val j)), ← tileE.sum_comp]
  exact sum_congr rfl fun r _ => by rw [rowOf_tileE]

theorem sum_lanes (g : Fin 256 → EReal) : (∑ i : Fin 8, ∑ x : Fin 32, g ⟨x.val * 8 + i.val, by omega⟩) = ∑ j, g j := by
  rw [sum_comm, ← (finProdFinEquiv (m := 32) (n := 8)).sum_comp g, Fintype.sum_prod_type]
  refine sum_congr rfl fun x _ => sum_congr rfl fun i _ => ?_
  congr 1
  apply Fin.ext
  show x.val * 8 + i.val = i.val + 8 * x.val
  omega

/-- The bounded kernel's quotient is the softmax where the scores and the bound are real. -/
theorem quo_mix (i : grid1.Coords) (q : Vec Ideal S1x512x128 .bf16) (N : Vec Ideal S2x16 .f32) (K : Vec Ideal S1x16640x128 .bf16)
    (V : Vec Ideal S1x1x128x16640 .bf16) (s : Fin 4) (t : Fin 512) (e : Fin 64) (hc : ¬ Soft.Cor (col q K s t)) (ht : ∀ r, ysc q K s t r ≠ ⊤)
    {B : ℝ} (hB : bnd q (knV i N s) s t = (B : EReal)) :
    quo (accL (scT K (wV i q N)) zeroL 260 s) (accA (scT K (wV i q N)) (valT V) zeroA 260 s) (ix2 e t) = Soft.mix (col q K s t) (vals V s e) := by
  rw [quo_at, accA_at]
  simp only [accL_at]
  have hsm : ∀ u : Fin 65, sm (4 * u.val + s.val) = s := fun u => Fin.ext (by
    show (4 * u.val + s.val) % 4 = s.val
    omega)
  have hdv : ∀ u : Fin 65, (4 * u.val + s.val) / 4 = u.val := fun u => by omega
  simp only [scT_at, valT_at, hsm, hdv, hB]
  have hd : (∑ i : Fin 8, ∑ u : Fin 65, ∑ x : Fin 32, Ideal.exp2 (ysc q K s t (rowOf u.val ⟨x.val * 8 + i.val, by omega⟩) - (B : EReal)))
      = ∑ u : Fin 65, ∑ j : Fin 256, Ideal.exp2 (ysc q K s t (rowOf u.val j) - (B : EReal)) := by
    rw [sum_comm]
    exact sum_congr rfl fun (u : Fin 65) _ => sum_lanes fun j => Ideal.exp2 (ysc q K s t (rowOf u.val j) - (B : EReal))
  rw [hd, ← Soft.shifted (v := vals V s e) hc (fun r => rfl) ht (B := B),
    ← sum_rows (fun r => vals V s e r * Ideal.exp2 (ysc q K s t r - (B : EReal))), ← sum_rows (fun r => Ideal.exp2 (ysc q K s t r - (B : EReal)))]

/-! ## What both kernels store -/

/-- The last factor. -/
abbrev c08 : EReal := Ideal.ofBits FTy.f32 1061997773#32

theorem lamV_at (L : Vec Ideal S1 .f32) : lamV L = L (ix1 0) := by
  unfold lamV VecWindow.window
  congr 1
  funext a
  fin_cases a
  rfl

theorem nrm_at (lam : Ideal .f32) (o₀ o₁ : FVec Ideal S64x512 .f32) (g : Vec Ideal S64x1 .f32) (e : Fin 64) (t : Fin 512) :
    nrm (dif lam o₀ o₁) g (ix2 e t)
      = Soft.rmsn (Ideal.ofBits FTy.f32 897988541#32) (Ideal.ofBits FTy.f32 1115684864#32) (fun e => o₀ (ix2 e t) - lam * o₁ (ix2 e t)) e * g (ix2 e 0) * c08 := by
  pointwise [nrm, dif, Soft.rmsn]

/-- The window of the gain, -/
theorem g_top (g : Vec Ideal S128x1 .f32) (e : Fin 64) :
    VecWindow.window g ![0, 0] S64x1.size inb_S128x1_S64x1_0_0 (ix2 e 0) = g (ix2 ⟨e.val, by omega⟩ 0) := by
  unfold VecWindow.window
  congr 1
  funext a
  apply Fin.ext
  fin_cases a
  · show 0 + 1 * e.val = e.val
    omega
  · rfl

theorem g_bot (g : Vec Ideal S128x1 .f32) (e : Fin 64) :
    VecWindow.window g ![64, 0] S64x1.size inb_S128x1_S64x1_64_0 (ix2 e 0) = g (ix2 ⟨64 + e.val, by omega⟩ 0) := by
  unfold VecWindow.window
  congr 1
  funext a
  apply Fin.ext
  fin_cases a
  · show 64 + 1 * e.val = 64 + e.val
    omega
  · rfl

theorem outB_top (y₀ y₁ : FVec Ideal S64x512 .f32) (t : Fin 512) (e : Fin 64) : outB y₀ y₁ (ix3 0 t ⟨e.val, by omega⟩) = y₀ (ix2 e t) := by
  pointwise [outB]

theorem outB_bot (y₀ y₁ : FVec Ideal S64x512 .f32) (t : Fin 512) (e : Fin 64) : outB y₀ y₁ (ix3 0 t ⟨64 + e.val, by omega⟩) = y₁ (ix2 e t) := by
  pointwise [outB]

end Cert.KernelIdeal.Att

end
-- ==== Proof.Host.lean ====
module

public import proofs.«01_k».proof.Proof.MainRun
public import Idealize.ShloMosaic.Lib.Pointwise

@[expose] public section

set_option maxRecDepth 16384

/-!
# What the host operations leave

The arrays that the calls are entered with, as functions of the arguments.
-/

noncomputable section

namespace Cert.KernelIdeal.Att

open Cert.KernelIdeal.Gen
open Idealize.ShloMosaic Idealize.ShloMosaic.TcCoe Idealize.ShloMosaic.StableHlo

variable {F : FTy → Type} [FloatOps F]

/-- The scaled queries. -/
def hq (Q : FVec F S2x16384x512 .f32) : FVec F S2x16384x512 .bf16 :=
  truncf .bf16 (Host.divf Q (broadcastInDim S2x16384x512 ![] bcast_S_S2x16384x512
    (mulf (Host.sqrt (constant S_ .f32 0x42000000#32)) (Host.log (constant S_ .f32 0x40000000#32))))) bitsLt_bf16_f32

/-- The keys, the cache's first. -/
def hk (kc : FVec F S2x256x512 .f32) (kl : FVec F S2x16384x512 .f32) : FVec F S2x16640x512 .bf16 :=
  concatenate S2x16640x512 1 [⟨S2x256x512, truncf .bf16 kc bitsLt_bf16_f32⟩, ⟨S2x16384x512, truncf .bf16 kl bitsLt_bf16_f32⟩]
    concatenates_S2x256x512_S2x16384x512_S2x16640x512_d1

/-- The values, a head's features before the positions. -/
def hv (vc : FVec F S2x256x512 .f32) (vl : FVec F S2x16384x512 .f32) : FVec F S2x4x128x16640 .bf16 :=
  concatenate S2x4x128x16640 3
    [⟨S2x4x128x256, truncf .bf16 (transpose S2x4x128x256 [0, 2, 3, 1] (shapeCast S2x256x4x128 vc shapeCasts_S2x256x512_S2x256x4x128) transposes_S2x256x4x128_S2x4x128x256_0_2_3_1) bitsLt_bf16_f32⟩,
     ⟨S2x4x128x16384, truncf .bf16 (transpose S2x4x128x16384 [0, 2, 3, 1] (shapeCast S2x16384x4x128 vl shapeCasts_S2x16384x512_S2x16384x4x128) transposes_S2x16384x4x128_S2x4x128x16384_0_2_3_1) bitsLt_bf16_f32⟩]
    concatenates_S2x4x128x256_S2x4x128x16384_S2x4x128x16640_d3

/-- The gain, once for each of two heads. -/
def hg (g : FVec F S64 .f32) : FVec F S128x1 .f32 :=
  shapeCast S128x1 (shapeCast S128 (broadcastInDim S2x64 ![0, 1] bcast_S1x64_S2x64_0_1 (shapeCast S1x64 g shapeCasts_S64_S1x64)) shapeCasts_S2x64_S128) shapeCasts_S128_S128x1

/-- The factor of the second softmax. -/
def hl (a b c d : FVec F S32 .f32) : FVec F S1 .f32 :=
  shapeCast S1 (addf (subf (Host.exp (Host.reduceAdd (mulf a b) (constant S_ .f32 0x00000000#32) reducesTo_S32_S_d0 h_S_))
    (Host.exp (Host.reduceAdd (mulf c d) (constant S_ .f32 0x00000000#32) reducesTo_S32_S_d0 h_S_))) (constant S_ .f32 0x3E4CCCCD#32)) shapeCasts_S_S1

/-- The keys' squared lengths, -/
def ksq (K : FVec F S2x16640x512 .bf16) : FVec F S2x16640x16 .f32 :=
  Host.reduceAdd (mulf (shapeCast S2x16640x16x32 (extf .f32 K bitsLt_bf16_f32) shapeCasts_S2x16640x512_S2x16640x16x32)
    (shapeCast S2x16640x16x32 (extf .f32 K bitsLt_bf16_f32) shapeCasts_S2x16640x512_S2x16640x16x32))
    (constant S_ .f32 0x00000000#32) reducesTo_S2x16640x16x32_S2x16640x16_d3 h_S_
/-- the greatest of them per head, -/
def kmx (s : FVec F S2x16640x16 .f32) : FVec F S2x16 .f32 :=
  Host.reduce FloatOps.maximumf s (constant S_ .f32 0xFF800000#32) reducesTo_S2x16640x16_S2x16_d1 h_S_
/-- its root. -/
def hn (K : FVec F S2x16640x512 .bf16) : FVec F S2x16 .f32 := Host.sqrt (kmx (ksq K))

/-- The same of the queries. -/
def qsqs (Q : FVec F S2x16384x512 .bf16) : FVec F S2x16384x16 .f32 :=
  Host.reduceAdd (mulf (shapeCast S2x16384x16x32 (extf .f32 Q bitsLt_bf16_f32) shapeCasts_S2x16384x512_S2x16384x16x32)
    (shapeCast S2x16384x16x32 (extf .f32 Q bitsLt_bf16_f32) shapeCasts_S2x16384x512_S2x16384x16x32))
    (constant S_ .f32 0x00000000#32) reducesTo_S2x16384x16x32_S2x16384x16_d3 h_S_
def qmx (s : FVec F S2x16384x16 .f32) : FVec F S2x16 .f32 :=
  Host.reduce FloatOps.maximumf s (constant S_ .f32 0xFF800000#32) reducesTo_S2x16384x16_S2x16_d1 h_S_
def hqn (Q : FVec F S2x16384x512 .bf16) : FVec F S2x16 .f32 := Host.sqrt (qmx (qsqs Q))

/-- The greatest of an array of bounds. -/
def pmx (p : FVec F S2x16 .f32) : FVec F S_ .f32 :=
  Host.reduce FloatOps.maximumf p (constant S_ .f32 0xFF800000#32) reducesTo_S2x16_S_d0_1 h_S_

/-- The branch's word: whether the greatest bound is below 48. -/
def hword (p : FVec F S2x16 .f32) : (⟨S_, .i32⟩ : BufTy).Contents (Elt F) :=
  extui 32 (cmpf .olt (pmx p) (constant S_ .f32 0x42400000#32)) natLt_1_32

variable (m : (ℓ : Loc nD τ sig) → Buf (Elt F) ℓ) (c : Dev nD)

theorem W1_eq {b : Ref sig .tc} (hr : b ≠ main_v44) : W1 m c b = after hostOps0 (W0 m c) b := by
  unfold W1 ops0
  rw [HloOp.result_of_not_mem]
  simp only [StableHlo.unary_writes, Finset.mem_singleton]; exact StableHlo.devRef_ne_of_ne hr

theorem W1_word : W1 m c main_v44 = (extui 32 · natLt_1_32) (after (hostOps0 (F := F)) (W0 m c) main_v43) := by
  unfold W1 ops0 rdOp
  generalize after (hostOps0 (F := F)) (W0 m c) = W
  after_results

theorem at_q : after hostOps0 (W0 m c) main_v13 = hq (m ((c : Thread nD τ).loc main_arg0)) := by after_results_simp <;> rfl
theorem at_k : after hostOps0 (W0 m c) main_v16 = hk (m ((c : Thread nD τ).loc main_arg2)) (m ((c : Thread nD τ).loc main_arg1)) := by after_results_simp <;> rfl
theorem at_v : after hostOps0 (W0 m c) main_v23 = hv (m ((c : Thread nD τ).loc main_arg4)) (m ((c : Thread nD τ).loc main_arg3)) := by after_results_simp <;> rfl
theorem at_g : after hostOps0 (W0 m c) main_v27 = hg (m ((c : Thread nD τ).loc main_arg9)) := by after_results_simp <;> rfl
theorem at_l : after hostOps0 (W0 m c) main_v28 = hl (m ((c : Thread nD τ).loc main_arg5)) (m ((c : Thread nD τ).loc main_arg6)) (m ((c : Thread nD τ).loc main_arg7)) (m ((c : Thread nD τ).loc main_arg8)) := by
  after_results_simp <;> rfl
theorem at_n : after hostOps0 (W0 m c) main_v34 = hn (hk (m ((c : Thread nD τ).loc main_arg2)) (m ((c : Thread nD τ).loc main_arg1))) := by after_results_simp <;> rfl
theorem at_s : after hostOps0 (W0 m c) main_v43 = cmpf .olt (pmx (mulf (hqn (hq (m ((c : Thread nD τ).loc main_arg0)))) (hn (hk (m ((c : Thread nD τ).loc main_arg2)) (m ((c : Thread nD τ).loc main_arg1))))))
    (constant S_ .f32 0x42400000#32) := by after_results_simp <;> rfl

end Cert.KernelIdeal.Att

end
-- ==== Proof.Ref.lean ====
module

public import proofs.«01_k».proof.Proof.Gen.ReferenceIdeal.Run
public import proofs.«01_k».proof.Proof.Soft
public import Idealize.ShloMosaic.Lib.Pointwise

@[expose] public section

set_option maxRecDepth 16384

/-!
# The reference, element by element

The reference's result in stages, and what stands at an entry.
-/

noncomputable section

namespace Cert.ReferenceIdeal.Att

open Cert.ReferenceIdeal Cert.ReferenceIdeal.Gen Cert.Att
open Idealize.ShloMosaic Idealize.ShloMosaic.TcCoe
open Finset

/-! ## The stages -/

/-- The context's rows, then the latent's. -/
def both (a : FVec Ideal S2x256x512 .f32) (b : FVec Ideal S2x16384x512 .f32) : FVec Ideal S2x16640x512 .f32 :=
  concatenate S2x16640x512 1 [⟨S2x256x512, a⟩, ⟨S2x16384x512, b⟩] concatenates_S2x256x512_S2x16384x512_S2x16640x512_d1

/-- The scores. -/
def rs (q : FVec Ideal S2x16384x512 .f32) (K : FVec Ideal S2x16640x512 .f32) : FVec Ideal S2x8x2x16384x16640 .f32 :=
  Host.divf (Host.dotGeneral dot_S2x16384x8x2x32_S2x16640x8x2x32_S2x8x2x16384x16640_4_4_1_1_023_023 none (shapeCast _ q shapeCasts_S2x16384x512_S2x16384x8x2x32)
    (shapeCast _ K shapeCasts_S2x16640x512_S2x16640x8x2x32)) (broadcastInDim S2x8x2x16384x16640 ![] bcast_S_S2x8x2x16384x16640 (Host.sqrt (constant S_ .f32 0x42000000#32)))

/-- The columns' greatest scores. -/
def rmx (s : FVec Ideal S2x8x2x16384x16640 .f32) : FVec Ideal S2x8x2x16384 .f32 :=
  Host.reduce FloatOps.maximumf s (constant S_ .f32 0xFF800000#32) reducesTo_S2x8x2x16384x16640_S2x8x2x16384_d4 h_S_

/-- The exponentials, each column's greatest score `M` subtracted. -/
def re (s : FVec Ideal S2x8x2x16384x16640 .f32) (M : FVec Ideal S2x8x2x16384 .f32) : FVec Ideal S2x8x2x16384x16640 .f32 :=
  Host.exp (subf s (broadcastInDim S2x8x2x16384x16640 ![0, 1, 2, 3, 4] bcast_S2x8x2x16384x1_S2x8x2x16384x16640_0_1_2_3_4 (broadcastInDim S2x8x2x16384x1 ![0, 1, 2, 3] bcast_S2x8x2x16384_S2x8x2x16384x1_0_1_2_3
    (maximumf (broadcastInDim S2x8x2x16384 ![] bcast_S_S2x8x2x16384 (constant S_ .f32 0xFF800000#32)) M))))

/-- The weights. -/
def rp (e : FVec Ideal S2x8x2x16384x16640 .f32) : FVec Ideal S2x8x2x16384x16640 .f32 :=
  Host.divf e (broadcastInDim S2x8x2x16384x16640 ![0, 1, 2, 3, 4] bcast_S2x8x2x16384x1_S2x8x2x16384x16640_0_1_2_3_4 (broadcastInDim S2x8x2x16384x1 ![0, 1, 2, 3] bcast_S2x8x2x16384_S2x8x2x16384x1_0_1_2_3
    (Host.reduceAdd e (constant S_ .f32 0x00000000#32) reducesTo_S2x8x2x16384x16640_S2x8x2x16384_d4 h_S_)))

/-- The softmaxes' outputs. -/
def ro (p : FVec Ideal S2x8x2x16384x16640 .f32) (V : FVec Ideal S2x16640x512 .f32) : FVec Ideal S2x16384x8x2x64 .f32 :=
  transpose S2x16384x8x2x64 [0, 4, 1, 3, 2] (Host.dotGeneral dot_S2x16640x8x64_S2x8x2x16384x16640_S2x8x64x2x16384_1_4_3_23_02_01 none
    (shapeCast _ V shapeCasts_S2x16640x512_S2x16640x8x64) p) transposes_S2x8x64x2x16384_S2x16384x8x2x64_0_4_1_3_2

/-- The weight of the second softmax. -/
def rlam (a b c d : FVec Ideal S32 .f32) : FVec Ideal S_ .f32 :=
  addf (subf (Host.exp (Host.reduceAdd (mulf a b) (constant S_ .f32 0x00000000#32) reducesTo_S32_S_d0 h_S_)) (Host.exp (Host.reduceAdd (mulf c d) (constant S_ .f32 0x00000000#32) reducesTo_S32_S_d0 h_S_)))
    (constant S_ .f32 0x3E4CCCCD#32)

/-- The difference of a head's softmaxes. -/
def rd (o : FVec Ideal S2x16384x8x2x64 .f32) (l : FVec Ideal S_ .f32) : FVec Ideal S2x16384x8x64 .f32 :=
  subf (shapeCast _ (extractStridedSlice S2x16384x8x1x64 ![0, 0, 0, 0, 0] o slices_S2x16384x8x2x64_S2x16384x8x1x64_0_0_0_0_0) shapeCasts_S2x16384x8x1x64_S2x16384x8x64)
    (mulf (broadcastInDim S2x16384x8x64 ![] bcast_S_S2x16384x8x64 l)
      (shapeCast _ (extractStridedSlice S2x16384x8x1x64 ![0, 0, 0, 1, 0] o slices_S2x16384x8x2x64_S2x16384x8x1x64_0_0_0_1_0) shapeCasts_S2x16384x8x1x64_S2x16384x8x64))

/-- The result. -/
def rout (d : FVec Ideal S2x16384x8x64 .f32) (g : FVec Ideal S64 .f32) : FVec Ideal S2x16384x512 .bf16 :=
  truncf .bf16 (shapeCast _ (mulf (mulf (mulf d (broadcastInDim S2x16384x8x64 ![0, 1, 2, 3] bcast_S2x16384x8x1_S2x16384x8x64_0_1_2_3
      (Host.rsqrt (addf (Host.divf (broadcastInDim S2x16384x8x1 ![0, 1, 2] bcast_S2x16384x8_S2x16384x8x1_0_1_2
        (Host.reduceAdd (mulf d d) (constant S_ .f32 0x00000000#32) reducesTo_S2x16384x8x64_S2x16384x8_d3 h_S_))
        (broadcastInDim S2x16384x8x1 ![] bcast_S_S2x16384x8x1 (constant S_ .f32 0x42800000#32))) (broadcastInDim S2x16384x8x1 ![] bcast_S_S2x16384x8x1 (constant S_ .f32 0x358637BD#32))))))
    (broadcastInDim S2x16384x8x64 ![0, 1, 2, 3] bcast_S1x1x1x64_S2x16384x8x64_0_1_2_3 (broadcastInDim S1x1x1x64 ![3] bcast_S64_S1x1x1x64_3 g)))
    (broadcastInDim S2x16384x8x64 ![] bcast_S_S2x16384x8x64 (constant S_ .f32 0x3F4CCCCD#32))) shapeCasts_S2x16384x8x64_S2x16384x512) bitsLt_bf16_f32

/-- The reference's result is the last stage of the stages. -/
theorem res_eq (m : (ℓ : Loc nD τ sig) → Buf (Elt Ideal) ℓ) (c : Dev nD) :
    Value.res_out0 m c = rout (rd (ro (rp (re (rs (m ((c.tc : Thread nD τ).loc main_arg0))
        (both (m ((c.tc : Thread nD τ).loc main_arg2)) (m ((c.tc : Thread nD τ).loc main_arg1))))
        (rmx (rs (m ((c.tc : Thread nD τ).loc main_arg0)) (both (m ((c.tc : Thread nD τ).loc main_arg2)) (m ((c.tc : Thread nD τ).loc main_arg1)))))))
        (both (m ((c.tc : Thread nD τ).loc main_arg4)) (m ((c.tc : Thread nD τ).loc main_arg3))))
      (rlam (m ((c.tc : Thread nD τ).loc main_arg5)) (m ((c.tc : Thread nD τ).loc main_arg6)) (m ((c.tc : Thread nD τ).loc main_arg7)) (m ((c.tc : Thread nD τ).loc main_arg8))))
      (m ((c.tc : Thread nD τ).loc main_arg9)) := rfl

/-! ## The entries -/

/-- A maximum over the last of five axes, whatever the extents. -/
theorem hmax {n0 n1 n2 n3 n4 : ℕ} {u : Shape} (s : FVec Ideal ⟨5, ![n0, n1, n2, n3, n4]⟩ .f32) (c : FVec Ideal u .f32)
    (h : (⟨5, ![n0, n1, n2, n3, n4]⟩ : Shape).ReducesTo [4] ⟨4, ![n0, n1, n2, n3]⟩) (hu : 0 < u.numel)
    (i0 : Fin n0) (i1 : Fin n1) (i2 : Fin n2) (i3 : Fin n3) :
    Host.reduce FloatOps.maximumf s c h hu (ix4 i0 i1 i2 i3) = Finset.fold max (c (Shape.Idx.first hu)) (fun k => s (ix5 i0 i1 i2 i3 k)) univ := by
  rw [Host.reduce_eq_fold, Shape.ReducesTo.fold_fiber_r5_a4]
  rfl

theorem ninf : Ideal.ofBits FTy.f32 4286578688#32 = ⊥ := by
  simp [Ideal.ofBits, Ideal.ieee]

theorem rs_at (q : FVec Ideal S2x16384x512 .f32) (K : FVec Ideal S2x16640x512 .f32) (b : Fin 2) (h : Fin 8) (u : Fin 2) (t : Fin 16384) (r : Fin 16640) :
    rs q K (ix5 b h u t r) = Ideal.div (∑ x : Fin 32, q (ix3 b t ⟨h.val * 64 + u.val * 32 + x.val, by omega⟩) * K (ix3 b r ⟨h.val * 64 + u.val * 32 + x.val, by omega⟩))
      (Ideal.sqrt (Ideal.ofBits FTy.f32 1107296256#32)) := by
  pointwise [rs]

/-- The greatest score of a column. -/
def cmax (s : FVec Ideal S2x8x2x16384x16640 .f32) (b : Fin 2) (h : Fin 8) (u : Fin 2) (t : Fin 16384) : EReal :=
  Finset.fold max ⊥ (fun k => s (ix5 b h u t k)) univ

theorem rmx_at (s : FVec Ideal S2x8x2x16384x16640 .f32) (b : Fin 2) (h : Fin 8) (u : Fin 2) (t : Fin 16384) :
    rmx s (ix4 b h u t) = cmax s b h u t := by
  unfold rmx cmax
  rw [hmax, ← ninf]
  rfl

theorem re_at (s : FVec Ideal S2x8x2x16384x16640 .f32) (M : FVec Ideal S2x8x2x16384 .f32) (b : Fin 2) (h : Fin 8) (u : Fin 2) (t : Fin 16384) (r : Fin 16640) :
    re s M (ix5 b h u t r) = Ideal.exp (s (ix5 b h u t r) - M (ix4 b h u t)) := by
  pointwise [re]
  rw [ninf, max_eq_right bot_le]

theorem rp_at (s : FVec Ideal S2x8x2x16384x16640 .f32) (b : Fin 2) (h : Fin 8) (u : Fin 2) (t : Fin 16384) (r : Fin 16640) :
    rp s (ix5 b h u t r) = Ideal.div (s (ix5 b h u t r)) (∑ x, s (ix5 b h u t x)) := by
  pointwise [rp]

theorem ro_at (s : FVec Ideal S2x8x2x16384x16640 .f32) (V : FVec Ideal S2x16640x512 .f32) (b : Fin 2) (h : Fin 8) (u : Fin 2) (t : Fin 16384) (e : Fin 64) :
    ro s V (ix5 b t h u e) = ∑ x : Fin 16640, V (ix3 b x ⟨h.val * 64 + e.val, by omega⟩) * s (ix5 b h u t x) := by
  pointwise [ro]

theorem rd_at (s : FVec Ideal S2x16384x8x2x64 .f32) (l : FVec Ideal S_ .f32) (b : Fin 2) (h : Fin 8) (t : Fin 16384) (e : Fin 64) :
    rd s l (ix4 b t h e) = s (ix5 b t h 0 e) - l ix0 * s (ix5 b t h 1 e) := by
  pointwise [rd]

theorem rout_at (d : FVec Ideal S2x16384x8x64 .f32) (g : FVec Ideal S64 .f32) (b : Fin 2) (t : Fin 16384) (r : Fin 512) :
    rout d g (ix3 b t r)
      = Soft.rmsn (Ideal.ofBits FTy.f32 897988541#32) (Ideal.ofBits FTy.f32 1115684864#32) (fun e => d (ix4 b t ⟨r.val / 64, by omega⟩ e)) ⟨r.val % 64, Nat.mod_lt _ (by norm_num)⟩
        * g (ix1 ⟨r.val % 64, Nat.mod_lt _ (by norm_num)⟩) * Ideal.ofBits FTy.f32 1061997773#32 := by
  pointwise [rout, Soft.rmsn]

/-- A head's softmax `u` of the reference. -/
def col (q : FVec Ideal S2x16384x512 .f32) (K : FVec Ideal S2x16640x512 .f32) (b : Fin 2) (h : Fin 8) (u : Fin 2) (t : Fin 16384) (r : Fin 16640) : EReal :=
  Ideal.div (∑ x : Fin 32, q (ix3 b t ⟨h.val * 64 + u.val * 32 + x.val, by omega⟩) * K (ix3 b r ⟨h.val * 64 + u.val * 32 + x.val, by omega⟩))
      (Ideal.sqrt (Ideal.ofBits FTy.f32 1107296256#32))

/-- A channel of the values of a head. -/
def vals (V : FVec Ideal S2x16640x512 .f32) (b : Fin 2) (h : Fin 8) (e : Fin 64) (r : Fin 16640) : EReal :=
  V (ix3 b r ⟨h.val * 64 + e.val, by omega⟩)

theorem fold_max_ge {ι : Type} [Fintype ι] (f : ι → EReal) (j : ι) : f j ≤ Finset.fold max ⊥ f Finset.univ :=
  (Finset.le_fold_max _).mpr (.inr ⟨j, Finset.mem_univ _, le_rfl⟩)

theorem fold_max_attained {ι : Type} [Fintype ι] [Nonempty ι] (f : ι → EReal) : ∃ j, Finset.fold max ⊥ f Finset.univ = f j := by
  obtain ⟨j, _, hj⟩ := Finset.exists_max_image (Finset.univ : Finset ι) f Finset.univ_nonempty
  refine ⟨j, le_antisymm ?_ (fold_max_ge f j)⟩
  rw [Finset.fold_max_le]
  exact ⟨bot_le, fun i hi => hj i hi⟩

theorem o_written (q : FVec Ideal S2x16384x512 .f32) (K V : FVec Ideal S2x16640x512 .f32) (b : Fin 2) (h : Fin 8) (u : Fin 2) (t : Fin 16384) (e : Fin 64) :
    ∃ M : EReal, (∀ r, col q K b h u t r ≤ M) ∧ (∃ r, M = col q K b h u t r) ∧
      ro (rp (re (rs q K) (rmx (rs q K)))) V (ix5 b t h u e) = ∑ r, vals V b h e r * Ideal.div (Ideal.exp (col q K b h u t r - M)) (∑ j, Ideal.exp (col q K b h u t j - M)) := by
  refine ⟨cmax (rs q K) b h u t, ?_, ?_, ?_⟩
  · intro r
    unfold cmax
    simp only [rs_at]
    exact fold_max_ge (col q K b h u t) r
  · unfold cmax
    simp only [rs_at]
    exact fold_max_attained (col q K b h u t)
  · rw [ro_at]
    simp only [rp_at, re_at, rmx_at]
    generalize cmax (rs q K) b h u t = M
    simp only [rs_at]
    rfl

/-- The reference's softmax, -/
theorem o_mix (q : FVec Ideal S2x16384x512 .f32) (K V : FVec Ideal S2x16640x512 .f32) (b : Fin 2) (h : Fin 8) (u : Fin 2) (t : Fin 16384) (e : Fin 64)
    (hc : ¬ Soft.Cor (col q K b h u t)) : ro (rp (re (rs q K) (rmx (rs q K)))) V (ix5 b t h u e) = Soft.mix (col q K b h u t) (vals V b h e) := by
  obtain ⟨M, h1, h2, h3⟩ := o_written q K V b h u t e
  exact h3.trans (Soft.written hc h1 h2)

/-- and what it leaves on a degenerate column. -/
theorem o_cor (q : FVec Ideal S2x16384x512 .f32) (K V : FVec Ideal S2x16640x512 .f32) (b : Fin 2) (h : Fin 8) (u : Fin 2) (t : Fin 16384) (e : Fin 64)
    (hc : Soft.Cor (col q K b h u t)) : ro (rp (re (rs q K) (rmx (rs q K)))) V (ix5 b t h u e) = ∑ r, vals V b h e r * ⊥ := by
  obtain ⟨M, h1, h2, h3⟩ := o_written q K V b h u t e
  exact h3.trans (Soft.written_cor hc h1 h2)

end Cert.ReferenceIdeal.Att

end
-- ==== Proof.HostElems.lean ====
module

public import proofs.«01_k».proof.Proof.Host
public import proofs.«01_k».proof.Proof.Ref

@[expose] public section

set_option maxRecDepth 16384

/-!
# The arrays that the calls are entered with, element by element
-/

noncomputable section

namespace Cert.KernelIdeal.Att

open Cert.KernelIdeal.Gen
open Idealize.ShloMosaic Idealize.ShloMosaic.TcCoe
open Finset

theorem hq_at (Q : FVec Ideal S2x16384x512 .f32) (b : Fin 2) (t : Fin 16384) (r : Fin 512) :
    hq Q (ix3 b t r) = Ideal.div (Q (ix3 b t r)) (Ideal.sqrt (Ideal.ofBits FTy.f32 1107296256#32) * Ideal.log (Ideal.ofBits FTy.f32 1073741824#32)) := by
  pointwise [hq]

theorem hk_eq (kc : FVec Ideal S2x256x512 .f32) (kl : FVec Ideal S2x16384x512 .f32) : hk kc kl = Cert.ReferenceIdeal.Att.both kc kl := rfl

theorem hv_at (vc : FVec Ideal S2x256x512 .f32) (vl : FVec Ideal S2x16384x512 .f32) (b : Fin 2) (p : Fin 4) (d : Fin 128) (r : Fin 16640) :
    hv vc vl (ix4 b p d r) = Cert.ReferenceIdeal.Att.both vc vl (ix3 b r ⟨p.val * 128 + d.val, by omega⟩) := by
  pointwise [hv, Cert.ReferenceIdeal.Att.both]

theorem hg_at (g : FVec Ideal S64 .f32) (u : Fin 2) (e : Fin 64) : hg g (ix2 ⟨64 * u.val + e.val, by omega⟩ 0) = g (ix1 e) := by
  pointwise [hg]

theorem hl_at (a b c d : FVec Ideal S32 .f32) : hl a b c d (ix1 0) = Cert.ReferenceIdeal.Att.rlam a b c d ix0 := by
  pointwise [hl, Cert.ReferenceIdeal.Att.rlam]

theorem ksq_at (K : FVec Ideal S2x16640x512 .bf16) (b : Fin 2) (r : Fin 16640) (h : Fin 16) :
    ksq K (ix3 b r h) = ∑ x : Fin 32, K (ix3 b r ⟨h.val * 32 + x.val, by omega⟩) * K (ix3 b r ⟨h.val * 32 + x.val, by omega⟩) := by
  pointwise [ksq]

theorem qsqs_at (K : FVec Ideal S2x16384x512 .bf16) (b : Fin 2) (r : Fin 16384) (h : Fin 16) :
    qsqs K (ix3 b r h) = ∑ x : Fin 32, K (ix3 b r ⟨h.val * 32 + x.val, by omega⟩) * K (ix3 b r ⟨h.val * 32 + x.val, by omega⟩) := by
  pointwise [qsqs]

/-- An entry is at most the maximum over the middle of three axes, whatever the extents. -/
theorem le_max3 {n0 n1 n2 : ℕ} {u : Shape} (s : FVec Ideal ⟨3, ![n0, n1, n2]⟩ .f32) (c : FVec Ideal u .f32)
    (h : (⟨3, ![n0, n1, n2]⟩ : Shape).ReducesTo [1] ⟨2, ![n0, n2]⟩) (hu : 0 < u.numel) (i0 : Fin n0) (i1 : Fin n1) (i2 : Fin n2) :
    s (ix3 i0 i1 i2) ≤ Host.reduce FloatOps.maximumf s c h hu (ix2 i0 i2) := by
  rw [Host.reduce_eq_fold, Shape.ReducesTo.fold_fiber_r3_a1]
  exact (Finset.le_fold_max _).mpr (.inr ⟨i1, Finset.mem_univ _, le_rfl⟩)

/-- An entry is at most the maximum over both of two axes. -/
theorem le_max2 {n0 n1 : ℕ} {u : Shape} (s : FVec Ideal ⟨2, ![n0, n1]⟩ .f32) (c : FVec Ideal u .f32)
    (h : (⟨2, ![n0, n1]⟩ : Shape).ReducesTo [0, 1] ⟨0, ![]⟩) (hu : 0 < u.numel) (i0 : Fin n0) (i1 : Fin n1) :
    s (ix2 i0 i1) ≤ Host.reduce FloatOps.maximumf s c h hu ix0 := by
  rw [Host.reduce_eq_fold, Shape.ReducesTo.fold_fiber_r2_a01]
  exact (Finset.le_fold_max _).mpr (.inr ⟨(i0, i1), Finset.mem_univ _, le_rfl⟩)

theorem ksq_le (s : FVec Ideal S2x16640x16 .f32) (b : Fin 2) (r : Fin 16640) (h : Fin 16) : s (ix3 b r h) ≤ kmx s (ix2 b h) := by
  unfold kmx; exact le_max3 s _ _ _ b r h

theorem qsqs_le (s : FVec Ideal S2x16384x16 .f32) (b : Fin 2) (r : Fin 16384) (h : Fin 16) : s (ix3 b r h) ≤ qmx s (ix2 b h) := by
  unfold qmx; exact le_max3 s _ _ _ b r h

theorem pmx_le (s : FVec Ideal S2x16 .f32) (b : Fin 2) (h : Fin 16) : s (ix2 b h) ≤ pmx s ix0 := by
  unfold pmx; exact le_max2 s _ _ _ b h

theorem hn_at (K : FVec Ideal S2x16640x512 .bf16) (b : Fin 2) (h : Fin 16) : hn K (ix2 b h) = Ideal.sqrt (kmx (ksq K) (ix2 b h)) := by
  unfold hn; generalize kmx (ksq K) = s; rfl

theorem hqn_at (Q : FVec Ideal S2x16384x512 .bf16) (b : Fin 2) (h : Fin 16) : hqn Q (ix2 b h) = Ideal.sqrt (qmx (qsqs Q) (ix2 b h)) := by
  unfold hqn; generalize qmx (qsqs Q) = s; rfl

end Cert.KernelIdeal.Att

end
-- ==== Proof.Safe.lean ====
module

public import proofs.«01_k».proof.Proof.Soft

@[expose] public section

/-!
# The scale of the scores, and what a bound below a real says

The kernel scales queries and multiplies by `log 2` where the reference divides scores by `√32`. Where the product of the
greatest lengths of queries and keys is below a real, every score is real, and so is the bound — also where one of the two
lengths is `⊤`, for the other is then zero.
-/

noncomputable section

namespace Cert.Att.Soft

open Idealize.ShloMosaic Finset

theorem c32_real : Ideal.ofBits FTy.f32 1107296256#32 = ((32 : ℝ) : EReal) := by
  simp [Ideal.ofBits, Ideal.ieee, -EReal.coe_mul]; norm_num

theorem c2_real : Ideal.ofBits FTy.f32 1073741824#32 = ((2 : ℝ) : EReal) := by
  simp [Ideal.ofBits, Ideal.ieee, -EReal.coe_mul]; norm_num

theorem c48_real : Ideal.ofBits FTy.f32 1111490560#32 = ((48 : ℝ) : EReal) := by
  simp [Ideal.ofBits, Ideal.ieee, -EReal.coe_mul]; norm_num

/-- The two scales agree. -/
theorem score_scale (K Q : Fin 32 → EReal) :
    (∑ d, K d * Ideal.div (Q d) (Ideal.sqrt (Ideal.ofBits FTy.f32 1107296256#32) * Ideal.log (Ideal.ofBits FTy.f32 1073741824#32))) * ((Real.log 2 : ℝ) : EReal)
      = Ideal.div (∑ d, Q d * K d) (Ideal.sqrt (Ideal.ofBits FTy.f32 1107296256#32)) := by
  have ha : 0 < Real.sqrt 32 := Real.sqrt_pos.mpr (by norm_num)
  have hl : 0 < Real.log 2 := Real.log_pos (by norm_num)
  rw [c32_real, c2_real, Ideal.sqrt_coe, Ideal.log_coe, if_neg (by norm_num), if_neg (by norm_num), ← EReal.coe_mul, Ideal.div_coe ha.ne']
  simp only [Ideal.div_coe (mul_pos ha hl).ne', ← mul_assoc]
  rw [← sum_mul_coe _ _ (by positivity), mul_assoc, ← EReal.coe_mul]
  congr 1
  · exact sum_congr rfl fun d _ => mul_comm _ _
  · congr 1
    field_simp

theorem sqrt_nonneg' {x : EReal} (h : 0 ≤ x) : 0 ≤ Ideal.sqrt x := by
  induction x with
  | bot => simp at h
  | coe r =>
    have : 0 ≤ r := by exact_mod_cast h
    rw [Ideal.sqrt_coe, if_neg (not_lt.mpr this)]
    exact_mod_cast Real.sqrt_nonneg r
  | top => simp

theorem sqrt_pos' {x : EReal} (h : 0 < x) : 0 < Ideal.sqrt x := by
  induction x with
  | bot => simp at h
  | coe r =>
    have : 0 < r := by exact_mod_cast h
    rw [Ideal.sqrt_coe, if_neg (not_lt.mpr this.le)]
    exact_mod_cast Real.sqrt_pos.mpr this
  | top => simp

theorem sqrt_real {r : ℝ} (h : 0 ≤ r) : Ideal.sqrt (r : EReal) = ((Real.sqrt r : ℝ) : EReal) := by
  rw [Ideal.sqrt_coe, if_neg (not_lt.mpr h)]

theorem sq_le_sum {ι : Type} [Fintype ι] (f : ι → EReal) (d : ι) : f d * f d ≤ ∑ d, f d * f d :=
  single_le_sum (f := fun d => f d * f d) (fun _ _ => mul_self_nonneg' _) (mem_univ d)

theorem sum_sq_nonneg {ι : Type} [Fintype ι] (f : ι → EReal) : 0 ≤ ∑ d, f d * f d := sum_nonneg fun _ _ => mul_self_nonneg' _

theorem zero_of_sq {x : EReal} (h : x * x ≤ 0) : x = 0 := by
  induction x with
  | bot => simp at h
  | coe r =>
    have : r * r ≤ 0 := by rw [← EReal.coe_mul] at h; exact_mod_cast h
    have : r = 0 := by nlinarith [mul_self_eq_zero.mp (le_antisymm this (mul_self_nonneg r))]
    rw [this]; rfl
  | top => simp at h

theorem real_of_sq {x : EReal} {b : ℝ} (h : x * x ≤ (b : EReal)) : ∃ r : ℝ, x = (r : EReal) := by
  induction x with
  | bot => simp at h
  | coe r => exact ⟨r, rfl⟩
  | top => simp at h

/-- Where the product of the greatest lengths is below a real, the bound and the scores are real. -/
theorem safe_real {ι κ : Type} [Fintype ι] [Fintype κ] [Nonempty κ] (q : ι → EReal) (K : κ → ι → EReal) {QM KM : EReal} {b : ℝ}
    (hq : ∑ d, q d * q d ≤ QM) (hK : ∀ r, ∑ d, K r d * K r d ≤ KM) (h : Ideal.sqrt QM * Ideal.sqrt KM < (b : EReal)) :
    (∃ B : ℝ, Ideal.sqrt (∑ d, q d * q d) * Ideal.sqrt KM = (B : EReal)) ∧ ∀ r, ∃ y : ℝ, ∑ d, K r d * q d = (y : EReal) := by
  obtain ⟨r₀⟩ := ‹Nonempty κ›
  have hQ0 : 0 ≤ QM := (sum_sq_nonneg q).trans hq
  have hK0 : 0 ≤ KM := (sum_sq_nonneg (K r₀)).trans (hK r₀)
  have hqd : ∀ d, q d * q d ≤ QM := fun d => (sq_le_sum q d).trans hq
  have hKd : ∀ r d, K r d * K r d ≤ KM := fun r d => (sq_le_sum (K r) d).trans (hK r)
  have top_mul_pos : ∀ x : EReal, 0 < x → ⊤ * x = (⊤ : EReal) := fun x hx => EReal.top_mul_of_pos hx
  induction KM with
  | bot => simp at hK0
  | top =>
    have hz : QM = 0 := by
      by_contra hne
      have := sqrt_pos' (lt_of_le_of_ne hQ0 (Ne.symm hne))
      rw [Ideal.sqrt_top, mul_comm, top_mul_pos _ this] at h
      exact absurd h (by simp)
    have hq0 : ∀ d, q d = 0 := fun d => zero_of_sq ((hqd d).trans hz.le)
    refine ⟨⟨0, ?_⟩, fun r => ⟨0, ?_⟩⟩
    · simp only [hq0, mul_zero, sum_const_zero]
      rw [← EReal.coe_zero, sqrt_real le_rfl, Real.sqrt_zero, EReal.coe_zero, zero_mul]
    · simp only [hq0, mul_zero, sum_const_zero]; rfl
  | coe k =>
    have hk : 0 ≤ k := by exact_mod_cast hK0
    induction QM with
    | bot => simp at hQ0
    | top =>
      have hz : (k : EReal) = 0 := by
        by_contra hne
        have := sqrt_pos' (lt_of_le_of_ne hK0 (Ne.symm hne))
        rw [Ideal.sqrt_top, top_mul_pos _ this] at h
        exact absurd h (by simp)
      have hk0 : ∀ r d, K r d = 0 := fun r d => zero_of_sq ((hKd r d).trans hz.le)
      refine ⟨⟨0, ?_⟩, fun r => ⟨0, ?_⟩⟩
      · rw [hz, ← EReal.coe_zero, sqrt_real le_rfl, Real.sqrt_zero, EReal.coe_zero, mul_zero]
      · simp only [hk0, zero_mul, sum_const_zero]; rfl
    | coe p =>
      choose q' hq' using fun d => real_of_sq (hqd d)
      choose K' hK' using fun r d => real_of_sq (hKd r d)
      refine ⟨⟨Real.sqrt (∑ d, q' d * q' d) * Real.sqrt k, ?_⟩, fun r => ⟨∑ d, K' r d * q' d, ?_⟩⟩
      · simp only [hq', ← EReal.coe_mul, ← coe_sum]
        rw [sqrt_real (sum_nonneg fun d _ => mul_self_nonneg _), sqrt_real hk, ← EReal.coe_mul]
      · simp only [hq', hK', ← EReal.coe_mul, ← coe_sum]

end Cert.Att.Soft

end
-- ==== Proof.Blocks.lean ====
module

public import proofs.«01_k».proof.Proof.Arr
public import proofs.«01_k».proof.Proof.ElemsB
public import proofs.«01_k».proof.Proof.HostElems
public import proofs.«01_k».proof.Proof.Safe

@[expose] public section

set_option maxRecDepth 16384

/-!
# A block of either call is the reference's block

Two heads of 512 queries: their columns of scores are the reference's, so are the values, the gain and the factor of the
second softmax; what the kernels and the reference make of a column is then the same after the norm.
-/

noncomputable section

namespace Cert.KernelIdeal.Att

open Cert.KernelIdeal.Gen Cert.Att
open Idealize.ShloMosaic Idealize.ShloMosaic.TcCoe
open Finset

/-! ## A block's elements -/

theorem routV_at (L : Vec Ideal S1 .f32) (q : Vec Ideal S1x512x128 .bf16) (K : Vec Ideal S1x16640x128 .bf16) (V : Vec Ideal S1x1x128x16640 .bf16)
    (g : Vec Ideal S128x1 .f32) (u : Fin 2) (t : Fin 512) (e : Fin 64) :
    routV L q K V g (ix3 0 t ⟨64 * u.val + e.val, by omega⟩)
      = Soft.rmsn (Ideal.ofBits FTy.f32 897988541#32) (Ideal.ofBits FTy.f32 1115684864#32)
          (fun e => rquo (aR K V (wR q) ⟨2 * u.val, by omega⟩ 65) (ix2 e t) - L (ix1 0) * rquo (aR K V (wR q) ⟨2 * u.val + 1, by omega⟩ 65) (ix2 e t)) e
        * g (ix2 ⟨64 * u.val + e.val, by omega⟩ 0) * c08 := by
  unfold routV
  fin_cases u
  · have e1 : (⟨64 * 0 + e.val, by omega⟩ : Fin 128) = ⟨e.val, by omega⟩ := Fin.ext (by simp)
    show outB (F := Ideal) _ _ (ix3 0 t ⟨64 * 0 + e.val, _⟩) = Soft.rmsn _ _ (fun e => rquo (aR K V (wR q) 0 65) (ix2 e t) - L (ix1 0) * rquo (aR K V (wR q) 1 65) (ix2 e t)) e * g (ix2 ⟨64 * 0 + e.val, _⟩ 0) * c08
    rw [e1, outB_top, nrm_at, lamV_at, g_top]
  · have e1 : (⟨64 * 1 + e.val, by omega⟩ : Fin 128) = ⟨64 + e.val, by omega⟩ := Fin.ext (by simp)
    show outB (F := Ideal) _ _ (ix3 0 t ⟨64 * 1 + e.val, _⟩) = Soft.rmsn _ _ (fun e => rquo (aR K V (wR q) 2 65) (ix2 e t) - L (ix1 0) * rquo (aR K V (wR q) 3 65) (ix2 e t)) e * g (ix2 ⟨64 * 1 + e.val, _⟩ 0) * c08
    rw [e1, outB_bot, nrm_at, lamV_at, g_bot]

theorem outV_at (i : grid1.Coords) (L : Vec Ideal S1 .f32) (N : Vec Ideal S2x16 .f32) (q : Vec Ideal S1x512x128 .bf16) (K : Vec Ideal S1x16640x128 .bf16)
    (V : Vec Ideal S1x1x128x16640 .bf16) (g : Vec Ideal S128x1 .f32) (u : Fin 2) (t : Fin 512) (e : Fin 64) :
    outV i L N q K V g (ix3 0 t ⟨64 * u.val + e.val, by omega⟩)
      = Soft.rmsn (Ideal.ofBits FTy.f32 897988541#32) (Ideal.ofBits FTy.f32 1115684864#32)
          (fun e => quo (accL (scT K (wV i q N)) zeroL 260 ⟨2 * u.val, by omega⟩) (accA (scT K (wV i q N)) (valT V) zeroA 260 ⟨2 * u.val, by omega⟩) (ix2 e t)
            - L (ix1 0) * quo (accL (scT K (wV i q N)) zeroL 260 ⟨2 * u.val + 1, by omega⟩) (accA (scT K (wV i q N)) (valT V) zeroA 260 ⟨2 * u.val + 1, by omega⟩) (ix2 e t)) e
        * g (ix2 ⟨64 * u.val + e.val, by omega⟩ 0) * c08 := by
  unfold outV
  generalize accL (scT K (wV i q N)) zeroL 260 = l
  generalize accA (scT K (wV i q N)) (valT V) zeroA 260 = a
  fin_cases u
  · have e1 : (⟨64 * 0 + e.val, by omega⟩ : Fin 128) = ⟨e.val, by omega⟩ := Fin.ext (by simp)
    show outB (F := Ideal) _ _ (ix3 0 t ⟨64 * 0 + e.val, _⟩) = Soft.rmsn _ _ (fun e => quo (l 0) (a 0) (ix2 e t) - L (ix1 0) * quo (l 1) (a 1) (ix2 e t)) e * g (ix2 ⟨64 * 0 + e.val, _⟩ 0) * c08
    rw [e1, outB_top, nrm_at, lamV_at, g_top]
  · have e1 : (⟨64 * 1 + e.val, by omega⟩ : Fin 128) = ⟨64 + e.val, by omega⟩ := Fin.ext (by simp)
    show outB (F := Ideal) _ _ (ix3 0 t ⟨64 * 1 + e.val, _⟩) = Soft.rmsn _ _ (fun e => quo (l 2) (a 2) (ix2 e t) - L (ix1 0) * quo (l 3) (a 3) (ix2 e t)) e * g (ix2 ⟨64 * 1 + e.val, _⟩ 0) * c08
    rw [e1, outB_bot, nrm_at, lamV_at, g_bot]

/-! ## Its columns, values, gain -/

variable (Q kl vl : FVec Ideal S2x16384x512 .f32) (kc vc : FVec Ideal S2x256x512 .f32)
variable (b : Fin 2) (p : Fin 4) (i : Fin 32)

/-- The queries of a block, its keys and its values. -/
abbrev qq : Vec Ideal S1x512x128 .bf16 := qB (φ := .bf16) (hq Q) b p i
abbrev kk : Vec Ideal S1x16640x128 .bf16 := kB (φ := .bf16) (hk kc kl) b p
abbrev vv : Vec Ideal S1x1x128x16640 .bf16 := vB (φ := .bf16) (hv vc vl) b p

theorem kk_at (r : Fin 16640) (x : Fin 128) : kk kl kc b p (ix3 0 r x) = Cert.ReferenceIdeal.Att.both kc kl (ix3 b r ⟨p.val * 128 + x.val, by omega⟩) := by
  unfold kk kB; rw [hk_eq]; rfl

theorem qq_at (t : Fin 512) (x : Fin 128) : qq Q b p i (ix3 0 t x)
    = Ideal.div (Q (ix3 b ⟨i.val * 512 + t.val, by omega⟩ ⟨p.val * 128 + x.val, by omega⟩)) (Ideal.sqrt (Ideal.ofBits FTy.f32 1107296256#32) * Ideal.log (Ideal.ofBits FTy.f32 1073741824#32)) := by
  unfold qq qB; exact hq_at Q b _ _

theorem col_eq (u w : Fin 2) (t : Fin 512) :
    col (qq Q b p i) (kk kl kc b p) ⟨2 * u.val + w.val, by omega⟩ t
      = Cert.ReferenceIdeal.Att.col Q (Cert.ReferenceIdeal.Att.both kc kl) b ⟨2 * p.val + u.val, by omega⟩ w ⟨i.val * 512 + t.val, by omega⟩ := by
  funext r
  unfold col ysc Cert.ReferenceIdeal.Att.col
  simp only [kk_at, qq_at]
  rw [Soft.score_scale (fun d => Cert.ReferenceIdeal.Att.both kc kl (ix3 b r ⟨p.val * 128 + (32 * (2 * u.val + w.val) + d.val), by omega⟩))
    (fun d => Q (ix3 b ⟨i.val * 512 + t.val, by omega⟩ ⟨p.val * 128 + (32 * (2 * u.val + w.val) + d.val), by omega⟩))]
  congr 1
  refine sum_congr rfl fun d _ => ?_
  have e1 : (⟨p.val * 128 + (32 * (2 * u.val + w.val) + d.val), by omega⟩ : Fin 512) = ⟨(2 * p.val + u.val) * 64 + w.val * 32 + d.val, by omega⟩ := Fin.ext (by simp only; omega)
  rw [e1]

theorem vals_eq (u w : Fin 2) (e : Fin 64) :
    vals (vv vl vc b p) ⟨2 * u.val + w.val, by omega⟩ e = Cert.ReferenceIdeal.Att.vals (Cert.ReferenceIdeal.Att.both vc vl) b ⟨2 * p.val + u.val, by omega⟩ e := by
  funext r
  unfold vals vv vB Cert.ReferenceIdeal.Att.vals
  refine (hv_at vc vl b p _ r).trans ?_
  congr 2
  apply Fin.ext
  show p.val * 128 + (64 * ((2 * u.val + w.val) / 2) + e.val) = (2 * p.val + u.val) * 64 + e.val
  omega

variable (a₁ a₂ a₃ a₄ : FVec Ideal S32 .f32) (g : FVec Ideal S64 .f32)

/-- The reference's result. -/
def want : FVec Ideal S2x16384x512 .bf16 :=
  Cert.ReferenceIdeal.Att.rout (Cert.ReferenceIdeal.Att.rd (Cert.ReferenceIdeal.Att.ro (Cert.ReferenceIdeal.Att.rp (Cert.ReferenceIdeal.Att.re
    (Cert.ReferenceIdeal.Att.rs Q (Cert.ReferenceIdeal.Att.both kc kl)) (Cert.ReferenceIdeal.Att.rmx (Cert.ReferenceIdeal.Att.rs Q (Cert.ReferenceIdeal.Att.both kc kl)))))
    (Cert.ReferenceIdeal.Att.both vc vl)) (Cert.ReferenceIdeal.Att.rlam a₁ a₂ a₃ a₄)) g

/-- Whatever gives the mixed values of a proper column and `⊥` of a degenerate one gives the reference's result. -/
theorem ref_block (u : Fin 2) (t : Fin 512) (e : Fin 64) {k : Fin 2 → Fin 64 → EReal}
    (hm : ∀ (w : Fin 2) (e : Fin 64), ¬ Soft.Cor (col (qq Q b p i) (kk kl kc b p) ⟨2 * u.val + w.val, by omega⟩ t) →
      k w e = Soft.mix (col (qq Q b p i) (kk kl kc b p) ⟨2 * u.val + w.val, by omega⟩ t) (vals (vv vl vc b p) ⟨2 * u.val + w.val, by omega⟩ e))
    (hc : ∀ (w : Fin 2) (e : Fin 64), Soft.Cor (col (qq Q b p i) (kk kl kc b p) ⟨2 * u.val + w.val, by omega⟩ t) → k w e = ⊥) :
    Soft.rmsn (Ideal.ofBits FTy.f32 897988541#32) (Ideal.ofBits FTy.f32 1115684864#32) (fun e => k 0 e - hl a₁ a₂ a₃ a₄ (ix1 0) * k 1 e) e
        * hg g (ix2 ⟨64 * u.val + e.val, by omega⟩ 0) * c08
      = want Q kl vl kc vc a₁ a₂ a₃ a₄ g (ix3 b ⟨i.val * 512 + t.val, by omega⟩ ⟨p.val * 128 + (64 * u.val + e.val), by omega⟩) := by
  have eh : (⟨(p.val * 128 + (64 * u.val + e.val)) / 64, by omega⟩ : Fin 8) = ⟨2 * p.val + u.val, by omega⟩ := Fin.ext (by simp only; omega)
  have ee : (⟨(p.val * 128 + (64 * u.val + e.val)) % 64, Nat.mod_lt _ (by norm_num)⟩ : Fin 64) = e := Fin.ext (by simp only; omega)
  unfold want
  rw [Cert.ReferenceIdeal.Att.rout_at]
  simp only [Cert.ReferenceIdeal.Att.rd_at, eh, ee]
  rw [hl_at, hg_at]
  simp only [col_eq, vals_eq] at hm hc
  obtain ⟨n, hn, en⟩ := c64_real
  obtain ⟨ε, eε⟩ := eps_real
  rw [en, eε]
  refine congrArg (· * g (ix1 e) * c08) (congrFun ?_ e)
  exact Soft.rmsn_diff hn _ _ _ (fun e => Cert.ReferenceIdeal.Att.vals (Cert.ReferenceIdeal.Att.both vc vl) b ⟨2 * p.val + u.val, by omega⟩ e)
    (hc 0) (hc 1) (fun e => Cert.ReferenceIdeal.Att.o_cor Q _ _ b _ 0 _ e) (fun e => Cert.ReferenceIdeal.Att.o_cor Q _ _ b _ 1 _ e)
    (hm 0) (hm 1) (fun e => Cert.ReferenceIdeal.Att.o_mix Q _ _ b _ 0 _ e) (fun e => Cert.ReferenceIdeal.Att.o_mix Q _ _ b _ 1 _ e)

/-- An array of a block is known by its elements at the two heads. -/
theorem block_ext {x y : Vec Ideal S1x512x128 .bf16}
    (h : ∀ (u : Fin 2) (t : Fin 512) (e : Fin 64), x (ix3 0 t ⟨64 * u.val + e.val, by omega⟩) = y (ix3 0 t ⟨64 * u.val + e.val, by omega⟩)) : x = y := by
  funext j
  have h2 : (j 2).val < 128 := (j 2).isLt
  have ej : j = ix3 (n0 := 1) (n1 := 512) (n2 := 128) 0 (j 1) ⟨64 * ((j 2).val / 64) + (j 2).val % 64, by omega⟩ := by
    funext a
    fin_cases a
    · exact Subsingleton.elim (α := Fin 1) _ _
    · rfl
    · exact Fin.ext (by show (j 2).val = 64 * ((j 2).val / 64) + (j 2).val % 64; omega)
  rw [ej]
  exact h ⟨(j 2).val / 64, by omega⟩ (j 1) ⟨(j 2).val % 64, Nat.mod_lt _ (by norm_num)⟩

/-- A block of the running-maximum call. -/
theorem running_block : routV (hl a₁ a₂ a₃ a₄) (qq Q b p i) (kk kl kc b p) (vv vl vc b p) (hg g)
    = qB (φ := .bf16) (want Q kl vl kc vc a₁ a₂ a₃ a₄ g) b p i := by
  refine block_ext fun u t e => ?_
  rw [routV_at]
  exact ref_block Q kl vl kc vc b p i a₁ a₂ a₃ a₄ g u t e
    (k := fun w e => rquo (aR (kk kl kc b p) (vv vl vc b p) (wR (qq Q b p i)) ⟨2 * u.val + w.val, by omega⟩ 65) (ix2 e t))
    (fun w e h => rquo_mix _ _ _ _ t e h) (fun w e h => rquo_cor _ _ _ _ t e h)

/-! ## The bounded call, where the guard holds -/

theorem off_words : ∀ (x : Fin 2) (y s : Fin 4), (Scalar.indexCast (BitVec.ofNat 32 x.val)).toNat = x.val
    ∧ (Scalar.indexCast (Scalar.addi (Scalar.muli 4#32 (BitVec.ofNat 32 y.val)) (BitVec.ofNat 32 s.val))).toNat = 4 * y.val + s.val := by decide

/-- The bound of the keys that a head reads. -/
theorem knV_at (j : grid1.Coords) (N : Vec Ideal S2x16 .f32) (s : Fin 4) (b : Fin 2) (p : Fin 4) (hb : b = j 0) (hp : p = j 1) :
    knV j N s = N (ix2 b ⟨4 * p.val + s.val, by omega⟩) := by
  subst hb hp
  unfold knV VecWindow.window
  congr 1
  funext a
  apply Fin.ext
  fin_cases a
  · exact (off_words (j 0) (j 1) s).1
  · exact (off_words (j 0) (j 1) s).2

/-- Below the guard's bound every score and every bound is a real number. -/
theorem guarded (hs : pmx (mulf (hqn (hq Q)) (hn (hk kc kl))) ix0 < Ideal.ofBits FTy.f32 1111490560#32) (s : Fin 4) (t : Fin 512) :
    (∃ B : ℝ, bnd (qq Q b p i) (hn (hk kc kl) (ix2 b ⟨4 * p.val + s.val, by omega⟩)) s t = (B : EReal))
      ∧ ∀ r, ∃ y : ℝ, ysc (qq Q b p i) (kk kl kc b p) s t r = (y : EReal) := by
  have h1 : hqn (hq Q) (ix2 b ⟨4 * p.val + s.val, by omega⟩) * hn (hk kc kl) (ix2 b ⟨4 * p.val + s.val, by omega⟩) < Ideal.ofBits FTy.f32 1111490560#32 :=
    lt_of_le_of_lt (pmx_le (mulf (hqn (hq Q)) (hn (hk kc kl))) b ⟨4 * p.val + s.val, by omega⟩) hs
  rw [Soft.c48_real, hqn_at, hn_at] at h1
  have ei : ∀ d : Fin 32, (⟨(4 * p.val + s.val) * 32 + d.val, by omega⟩ : Fin 512) = ⟨p.val * 128 + (32 * s.val + d.val), by omega⟩ := fun d =>
    Fin.ext (by simp only; omega)
  have h2 := qsqs_le (qsqs (hq Q)) b ⟨i.val * 512 + t.val, by omega⟩ ⟨4 * p.val + s.val, by omega⟩
  have h3 := fun r => ksq_le (ksq (hk kc kl)) b r ⟨4 * p.val + s.val, by omega⟩
  rw [qsqs_at] at h2
  simp only [ksq_at] at h3
  simp only [ei] at h2 h3
  rw [hn_at]
  exact Soft.safe_real (fun d : Fin 32 => qq Q b p i (ix3 0 t ⟨32 * s.val + d.val, by omega⟩))
    (fun (r : Fin 16640) (d : Fin 32) => kk kl kc b p (ix3 0 r ⟨32 * s.val + d.val, by omega⟩)) h2 h3 h1

/-- No column is degenerate there. -/
theorem guarded_proper (hs : pmx (mulf (hqn (hq Q)) (hn (hk kc kl))) ix0 < Ideal.ofBits FTy.f32 1111490560#32) (s : Fin 4) (t : Fin 512) :
    ¬ Soft.Cor (col (qq Q b p i) (kk kl kc b p) s t) := by
  have h := (guarded Q kl kc b p i hs s t).2
  have hr : ∀ r, ∃ y : ℝ, col (qq Q b p i) (kk kl kc b p) s t r = (y : EReal) := fun r => by
    obtain ⟨y, hy⟩ := h r
    exact ⟨y * Real.log 2, by unfold col; rw [hy, EReal.coe_mul]⟩
  rintro (⟨r, e⟩ | e)
  · obtain ⟨y, hy⟩ := hr r
    rw [hy] at e; exact EReal.coe_ne_top y e
  · obtain ⟨y, hy⟩ := hr ⟨0, by norm_num⟩
    rw [e] at hy; exact (EReal.coe_ne_bot y).symm hy

/-- A block of the bounded call. -/
theorem bounded_block (hs : pmx (mulf (hqn (hq Q)) (hn (hk kc kl))) ix0 < Ideal.ofBits FTy.f32 1111490560#32) (j : grid1.Coords) :
    outV j (hl a₁ a₂ a₃ a₄) (hn (hk kc kl)) (qq Q (j 0) (j 1) (j 2)) (kk kl kc (j 0) (j 1)) (vv vl vc (j 0) (j 1)) (hg g)
      = qB (φ := .bf16) (want Q kl vl kc vc a₁ a₂ a₃ a₄ g) (j 0) (j 1) (j 2) := by
  refine block_ext fun u t e => ?_
  rw [outV_at]
  refine ref_block Q kl vl kc vc (j 0) (j 1) (j 2) a₁ a₂ a₃ a₄ g u t e
    (k := fun w e => quo (accL (scT (kk kl kc (j 0) (j 1)) (wV j (qq Q (j 0) (j 1) (j 2)) (hn (hk kc kl)))) zeroL 260 ⟨2 * u.val + w.val, by omega⟩)
      (accA (scT (kk kl kc (j 0) (j 1)) (wV j (qq Q (j 0) (j 1) (j 2)) (hn (hk kc kl)))) (valT (vv vl vc (j 0) (j 1))) zeroA 260 ⟨2 * u.val + w.val, by omega⟩) (ix2 e t))
    (fun w e h => ?_) (fun w e h => absurd h (guarded_proper Q kl kc _ _ _ hs _ t))
  obtain ⟨⟨B, hB⟩, hy⟩ := guarded Q kl kc (j 0) (j 1) (j 2) hs ⟨2 * u.val + w.val, by omega⟩ t
  refine quo_mix j _ _ _ _ _ t e h (fun r => ?_) (B := B) ?_
  · obtain ⟨y, hy⟩ := hy r
    rw [hy]; exact EReal.coe_ne_top y
  · rw [knV_at j _ _ (j 0) (j 1) rfl rfl]; exact hB

end Cert.KernelIdeal.Att

end
-- ==== Proof.Final.lean ====
module

public import proofs.«01_k».proof.Proof.Blocks
public import proofs.«01_k».proof.Proof.Frame
public import proofs.«01_k».proof.Proof.Ref

@[expose] public section

set_option maxRecDepth 16384

/-!
# Kernel and reference are one function

Whichever call runs, its result is the reference's.
-/

noncomputable section

namespace Cert.KernelIdeal.Att

open Cert.KernelIdeal.Gen
open Idealize.ShloMosaic Idealize.ShloMosaic.TcCoe Idealize.ShloMosaic.StableHlo

variable (m : (ℓ : Loc nD τ sig) → Buf (Elt Ideal) ℓ) (c : Dev nD)

/-- The reference's result, of the arguments at launch. -/
def wanted : FVec Ideal S2x16384x512 .bf16 :=
  want (m ((c : Thread nD τ).loc main_arg0)) (m ((c : Thread nD τ).loc main_arg1)) (m ((c : Thread nD τ).loc main_arg3))
    (m ((c : Thread nD τ).loc main_arg2)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

theorem in_q : entry m c main_v13 = hq (F := Ideal) (m ((c : Thread nD τ).loc main_arg0)) := (W1_eq m c (by decide)).trans (at_q m c)
theorem in_k : entry m c main_v16 = hk (F := Ideal) (m ((c : Thread nD τ).loc main_arg2)) (m ((c : Thread nD τ).loc main_arg1)) := (W1_eq m c (by decide)).trans (at_k m c)
theorem in_v : entry m c main_v23 = hv (F := Ideal) (m ((c : Thread nD τ).loc main_arg4)) (m ((c : Thread nD τ).loc main_arg3)) := (W1_eq m c (by decide)).trans (at_v m c)
theorem in_g : entry m c main_v27 = hg (F := Ideal) (m ((c : Thread nD τ).loc main_arg9)) := (W1_eq m c (by decide)).trans (at_g m c)
theorem in_l : entry m c main_v28 = hl (F := Ideal) (m ((c : Thread nD τ).loc main_arg5)) (m ((c : Thread nD τ).loc main_arg6)) (m ((c : Thread nD τ).loc main_arg7)) (m ((c : Thread nD τ).loc main_arg8)) :=
  (W1_eq m c (by decide)).trans (at_l m c)
theorem in_n : entry m c main_v34 = hn (F := Ideal) (hk (F := Ideal) (m ((c : Thread nD τ).loc main_arg2)) (m ((c : Thread nD τ).loc main_arg1))) := (W1_eq m c (by decide)).trans (at_n m c)

/-- The greatest bounds of the scores of every head. -/
def bounds : FVec Ideal S2x16 .f32 :=
  Idealize.ShloMosaic.mulf (hqn (F := Ideal) (hq (F := Ideal) (m ((c : Thread nD τ).loc main_arg0))))
    (hn (F := Ideal) (hk (F := Ideal) (m ((c : Thread nD τ).loc main_arg2)) (m ((c : Thread nD τ).loc main_arg1))))

/-- The branch's word. -/
theorem word_eq : W1 m c main_v44 = hword (F := Ideal) (bounds m c) := by
  rw [W1_word, at_s]
  unfold bounds hword
  rfl

theorem below_off (x y : EReal) (h : ¬ x < y) : Ideal.cmp .olt x y = 0#1 := by
  unfold Ideal.cmp
  simp only [decide_eq_false h]
  rfl

/-- The word is zero where the guard fails. -/
theorem word_off (p : FVec Ideal S2x16 .f32) (h : ¬ pmx p ix0 < Ideal.ofBits FTy.f32 1111490560#32) : hword p HostLoop.idx0 = 0#32 := by
  unfold hword
  generalize pmx p = P at h ⊢
  have e := below_off _ _ h
  show BitVec.setWidth 32 (Ideal.cmp .olt (P ix0) (Ideal.ofBits FTy.f32 1111490560#32)) = 0#32
  rw [e]; rfl

/-- The bounded call is taken only where the guard holds. -/
theorem guard_of_arm (h : arm m c = 1) : pmx (bounds m c) ix0 < Ideal.ofBits FTy.f32 1111490560#32 := by
  by_contra hp
  have e := word_off _ hp
  have e1 : arm m c = HostLoop.branch (hword (bounds m c) HostLoop.idx0) 1 := by unfold arm; rw [word_eq]
  rw [e, h] at e1
  exact absurd e1 (by decide)

theorem first_result : result0 (entry m) c = wanted m c :=
  result0_eq (entry m) c _ fun b p i => by
    rw [in_q, in_k, in_v, in_g, in_l]
    exact running_block _ _ _ _ _ b p i _ _ _ _ _

theorem second_result (h : arm m c = 1) : result1 (entry m) c = wanted m c :=
  result1_eq (entry m) c _ fun j => by
    rw [in_q, in_k, in_v, in_g, in_l, in_n]
    exact bounded_block _ _ _ _ _ _ _ _ _ _ (by have := guard_of_arm m c h; unfold bounds at this; exact this) j

theorem W2_first : W2 m 0 c = Function.update (W1 m c) (Proc.devRef .tc main_case0b0_v46) (result0 (entry m) c) := rfl
theorem W2_second : W2 m 1 c = Function.update (W1 m c) (Proc.devRef .tc main_case0b1_v46) (result1 (entry m) c) := rfl

/-- The copy of the first call's result, -/
theorem copied_first : W3 m 0 c main_v45 = result0 (entry m) c := by
  have h := congrFun (W2_first m c) (Proc.devRef .tc main_case0b0_v46)
  rw [Function.update_self] at h
  refine Eq.trans ?_ h
  unfold W3
  exact StableHlo.unary_result main_case0b0_v46 main_v45 id _ _ (W2 m 0 c)

/-- and of the second's. -/
theorem copied_second : W3 m 1 c main_v45 = result1 (entry m) c := by
  have h := congrFun (W2_second m c) (Proc.devRef .tc main_case0b1_v46)
  rw [Function.update_self] at h
  refine Eq.trans ?_ h
  unfold W3
  exact StableHlo.unary_result main_case0b1_v46 main_v45 id _ _ (W2 m 1 c)

/-- What the kernel leaves in its result. -/
theorem result_eq : W3 m (arm m c) c main_v45 = wanted m c := by
  have h : arm m c = 0 ∨ arm m c = 1 := by
    generalize arm m c = a
    revert a; decide
  rcases h with h | h
  · exact ((congrArg (fun a => W3 m a c main_v45) h).trans (copied_first m c)).trans (first_result m c)
  · exact ((congrArg (fun a => W3 m a c main_v45) h).trans (copied_second m c)).trans (second_result m c h)

theorem algebraic : Cert.algebraic_KernelIdeal_ReferenceIdeal := by
  intro m g m' g' _ hargs
  refine ⟨fun c => wanted m c, ?_, ?_⟩
  · refine (θ_run Cert.KernelIdeal.defs _ _).mono (fun _ h c => ⟨?_, ends m h c⟩) (run_main (F := Ideal) m g)
    exact (h.1 c _ (mem_ucRefs main_v45 rfl)).trans (result_eq m c)
  · refine (θ_run Cert.ReferenceIdeal.defs _ _).mono (fun _ h c => ⟨?_, (h c).2⟩) (Cert.ReferenceIdeal.Value.run (F := Ideal) m' g')
    refine ((h c).1).trans ((Cert.ReferenceIdeal.Att.res_eq m' c).trans ?_)
    obtain ⟨e0, e1, e2, e3, e4, e5, e6, e7, e8, e9⟩ := hargs c
    rw [e0, e1, e2, e3, e4, e5, e6, e7, e8, e9]
    rfl

end Cert.KernelIdeal.Att

end
-- ==== Proof.Ffn.Spec.lean ====
module

public import Idealize.ShloMosaic.Lib.Pointwise

@[expose] public section

/-!
# The last layer's feed-forward, as a function of its arrays

What both programs compute, element by element: a row of the residual stream is normalised and modulated; its gate
products pass a convolution of three taps along the rows, with rows of zeros before the first and after the last; the
gated products are projected back, added to the row, and the row is normalised again.
-/

noncomputable section

namespace Cert.Ffn

open Idealize.ShloMosaic
open Finset

/-- A row divided by its root mean square. -/
def nrm (x : Fin 1024 → EReal) (d : Fin 1024) : EReal :=
  x d * Ideal.rsqrt (Ideal.div (∑ k, x k * x k) (Ideal.ofBits FTy.f32 1149239296#32) + Ideal.ofBits FTy.f32 897988541#32)

/-- The row that enters the feed-forward: normalised, weighted, scaled and shifted. -/
def hrow (x g sh sc : Fin 1024 → EReal) (d : Fin 1024) : EReal := nrm x d * g d * (1 + sc d) + sh d

/-- The gate `c` through the logistic unit, times the product `u`. -/
def act (c u : EReal) : EReal := c * Ideal.div 1 (1 + Ideal.exp (0 - c)) * u

variable (X : Fin 2 → Fin 16384 → Fin 1024 → EReal) (g og : Fin 1024 → EReal) (sh sc g2 : Fin 2 → Fin 1024 → EReal)
  (wg wu : Fin 1024 → Fin 2816 → EReal) (cw : Fin 3 → Fin 2816 → EReal) (wd : Fin 2816 → Fin 1024 → EReal)

/-- Row `T` of batch `b` as it enters the feed-forward. -/
def hA (b : Fin 2) (T : Fin 16384) : Fin 1024 → EReal := hrow (X b T) g (sh b) (sc b)

/-- The gate products, a row of zeros before them and one after. -/
def zA (b : Fin 2) (T : ℕ) (e : Fin 2816) : EReal :=
  if h : 1 ≤ T ∧ T - 1 < 16384 then ∑ k, hA X g sh sc b ⟨T - 1, h.2⟩ k * wg k e else 0

/-- The convolution along the rows. -/
def gA (b : Fin 2) (T : Fin 16384) (e : Fin 2816) : EReal :=
  cw 0 e * zA X g sh sc wg b T.val e + cw 1 e * zA X g sh sc wg b (1 + T.val) e + cw 2 e * zA X g sh sc wg b (2 + T.val) e

/-- The gated products. -/
def aA (b : Fin 2) (T : Fin 16384) (e : Fin 2816) : EReal :=
  act (gA X g sh sc wg cw b T e) (∑ k, hA X g sh sc b T k * wu k e)

/-- The row with the feed-forward's output added. -/
def yA (b : Fin 2) (T : Fin 16384) (d : Fin 1024) : EReal :=
  X b T d + g2 b d * ∑ e, aA X g sh sc wg wu cw b T e * wd e d

/-- The row that leaves the model. -/
def oA (b : Fin 2) (T : Fin 16384) (d : Fin 1024) : EReal := nrm (yA X g sh sc g2 wg wu cw wd b T) d * og d

end Cert.Ffn

end
-- ==== Proof.Ffn.Block.lean ====
module

public import proofs.«01_k».proof.Proof.Ffn.Spec
public import proofs.«01_k».proof.Proof.Gen.Kernel2Ideal.Value
public import Idealize.ShloMosaic.Lib.Pipeline.ValueKit
public import Idealize.ShloMosaic.Lib.WritesUnit

@[expose] public section

set_option maxRecDepth 16384

/-!
# A block of the feed-forward's kernel, element by element

Grid point `(b, i)` takes 512 rows of batch `b`, the eight rows before them and the eight after them. The hidden
channels are taken in two halves of 1408; for each half the gate products of the rows before, of the block and of the rows
after lie one below the other in a scratch of 528 rows, read back one row up and one row down for the convolution.
-/

noncomputable section

namespace Cert.Kernel2Ideal.Ffn

open Cert.Kernel2Ideal.Gen Cert.Ffn
open Idealize.ShloMosaic Idealize.SL.Sem
open Finset

/-! ## The scratch -/

/-- The pieces of a half: the rows before, the block's rows, the rows after; older ones beneath. -/
def pieces {F : FTy → Type} [FloatOps F] (lo : Vec F S8x1408 .f32) (mid : Vec F S512x1408 .f32) (hi : Vec F S8x1408 .f32)
    (L : List (View.Piece (Elt F) S528x1408 .f32)) : List (View.Piece (Elt F) S528x1408 .f32) :=
  ⟨Rect.unit ![520, 0] S8x1408.size inb_S528x1408_S8x1408_520_0, hi⟩ ::
    ⟨Rect.unit ![8, 0] S512x1408.size inb_S528x1408_S512x1408_8_0, mid⟩ ::
    ⟨Rect.unit ![0, 0] S8x1408.size inb_S528x1408_S8x1408_0_0, lo⟩ :: L

/-- The scratch's rows by their number. -/
def stacked (lo hi : Fin 8 → EReal) (mid : Fin 512 → EReal) (p : Fin 528) : EReal :=
  if h : p.val < 8 then lo ⟨p.val, h⟩ else if h' : p.val < 520 then mid ⟨p.val - 8, by omega⟩ else hi ⟨p.val - 520, by omega⟩

section
variable (v : View sig .tc .vmem S528x1408 .f32) (f : v.ty.Contents (Elt Ideal))
  (lo hi : Vec Ideal S8x1408 .f32) (mid : Vec Ideal S512x1408 .f32) (L : List (View.Piece (Elt Ideal) S528x1408 .f32))
  (y : S528x1408.Idx) (e : Fin 1408) (hy1 : (y 1).val = e.val)
include hy1

theorem read_lo (r : Fin 8) (hy0 : (y 0).val = r.val) :
    v.read (Elt Ideal) (v.writes (Elt Ideal) f (pieces lo mid hi L)) y = lo (ix2 r e) := by
  refine (View.read_writes_cons_unit_of_not_mem v f _ hi _ y rfl 0 (Or.inl (by show (y 0).val < 520; omega))).trans ?_
  refine (View.read_writes_cons_unit_of_not_mem v f _ mid _ y rfl 0 (Or.inl (by show (y 0).val < 8; omega))).trans ?_
  refine View.read_writes_cons_unit_of_mem v f _ lo L y (ix2 r e) rfl fun a => ?_
  match a with
  | ⟨0, _⟩ => exact hy0.trans (Nat.zero_add _).symm
  | ⟨1, _⟩ => exact hy1.trans (Nat.zero_add _).symm

theorem read_mid (r : Fin 512) (hy0 : (y 0).val = 8 + r.val) :
    v.read (Elt Ideal) (v.writes (Elt Ideal) f (pieces lo mid hi L)) y = mid (ix2 r e) := by
  refine (View.read_writes_cons_unit_of_not_mem v f _ hi _ y rfl 0 (Or.inl (by show (y 0).val < 520; omega))).trans ?_
  refine View.read_writes_cons_unit_of_mem v f _ mid _ y (ix2 r e) rfl fun a => ?_
  match a with
  | ⟨0, _⟩ => exact hy0
  | ⟨1, _⟩ => exact hy1.trans (Nat.zero_add _).symm

theorem read_hi (r : Fin 8) (hy0 : (y 0).val = 520 + r.val) :
    v.read (Elt Ideal) (v.writes (Elt Ideal) f (pieces lo mid hi L)) y = hi (ix2 r e) := by
  refine View.read_writes_cons_unit_of_mem v f _ hi _ y (ix2 r e) rfl fun a => ?_
  match a with
  | ⟨0, _⟩ => exact hy0
  | ⟨1, _⟩ => exact hy1.trans (Nat.zero_add _).symm

/-- A row of the scratch, from the three pieces stored last, which cover it. -/
theorem read_all (p : Fin 528) (hy0 : (y 0).val = p.val) :
    v.read (Elt Ideal) (v.writes (Elt Ideal) f (pieces lo mid hi L)) y
      = stacked (fun r => lo (ix2 r e)) (fun r => hi (ix2 r e)) (fun r => mid (ix2 r e)) p := by
  unfold stacked
  have hp := p.isLt
  by_cases h : p.val < 8
  · rw [dif_pos h]; exact read_lo v f lo hi mid L y e hy1 _ hy0
  · rw [dif_neg h]
    by_cases h' : p.val < 520
    · rw [dif_pos h']; exact read_mid v f lo hi mid L y e hy1 _ (by show _ = 8 + (p.val - 8); omega)
    · rw [dif_neg h']; exact read_hi v f lo hi mid L y e hy1 _ (by show _ = 520 + (p.val - 520); omega)
end

theorem read_rows (lo hi : Vec Ideal S8x1408 .f32) (mid : Vec Ideal S512x1408 .f32) (L : List (View.Piece (Elt Ideal) S528x1408 .f32))
    (o : ℕ) (ho : o ≤ 16) (inb : ∀ a, (![o, 0] : Fin 2 → ℕ) a + S512x1408.size a ≤ S528x1408.size a) (t : Fin 512) (e : Fin 1408) :
    (View.whole cc0_scratch0).readCov (pieces lo mid hi L) (Rect.unit (s := S528x1408) ![o, 0] S512x1408.size inb).toLoadRect (ix2 t e)
      = stacked (fun r => lo (ix2 r e)) (fun r => hi (ix2 r e)) (fun r => mid (ix2 r e)) ⟨o + t.val, by omega⟩ :=
  read_all (View.whole cc0_scratch0) (View.whole cc0_scratch0).junk lo hi mid L
    ((Rect.unit (s := S528x1408) ![o, 0] S512x1408.size inb).toLoadRect.idx (ix2 t e)) e
    ((congrArg (0 + ·) (Nat.one_mul e.val)).trans (Nat.zero_add _)) ⟨o + t.val, by omega⟩ (congrArg (o + ·) (Nat.one_mul t.val))

/-! ## The vectors of the body -/

variable (x0 : Vec Ideal S1x512x1024 .f32) (x1 x2 : Vec Ideal S1x8x1024 .f32) (x3 : Vec Ideal S1x1024 .f32)
  (x4 x5 x6 : Vec Ideal S1x1x1024 .f32) (x7 x8 : Vec Ideal S1024x2816 .bf16) (x9 : Vec Ideal S3x2816 .f32)
  (x10 : Vec Ideal S2816x1024 .bf16) (x11 : Vec Ideal S1x1024 .f32)

/-- Row `t` of the block as it enters the feed-forward. -/
def bH (t : Fin 512) : Fin 1024 → EReal :=
  hrow (fun k => x0 (ix3 0 t k)) (fun k => x3 (ix2 0 k)) (fun k => x4 (ix3 0 0 k)) (fun k => x5 (ix3 0 0 k))

/-- The rows before the block, then the rows after it. -/
def halo (r : Fin 16) (k : Fin 1024) : EReal :=
  if h : r.val < 8 then x1 (ix3 0 ⟨r.val, h⟩ k) else x2 (ix3 0 ⟨r.val - 8, by omega⟩ k)

/-- One of them as it enters the feed-forward. -/
def bE (r : Fin 16) : Fin 1024 → EReal :=
  hrow (halo x1 x2 r) (fun k => x3 (ix2 0 k)) (fun k => x4 (ix3 0 0 k)) (fun k => x5 (ix3 0 0 k))

theorem h_at (t : Fin 512) (d : Fin 1024) : k0_pay6 x0 x3 x4 x5 (ix2 t d) = bH x0 x3 x4 x5 t d := by
  pointwise [k0_pay6, k0_pay2, k0_pay3, k0_pay4, k0_pay5]
  rfl

theorem e_at (r : Fin 16) (d : Fin 1024) :
    k0_pay9 (k0_pay3 x3) (k0_pay4 x4) (k0_pay5 x5) (k0_pay7 x1 x2) (k0_pay8 x1 x2) (ix2 r d) = bE x1 x2 x3 x4 x5 r d := by
  pointwise [k0_pay9, k0_pay8, k0_pay7, k0_pay3, k0_pay4, k0_pay5]
  rfl

/-- Column `e` of the half that starts at `o`. -/
def colAt (o : ℕ) (ho : o ≤ 1408) (e : Fin 1408) : Fin 2816 := ⟨o + e.val, by omega⟩

theorem colAt_zero (e : Fin 1408) : colAt 0 (Nat.zero_le _) e = ⟨e.val, by omega⟩ := Fin.ext (Nat.zero_add _)

/-- Products of the block's rows with a half of the columns of a matrix. -/
theorem main_at (w : Vec Ideal S1024x1408 .bf16) (W : Vec Ideal S1024x2816 .bf16) (o : ℕ) (ho : o ≤ 1408)
    (hw : ∀ k e, w (ix2 k e) = W (ix2 k (colAt o ho e))) (t : Fin 512) (e : Fin 1408) :
    k0_pay11 (k0_pay6 x0 x3 x4 x5) w (ix2 t e) = ∑ k, bH x0 x3 x4 x5 t k * W (ix2 k (colAt o ho e)) := by
  pointwise [k0_pay11]
  exact sum_congr rfl fun k _ => by rw [h_at, hw]

/-- Products of the rows around it. -/
theorem edge_at (w : Vec Ideal S1024x1408 .bf16) (W : Vec Ideal S1024x2816 .bf16) (o : ℕ) (ho : o ≤ 1408)
    (hw : ∀ k e, w (ix2 k e) = W (ix2 k (colAt o ho e))) (r : Fin 16) (e : Fin 1408) :
    k0_pay12 (k0_pay3 x3) (k0_pay4 x4) (k0_pay5 x5) (k0_pay7 x1 x2) (k0_pay8 x1 x2) w (ix2 r e)
      = ∑ k, bE x1 x2 x3 x4 x5 r k * W (ix2 k (colAt o ho e)) := by
  pointwise [k0_pay12]
  exact sum_congr rfl fun k _ => by rw [e_at, hw]

theorem lo_at (b : BitVec 1) (v : FVec Ideal S16x1408 .f32) (r : Fin 8) (e : Fin 1408) :
    k0_pay17 b v (ix2 r e) = Scalar.select b 0 (v (ix2 ⟨r.val, by omega⟩ e)) := by
  pointwise [k0_pay17]

theorem hi_at (b : BitVec 1) (v : FVec Ideal S16x1408 .f32) (r : Fin 8) (e : Fin 1408) :
    k0_pay19 b v (ix2 r e) = Scalar.select b 0 (v (ix2 ⟨8 + r.val, by omega⟩ e)) := by
  pointwise [k0_pay19]

theorem mid_at (v : FVec Ideal S512x1408 .f32) (r : Fin 512) (e : Fin 1408) : k0_pay18 v (ix2 r e) = v (ix2 r e) := by
  pointwise [k0_pay18]

theorem act_at (v56 v62 : FVec Ideal S512x1408 .f32) (v87 : Vec Ideal S3x1408 .f32) (v89 v97 : Vec Ideal S512x1408 .f32)
    (t : Fin 512) (e : Fin 1408) :
    k0_pay20 v56 v62 v87 v89 v97 (ix2 t e)
      = act (v87 (ix2 0 e) * v89 (ix2 t e) + v87 (ix2 1 e) * v56 (ix2 t e) + v87 (ix2 2 e) * v97 (ix2 t e)) (v62 (ix2 t e)) := by
  pointwise [k0_pay20]
  rfl

theorem acc_at (v53 : FVec Ideal S512x1024 .f32) (a : FVec Ideal S512x1408 .bf16) (w : Vec Ideal S1408x1024 .bf16) (t : Fin 512) (d : Fin 1024) :
    k0_pay21 v53 a w (ix2 t d) = v53 (ix2 t d) + ∑ e, a (ix2 t e) * w (ix2 e d) := by
  pointwise [k0_pay21]

/-- What is done to the sum of the gated products: scaled, added to the rows, normalised. -/
def tail {F : FTy → Type} [FloatOps F] (v3 v157 : FVec F S512x1024 .f32) (v158 : Vec F S1x1x1024 .f32) (v173 : Vec F S1x1024 .f32) :
    FVec F S1x512x1024 .f32 :=
  have v159 : FVec F S1x1024 .f32 := shapeCast S1x1024 v158 shapeCasts_S1x1x1024_S1x1024
  have v160 : FVec F S512x1024 .f32 := broadcastTo S512x1024 v159 broadcasts_S1x1024_S512x1024
  have v162 : FVec F S512x1024 .f32 := addf v3 (mulf v160 v157)
  have v164 : FVec F S512 .f32 := multiReduction .add [1] S512 (mulf v162 v162) 0x00000000#32 reduces_S512x1024_S512 (.inl rfl) rfl
  have v165 : FVec F S512x1 .f32 := shapeCast S512x1 v164 shapeCasts_S512_S512x1
  have v166 : FVec F S512x1 .f32 := broadcast S512x1 (Scalar.ofBits .f32 0x44800000#32)
  have v168 : FVec F S512x1 .f32 := broadcast S512x1 (Scalar.ofBits .f32 0x358637BD#32)
  have v170 : FVec F S512x1 .f32 := rsqrt (addf (divf v165 v166) v168)
  have v171 : FVec F S512x1024 .f32 := broadcastTo S512x1024 v170 broadcasts_S512x1_S512x1024
  have v174 : FVec F S1x1024 .f32 := shapeCast S1x1024 v173 shapeCasts_S1x1024_S1x1024
  have v175 : FVec F S512x1024 .f32 := broadcastTo S512x1024 v174 broadcasts_S1x1024_S512x1024
  shapeCast S1x512x1024 (mulf (mulf v162 v171) v175) shapeCasts_S512x1024_S1x512x1024

theorem tail_at (acc : FVec Ideal S512x1024 .f32) (t : Fin 512) (d : Fin 1024) :
    tail (k0_pay2 x0) acc x6 x11 (ix3 0 t d) = nrm (fun d => x0 (ix3 0 t d) + x6 (ix3 0 0 d) * acc (ix2 t d)) d * x11 (ix2 0 d) := by
  pointwise [tail, k0_pay2]
  rfl

/-- The second half's gated products and their sum, in the terms of the first half's. -/
theorem pay1_eq {F : FTy → Type} [FloatOps F] (v3 : FVec F S512x1024 .f32) (v71 : FVec F S512x1408 .f32) (v114 : FVec F S512x1024 .f32)
    (v65 : FVec F S512x1408 .f32) (v130 : Vec F S3x1408 .f32) (v132 v140 : Vec F S512x1408 .f32) (v154 : Vec F S1408x1024 .bf16)
    (v158 : Vec F S1x1x1024 .f32) (v173 : Vec F S1x1024 .f32) :
    k0_pay1 v3 v71 v114 (k0_pay25 v65 v130 v132 v140) (k0_pay26 v65 v130 v132 v140) (FloatOps.ofBits FTy.f32 1065353216#32) v154 v158 v173
      = tail v3 (k0_pay21 v114 (k0_pay20 v65 v71 v130 v132 v140) v154) v158 v173 := rfl

theorem pay13_eq {F : FTy → Type} [FloatOps F] : k0_pay13 (F := F) = k0_pay11 := rfl
theorem pay14_eq {F : FTy → Type} [FloatOps F] : k0_pay14 (F := F) = k0_pay11 := rfl
theorem pay15_eq {F : FTy → Type} [FloatOps F] : k0_pay15 (F := F) = k0_pay12 := rfl
theorem pay16_eq {F : FTy → Type} [FloatOps F] : k0_pay16 (F := F) = k0_pay11 := rfl
theorem pay22_eq {F : FTy → Type} [FloatOps F] : k0_pay22 (F := F) = k0_pay17 := rfl
theorem pay23_eq {F : FTy → Type} [FloatOps F] : k0_pay23 (F := F) = k0_pay18 := rfl
theorem pay24_eq {F : FTy → Type} [FloatOps F] : k0_pay24 (F := F) = k0_pay19 := rfl

/-! ## The block -/

section
variable {F : FTy → Type} [FloatOps F]

/-- What a half leaves in the scratch, -/
def halfPieces (b0 b1 : BitVec 1) (x0 : Vec F S1x512x1024 .f32) (x1 x2 : Vec F S1x8x1024 .f32) (x3 : Vec F S1x1024 .f32)
    (x4 x5 : Vec F S1x1x1024 .f32) (w : Vec F S1024x1408 .bf16) (L : List (View.Piece (Elt F) S528x1408 .f32)) :
    List (View.Piece (Elt F) S528x1408 .f32) :=
  pieces (k0_pay17 b0 (k0_pay12 (k0_pay3 x3) (k0_pay4 x4) (k0_pay5 x5) (k0_pay7 x1 x2) (k0_pay8 x1 x2) w))
    (k0_pay18 (k0_pay11 (k0_pay6 x0 x3 x4 x5) w))
    (k0_pay19 b1 (k0_pay12 (k0_pay3 x3) (k0_pay4 x4) (k0_pay5 x5) (k0_pay7 x1 x2) (k0_pay8 x1 x2) w)) L

/-- and its gated products. -/
def half (b0 b1 : BitVec 1) (x0 : Vec F S1x512x1024 .f32) (x1 x2 : Vec F S1x8x1024 .f32) (x3 : Vec F S1x1024 .f32)
    (x4 x5 : Vec F S1x1x1024 .f32) (w u : Vec F S1024x1408 .bf16) (cw : Vec F S3x1408 .f32)
    (L : List (View.Piece (Elt F) S528x1408 .f32)) : FVec F S512x1408 .bf16 :=
  k0_pay20 (k0_pay11 (k0_pay6 x0 x3 x4 x5) w) (k0_pay11 (k0_pay6 x0 x3 x4 x5) u) cw
    ((View.whole cc0_scratch0).readCov (halfPieces b0 b1 x0 x1 x2 x3 x4 x5 w L)
      (Rect.unit (s := S528x1408) ![7, 0] S512x1408.size inb_S528x1408_S512x1408_7_0).toLoadRect)
    ((View.whole cc0_scratch0).readCov (halfPieces b0 b1 x0 x1 x2 x3 x4 x5 w L)
      (Rect.unit (s := S528x1408) ![9, 0] S512x1408.size inb_S528x1408_S512x1408_9_0).toLoadRect)

/-- The sum of the gated products over the hidden channels, by halves. -/
def total (b0 b1 : BitVec 1) (x0 : Vec F S1x512x1024 .f32) (x1 x2 : Vec F S1x8x1024 .f32) (x3 : Vec F S1x1024 .f32)
    (x4 x5 : Vec F S1x1x1024 .f32) (x7 x8 : Vec F S1024x2816 .bf16) (x9 : Vec F S3x2816 .f32) (x10 : Vec F S2816x1024 .bf16) :
    FVec F S512x1024 .f32 :=
  k0_pay21
    (k0_pay21 k0_pay10
      (half b0 b1 x0 x1 x2 x3 x4 x5 (View.ld x7 (Rect.unit ![0, 0] S1024x1408.size inb_S1024x2816_S1024x1408_0_0))
        (View.ld x8 (Rect.unit ![0, 0] S1024x1408.size inb_S1024x2816_S1024x1408_0_0))
        (View.ld x9 (Rect.unit ![0, 0] S3x1408.size inb_S3x2816_S3x1408_0_0)) [])
      (View.ld x10 (Rect.unit ![0, 0] S1408x1024.size inb_S2816x1024_S1408x1024_0_0)))
    (half b0 b1 x0 x1 x2 x3 x4 x5 (View.ld x7 (Rect.unit ![0, 1408] S1024x1408.size inb_S1024x2816_S1024x1408_0_1408))
      (View.ld x8 (Rect.unit ![0, 1408] S1024x1408.size inb_S1024x2816_S1024x1408_0_1408))
      (View.ld x9 (Rect.unit ![0, 1408] S3x1408.size inb_S3x2816_S3x1408_0_1408))
      (halfPieces b0 b1 x0 x1 x2 x3 x4 x5 (View.ld x7 (Rect.unit ![0, 0] S1024x1408.size inb_S1024x2816_S1024x1408_0_0)) []))
    (View.ld x10 (Rect.unit ![1408, 0] S1408x1024.size inb_S2816x1024_S1408x1024_1408_0))

/-- The block that a grid point writes. -/
def block (b0 b1 : BitVec 1) (x0 : Vec F S1x512x1024 .f32) (x1 x2 : Vec F S1x8x1024 .f32) (x3 : Vec F S1x1024 .f32)
    (x4 x5 x6 : Vec F S1x1x1024 .f32) (x7 x8 : Vec F S1024x2816 .bf16) (x9 : Vec F S3x2816 .f32) (x10 : Vec F S2816x1024 .bf16)
    (x11 : Vec F S1x1024 .f32) : FVec F S1x512x1024 .f32 :=
  tail (k0_pay2 x0) (total b0 b1 x0 x1 x2 x3 x4 x5 x7 x8 x9 x10) x6 x11

set_option maxHeartbeats 2000000 in
theorem outs_eq (m : (ℓ : Loc nD τ sig) → Buf (Elt F) ℓ) (c : Dev nD) (t : Fin cfg0.N) :
    outsAt0 m c t = block (Scalar.cmpi CmpIPredicate.eq (BitVec.ofNat 32 (grid0.coords t 1).val) 0#32)
      (Scalar.cmpi CmpIPredicate.eq (BitVec.ofNat 32 (grid0.coords t 1).val) 31#32)
      (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [pay1_eq, pay13_eq, pay14_eq, pay15_eq, pay16_eq, pay22_eq, pay23_eq, pay24_eq]
  rfl

end

/-! ## Its elements -/

/-- The gate products by the scratch's rows: none before the first block or after the last. -/
def zB (b0 b1 : BitVec 1) (p : Fin 528) (e : Fin 2816) : EReal :=
  stacked (fun r => Scalar.select b0 0 (∑ k, bE x1 x2 x3 x4 x5 ⟨r.val, by omega⟩ k * x7 (ix2 k e)))
    (fun r => Scalar.select b1 0 (∑ k, bE x1 x2 x3 x4 x5 ⟨8 + r.val, by omega⟩ k * x7 (ix2 k e)))
    (fun r => ∑ k, bH x0 x3 x4 x5 r k * x7 (ix2 k e)) p

/-- The gated products of row `t`. -/
def aB (b0 b1 : BitVec 1) (t : Fin 512) (e : Fin 2816) : EReal :=
  act (x9 (ix2 0 e) * zB x0 x1 x2 x3 x4 x5 x7 b0 b1 ⟨7 + t.val, by omega⟩ e + x9 (ix2 1 e) * (∑ k, bH x0 x3 x4 x5 t k * x7 (ix2 k e))
      + x9 (ix2 2 e) * zB x0 x1 x2 x3 x4 x5 x7 b0 b1 ⟨9 + t.val, by omega⟩ e)
    (∑ k, bH x0 x3 x4 x5 t k * x8 (ix2 k e))

theorem rows_at (b0 b1 : BitVec 1) (w : Vec Ideal S1024x1408 .bf16) (o : ℕ) (ho : o ≤ 1408)
    (hw : ∀ k e, w (ix2 k e) = x7 (ix2 k (colAt o ho e))) (L : List (View.Piece (Elt Ideal) S528x1408 .f32))
    (q : ℕ) (hq : q ≤ 16) (inb : ∀ a, (![q, 0] : Fin 2 → ℕ) a + S512x1408.size a ≤ S528x1408.size a) (t : Fin 512) (e : Fin 1408) :
    (View.whole cc0_scratch0).readCov (halfPieces b0 b1 x0 x1 x2 x3 x4 x5 w L)
        (Rect.unit (s := S528x1408) ![q, 0] S512x1408.size inb).toLoadRect (ix2 t e)
      = zB x0 x1 x2 x3 x4 x5 x7 b0 b1 ⟨q + t.val, by omega⟩ (colAt o ho e) := by
  unfold halfPieces
  rw [read_rows _ _ _ _ q hq]
  unfold zB
  simp only [lo_at, hi_at, mid_at, main_at x0 x3 x4 x5 w x7 o ho hw, edge_at x1 x2 x3 x4 x5 w x7 o ho hw]

theorem half_at (b0 b1 : BitVec 1) (w u : Vec Ideal S1024x1408 .bf16) (cw : Vec Ideal S3x1408 .f32) (o : ℕ) (ho : o ≤ 1408)
    (hw : ∀ k e, w (ix2 k e) = x7 (ix2 k (colAt o ho e))) (hu : ∀ k e, u (ix2 k e) = x8 (ix2 k (colAt o ho e)))
    (hc : ∀ k e, cw (ix2 k e) = x9 (ix2 k (colAt o ho e))) (L : List (View.Piece (Elt Ideal) S528x1408 .f32)) (t : Fin 512) (e : Fin 1408) :
    half b0 b1 x0 x1 x2 x3 x4 x5 w u cw L (ix2 t e) = aB x0 x1 x2 x3 x4 x5 x7 x8 x9 b0 b1 t (colAt o ho e) := by
  unfold half aB
  rw [act_at, rows_at x0 x1 x2 x3 x4 x5 x7 b0 b1 w o ho hw L 7 (by omega), rows_at x0 x1 x2 x3 x4 x5 x7 b0 b1 w o ho hw L 9 (by omega),
    main_at x0 x3 x4 x5 w x7 o ho hw, main_at x0 x3 x4 x5 u x8 o ho hu, hc, hc, hc]

/-- A sum over the hidden channels by halves. -/
theorem sum_halves (f : Fin 2816 → EReal) :
    (∑ e : Fin 1408, f (colAt 0 (by omega) e)) + ∑ e : Fin 1408, f (colAt 1408 (by omega) e) = ∑ e, f e := by
  refine Eq.trans ?_ (Fin.sum_univ_add (a := 1408) (b := 1408) f).symm
  refine congrArg (· + _) (sum_congr rfl fun e _ => congrArg f (Fin.ext ?_))
  exact Nat.zero_add _

/-- An element of the sum. -/
theorem total_at (b0 b1 : BitVec 1) (t : Fin 512) (d : Fin 1024) :
    total b0 b1 x0 x1 x2 x3 x4 x5 x7 x8 x9 x10 (ix2 t d) = ∑ e, aB x0 x1 x2 x3 x4 x5 x7 x8 x9 b0 b1 t e * x10 (ix2 e d) := by
  unfold total
  rw [acc_at, acc_at, ← sum_halves]
  have hz : k0_pay10 (F := Ideal) (ix2 t d) = 0 := by pointwise [k0_pay10]
  rw [hz, zero_add]
  refine congrArg₂ (· + ·) (sum_congr rfl fun e _ => ?_) (sum_congr rfl fun e _ => ?_)
  · rw [half_at x0 x1 x2 x3 x4 x5 x7 x8 x9 b0 b1 _ _ _ 0 (by omega)]
    · pointwise
      rw [colAt_zero]
    all_goals intro k e; pointwise; rw [colAt_zero]
  · rw [half_at x0 x1 x2 x3 x4 x5 x7 x8 x9 b0 b1 _ _ _ 1408 (by omega)]
    · pointwise
      rfl
    all_goals intro k e; pointwise; rfl

/-- An element of the block. -/
theorem block_at (b0 b1 : BitVec 1) (t : Fin 512) (d : Fin 1024) :
    block b0 b1 x0 x1 x2 x3 x4 x5 x6 x7 x8 x9 x10 x11 (ix3 0 t d)
      = nrm (fun d => x0 (ix3 0 t d) + x6 (ix3 0 0 d) * ∑ e, aB x0 x1 x2 x3 x4 x5 x7 x8 x9 b0 b1 t e * x10 (ix2 e d)) d * x11 (ix2 0 d) := by
  unfold block
  rw [tail_at]
  refine congrArg (fun y => nrm y d * x11 (ix2 0 d)) (funext fun d => ?_)
  rw [total_at]

end Cert.Kernel2Ideal.Ffn

end
-- ==== Proof.Ffn.Ref.lean ====
module

public import proofs.«01_k».proof.Proof.Ffn.Spec
public import proofs.«01_k».proof.Proof.Gen.Reference2Ideal.Read

@[expose] public section

set_option maxRecDepth 16384

/-!
# The reference of the feed-forward, element by element
-/

noncomputable section

namespace Cert.Reference2Ideal.Ffn

open Cert.Reference2Ideal.Read Cert.Ffn
open Idealize.ShloMosaic
open Finset

variable (X : FVec Ideal S2x16384x1024 .f32) (g og : FVec Ideal S1024 .f32) (sh sc g2 : FVec Ideal S2x1024 .f32)
  (wg wu : FVec Ideal S1024x2816 .f32) (cw : FVec Ideal S3x2816 .f32) (wd : FVec Ideal S2816x1024 .f32)

/-- An array of three axes by its indices, -/
abbrev a3 (X : FVec Ideal S2x16384x1024 .f32) : Fin 2 → Fin 16384 → Fin 1024 → EReal := fun b T d => X (ix3 b T d)
/-- a vector of channels, -/
abbrev a1 (g : FVec Ideal S1024 .f32) : Fin 1024 → EReal := fun d => g (ix1 d)
/-- and a matrix. -/
abbrev a2 {n k : ℕ} (w : FVec Ideal ⟨2, ![n, k]⟩ .f32) : Fin n → Fin k → EReal := fun i j => w (ix2 i j)

theorem h_at (b : Fin 2) (T : Fin 16384) (d : Fin 1024) :
    val_main_v21 (F := Ideal) X g sh sc (ix3 b T d) = hA (a3 X) (a1 g) (a2 sh) (a2 sc) b T d := by
  pointwise [val_main_v21, val_main_v20, val_main_v19, val_main_v18, val_main_v17, val_main_v16, val_main_cst_2, val_main_v15, val_main_v14,
    val_main_v13, val_main_v12, val_main_v11, val_main_v10, val_main_v9, val_main_v8, val_main_cst_1, val_main_v7, val_main_v6,
    val_main_cst_0, val_main_v5, val_main_v4, val_main_cst, val_main_v3, val_main_v1, val_main_v0]
  rfl

theorem pad_value : val_main_call0_v0 (F := Ideal) (Shape.Idx.first Gen.h_S_) = 0 := by
  show (((0#32 : BitVec 32).toInt : ℝ) : EReal) = 0
  simp

theorem z_at (b : Fin 2) (T : Fin 16386) (e : Fin 2816) :
    val_main_v23 (F := Ideal) X g sh sc wg (ix3 b T e) = zA (a3 X) (a1 g) (a2 sh) (a2 sc) (a2 wg) b T.val e := by
  pointwise [val_main_v23]
  rw [pad_value]
  unfold zA
  refine dite_congr rfl (fun h => ?_) fun _ => rfl
  pointwise [val_main_v22]
  exact sum_congr rfl fun k _ => by rw [h_at]

theorem g_at (b : Fin 2) (T : Fin 16384) (e : Fin 2816) :
    val_main_v43 (F := Ideal) X g sh sc wg cw (ix3 b T e) = gA (a3 X) (a1 g) (a2 sh) (a2 sc) (a2 wg) (a2 cw) b T e := by
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24]
  rw [z_at, z_at, z_at]
  rfl

theorem act_at (b : Fin 2) (T : Fin 16384) (e : Fin 2816) :
    val_main_v46 (F := Ideal) X g sh sc wg wu cw (ix3 b T e) = aA (a3 X) (a1 g) (a2 sh) (a2 sc) (a2 wg) (a2 wu) (a2 cw) b T e := by
  pointwise [val_main_v46, val_main_v45, val_main_v44, val_main_call1_v5, val_main_call1_v4, val_main_call1_v3, val_main_call1_v2,
    val_main_call1_v1, val_main_call1_v0, val_main_call1_cst, val_main_call1_cst_0]
  rw [g_at]
  unfold aA act
  rw [sum_congr rfl fun k _ => by rw [h_at], zero_sub]

theorem y_at (b : Fin 2) (T : Fin 16384) (d : Fin 1024) :
    val_main_v50 (F := Ideal) X g sh sc g2 wg wu cw wd (ix3 b T d)
      = yA (a3 X) (a1 g) (a2 sh) (a2 sc) (a2 g2) (a2 wg) (a2 wu) (a2 cw) (a2 wd) b T d := by
  pointwise [val_main_v50, val_main_v49, val_main_v48, val_main_v47, val_main_v2]
  rw [sum_congr rfl fun e _ => by rw [act_at]]
  rfl

theorem o_at (b : Fin 2) (T : Fin 16384) (d : Fin 1024) :
    val_main_v63 (F := Ideal) X g sh sc g2 wg wu cw wd og (ix3 b T d)
      = oA (a3 X) (a1 g) (a1 og) (a2 sh) (a2 sc) (a2 g2) (a2 wg) (a2 wu) (a2 cw) (a2 wd) b T d := by
  pointwise [val_main_v63, val_main_v62, val_main_v61, val_main_v60, val_main_v59, val_main_v58, val_main_v57, val_main_v56, val_main_v55,
    val_main_v54, val_main_v53, val_main_v52, val_main_v51, val_main_cst_3, val_main_cst_4, val_main_cst_5]
  simp only [y_at]
  rfl

end Cert.Reference2Ideal.Ffn

end
-- ==== Proof.Ffn.Final.lean ====
module

public import proofs.«01_k».proof.Proof.Ffn.Block
public import proofs.«01_k».proof.Proof.Ffn.Ref
public import proofs.«01_k».proof.Defs
public import Idealize.ShloMosaic.Lib.Pipeline.Covers

@[expose] public section

set_option maxRecDepth 16384

/-!
# The feed-forward's kernel and its reference compute the same array

Each block that a grid point writes is the block of one array, the reference's; the blocks tile the result.
-/

noncomputable section

namespace Cert.Kernel2Ideal.Ffn

open Cert.Kernel2Ideal.Gen Cert.Ffn
open Cert.Reference2Ideal.Ffn (a1 a2 a3)
open Idealize.ShloMosaic Idealize.ShloMosaic.TcCoe Idealize.ShloMosaic.Pipeline Idealize.SL.Sem
open Finset

/-! ## The blocks that a grid point takes -/

theorem ix_0 : ∀ t : Fin cfg0.N, win0_0.index t = ![(grid0.coords t 0).val, (grid0.coords t 1).val, 0] := (by decide +kernel : ∀ t : Fin grid0.N, _)
theorem ix_1 : ∀ t : Fin cfg0.N, win0_1.index t = ![(grid0.coords t 0).val, (grid0.coords t 1).val * 64 - 1, 0] := (by decide +kernel : ∀ t : Fin grid0.N, _)
theorem ix_2 : ∀ t : Fin cfg0.N, win0_2.index t = ![(grid0.coords t 0).val, min ((grid0.coords t 1).val * 64 + 64) 2047, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![(grid0.coords t 0).val, 0, 0] := (by decide +kernel : ∀ t : Fin grid0.N, _)
theorem ix_5 : ∀ t : Fin cfg0.N, win0_5.index t = ![(grid0.coords t 0).val, 0, 0] := (by decide +kernel : ∀ t : Fin grid0.N, _)
theorem ix_6 : ∀ t : Fin cfg0.N, win0_6.index t = ![(grid0.coords t 0).val, 0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![(grid0.coords t 0).val, (grid0.coords t 1).val, 0] := (by decide +kernel : ∀ t : Fin grid0.N, _)

/-- Block `i` of batch `b`, -/
def xB (X : FVec Ideal S2x16384x1024 .f32) (b : Fin 2) (i : Fin 32) : FVec Ideal S1x512x1024 .f32 := fun j =>
  X (ix3 b ⟨i.val * 512 + (j 1).val, by have : (j 1).val < 512 := (j 1).isLt; omega⟩ (j 2))
/-- the eight rows before it, -/
def loB (X : FVec Ideal S2x16384x1024 .f32) (b : Fin 2) (i : Fin 32) : FVec Ideal S1x8x1024 .f32 := fun j =>
  X (ix3 b ⟨(i.val * 64 - 1) * 8 + (j 1).val, by have : (j 1).val < 8 := (j 1).isLt; omega⟩ (j 2))
/-- the eight rows after it, -/
def hiB (X : FVec Ideal S2x16384x1024 .f32) (b : Fin 2) (i : Fin 32) : FVec Ideal S1x8x1024 .f32 := fun j =>
  X (ix3 b ⟨min (i.val * 64 + 64) 2047 * 8 + (j 1).val, by have : (j 1).val < 8 := (j 1).isLt; omega⟩ (j 2))
/-- and the batch's vector of a modulation. -/
def vB (v : FVec Ideal S2x1x1024 .f32) (b : Fin 2) : FVec Ideal S1x1x1024 .f32 := fun j => v (ix3 b 0 (j 2))

variable (m : (ℓ : Loc nD τ sig) → Buf (Elt Ideal) ℓ) (c : Dev nD)

theorem blk_0 (t : Fin cfg0.N) : iblk m c 0 t = xB (V m c main_arg0) (grid0.coords t 0) (grid0.coords t 1) := by
  funext x; unfold xB; blk_simp [iblk]; congr 1; blk_ext [ix_0]
theorem blk_1 (t : Fin cfg0.N) : iblk m c 1 t = loB (V m c main_arg0) (grid0.coords t 0) (grid0.coords t 1) := by
  funext x; unfold loB; blk_simp [iblk]; congr 1; blk_ext [ix_1]
theorem blk_2 (t : Fin cfg0.N) : iblk m c 2 t = hiB (V m c main_arg0) (grid0.coords t 0) (grid0.coords t 1) := by
  funext x; unfold hiB; blk_simp [iblk]; congr 1; blk_ext [ix_2]
theorem blk_3 (t : Fin cfg0.N) : iblk m c 3 t = V m c main_v6 := by
  funext x; blk_simp [iblk]; congr 1; blk_ext [ix_3]
theorem blk_4 (t : Fin cfg0.N) : iblk m c 4 t = vB (V m c main_v0) (grid0.coords t 0) := by
  funext x; unfold vB; blk_simp [iblk]; congr 1; blk_ext [ix_4]
theorem blk_5 (t : Fin cfg0.N) : iblk m c 5 t = vB (V m c main_v1) (grid0.coords t 0) := by
  funext x; unfold vB; blk_simp [iblk]; congr 1; blk_ext [ix_5]
theorem blk_6 (t : Fin cfg0.N) : iblk m c 6 t = vB (V m c main_v2) (grid0.coords t 0) := by
  funext x; unfold vB; blk_simp [iblk]; congr 1; blk_ext [ix_6]
theorem blk_7 (t : Fin cfg0.N) : iblk m c 7 t = V m c main_v3 := by
  funext x; blk_simp [iblk]; congr 1; blk_ext [ix_7]
theorem blk_8 (t : Fin cfg0.N) : iblk m c 8 t = V m c main_v4 := by
  funext x; blk_simp [iblk]; congr 1; blk_ext [ix_8]
theorem blk_9 (t : Fin cfg0.N) : iblk m c 9 t = V m c main_arg7 := by
  funext x; blk_simp [iblk]; congr 1; blk_ext [ix_9]
theorem blk_10 (t : Fin cfg0.N) : iblk m c 10 t = V m c main_v5 := by
  funext x; blk_simp [iblk]; congr 1; blk_ext [ix_10]
theorem blk_11 (t : Fin cfg0.N) : iblk m c 11 t = V m c main_v7 := by
  funext x; blk_simp [iblk]; congr 1; blk_ext [ix_11]

/-! ## The arrays that the call is entered with -/

/-- A vector as a row, -/
def rowOf (g : FVec Ideal S1024 .f32) : FVec Ideal S1x1024 .f32 := shapeCast S1x1024 g shapeCasts_S1024_S1x1024
/-- a batch of vectors with an axis of one in the middle. -/
def vecs (g : FVec Ideal S2x1024 .f32) : FVec Ideal S2x1x1024 .f32 := shapeCast S2x1x1024 g shapeCasts_S2x1024_S2x1x1024

theorem at_6 : V m c main_v6 = rowOf (m ((c : Thread nD τ).loc main_arg1)) := by unfold V; after_results_simp <;> rfl
theorem at_7 : V m c main_v7 = rowOf (m ((c : Thread nD τ).loc main_arg9)) := by unfold V; after_results_simp <;> rfl
theorem at_0 : V m c main_v0 = vecs (m ((c : Thread nD τ).loc main_arg2)) := by unfold V; after_results_simp <;> rfl
theorem at_1 : V m c main_v1 = vecs (m ((c : Thread nD τ).loc main_arg3)) := by unfold V; after_results_simp <;> rfl
theorem at_2 : V m c main_v2 = vecs (m ((c : Thread nD τ).loc main_arg4)) := by unfold V; after_results_simp <;> rfl
theorem at_3 : V m c main_v3 = m ((c : Thread nD τ).loc main_arg5) := by unfold V; after_results_simp <;> rfl
theorem at_4 : V m c main_v4 = m ((c : Thread nD τ).loc main_arg6) := by unfold V; after_results_simp <;> rfl
theorem at_5 : V m c main_v5 = m ((c : Thread nD τ).loc main_arg8) := by unfold V; after_results_simp <;> rfl

theorem rowOf_at (g : FVec Ideal S1024 .f32) (d : Fin 1024) : rowOf g (ix2 0 d) = g (ix1 d) := by pointwise [rowOf]
theorem vecs_at (g : FVec Ideal S2x1024 .f32) (b : Fin 2) (d : Fin 1024) : vecs g (ix3 b 0 d) = g (ix2 b d) := by pointwise [vecs]

/-! ## The block of the reference's array -/

section
variable (X : FVec Ideal S2x16384x1024 .f32) (g og : FVec Ideal S1024 .f32) (sh sc g2 : FVec Ideal S2x1024 .f32)
  (wg wu : FVec Ideal S1024x2816 .f32) (cw : FVec Ideal S3x2816 .f32) (wd : FVec Ideal S2816x1024 .f32)
  (b : Fin 2) (i : Fin 32)

/-- The flags of the first and the last block. -/
abbrev first (i : Fin 32) : BitVec 1 := Scalar.cmpi CmpIPredicate.eq (BitVec.ofNat 32 i.val) 0#32
abbrev last (i : Fin 32) : BitVec 1 := Scalar.cmpi CmpIPredicate.eq (BitVec.ofNat 32 i.val) 31#32

theorem first_eq : ∀ i : Fin 32, first i = BitVec.ofBool (i.val = 0) := by decide +kernel
theorem last_eq : ∀ i : Fin 32, last i = BitVec.ofBool (i.val = 31) := by decide +kernel

/-- The row of the array that row `t` of the block is. -/
def rowAt (i : Fin 32) (t : Fin 512) : Fin 16384 := ⟨i.val * 512 + t.val, by omega⟩

theorem bH_eq (t : Fin 512) (d : Fin 1024) :
    bH (xB X b i) (rowOf g) (vB (vecs sh) b) (vB (vecs sc) b) t d = hA (a3 X) (a1 g) (a2 sh) (a2 sc) b (rowAt i t) d := by
  unfold bH hA hrow nrm
  beta_reduce
  rw [rowOf_at]
  show _ * _ * _ * (1 + vecs sc (ix3 b 0 d)) + vecs sh (ix3 b 0 d) = _
  rw [vecs_at, vecs_at]
  rfl

theorem bE_eq (r : Fin 16) (T : Fin 16384) (hT : ∀ k, halo (loB X b i) (hiB X b i) r k = X (ix3 b T k)) (d : Fin 1024) :
    bE (loB X b i) (hiB X b i) (rowOf g) (vB (vecs sh) b) (vB (vecs sc) b) r d = hA (a3 X) (a1 g) (a2 sh) (a2 sc) b T d := by
  unfold bE hA hrow
  beta_reduce
  rw [rowOf_at, show halo (loB X b i) (hiB X b i) r = a3 X b T from funext hT]
  show _ * _ * (1 + vecs sc (ix3 b 0 d)) + vecs sh (ix3 b 0 d) = _
  rw [vecs_at, vecs_at]

theorem select_bool {α : Type} (p : Prop) [Decidable p] (x y : α) : Scalar.select (BitVec.ofBool p) x y = if p then x else y := by
  by_cases h : p <;> simp [Scalar.select, h]

/-- The scratch's rows are the padded gate products from seven rows above the block on; only those beside it are read. -/
theorem zB_eq (p : Fin 528) (h7 : 7 ≤ p.val) (h520 : p.val ≤ 520) (e : Fin 2816) :
    zB (xB X b i) (loB X b i) (hiB X b i) (rowOf g) (vB (vecs sh) b) (vB (vecs sc) b) wg (first i) (last i) p e
      = zA (a3 X) (a1 g) (a2 sh) (a2 sc) (a2 wg) b (i.val * 512 + (p.val - 7)) e := by
  have hi := i.isLt
  unfold zB zA stacked
  by_cases h : p.val < 8
  · rw [dif_pos h, first_eq]
    beta_reduce
    rw [select_bool]
    by_cases h0 : i.val = 0
    · rw [if_pos h0, dif_neg (by omega)]
    · rw [if_neg h0, dif_pos (by omega)]
      refine sum_congr rfl fun k _ => ?_
      rw [bE_eq X g sh sc b i _ ⟨i.val * 512 + (p.val - 7) - 1, by omega⟩ ?_ k]
      intro k
      unfold halo
      rw [dif_pos h]
      unfold loB
      congr 2
      apply Fin.ext
      show (i.val * 64 - 1) * 8 + p.val = i.val * 512 + (p.val - 7) - 1
      omega
  · rw [dif_neg h]
    by_cases h' : p.val < 520
    · rw [dif_pos h', dif_pos (by omega)]
      refine sum_congr rfl fun k _ => ?_
      rw [bH_eq]
      have hr : rowAt i ⟨p.val - 8, by omega⟩ = ⟨i.val * 512 + (p.val - 7) - 1, by omega⟩ := Fin.ext (by
        show i.val * 512 + (p.val - 8) = i.val * 512 + (p.val - 7) - 1
        omega)
      rw [hr]
    · rw [dif_neg h', last_eq]
      beta_reduce
      rw [select_bool]
      by_cases h1 : i.val = 31
      · rw [if_pos h1, dif_neg (by omega)]
      · rw [if_neg h1, dif_pos (by omega)]
        refine sum_congr rfl fun k _ => ?_
        rw [bE_eq X g sh sc b i _ ⟨i.val * 512 + (p.val - 7) - 1, by omega⟩ ?_ k]
        intro k
        unfold halo
        rw [dif_neg (by show ¬ 8 + (p.val - 520) < 8; omega)]
        unfold hiB
        congr 2
        apply Fin.ext
        show min (i.val * 64 + 64) 2047 * 8 + (8 + (p.val - 520) - 8) = i.val * 512 + (p.val - 7) - 1
        omega

theorem aB_eq (t : Fin 512) (e : Fin 2816) :
    aB (xB X b i) (loB X b i) (hiB X b i) (rowOf g) (vB (vecs sh) b) (vB (vecs sc) b) wg wu cw (first i) (last i) t e
      = aA (a3 X) (a1 g) (a2 sh) (a2 sc) (a2 wg) (a2 wu) (a2 cw) b (rowAt i t) e := by
  have ht := t.isLt
  have hi := i.isLt
  unfold aB aA gA
  rw [zB_eq X g sh sc wg b i _ (by show 7 ≤ 7 + t.val; omega) (by show 7 + t.val ≤ 520; omega),
    zB_eq X g sh sc wg b i _ (by show 7 ≤ 9 + t.val; omega) (by show 9 + t.val ≤ 520; omega)]
  have e0 : i.val * 512 + (7 + t.val - 7) = (rowAt i t).val := by show _ = i.val * 512 + t.val; omega
  have e2 : i.val * 512 + (9 + t.val - 7) = 2 + (rowAt i t).val := by show _ = 2 + (i.val * 512 + t.val); omega
  have e1 : (∑ k, bH (xB X b i) (rowOf g) (vB (vecs sh) b) (vB (vecs sc) b) t k * wg (ix2 k e))
      = zA (a3 X) (a1 g) (a2 sh) (a2 sc) (a2 wg) b (1 + (rowAt i t).val) e := by
    unfold zA
    have hl : 1 + (rowAt i t).val - 1 = (rowAt i t).val := by omega
    rw [dif_pos ⟨by omega, by rw [hl]; exact (rowAt i t).isLt⟩]
    refine sum_congr rfl fun k _ => ?_
    rw [bH_eq, show (⟨1 + (rowAt i t).val - 1, by rw [hl]; exact (rowAt i t).isLt⟩ : Fin 16384) = rowAt i t from Fin.ext hl]
  show act (_ + _ + _ * zA _ _ _ _ _ _ (i.val * 512 + (9 + t.val - 7)) _) _ = _
  rw [e2, e1, sum_congr rfl fun k _ => by rw [bH_eq X g sh sc b i t k]]
  show act (_ * zA _ _ _ _ _ _ (i.val * 512 + (7 + t.val - 7)) _ + _ + _) _ = _
  rw [e0]

theorem block_eq (t : Fin 512) (d : Fin 1024) :
    block (F := Ideal) (first i) (last i) (xB X b i) (loB X b i) (hiB X b i) (rowOf g) (vB (vecs sh) b) (vB (vecs sc) b) (vB (vecs g2) b) wg wu cw wd (rowOf og)
        (ix3 0 t d)
      = oA (a3 X) (a1 g) (a1 og) (a2 sh) (a2 sc) (a2 g2) (a2 wg) (a2 wu) (a2 cw) (a2 wd) b (rowAt i t) d := by
  rw [block_at, rowOf_at]
  unfold oA
  refine congrArg (fun y => nrm y d * og (ix1 d)) (funext fun d => ?_)
  unfold yA
  rw [sum_congr rfl fun e _ => by rw [aB_eq]]
  show xB X b i (ix3 0 t d) + vecs g2 (ix3 b 0 d) * _ = _
  rw [vecs_at]
  rfl
end

/-! ## The result -/

/-- The reference's array, of the kernel's arguments. -/
def wanted : FVec Ideal S2x16384x1024 .f32 :=
  Cert.Reference2Ideal.Read.val_main_v63 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

theorem stored (t : Fin cfg0.N) : outsAt0 m c t = xB (wanted m c) (grid0.coords t 0) (grid0.coords t 1) := by
  rw [outs_eq, blk_0, blk_1, blk_2, blk_3, blk_4, blk_5, blk_6, blk_7, blk_8, blk_9, blk_10, blk_11, at_0, at_1, at_2, at_3, at_4, at_5, at_6,
    at_7, V_main_arg0, V_main_arg7]
  funext y
  obtain ⟨z, t', d, rfl⟩ : ∃ (z : Fin 1) (t' : Fin 512) (d : Fin 1024), y = ix3 z t' d := ⟨y 0, y 1, y 2, by funext a; fin_cases a <;> rfl⟩
  obtain rfl : z = 0 := Subsingleton.elim _ _
  refine (block_eq _ _ _ _ _ _ _ _ _ _ (grid0.coords t 0) (grid0.coords t 1) t' d).trans ?_
  exact (Cert.Reference2Ideal.Ffn.o_at _ _ _ _ _ _ _ _ _ _ _ _ _).symm

theorem result_eq : (dats m 0 c).arrAt 12 cfg0.N = wanted m c := by
  refine (dats m 0 c).arrAt_eq_of_covers 12 _ (by decide +kernel) fun t hf y => ?_
  blk_simp
  rw [after0_12, stored]
  unfold xB
  congr 1
  blk_ext [ix_12]

theorem algebraic : Cert.algebraic_Kernel2Ideal_Reference2Ideal := by
  intro m g m' g' _ hargs
  refine ⟨fun c => wanted m c, ?_, ?_⟩
  · exact (θ_run Cert.Kernel2Ideal.defs _ _).mono (fun _ h c => ⟨(h c).1.trans (result_eq m c), (h c).2⟩)
      (Cert.Kernel2Ideal.Value.run_blocks (F := Ideal) m g)
  · refine (θ_run Cert.Reference2Ideal.defs _ _).mono (fun _ h c => ⟨?_, (h c).2⟩) (Cert.Reference2Ideal.Value.run (F := Ideal) m' g')
    refine ((h c).1).trans ((Cert.Reference2Ideal.Read.val_main_v63_eq m' c).trans ?_)
    obtain ⟨e0, e1, e2, e3, e4, e5, e6, e7, e8, e9⟩ := hargs c
    rw [e0, e1, e2, e3, e4, e5, e6, e7, e8, e9]
    rfl

end Cert.Kernel2Ideal.Ffn

end
-- ==== Proof.Ffn.Inner.lean ====
module

public import proofs.«01_k».proof.Proof.Ffn.Final
public import proofs.«01_k».proof.Proof.Gen.Kernel3Ideal.Value
public import proofs.«01_k».proof.Proof.Gen.Reference3Ideal.Read

@[expose] public section

set_option maxRecDepth 16384

/-!
# The feed-forward of the layers before the last

The call without the final norm. The sum of the gated products and the blocks that a grid point takes are those of the last
layer's call, and the reference is that of the last layer before its norm. What is left is the gated residual.
-/

noncomputable section

namespace Cert.Kernel3Ideal.Ffn

open Cert.Kernel3Ideal.Gen Cert.Ffn
open Cert.Reference2Ideal.Ffn (a1 a2 a3)
open Cert.Kernel2Ideal.Ffn (total total_at aB_eq xB loB hiB vB rowOf vecs vecs_at first last rowAt)
open Idealize.ShloMosaic Idealize.ShloMosaic.TcCoe Idealize.ShloMosaic.Pipeline Idealize.SL.Sem
open Finset

/-! ## The block -/

section
variable {F : FTy → Type} [FloatOps F]

/-- The sum scaled and added to the rows. -/
def tail (v3 v157 : FVec F S512x1024 .f32) (v158 : Vec F S1x1x1024 .f32) : FVec F S1x512x1024 .f32 :=
  have v159 : FVec F S1x1024 .f32 := shapeCast S1x1024 v158 shapeCasts_S1x1x1024_S1x1024
  have v160 : FVec F S512x1024 .f32 := broadcastTo S512x1024 v159 broadcasts_S1x1024_S512x1024
  shapeCast S1x512x1024 (addf v3 (mulf v160 v157)) shapeCasts_S512x1024_S1x512x1024

set_option maxHeartbeats 2000000 in
theorem outs_eq (m : (ℓ : Loc nD τ sig) → Buf (Elt F) ℓ) (c : Dev nD) (t : Fin cfg0.N) :
    outsAt0 m c t = tail (k0_pay2 (iblk m c 0 t)) (total (first (grid0.coords t 1)) (last (grid0.coords t 1))
      (iblk m c 0 t) (iblk m c 1 t) (iblk m c 2 t) (iblk m c 3 t) (iblk m c 4 t) (iblk m c 5 t) (iblk m c 7 t) (iblk m c 8 t) (iblk m c 9 t) (iblk m c 10 t)) (iblk m c 6 t) := by
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  frame_out
  rfl

end

theorem tail_at (x0 : FVec Ideal S1x512x1024 .f32) (acc : FVec Ideal S512x1024 .f32) (x6 : FVec Ideal S1x1x1024 .f32) (t : Fin 512) (d : Fin 1024) :
    tail (k0_pay2 x0) acc x6 (ix3 0 t d) = x0 (ix3 0 t d) + x6 (ix3 0 0 d) * acc (ix2 t d) := by
  pointwise [tail, k0_pay2]

/-! ## The blocks that a grid point takes, and the arrays that the call is entered with -/

theorem ix_0 : ∀ t : Fin cfg0.N, win0_0.index t = ![(grid0.coords t 0).val, (grid0.coords t 1).val, 0] := (by decide +kernel : ∀ t : Fin grid0.N, _)
theorem ix_1 : ∀ t : Fin cfg0.N, win0_1.index t = ![(grid0.coords t 0).val, (grid0.coords t 1).val * 64 - 1, 0] := (by decide +kernel : ∀ t : Fin grid0.N, _)
theorem ix_2 : ∀ t : Fin cfg0.N, win0_2.index t = ![(grid0.coords t 0).val, min ((grid0.coords t 1).val * 64 + 64) 2047, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![(grid0.coords t 0).val, 0, 0] := (by decide +kernel : ∀ t : Fin grid0.N, _)
theorem ix_5 : ∀ t : Fin cfg0.N, win0_5.index t = ![(grid0.coords t 0).val, 0, 0] := (by decide +kernel : ∀ t : Fin grid0.N, _)
theorem ix_6 : ∀ t : Fin cfg0.N, win0_6.index t = ![(grid0.coords t 0).val, 0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_12 : ∀ t : Fin cfg0.N, win0_12.index t = ![(grid0.coords t 0).val, (grid0.coords t 1).val, 0] := (by decide +kernel : ∀ t : Fin grid0.N, _)

variable (m : (ℓ : Loc nD τ sig) → Buf (Elt Ideal) ℓ) (c : Dev nD)

theorem blk_0 (t : Fin cfg0.N) : iblk m c 0 t = xB (V m c main_arg0) (grid0.coords t 0) (grid0.coords t 1) := by
  funext x; unfold xB; blk_simp [iblk]; congr 1; blk_ext [ix_0]
theorem blk_1 (t : Fin cfg0.N) : iblk m c 1 t = loB (V m c main_arg0) (grid0.coords t 0) (grid0.coords t 1) := by
  funext x; unfold loB; blk_simp [iblk]; congr 1; blk_ext [ix_1]
theorem blk_2 (t : Fin cfg0.N) : iblk m c 2 t = hiB (V m c main_arg0) (grid0.coords t 0) (grid0.coords t 1) := by
  funext x; unfold hiB; blk_simp [iblk]; congr 1; blk_ext [ix_2]
theorem blk_3 (t : Fin cfg0.N) : iblk m c 3 t = V m c main_v6 := by
  funext x; blk_simp [iblk]; congr 1; blk_ext [ix_3]
theorem blk_4 (t : Fin cfg0.N) : iblk m c 4 t = vB (V m c main_v0) (grid0.coords t 0) := by
  funext x; unfold vB; blk_simp [iblk]; congr 1; blk_ext [ix_4]
theorem blk_5 (t : Fin cfg0.N) : iblk m c 5 t = vB (V m c main_v1) (grid0.coords t 0) := by
  funext x; unfold vB; blk_simp [iblk]; congr 1; blk_ext [ix_5]
theorem blk_6 (t : Fin cfg0.N) : iblk m c 6 t = vB (V m c main_v2) (grid0.coords t 0) := by
  funext x; unfold vB; blk_simp [iblk]; congr 1; blk_ext [ix_6]
theorem blk_7 (t : Fin cfg0.N) : iblk m c 7 t = V m c main_v3 := by
  funext x; blk_simp [iblk]; congr 1; blk_ext [ix_7]
theorem blk_8 (t : Fin cfg0.N) : iblk m c 8 t = V m c main_v4 := by
  funext x; blk_simp [iblk]; congr 1; blk_ext [ix_8]
theorem blk_9 (t : Fin cfg0.N) : iblk m c 9 t = V m c main_arg7 := by
  funext x; blk_simp [iblk]; congr 1; blk_ext [ix_9]
theorem blk_10 (t : Fin cfg0.N) : iblk m c 10 t = V m c main_v5 := by
  funext x; blk_simp [iblk]; congr 1; blk_ext [ix_10]

theorem at_6 : V m c main_v6 = rowOf (m ((c : Thread nD τ).loc main_arg1)) := by unfold V; after_results_simp <;> rfl
theorem at_0 : V m c main_v0 = vecs (m ((c : Thread nD τ).loc main_arg2)) := by unfold V; after_results_simp <;> rfl
theorem at_1 : V m c main_v1 = vecs (m ((c : Thread nD τ).loc main_arg3)) := by unfold V; after_results_simp <;> rfl
theorem at_2 : V m c main_v2 = vecs (m ((c : Thread nD τ).loc main_arg4)) := by unfold V; after_results_simp <;> rfl
theorem at_3 : V m c main_v3 = m ((c : Thread nD τ).loc main_arg5) := by unfold V; after_results_simp <;> rfl
theorem at_4 : V m c main_v4 = m ((c : Thread nD τ).loc main_arg6) := by unfold V; after_results_simp <;> rfl
theorem at_5 : V m c main_v5 = m ((c : Thread nD τ).loc main_arg8) := by unfold V; after_results_simp <;> rfl

/-! ## The result -/

/-- The reference's array, of the kernel's arguments. -/
def wanted : FVec Ideal S2x16384x1024 .f32 :=
  Cert.Reference3Ideal.Read.val_main_v50 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The reference is the residual stream that the last layer's takes the norm of. -/
theorem reference_eq (X : FVec Ideal S2x16384x1024 .f32) (g : FVec Ideal S1024 .f32) (sh sc g2 : FVec Ideal S2x1024 .f32)
    (wg wu : FVec Ideal S1024x2816 .f32) (cw : FVec Ideal S3x2816 .f32) (wd : FVec Ideal S2816x1024 .f32) :
    Cert.Reference3Ideal.Read.val_main_v50 (F := Ideal) X g sh sc g2 wg wu cw wd
      = Cert.Reference2Ideal.Read.val_main_v50 (F := Ideal) X g sh sc g2 wg wu cw wd := rfl

/-- An element of the block. -/
theorem block_eq (X : FVec Ideal S2x16384x1024 .f32) (g : FVec Ideal S1024 .f32) (sh sc g2 : FVec Ideal S2x1024 .f32)
    (wg wu : FVec Ideal S1024x2816 .f32) (cw : FVec Ideal S3x2816 .f32) (wd : FVec Ideal S2816x1024 .f32) (b : Fin 2) (i : Fin 32)
    (t : Fin 512) (d : Fin 1024) :
    tail (k0_pay2 (xB X b i)) (total (F := Ideal) (first i) (last i) (xB X b i) (loB X b i) (hiB X b i) (rowOf g) (vB (vecs sh) b)
        (vB (vecs sc) b) wg wu cw wd) (vB (vecs g2) b) (ix3 0 t d)
      = Cert.Reference3Ideal.Read.val_main_v50 (F := Ideal) X g sh sc g2 wg wu cw wd (ix3 b (rowAt i t) d) := by
  rw [tail_at, total_at, sum_congr rfl fun e _ => by rw [aB_eq], reference_eq, Cert.Reference2Ideal.Ffn.y_at]
  unfold yA
  show xB X b i (ix3 0 t d) + vecs g2 (ix3 b 0 d) * _ = _
  rw [vecs_at]
  rfl

theorem stored (t : Fin cfg0.N) : outsAt0 m c t = xB (wanted m c) (grid0.coords t 0) (grid0.coords t 1) := by
  rw [outs_eq, blk_0, blk_1, blk_2, blk_3, blk_4, blk_5, blk_6, blk_7, blk_8, blk_9, blk_10, at_0, at_1, at_2, at_3, at_4, at_5, at_6,
    V_main_arg0, V_main_arg7]
  funext y
  obtain ⟨z, t', d, rfl⟩ : ∃ (z : Fin 1) (t' : Fin 512) (d : Fin 1024), y = ix3 z t' d := ⟨y 0, y 1, y 2, by funext a; fin_cases a <;> rfl⟩
  obtain rfl : z = 0 := Subsingleton.elim _ _
  exact block_eq _ _ _ _ _ _ _ _ _ (grid0.coords t 0) (grid0.coords t 1) t' d

theorem result_eq : (dats m 0 c).arrAt 12 cfg0.N = wanted m c := by
  refine (dats m 0 c).arrAt_eq_of_covers 12 _ (by decide +kernel) fun t hf y => ?_
  blk_simp
  rw [after0_12, stored]
  unfold xB
  congr 1
  blk_ext [ix_12]

theorem algebraic : Cert.algebraic_Kernel3Ideal_Reference3Ideal := by
  intro m g m' g' _ hargs
  refine ⟨fun c => wanted m c, ?_, ?_⟩
  · exact (θ_run Cert.Kernel3Ideal.defs _ _).mono (fun _ h c => ⟨(h c).1.trans (result_eq m c), (h c).2⟩)
      (Cert.Kernel3Ideal.Value.run_blocks (F := Ideal) m g)
  · refine (θ_run Cert.Reference3Ideal.defs _ _).mono (fun _ h c => ⟨?_, (h c).2⟩) (Cert.Reference3Ideal.Value.run (F := Ideal) m' g')
    refine ((h c).1).trans ((Cert.Reference3Ideal.Read.val_main_v50_eq m' c).trans ?_)
    obtain ⟨e0, e1, e2, e3, e4, e5, e6, e7, e8, -⟩ := hargs c
    rw [e0, e1, e2, e3, e4, e5, e6, e7, e8]
    rfl

end Cert.Kernel3Ideal.Ffn

end
-- ==== Proof.Proj.Blocks.lean ====
module

public import proofs.«01_k».proof.Proof.Ffn.Final

@[expose] public section

/-!
# Blocks of rows

The projections take 512 rows of one batch at a grid point, of arrays of several widths.
-/

noncomputable section

namespace Cert.Proj

open Idealize.ShloMosaic
open Cert.Kernel2Ideal.Ffn (rowAt)

/-- Block `i` of batch `b`. -/
def rowsB {n : ℕ} (X : Shape.Idx ⟨3, ![2, 16384, n]⟩ → EReal) (b : Fin 2) (i : Fin 32) : Shape.Idx ⟨3, ![1, 512, n]⟩ → EReal :=
  fun j => X (ix3 b (rowAt i (j 1)) (j 2))

/-- An index of a block is its row and its column. -/
theorem idx_eq {n : ℕ} (y : Shape.Idx ⟨3, ![1, 512, n]⟩) : ∃ (t : Fin 512) (d : Fin n), y = ix3 0 t d :=
  ⟨y 1, y 2, by
    funext a
    fin_cases a
    · exact Subsingleton.elim (α := Fin 1) _ _
    · rfl
    · rfl⟩

end Cert.Proj

end
-- ==== Proof.Proj.RecIn.lean ====
module

public import proofs.«01_k».proof.Defs
public import proofs.«01_k».proof.Proof.Proj.Blocks
public import proofs.«01_k».proof.Proof.Gen.Kernel4Ideal.Value
public import proofs.«01_k».proof.Proof.Gen.Reference4Ideal.Read

@[expose] public section

set_option maxRecDepth 16384

/-!
# The projection into the recurrent mixer

One product of the modulated norm, its columns shared out among three results.
-/

noncomputable section

namespace Cert.Kernel4Ideal.Proj

open Cert.Kernel4Ideal.Gen Cert.Ffn
open Cert.Proj
open Cert.Kernel2Ideal.Ffn (vB vecs vecs_at rowOf rowAt bH bH_eq)
open Cert.Reference2Ideal.Ffn (a1 a2 a3)
open Cert.Reference4Ideal.Read
open Idealize.ShloMosaic Idealize.ShloMosaic.TcCoe Idealize.ShloMosaic.Pipeline Idealize.SL.Sem
open Finset

section
variable (X : FVec Ideal S2x16384x1024 .f32) (g : FVec Ideal S1024 .f32) (sh sc : FVec Ideal S2x1024 .f32) (w : FVec Ideal S1024x1792 .f32)

/-- The norm and its modulation. -/
theorem h_at (b : Fin 2) (T : Fin 16384) (d : Fin 1024) :
    val_main_v20 (F := Ideal) X g sh sc (ix3 b T d) = hA (a3 X) (a1 g) (a2 sh) (a2 sc) b T d := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_2, val_main_cst_1, val_main_cst_0, val_main_cst]
  rfl

/-- A column of the product, of a block -/
theorem col_at (x0 : Vec Ideal S1x512x1024 .f32) (x1 : Vec Ideal S1x1024 .f32) (x2 x3 : Vec Ideal S1x1x1024 .f32)
    (x4 : Vec Ideal S1024x1792 .bf16) (t : Fin 512) (e : Fin 1792) :
    k0_pay3 x0 x1 x2 x3 x4 (ix2 t e) = ∑ k, bH x0 x1 x2 x3 t k * x4 (ix2 k e) := by
  pointwise [k0_pay3]
  rfl

/-- and of the reference's array. -/
theorem ref_at (b : Fin 2) (T : Fin 16384) (e : Fin 1792) :
    val_main_v21 (F := Ideal) X g sh sc w (ix3 b T e) = ∑ k, hA (a3 X) (a1 g) (a2 sh) (a2 sc) b T k * w (ix2 k e) := by
  pointwise [val_main_v21]
  exact sum_congr rfl fun k _ => by rw [h_at]

theorem col_eq (b : Fin 2) (i : Fin 32) (t : Fin 512) (e : Fin 1792) :
    k0_pay3 (F := Ideal) (rowsB X b i) (rowOf g) (vB (vecs sh) b) (vB (vecs sc) b) w (ix2 t e)
      = val_main_v21 (F := Ideal) X g sh sc w (ix3 b (rowAt i t) e) := by
  rw [ref_at]
  refine (col_at ..).trans (sum_congr rfl fun k _ => ?_)
  rw [show bH (rowsB X b i) (rowOf g) (vB (vecs sh) b) (vB (vecs sc) b) t k = _ from bH_eq X g sh sc b i t k]

theorem block_5 (b : Fin 2) (i : Fin 32) (t : Fin 512) (d : Fin 768) :
    out0_5 (F := Ideal) (rowsB X b i) (rowOf g) (vB (vecs sh) b) (vB (vecs sc) b) w (ix3 0 t d)
      = rowsB (val_main_v22 (F := Ideal) X g sh sc w) b i (ix3 0 t d) := by
  frame_out
  show _ = val_main_v22 (F := Ideal) X g sh sc w (ix3 b (rowAt i t) d)
  pointwise [k0_pay4, val_main_v22]
  exact col_eq ..

theorem block_6 (b : Fin 2) (i : Fin 32) (t : Fin 512) (d : Fin 768) :
    out0_6 (F := Ideal) (rowsB X b i) (rowOf g) (vB (vecs sh) b) (vB (vecs sc) b) w (ix3 0 t d)
      = rowsB (val_main_v23 (F := Ideal) X g sh sc w) b i (ix3 0 t d) := by
  frame_out
  show _ = val_main_v23 (F := Ideal) X g sh sc w (ix3 b (rowAt i t) d)
  pointwise [k0_pay1, k0_pay5, val_main_v23]
  exact col_eq ..

theorem block_7 (b : Fin 2) (i : Fin 32) (t : Fin 512) (d : Fin 256) :
    out0_7 (F := Ideal) (rowsB X b i) (rowOf g) (vB (vecs sh) b) (vB (vecs sc) b) w (ix3 0 t d)
      = rowsB (val_main_v24 (F := Ideal) X g sh sc w) b i (ix3 0 t d) := by
  frame_out
  show _ = val_main_v24 (F := Ideal) X g sh sc w (ix3 b (rowAt i t) d)
  pointwise [k0_pay2, val_main_v24]
  exact col_eq ..
end

/-! ## The blocks that a grid point takes, and the arrays that the call is entered with -/

theorem ix_0 : ∀ t : Fin cfg0.N, win0_0.index t = ![(grid0.coords t 0).val, (grid0.coords t 1).val, 0] := (by decide +kernel : ∀ t : Fin grid0.N, _)
theorem ix_5 : ∀ t : Fin cfg0.N, win0_5.index t = ![(grid0.coords t 0).val, (grid0.coords t 1).val, 0] := (by decide +kernel : ∀ t : Fin grid0.N, _)
theorem ix_6 : ∀ t : Fin cfg0.N, win0_6.index t = ![(grid0.coords t 0).val, (grid0.coords t 1).val, 0] := (by decide +kernel : ∀ t : Fin grid0.N, _)
theorem ix_7 : ∀ t : Fin cfg0.N, win0_7.index t = ![(grid0.coords t 0).val, (grid0.coords t 1).val, 0] := (by decide +kernel : ∀ t : Fin grid0.N, _)
theorem ix_2 : ∀ t : Fin cfg0.N, win0_2.index t = ![(grid0.coords t 0).val, 0, 0] := (by decide +kernel : ∀ t : Fin grid0.N, _)
theorem ix_3 : ∀ t : Fin cfg0.N, win0_3.index t = ![(grid0.coords t 0).val, 0, 0] := (by decide +kernel : ∀ t : Fin grid0.N, _)
theorem ix_1 : ∀ t : Fin cfg0.N, win0_1.index t = ![0, 0] := (by decide +kernel : ∀ t : Fin grid0.N, _)
theorem ix_4 : ∀ t : Fin cfg0.N, win0_4.index t = ![0, 0] := (by decide +kernel : ∀ t : Fin grid0.N, _)

variable (m : (ℓ : Loc nD τ sig) → Buf (Elt Ideal) ℓ) (c : Dev nD)

theorem blk_0 (t : Fin cfg0.N) : iblk m c 0 t = rowsB (V m c main_arg0) (grid0.coords t 0) (grid0.coords t 1) := by
  funext x; unfold rowsB rowAt; blk_simp [iblk]; congr 1; blk_ext [ix_0]
theorem blk_2 (t : Fin cfg0.N) : iblk m c 2 t = vB (V m c main_v1) (grid0.coords t 0) := by
  funext x; unfold vB; blk_simp [iblk]; congr 1; blk_ext [ix_2]
theorem blk_3 (t : Fin cfg0.N) : iblk m c 3 t = vB (V m c main_v2) (grid0.coords t 0) := by
  funext x; unfold vB; blk_simp [iblk]; congr 1; blk_ext [ix_3]
theorem blk_1 (t : Fin cfg0.N) : iblk m c 1 t = V m c main_v0 := by
  funext x; blk_simp [iblk]; congr 1; blk_ext [ix_1]
theorem blk_4 (t : Fin cfg0.N) : iblk m c 4 t = V m c main_v3 := by
  funext x; blk_simp [iblk]; congr 1; blk_ext [ix_4]

theorem at_v0 : V m c main_v0 = rowOf (m ((c : Thread nD τ).loc main_arg1)) := by unfold V; after_results_simp <;> rfl
theorem at_v1 : V m c main_v1 = vecs (m ((c : Thread nD τ).loc main_arg2)) := by unfold V; after_results_simp <;> rfl
theorem at_v2 : V m c main_v2 = vecs (m ((c : Thread nD τ).loc main_arg3)) := by unfold V; after_results_simp <;> rfl
theorem at_v3 : V m c main_v3 = m ((c : Thread nD τ).loc main_arg4) := by unfold V; after_results_simp <;> rfl

/-! ## The results -/

/-- The reference's array, of the kernel's arguments. -/
def wanted_5 : FVec Ideal S2x16384x768 .f32 :=
  val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem stored_5 (t : Fin cfg0.N) : out0_5 (iblk m c 0 t) (iblk m c 1 t) (iblk m c 2 t) (iblk m c 3 t) (iblk m c 4 t)
    = rowsB (wanted_5 m c) (grid0.coords t 0) (grid0.coords t 1) := by
  rw [blk_0, blk_1, blk_2, blk_3, blk_4, at_v0, at_v1, at_v2, at_v3, V_main_arg0]
  funext y
  obtain ⟨t', d, rfl⟩ := idx_eq y
  exact block_5 (b := grid0.coords t 0) (i := grid0.coords t 1) (t := t') (d := d) ..

theorem result_5 : (dats m 0 c).arrAt 5 cfg0.N = wanted_5 m c := by
  refine (dats m 0 c).arrAt_eq_of_covers 5 _ (by decide +kernel) fun t hf y => ?_
  blk_simp
  rw [after0_5, stored_5]
  unfold rowsB rowAt
  congr 1
  blk_ext [ix_5]

/-- The reference's array, of the kernel's arguments. -/
def wanted_6 : FVec Ideal S2x16384x768 .f32 :=
  val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem stored_6 (t : Fin cfg0.N) : out0_6 (iblk m c 0 t) (iblk m c 1 t) (iblk m c 2 t) (iblk m c 3 t) (iblk m c 4 t)
    = rowsB (wanted_6 m c) (grid0.coords t 0) (grid0.coords t 1) := by
  rw [blk_0, blk_1, blk_2, blk_3, blk_4, at_v0, at_v1, at_v2, at_v3, V_main_arg0]
  funext y
  obtain ⟨t', d, rfl⟩ := idx_eq y
  exact block_6 (b := grid0.coords t 0) (i := grid0.coords t 1) (t := t') (d := d) ..

theorem result_6 : (dats m 0 c).arrAt 6 cfg0.N = wanted_6 m c := by
  refine (dats m 0 c).arrAt_eq_of_covers 6 _ (by decide +kernel) fun t hf y => ?_
  blk_simp
  rw [after0_6, stored_6]
  unfold rowsB rowAt
  congr 1
  blk_ext [ix_6]

/-- The reference's array, of the kernel's arguments. -/
def wanted_7 : FVec Ideal S2x16384x256 .f32 :=
  val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem stored_7 (t : Fin cfg0.N) : out0_7 (iblk m c 0 t) (iblk m c 1 t) (iblk m c 2 t) (iblk m c 3 t) (iblk m c 4 t)
    = rowsB (wanted_7 m c) (grid0.coords t 0) (grid0.coords t 1) := by
  rw [blk_0, blk_1, blk_2, blk_3, blk_4, at_v0, at_v1, at_v2, at_v3, V_main_arg0]
  funext y
  obtain ⟨t', d, rfl⟩ := idx_eq y
  exact block_7 (b := grid0.coords t 0) (i := grid0.coords t 1) (t := t') (d := d) ..

theorem result_7 : (dats m 0 c).arrAt 7 cfg0.N = wanted_7 m c := by
  refine (dats m 0 c).arrAt_eq_of_covers 7 _ (by decide +kernel) fun t hf y => ?_
  blk_simp
  rw [after0_7, stored_7]
  unfold rowsB rowAt
  congr 1
  blk_ext [ix_7]

theorem algebraic : Cert.algebraic_Kernel4Ideal_Reference4Ideal := by
  intro m g m' g' _ hargs
  refine ⟨fun c => wanted_5 m c, fun c => wanted_6 m c, fun c => wanted_7 m c, ?_, ?_⟩
  · exact (θ_run Cert.Kernel4Ideal.defs _ _).mono (fun _ h c => ⟨(h c).1.trans (result_5 m c), (h c).2.1.trans (result_6 m c), (h c).2.2.1.trans (result_7 m c), (h c).2.2.2⟩)
      (Cert.Kernel4Ideal.Value.run_blocks (F := Ideal) m g)
  · refine (θ_run Cert.Reference4Ideal.defs _ _).mono (fun _ h c => ⟨?_, ?_, ?_, (h c).2.2.2⟩) (Cert.Reference4Ideal.Value.run (F := Ideal) m' g')
    all_goals obtain ⟨e0, e1, e2, e3, e4⟩ := hargs c
    · refine ((h c).1).trans ((val_main_v22_eq (F := Ideal) ..).trans ?_)
      rw [e0, e1, e2, e3, e4]
      rfl
    · refine ((h c).2.1).trans ((val_main_v23_eq (F := Ideal) ..).trans ?_)
      rw [e0, e1, e2, e3, e4]
      rfl
    · refine ((h c).2.2.1).trans ((val_main_v24_eq (F := Ideal) ..).trans ?_)
      rw [e0, e1, e2, e3, e4]
      rfl

end Cert.Kernel4Ideal.Proj

end
-- ==== Proof.Proj.RecOut.lean ====
module

public import proofs.«01_k».proof.Defs
public import proofs.«01_k».proof.Proof.Proj.Blocks
public import proofs.«01_k».proof.Proof.Gen.Kernel5Ideal.Value
public import proofs.«01_k».proof.Proof.Gen.Reference5Ideal.Read

@[expose] public section

set_option maxRecDepth 16384

/-!
# The projection out of the recurrent mixer

The two directions of the recurrence are added and gated, the state-space half is gated by itself; the kernel
multiplies the two by the two parts of the weights, the reference joins them first.
-/

noncomputable section

namespace Cert.Kernel5Ideal.Proj

open Cert.Kernel5Ideal.Gen Cert.Ffn
open Cert.Proj
open Cert.Kernel2Ideal.Ffn (vB vecs vecs_at rowOf rowOf_at rowAt)
open Cert.Reference5Ideal.Read
open Idealize.ShloMosaic Idealize.ShloMosaic.TcCoe Idealize.ShloMosaic.Pipeline Idealize.SL.Sem
open Finset

section
variable (X : FVec Ideal S2x16384x1024 .f32) (gl hf hb : FVec Ideal S2x16384x768 .f32) (y : FVec Ideal S2x16384x256 .f32)
  (u : FVec Ideal S256x256 .f32) (w : FVec Ideal S1024x1024 .f32) (g : FVec Ideal S2x1024 .f32)

/-- The Gaussian unit in its form with the hyperbolic tangent. -/
def gelu (x : EReal) : EReal :=
  Ideal.ofBits .f32 0x3F000000#32 * x *
    (1 + Ideal.tanh (Ideal.ofBits .f32 0x3F4C422A#32 * (x + Ideal.ofBits .f32 0x3D372713#32 * (x * x * x))))

/-- It is `x` times half of the bracket too, which is how the reference multiplies. -/
theorem gelu_eq (x : EReal) : x * (Ideal.ofBits .f32 0x3F000000#32 *
    (1 + Ideal.tanh (Ideal.ofBits .f32 0x3F4C422A#32 * (x + Ideal.ofBits .f32 0x3D372713#32 * (x * x * x))))) = gelu x := by
  unfold gelu
  rw [← mul_assoc, mul_comm x]

/-- The gated sum of the two directions of the recurrence. -/
def both (gl hf hb : Fin 768 → EReal) (d : Fin 768) : EReal := (hf d + hb d) * gelu (gl d)

/-- The gated state-space half: `gelu y`, times the logistic of its product with `u`. -/
def glu (y : Fin 256 → EReal) (u : Fin 256 → Fin 256 → EReal) (d : Fin 256) : EReal :=
  gelu (y d) * Ideal.div 1 (1 + Ideal.exp (-∑ k, gelu (y k) * u k d))

/-- One element of the result: the two halves joined, multiplied by `w` and added to `x` with the gate `g`. -/
def outRow (x g : EReal) (p : Fin 768 → EReal) (q : Fin 256 → EReal) (w : Fin 1024 → EReal) : EReal :=
  x + g * (∑ k, p k * w ⟨k.val, by omega⟩ + ∑ k, q k * w ⟨768 + k.val, by omega⟩)

theorem out_at (x0 : Vec Ideal S1x512x1024 .f32) (x1 x2 x3 : Vec Ideal S1x512x768 .f32) (x4 : Vec Ideal S1x512x256 .f32)
    (x5 : Vec Ideal S256x256 .bf16) (x6 : Vec Ideal S1024x1024 .bf16)
    (x7 : Vec Ideal S1x1x1024 .f32) (t : Fin 512) (d : Fin 1024) :
    out0_8 x0 x1 x2 x3 x4 x5 x6 x7 (ix3 0 t d)
      = outRow (x0 (ix3 0 t d)) (x7 (ix3 0 0 d))
          (both (fun k => x1 (ix3 0 t k)) (fun k => x2 (ix3 0 t k)) (fun k => x3 (ix3 0 t k)))
          (glu (fun k => x4 (ix3 0 t k)) (fun k j => x5 (ix2 k j))) (fun k => x6 (ix2 k d)) := by
  frame_out
  pointwise [k0_pay1, k0_pay2, k0_pay3, k0_pay4]
  unfold outRow both glu gelu
  simp only [zero_sub]

/-- The reference's two Gaussian units, -/
theorem y_at (b : Fin 2) (T : Fin 16384) (d : Fin 256) : val_main_v12 (F := Ideal) y (ix3 b T d) = gelu (y (ix3 b T d)) := by
  pointwise [val_main_v12, val_main_v11, val_main_v10, val_main_v9, val_main_v8, val_main_v7, val_main_v6, val_main_v5, val_main_v4, val_main_v3, val_main_v2, val_main_v1, val_main_v0, val_main_cst_2, val_main_cst_1, val_main_cst_0, val_main_cst]
  exact gelu_eq _

theorem gl_at (b : Fin 2) (T : Fin 16384) (d : Fin 768) :
    val_main_v26 (F := Ideal) gl (ix3 b T d) = gelu (gl (ix3 b T d)) := by
  pointwise [val_main_v26, val_main_v25, val_main_v24, val_main_v23, val_main_v22, val_main_v21, val_main_v20, val_main_v19, val_main_v18, val_main_v17, val_main_v16, val_main_v15, val_main_v14, val_main_cst_6, val_main_cst_5, val_main_cst_4, val_main_cst_3]
  exact gelu_eq _

/-- its two halves, -/
theorem both_at (b : Fin 2) (T : Fin 16384) (d : Fin 768) : val_main_v27 (F := Ideal) gl hf hb (ix3 b T d)
    = both (fun k => gl (ix3 b T k)) (fun k => hf (ix3 b T k)) (fun k => hb (ix3 b T k)) d := by
  pointwise [val_main_v27, val_main_v13]
  rw [gl_at]
  rfl

theorem glu_at (b : Fin 2) (T : Fin 16384) (d : Fin 256) : val_main_v35 (F := Ideal) y u (ix3 b T d)
    = glu (fun k => y (ix3 b T k)) (fun k j => u (ix2 k j)) d := by
  pointwise [val_main_v35, val_main_v34, val_main_v33, val_main_v32, val_main_v31, val_main_v30, val_main_v29, val_main_v28, val_main_cst_8, val_main_cst_7]
  simp only [y_at]
  rfl

/-- and its result. -/
theorem ref_at (b : Fin 2) (T : Fin 16384) (d : Fin 1024) : val_main_v41 (F := Ideal) X gl hf hb y u w g (ix3 b T d)
    = outRow (X (ix3 b T d)) (g (ix2 b d))
        (both (fun k => gl (ix3 b T k)) (fun k => hf (ix3 b T k)) (fun k => hb (ix3 b T k)))
        (glu (fun k => y (ix3 b T k)) (fun k j => u (ix2 k j))) (fun k => w (ix2 k d)) := by
  pointwise [val_main_v41, val_main_v40, val_main_v39, val_main_v38, val_main_v37, val_main_v36]
  simp only [both_at, glu_at]
  rfl

theorem block_eq (b : Fin 2) (i : Fin 32) (t : Fin 512) (d : Fin 1024) :
    out0_8 (F := Ideal) (rowsB X b i) (rowsB gl b i) (rowsB hf b i) (rowsB hb b i) (rowsB y b i) u w (vB (vecs g) b) (ix3 0 t d)
      = rowsB (val_main_v41 (F := Ideal) X gl hf hb y u w g) b i (ix3 0 t d) := by
  refine (out_at ..).trans (Eq.trans ?_ (ref_at X gl hf hb y u w g b (rowAt i t) d).symm)
  rw [show vB (vecs g) b (ix3 0 0 d) = g (ix2 b d) from vecs_at ..]
  rfl
end

/-! ## The blocks that a grid point takes, and the arrays that the call is entered with -/

theorem ix_0 : ∀ t : Fin cfg0.N, win0_0.index t = ![(grid0.coords t 0).val, (grid0.coords t 1).val, 0] := (by decide +kernel : ∀ t : Fin grid0.N, _)
theorem ix_1 : ∀ t : Fin cfg0.N, win0_1.index t = ![(grid0.coords t 0).val, (grid0.coords t 1).val, 0] := (by decide +kernel : ∀ t : Fin grid0.N, _)
theorem ix_2 : ∀ t : Fin cfg0.N, win0_2.index t = ![(grid0.coords t 0).val, (grid0.coords t 1).val, 0] := (by decide +kernel : ∀ t : Fin grid0.N, _)
theorem ix_3 : ∀ t : Fin cfg0.N, win0_3.index t = ![(grid0.coords t 0).val, (grid0.coords t 1).val, 0] := (by decide +kernel : ∀ t : Fin grid0.N, _)
theorem ix_4 : ∀ t : Fin cfg0.N, win0_4.index t = ![(grid0.coords t 0).val, (grid0.coords t 1).val, 0] := (by decide +kernel : ∀ t : Fin grid0.N, _)
theorem ix_8 : ∀ t : Fin cfg0.N, win0_8.index t = ![(grid0.coords t 0).val, (grid0.coords t 1).val, 0] := (by decide +kernel : ∀ t : Fin grid0.N, _)
theorem ix_7 : ∀ t : Fin cfg0.N, win0_7.index t = ![(grid0.coords t 0).val, 0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)

variable (m : (ℓ : Loc nD τ sig) → Buf (Elt Ideal) ℓ) (c : Dev nD)

theorem blk_0 (t : Fin cfg0.N) : iblk m c 0 t = rowsB (V m c main_arg0) (grid0.coords t 0) (grid0.coords t 1) := by
  funext x; unfold rowsB rowAt; blk_simp [iblk]; congr 1; blk_ext [ix_0]
theorem blk_1 (t : Fin cfg0.N) : iblk m c 1 t = rowsB (V m c main_arg1) (grid0.coords t 0) (grid0.coords t 1) := by
  funext x; unfold rowsB rowAt; blk_simp [iblk]; congr 1; blk_ext [ix_1]
theorem blk_2 (t : Fin cfg0.N) : iblk m c 2 t = rowsB (V m c main_arg2) (grid0.coords t 0) (grid0.coords t 1) := by
  funext x; unfold rowsB rowAt; blk_simp [iblk]; congr 1; blk_ext [ix_2]
theorem blk_3 (t : Fin cfg0.N) : iblk m c 3 t = rowsB (V m c main_arg3) (grid0.coords t 0) (grid0.coords t 1) := by
  funext x; unfold rowsB rowAt; blk_simp [iblk]; congr 1; blk_ext [ix_3]
theorem blk_4 (t : Fin cfg0.N) : iblk m c 4 t = rowsB (V m c main_arg4) (grid0.coords t 0) (grid0.coords t 1) := by
  funext x; unfold rowsB rowAt; blk_simp [iblk]; congr 1; blk_ext [ix_4]
theorem blk_7 (t : Fin cfg0.N) : iblk m c 7 t = vB (V m c main_v2) (grid0.coords t 0) := by
  funext x; unfold vB; blk_simp [iblk]; congr 1; blk_ext [ix_7]
theorem blk_5 (t : Fin cfg0.N) : iblk m c 5 t = V m c main_v0 := by
  funext x; blk_simp [iblk]; congr 1; blk_ext [ix_5]
theorem blk_6 (t : Fin cfg0.N) : iblk m c 6 t = V m c main_v1 := by
  funext x; blk_simp [iblk]; congr 1; blk_ext [ix_6]

theorem at_v0 : V m c main_v0 = m ((c : Thread nD τ).loc main_arg5) := by unfold V; after_results_simp <;> rfl
theorem at_v1 : V m c main_v1 = m ((c : Thread nD τ).loc main_arg6) := by unfold V; after_results_simp <;> rfl
theorem at_v2 : V m c main_v2 = vecs (m ((c : Thread nD τ).loc main_arg7)) := by unfold V; after_results_simp <;> rfl

/-! ## The results -/

/-- The reference's array, of the kernel's arguments. -/
def wanted_8 : FVec Ideal S2x16384x1024 .f32 :=
  val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem stored_8 (t : Fin cfg0.N) : out0_8 (iblk m c 0 t) (iblk m c 1 t) (iblk m c 2 t) (iblk m c 3 t) (iblk m c 4 t) (iblk m c 5 t) (iblk m c 6 t) (iblk m c 7 t)
    = rowsB (wanted_8 m c) (grid0.coords t 0) (grid0.coords t 1) := by
  rw [blk_0, blk_1, blk_2, blk_3, blk_4, blk_5, blk_6, blk_7, at_v0, at_v1, at_v2, V_main_arg0, V_main_arg1, V_main_arg2, V_main_arg3, V_main_arg4]
  funext y
  obtain ⟨t', d, rfl⟩ := idx_eq y
  exact block_eq (b := grid0.coords t 0) (i := grid0.coords t 1) (t := t') (d := d) ..

theorem result_8 : (dats m 0 c).arrAt 8 cfg0.N = wanted_8 m c := by
  refine (dats m 0 c).arrAt_eq_of_covers 8 _ (by decide +kernel) fun t hf y => ?_
  blk_simp
  rw [after0_8, stored_8]
  unfold rowsB rowAt
  congr 1
  blk_ext [ix_8]

theorem algebraic : Cert.algebraic_Kernel5Ideal_Reference5Ideal := by
  intro m g m' g' _ hargs
  refine ⟨fun c => wanted_8 m c, ?_, ?_⟩
  · exact (θ_run Cert.Kernel5Ideal.defs _ _).mono (fun _ h c => ⟨(h c).1.trans (result_8 m c), (h c).2⟩)
      (Cert.Kernel5Ideal.Value.run_blocks (F := Ideal) m g)
  · refine (θ_run Cert.Reference5Ideal.defs _ _).mono (fun _ h c => ⟨?_, (h c).2⟩) (Cert.Reference5Ideal.Value.run (F := Ideal) m' g')
    all_goals obtain ⟨e0, e1, e2, e3, e4, e5, e6, e7⟩ := hargs c
    · refine ((h c).1).trans ((val_main_v41_eq (F := Ideal) ..).trans ?_)
      rw [e0, e1, e2, e3, e4, e5, e6, e7]
      rfl

end Cert.Kernel5Ideal.Proj

end
-- ==== Proof.Proj.AttOut.lean ====
module

public import proofs.«01_k».proof.Defs
public import proofs.«01_k».proof.Proof.Proj.Blocks
public import proofs.«01_k».proof.Proof.Gen.Kernel6Ideal.Value
public import proofs.«01_k».proof.Proof.Gen.Reference6Ideal.Read

@[expose] public section

set_option maxRecDepth 16384

/-!
# The projection out of the attention mixer

The kernel multiplies the two attentions' rows by the two halves of the matrix; the reference joins them and multiplies once.
-/

noncomputable section

namespace Cert.Kernel6Ideal.Proj

open Cert.Kernel6Ideal.Gen Cert.Ffn
open Cert.Proj
open Cert.Kernel2Ideal.Ffn (vB vecs vecs_at rowOf rowOf_at rowAt)
open Cert.Reference6Ideal.Read
open Idealize.ShloMosaic Idealize.ShloMosaic.TcCoe Idealize.ShloMosaic.Pipeline Idealize.SL.Sem
open Finset

/-- An element of the block that a grid point writes. -/
theorem out_at (x0 : Vec Ideal S1x512x1024 .f32) (x1 x2 : Vec Ideal S1x512x512 .bf16) (x3 : Vec Ideal S1024x1024 .bf16)
    (x4 : Vec Ideal S1x1x1024 .f32) (t : Fin 512) (d : Fin 1024) :
    out0_5 x0 x1 x2 x3 x4 (ix3 0 t d) = x0 (ix3 0 t d) + x4 (ix3 0 0 d)
      * ((∑ e : Fin 512, x1 (ix3 0 t e) * x3 (ix2 ⟨e.val, by omega⟩ d)) + ∑ e : Fin 512, x2 (ix3 0 t e) * x3 (ix2 ⟨512 + e.val, by omega⟩ d)) := by
  frame_out
  pointwise [k0_pay1]

section
variable (X : FVec Ideal S2x16384x1024 .f32) (oa ob : FVec Ideal S2x16384x512 .f32) (w : FVec Ideal S1024x1024 .f32)
  (g : FVec Ideal S2x1024 .f32)

/-- An element of the reference's array. -/
theorem ref_at (b : Fin 2) (T : Fin 16384) (d : Fin 1024) :
    val_main_v5 (F := Ideal) X oa ob w g (ix3 b T d) = X (ix3 b T d) + g (ix2 b d)
      * ((∑ e : Fin 512, oa (ix3 b T e) * w (ix2 ⟨e.val, by omega⟩ d)) + ∑ e : Fin 512, ob (ix3 b T e) * w (ix2 ⟨512 + e.val, by omega⟩ d)) := by
  pointwise [val_main_v5, val_main_v4, val_main_v3, val_main_v2, val_main_v1, val_main_v0]

theorem block_eq (b : Fin 2) (i : Fin 32) (t : Fin 512) (d : Fin 1024) :
    out0_5 (F := Ideal) (rowsB X b i) (rowsB oa b i) (rowsB ob b i) w (vB (vecs g) b) (ix3 0 t d)
      = rowsB (val_main_v5 (F := Ideal) X oa ob w g) b i (ix3 0 t d) := by
  refine (out_at ..).trans (Eq.trans ?_ (ref_at X oa ob w g b (rowAt i t) d).symm)
  show _ + vecs g (ix3 b 0 d) * _ = _
  rw [vecs_at]
  rfl
end

/-! ## The blocks that a grid point takes, and the arrays that the call is entered with -/

theorem ix_0 : ∀ t : Fin cfg0.N, win0_0.index t = ![(grid0.coords t 0).val, (grid0.coords t 1).val, 0] := (by decide +kernel : ∀ t : Fin grid0.N, _)
theorem ix_1 : ∀ t : Fin cfg0.N, win0_1.index t = ![(grid0.coords t 0).val, (grid0.coords t 1).val, 0] := (by decide +kernel : ∀ t : Fin grid0.N, _)
theorem ix_2 : ∀ t : Fin cfg0.N, win0_2.index t = ![(grid0.coords t 0).val, (grid0.coords t 1).val, 0] := (by decide +kernel : ∀ t : Fin grid0.N, _)
theorem ix_5 : ∀ t : Fin cfg0.N, win0_5.index t = ![(grid0.coords t 0).val, (grid0.coords t 1).val, 0] := (by decide +kernel : ∀ t : Fin grid0.N, _)
theorem ix_4 : ∀ t : Fin cfg0.N, win0_4.index t = ![(grid0.coords t 0).val, 0, 0] := (by decide +kernel : ∀ t : Fin grid0.N, _)
theorem ix_3 : ∀ t : Fin cfg0.N, win0_3.index t = ![0, 0] := (by decide +kernel : ∀ t : Fin grid0.N, _)

variable (m : (ℓ : Loc nD τ sig) → Buf (Elt Ideal) ℓ) (c : Dev nD)

theorem blk_0 (t : Fin cfg0.N) : iblk m c 0 t = rowsB (V m c main_arg0) (grid0.coords t 0) (grid0.coords t 1) := by
  funext x; unfold rowsB rowAt; blk_simp [iblk]; congr 1; blk_ext [ix_0]
theorem blk_1 (t : Fin cfg0.N) : iblk m c 1 t = rowsB (V m c main_v0) (grid0.coords t 0) (grid0.coords t 1) := by
  funext x; unfold rowsB rowAt; blk_simp [iblk]; congr 1; blk_ext [ix_1]
theorem blk_2 (t : Fin cfg0.N) : iblk m c 2 t = rowsB (V m c main_v1) (grid0.coords t 0) (grid0.coords t 1) := by
  funext x; unfold rowsB rowAt; blk_simp [iblk]; congr 1; blk_ext [ix_2]
theorem blk_4 (t : Fin cfg0.N) : iblk m c 4 t = vB (V m c main_v3) (grid0.coords t 0) := by
  funext x; unfold vB; blk_simp [iblk]; congr 1; blk_ext [ix_4]
theorem blk_3 (t : Fin cfg0.N) : iblk m c 3 t = V m c main_v2 := by
  funext x; blk_simp [iblk]; congr 1; blk_ext [ix_3]

theorem at_v0 : V m c main_v0 = m ((c : Thread nD τ).loc main_arg1) := by unfold V; after_results_simp <;> rfl
theorem at_v1 : V m c main_v1 = m ((c : Thread nD τ).loc main_arg2) := by unfold V; after_results_simp <;> rfl
theorem at_v2 : V m c main_v2 = m ((c : Thread nD τ).loc main_arg3) := by unfold V; after_results_simp <;> rfl
theorem at_v3 : V m c main_v3 = vecs (m ((c : Thread nD τ).loc main_arg4)) := by unfold V; after_results_simp <;> rfl

/-! ## The results -/

/-- The reference's array, of the kernel's arguments. -/
def wanted_5 : FVec Ideal S2x16384x1024 .f32 :=
  val_main_v5 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem stored_5 (t : Fin cfg0.N) : out0_5 (iblk m c 0 t) (iblk m c 1 t) (iblk m c 2 t) (iblk m c 3 t) (iblk m c 4 t)
    = rowsB (wanted_5 m c) (grid0.coords t 0) (grid0.coords t 1) := by
  rw [blk_0, blk_1, blk_2, blk_3, blk_4, at_v0, at_v1, at_v2, at_v3, V_main_arg0]
  funext y
  obtain ⟨t', d, rfl⟩ := idx_eq y
  exact block_eq (b := grid0.coords t 0) (i := grid0.coords t 1) (t := t') (d := d) ..

theorem result_5 : (dats m 0 c).arrAt 5 cfg0.N = wanted_5 m c := by
  refine (dats m 0 c).arrAt_eq_of_covers 5 _ (by decide +kernel) fun t hf y => ?_
  blk_simp
  rw [after0_5, stored_5]
  unfold rowsB rowAt
  congr 1
  blk_ext [ix_5]

theorem algebraic : Cert.algebraic_Kernel6Ideal_Reference6Ideal := by
  intro m g m' g' _ hargs
  refine ⟨fun c => wanted_5 m c, ?_, ?_⟩
  · exact (θ_run Cert.Kernel6Ideal.defs _ _).mono (fun _ h c => ⟨(h c).1.trans (result_5 m c), (h c).2⟩)
      (Cert.Kernel6Ideal.Value.run_blocks (F := Ideal) m g)
  · refine (θ_run Cert.Reference6Ideal.defs _ _).mono (fun _ h c => ⟨?_, (h c).2⟩) (Cert.Reference6Ideal.Value.run (F := Ideal) m' g')
    all_goals obtain ⟨e0, e1, e2, e3, e4⟩ := hargs c
    · refine ((h c).1).trans ((val_main_v5_eq (F := Ideal) ..).trans ?_)
      rw [e0, e1, e2, e3, e4]
      rfl

end Cert.Kernel6Ideal.Proj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4.Launch
public import proofs.«01_k».proof.Proof.Gen.Kernel4.Points
public import proofs.«01_k».proof.Proof.Gen.Kernel4.Skeleton
public import proofs.«01_k».proof.Proof.Gen.Kernel4Ideal
public import proofs.«01_k».proof.Proof.Gen.Kernel4Ideal.Frame
public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Kernel4Ideal.Value
public import proofs.«01_k».proof.Proof.Gen.Kernel5
public import proofs.«01_k».proof.Proof.Gen.Kernel5.Frame
public import proofs.«01_k».proof.Proof.Gen.Kernel5.Launch
public import proofs.«01_k».proof.Proof.Gen.Kernel5.Points
public import proofs.«01_k».proof.Proof.Gen.Kernel5.Skeleton
public import proofs.«01_k».proof.Proof.Gen.Kernel5Ideal
public import proofs.«01_k».proof.Proof.Gen.Kernel5Ideal.Frame
public import proofs.«01_k».proof.Proof.Gen.Kernel5Ideal.Launch
public import proofs.«01_k».proof.Proof.Gen.Kernel5Ideal.Points
public import proofs.«01_k».proof.Proof.Gen.Kernel5Ideal.Skeleton
public import proofs.«01_k».proof.Proof.Gen.Kernel5Ideal.Value
public import proofs.«01_k».proof.Proof.Gen.Kernel6
public import proofs.«01_k».proof.Proof.Gen.Kernel6.Frame
public import proofs.«01_k».proof.Proof.Gen.Kernel6.Launch
public import proofs.«01_k».proof.Proof.Gen.Kernel6.Points
public import proofs.«01_k».proof.Proof.Gen.Kernel6.Skeleton
public import proofs.«01_k».proof.Proof.Gen.Kernel6Ideal
public import proofs.«01_k».proof.Proof.Gen.Kernel6Ideal.Frame
public import proofs.«01_k».proof.Proof.Gen.Kernel6Ideal.Launch
public import proofs.«01_k».proof.Proof.Gen.Kernel6Ideal.Points
public import proofs.«01_k».proof.Proof.Gen.Kernel6Ideal.Skeleton
public import proofs.«01_k».proof.Proof.Gen.Kernel6Ideal.Value
public import proofs.«01_k».proof.Proof.Gen.Reference4Ideal
public import proofs.«01_k».proof.Proof.Gen.Reference4Ideal.Read
public import proofs.«01_k».proof.Proof.Gen.Reference4Ideal.Run
public import proofs.«01_k».proof.Proof.Gen.Reference5Ideal
public import proofs.«01_k».proof.Proof.Gen.Reference5Ideal.Read
public import proofs.«01_k».proof.Proof.Gen.Reference5Ideal.Run
public import proofs.«01_k».proof.Proof.Gen.Reference6Ideal
public import proofs.«01_k».proof.Proof.Gen.Reference6Ideal.Read
public import proofs.«01_k».proof.Proof.Gen.Reference6Ideal.Run
public import proofs.«01_k».proof.Proof.Bits.Frame
public import proofs.«01_k».proof.Proof.Frame
public import proofs.«01_k».proof.Proof.Final
public import proofs.«01_k».proof.Proof.Ffn.Final
public import proofs.«01_k».proof.Proof.Ffn.Inner
public import proofs.«01_k».proof.Proof.Proj.RecIn
public import proofs.«01_k».proof.Proof.Proj.RecOut
public import proofs.«01_k».proof.Proof.Proj.AttOut
public import Idealize.ShloMosaic.Adequacy
public import Idealize.ShloMosaic.Init
public import Idealize.ShloMosaic.Lib.Quiescent

@[expose] public section

/-!
# The certificate

The frames of the attention and of its ideal program are their runs (`Bits.Frame`, `Frame`); those of the other kernels are
the generated ones, and each reference's frame is its generated run. The ideal programs are the kernels' own texts. Kernel
and reference are one function, of the attention (`Final`), of the last layer's feed-forward (`Ffn.Final`), of the others'
(`Ffn.Inner`), and of the projections into and out of the recurrent mixer and out of the attention mixer (`Proj.RecIn`,
`Proj.RecOut`, `Proj.AttOut`).
-/

namespace Cert.Proof

open Idealize.ShloMosaic Idealize.SL.Sem

theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

theorem frame_reference2 : Cert.quiescent_Reference2Ideal := fun m ρ _ =>
  (θ_run Cert.Reference2Ideal.defs _ _).mono (fun _ h => ⟨fun c => (h c).2, sem_eq_zero_of_no_sems rfl _⟩)
    (Cert.Reference2Ideal.Value.run (F := Ideal) m ρ)

theorem frame_kernel2 : Cert.quiescent_Kernel2 := fun m ρ _ => Cert.Kernel2.Gen.frame (F := Bits) m ρ

theorem frame_ideal2 : Cert.quiescent_Kernel2Ideal := fun m ρ _ => Cert.Kernel2Ideal.Gen.frame (F := Ideal) m ρ

theorem frame_reference3 : Cert.quiescent_Reference3Ideal := fun m ρ _ =>
  (θ_run Cert.Reference3Ideal.defs _ _).mono (fun _ h => ⟨fun c => (h c).2, sem_eq_zero_of_no_sems rfl _⟩)
    (Cert.Reference3Ideal.Value.run (F := Ideal) m ρ)

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_reference4 : Cert.quiescent_Reference4Ideal := fun m ρ _ =>
  (θ_run Cert.Reference4Ideal.defs _ _).mono (fun _ h => ⟨fun c => (h c).2.2.2, sem_eq_zero_of_no_sems rfl _⟩)
    (Cert.Reference4Ideal.Value.run (F := Ideal) m ρ)

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_reference5 : Cert.quiescent_Reference5Ideal := fun m ρ _ =>
  (θ_run Cert.Reference5Ideal.defs _ _).mono (fun _ h => ⟨fun c => (h c).2, sem_eq_zero_of_no_sems rfl _⟩)
    (Cert.Reference5Ideal.Value.run (F := Ideal) m ρ)

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

theorem frame_reference6 : Cert.quiescent_Reference6Ideal := fun m ρ _ =>
  (θ_run Cert.Reference6Ideal.defs _ _).mono (fun _ h => ⟨fun c => (h c).2, sem_eq_zero_of_no_sems rfl _⟩)
    (Cert.Reference6Ideal.Value.run (F := Ideal) m ρ)

theorem frame_kernel6 : Cert.quiescent_Kernel6 := fun m ρ _ => Cert.Kernel6.Gen.frame (F := Bits) m ρ

theorem frame_ideal6 : Cert.quiescent_Kernel6Ideal := fun m ρ _ => Cert.Kernel6Ideal.Gen.frame (F := Ideal) m ρ

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel.Att.frame_kernel, Cert.KernelIdeal.Att.frame_ideal, frame_reference, frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    trivial, Cert.KernelIdeal.Att.algebraic, trivial, Cert.Kernel2Ideal.Ffn.algebraic, trivial, Cert.Kernel3Ideal.Ffn.algebraic,
    trivial, Cert.Kernel4Ideal.Proj.algebraic, trivial, Cert.Kernel5Ideal.Proj.algebraic, trivial, Cert.Kernel6Ideal.Proj.algebraic⟩

end Cert.Proof
